-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_decay [hPre_finite_decay : Cert.Pre_finite_decay.Facts] (m : (ℓ : Loc Cert.KernelIdeal.nD Cert.KernelIdeal.τ Cert.KernelIdeal.sig) → Buf (Elt Ideal) ℓ) : Prop :=
  ∀ c : Dev Cert.KernelIdeal.nD,
    (Cert.Pre_finite_decay.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_decay [hPre_finite_decay : Cert.Pre_finite_decay.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_decay.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_inputs [hPre_finite_inputs : Cert.Pre_finite_inputs.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_inputs.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_inputs [hPre_finite_inputs : Cert.Pre_finite_inputs.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_inputs.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_decay [hKernelIdeal : Cert.KernelIdeal.Facts] [hPre_finite_decay : Cert.Pre_finite_decay.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_decay m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_decay [hReferenceIdeal : Cert.ReferenceIdeal.Facts] [hPre_finite_decay : Cert.Pre_finite_decay.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_decay m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ r.2.sem = fun _ => 0)

def quiescent_Kernel8Ideal_pre_finite_inputs [hKernel8Ideal : Cert.Kernel8Ideal.Facts] [hPre_finite_inputs : Cert.Pre_finite_inputs.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_inputs m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13))
      ∧ r.2.sem = fun _ => 0)

def quiescent_Reference8Ideal_pre_finite_inputs [hReference8Ideal : Cert.Reference8Ideal.Facts] [hPre_finite_inputs : Cert.Pre_finite_inputs.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_inputs m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13))
      ∧ r.2.sem = fun _ => 0)

def preserves_Kernel_KernelIdeal : Prop :=
  True

def algebraic_KernelIdeal_ReferenceIdeal_pre_finite_decay [hKernelIdeal : Cert.KernelIdeal.Facts] [hReferenceIdeal : Cert.ReferenceIdeal.Facts] [hPre_finite_decay : Cert.Pre_finite_decay.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_decay m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v15_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15_1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v86) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal_pre_finite_inputs [hKernel8Ideal : Cert.Kernel8Ideal.Facts] [hReference8Ideal : Cert.Reference8Ideal.Facts] [hPre_finite_inputs : Cert.Pre_finite_inputs.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_inputs m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)) →
    ∃ (v0 : (c : Dev Cert.Kernel8Ideal.nD) → Buf (Elt Ideal) ((c.tc : Thread Cert.Kernel8Ideal.nD Cert.Kernel8Ideal.τ).loc Cert.Kernel8Ideal.main_v15_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v15_1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v175) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_decay : Cert.Pre_finite_decay.Facts) (hPre_finite_inputs : Cert.Pre_finite_inputs.Facts),
    quiescent_Kernel (hKernel := hKernel)
    ∧ quiescent_KernelIdeal (hKernelIdeal := hKernelIdeal)
    ∧ quiescent_KernelIdeal_pre_finite_decay (hKernelIdeal := hKernelIdeal) (hPre_finite_decay := hPre_finite_decay)
    ∧ quiescent_ReferenceIdeal (hReferenceIdeal := hReferenceIdeal)
    ∧ quiescent_ReferenceIdeal_pre_finite_decay (hReferenceIdeal := hReferenceIdeal) (hPre_finite_decay := hPre_finite_decay)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_inputs (hKernel8Ideal := hKernel8Ideal) (hPre_finite_inputs := hPre_finite_inputs)
    ∧ quiescent_Reference8Ideal (hReference8Ideal := hReference8Ideal)
    ∧ quiescent_Reference8Ideal_pre_finite_inputs (hReference8Ideal := hReference8Ideal) (hPre_finite_inputs := hPre_finite_inputs)
    ∧ preserves_Kernel_KernelIdeal
    ∧ algebraic_KernelIdeal_ReferenceIdeal_pre_finite_decay (hKernelIdeal := hKernelIdeal) (hReferenceIdeal := hReferenceIdeal) (hPre_finite_decay := hPre_finite_decay)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_inputs (hKernel8Ideal := hKernel8Ideal) (hReference8Ideal := hReference8Ideal) (hPre_finite_inputs := hPre_finite_inputs)
-- ==== Pre_finite_decay.lean ====
abbrev S9216x15488 : Shape := ⟨2, ![9216, 15488]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S8192x16 : Shape := ⟨2, ![8192, 16]⟩
abbrev S1x16 : Shape := ⟨2, ![1, 16]⟩
abbrev S_ : Shape := ⟨0, ![]⟩

class Facts : Prop where
  slices_S9216x15488_S8192x16_0_15424 : S9216x15488.Slices ![0, 15424] S8192x16
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  bcast_S_S16 : S_.BroadcastsInDim S16 (![] : Fin 0 → Fin S16.rank)

variable [Facts]

def fn {F : FTy → Type} [FloatOps F] (main_arg0 : FVec F S9216x15488 .f32) (main_arg1 : FVec F S4x2048 .f32) (main_arg2 : FVec F S2048 .f32) (main_arg3 : FVec F S16 .f32) (main_arg4 : FVec F S16 .f32) (main_arg5 : FVec F S16 .f32) (main_arg6 : FVec F S1024 .f32) : IVec S8192x16 1 :=
  let main_v0 : FVec F S8192x16 .f32 := (extractStridedSlice S8192x16 ![0, 15424] · slices_S9216x15488_S8192x16_0_15424) main_arg0
  let main_v1 : FVec F S1x16 .f32 := broadcastInDim S1x16 ![1] bcast_S16_S1x16_1 main_arg3
  let main_v2 : FVec F S8192x16 .f32 := broadcastInDim S8192x16 ![0, 1] bcast_S1x16_S8192x16_0_1 main_v1
  let main_v3 : FVec F S8192x16 .f32 := addf main_v0 main_v2
  let main_cst : FVec F S_ .f32 := constant S_ .f32 0x7F800000#32
  let main_v4 : FVec F S8192x16 .f32 := broadcastInDim S8192x16 ![] bcast_S_S8192x16 main_cst
  let main_v5 : IVec S8192x16 1 := cmpf .olt main_v3 main_v4
  let main_cst_0 : FVec F S_ .f32 := constant S_ .f32 0x7F800000#32
  let main_v6 : FVec F S16 .f32 := broadcastInDim S16 ![] bcast_S_S16 main_cst_0
  let main_v7 : IVec S16 1 := cmpf .olt main_arg4 main_v6
  let main_v8 : IVec S1x16 1 := broadcastInDim S1x16 ![1] bcast_S16_S1x16_1 main_v7
  let main_v9 : IVec S8192x16 1 := broadcastInDim S8192x16 ![0, 1] bcast_S1x16_S8192x16_0_1 main_v8
  let main_v10 : IVec S8192x16 1 := andi main_v5 main_v9
  main_v10
-- ==== Pre_finite_inputs.lean ====
abbrev S9216x15488 : Shape := ⟨2, ![9216, 15488]⟩
abbrev S128x3360 : Shape := ⟨2, ![128, 3360]⟩
abbrev S128x16x64x64 : Shape := ⟨4, ![128, 16, 64, 64]⟩
abbrev S3360 : Shape := ⟨1, ![3360]⟩
abbrev S1024 : Shape := ⟨1, ![1024]⟩
abbrev S64x1024 : Shape := ⟨2, ![64, 1024]⟩
abbrev S160x1024 : Shape := ⟨2, ![160, 1024]⟩
abbrev S1024x15488 : Shape := ⟨2, ![1024, 15488]⟩
abbrev S128x8x15488 : Shape := ⟨3, ![128, 8, 15488]⟩
abbrev S128x4x15488 : Shape := ⟨3, ![128, 4, 15488]⟩
abbrev S128x4x2048 : Shape := ⟨3, ![128, 4, 2048]⟩
abbrev S_ : Shape := ⟨0, ![]⟩
abbrev S128x2048 : Shape := ⟨2, ![128, 2048]⟩
abbrev S2048 : Shape := ⟨1, ![2048]⟩

class Facts : Prop where
  slices_S9216x15488_S1024x15488_8192_0 : S9216x15488.Slices ![8192, 0] S1024x15488
  shapeCasts_S1024x15488_S128x8x15488 : S1024x15488.ShapeCasts S128x8x15488
  slices_S128x8x15488_S128x4x15488_0_0_0 : S128x8x15488.Slices ![0, 0, 0] S128x4x15488
  slices_S128x4x15488_S128x4x2048_0_0_6144 : S128x4x15488.Slices ![0, 0, 6144] S128x4x2048
  bcast_S_S128x4x2048 : S_.BroadcastsInDim S128x4x2048 (![] : Fin 0 → Fin S128x4x2048.rank)
  reducesTo_S128x4x2048_S_d0_1_2 : S128x4x2048.ReducesTo [0, 1, 2] S_
  h_S_ : 0 < S_.numel
  slices_S128x3360_S128x2048_0_1024 : S128x3360.Slices ![0, 1024] S128x2048
  bcast_S_S128x2048 : S_.BroadcastsInDim S128x2048 (![] : Fin 0 → Fin S128x2048.rank)
  reducesTo_S128x2048_S_d0_1 : S128x2048.ReducesTo [0, 1] S_
  bcast_S_S128x16x64x64 : S_.BroadcastsInDim S128x16x64x64 (![] : Fin 0 → Fin S128x16x64x64.rank)
  reducesTo_S128x16x64x64_S_d0_1_2_3 : S128x16x64x64.ReducesTo [0, 1, 2, 3] S_
  slices_S3360_S2048_1024 : S3360.Slices ![1024] S2048
  bcast_S_S2048 : S_.BroadcastsInDim S2048 (![] : Fin 0 → Fin S2048.rank)
  reducesTo_S2048_S_d0 : S2048.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg3 : FVec F S3360 .f32) (main_arg10 : FVec F S1024 .f32) (main_v13 : IVec S_ 1) (main_v17 : IVec S_ 1) : IVec S_ 1 :=
  let main_v18 : IVec S_ 1 := andi main_v13 main_v17
  let main_v19 : FVec F S2048 .f32 := (extractStridedSlice S2048 ![1024] · slices_S3360_S2048_1024) main_arg3
  let main_v20 : FVec F S2048 .f32 := Host.absf main_v19
  let main_cst_4 : FVec F S_ .f32 := constant S_ .f32 0x7F800000#32
  let main_v21 : FVec F S2048 .f32 := broadcastInDim S2048 ![] bcast_S_S2048 main_cst_4
  let main_v22 : IVec S2048 1 := cmpf .olt main_v20 main_v21
  let main_c_5 : IVec S_ 1 := constantI S_ 1 1#1
  let main_v23 : IVec S_ 1 := (fun x v => Host.reduce IntOp.andi x v reducesTo_S2048_S_d0 h_S_) main_v22 main_c_5
  let main_v24 : IVec S_ 1 := andi main_v18 main_v23
  let main_v25 : FVec F S1024 .f32 := Host.absf main_arg10
  let main_cst_6 : FVec F S_ .f32 := constant S_ .f32 0x7F800000#32
  let main_v26 : FVec F S1024 .f32 := broadcastInDim S1024 ![] bcast_S_S1024 main_cst_6
  let main_v27 : IVec S1024 1 := cmpf .olt main_v25 main_v26
  let main_c_7 : IVec S_ 1 := constantI S_ 1 1#1
  let main_v28 : IVec S_ 1 := (fun x v => Host.reduce IntOp.andi x v reducesTo_S1024_S_d0 h_S_) main_v27 main_c_7
  let main_v29 : IVec S_ 1 := andi main_v24 main_v28
  main_v29

def fn {F : FTy → Type} [FloatOps F] (main_arg0 : FVec F S9216x15488 .f32) (main_arg1 : FVec F S128x3360 .f32) (main_arg2 : FVec F S128x16x64x64 .f32) (main_arg3 : FVec F S3360 .f32) (main_arg4 : FVec F S1024 .f32) (main_arg5 : FVec F S64x1024 .f32) (main_arg6 : FVec F S1024 .f32) (main_arg7 : FVec F S64x1024 .f32) (main_arg8 : FVec F S160x1024 .f32) (main_arg9 : FVec F S1024 .f32) (main_arg10 : FVec F S1024 .f32) (main_arg11 : FVec F S1024 .f32) (main_arg12 : FVec F S1024 .f32) (main_arg13 : FVec F S1024 .f32) : IVec S_ 1 :=
  let main_v0 : FVec F S1024x15488 .f32 := (extractStridedSlice S1024x15488 ![8192, 0] · slices_S9216x15488_S1024x15488_8192_0) main_arg0
  let main_v1 : FVec F S128x8x15488 .f32 := shapeCast S128x8x15488 main_v0 shapeCasts_S1024x15488_S128x8x15488
  let main_v2 : FVec F S128x4x15488 .f32 := (extractStridedSlice S128x4x15488 ![0, 0, 0] · slices_S128x8x15488_S128x4x15488_0_0_0) main_v1
  let main_v3 : FVec F S128x4x2048 .f32 := (extractStridedSlice S128x4x2048 ![0, 0, 6144] · slices_S128x4x15488_S128x4x2048_0_0_6144) main_v2
  let main_v4 : FVec F S128x4x2048 .f32 := Host.absf main_v3
  let main_cst : FVec F S_ .f32 := constant S_ .f32 0x7F800000#32
  let main_v5 : FVec F S128x4x2048 .f32 := broadcastInDim S128x4x2048 ![] bcast_S_S128x4x2048 main_cst
  let main_v6 : IVec S128x4x2048 1 := cmpf .olt main_v4 main_v5
  let main_c : IVec S_ 1 := constantI S_ 1 1#1
  let main_v7 : IVec S_ 1 := (fun x v => Host.reduce IntOp.andi x v reducesTo_S128x4x2048_S_d0_1_2 h_S_) main_v6 main_c
  let main_v8 : FVec F S128x2048 .f32 := (extractStridedSlice S128x2048 ![0, 1024] · slices_S128x3360_S128x2048_0_1024) main_arg1
  let main_v9 : FVec F S128x2048 .f32 := Host.absf main_v8
  let main_cst_0 : FVec F S_ .f32 := constant S_ .f32 0x7F800000#32
  let main_v10 : FVec F S128x2048 .f32 := broadcastInDim S128x2048 ![] bcast_S_S128x2048 main_cst_0
  let main_v11 : IVec S128x2048 1 := cmpf .olt main_v9 main_v10
  let main_c_1 : IVec S_ 1 := constantI S_ 1 1#1
  let main_v12 : IVec S_ 1 := (fun x v => Host.reduce IntOp.andi x v reducesTo_S128x2048_S_d0_1 h_S_) main_v11 main_c_1
  let main_v13 : IVec S_ 1 := andi main_v7 main_v12
  let main_v14 : FVec F S128x16x64x64 .f32 := Host.absf main_arg2
  let main_cst_2 : FVec F S_ .f32 := constant S_ .f32 0x7F800000#32
  let main_v15 : FVec F S128x16x64x64 .f32 := broadcastInDim S128x16x64x64 ![] bcast_S_S128x16x64x64 main_cst_2
  let main_v16 : IVec S128x16x64x64 1 := cmpf .olt main_v14 main_v15
  let main_c_3 : IVec S_ 1 := constantI S_ 1 1#1
  let main_v17 : IVec S_ 1 := (fun x v => Host.reduce IntOp.andi x v reducesTo_S128x16x64x64_S_d0_1_2_3 h_S_) main_v16 main_c_3
  fn_part1 (F := F) main_arg3 main_arg10 main_v13 main_v17
-- ==== Kernel.lean ====
abbrev S9216x15488 : Shape := ⟨2, ![9216, 15488]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S16x16 : Shape := ⟨2, ![16, 16]⟩
abbrev S_ : Shape := ⟨0, ![]⟩
abbrev S16x16x64 : Shape := ⟨3, ![16, 16, 64]⟩
abbrev S16x1024 : Shape := ⟨2, ![16, 1024]⟩
abbrev S1x2048 : Shape := ⟨2, ![1, 2048]⟩
abbrev S1x16 : Shape := ⟨2, ![1, 16]⟩
abbrev S16x64 : Shape := ⟨2, ![16, 64]⟩
abbrev S1x1024 : Shape := ⟨2, ![1, 1024]⟩
abbrev S1x3x2048 : Shape := ⟨3, ![1, 3, 2048]⟩
abbrev S1x16x64x128 : Shape := ⟨4, ![1, 16, 64, 128]⟩
abbrev S8192x1024 : Shape := ⟨2, ![8192, 1024]⟩
abbrev S128x1024 : Shape := ⟨2, ![128, 1024]⟩
abbrev S128x128 : Shape := ⟨2, ![128, 128]⟩
abbrev S3x2048 : Shape := ⟨2, ![3, 2048]⟩
abbrev S16x64x128 : Shape := ⟨3, ![16, 64, 128]⟩
abbrev S128x1 : Shape := ⟨2, ![128, 1]⟩
abbrev S3x1024 : Shape := ⟨2, ![3, 1024]⟩
abbrev S128x16 : Shape := ⟨2, ![128, 16]⟩
abbrev S16x128 : Shape := ⟨2, ![16, 128]⟩
abbrev S1x128 : Shape := ⟨2, ![1, 128]⟩
abbrev S128x64 : Shape := ⟨2, ![128, 64]⟩
abbrev S1x64x128 : Shape := ⟨3, ![1, 64, 128]⟩
abbrev S64x128 : Shape := ⟨2, ![64, 128]⟩
abbrev S1x1 : Shape := ⟨2, ![1, 1]⟩
abbrev S128x256 : Shape := ⟨2, ![128, 256]⟩
abbrev S128 : Shape := ⟨1, ![128]⟩
abbrev S1x256 : Shape := ⟨2, ![1, 256]⟩

abbrev nBuf : Space → Nat
  | .hbm => 29
  | .vmem => 23
  | .smem => 0
  | _ => 0

abbrev bufTy : (tb : Table) → Fin (tcTables nBuf tb) → BufTy
  | .hbm, ⟨0, _⟩ => ⟨S9216x15488, .f32⟩
  | .hbm, ⟨1, _⟩ => ⟨S4x2048, .f32⟩
  | .hbm, ⟨2, _⟩ => ⟨S2048, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S1024, .f32⟩
  | .hbm, ⟨7, _⟩ => ⟨S16x16, .i32⟩
  | .hbm, ⟨8, _⟩ => ⟨S16x16, .i32⟩
  | .hbm, ⟨9, _⟩ => ⟨S_, .i32⟩
  | .hbm, ⟨10, _⟩ => ⟨S16x16, .i32⟩
  | .hbm, ⟨11, _⟩ => ⟨S16x16, .i32⟩
  | .hbm, ⟨12, _⟩ => ⟨S16x16, .i1⟩
  | .hbm, ⟨13, _⟩ => ⟨S16x16, .f32⟩
  | .hbm, ⟨14, _⟩ => ⟨S16x16x64, .f32⟩
  | .hbm, ⟨15, _⟩ => ⟨S16x1024, .f32⟩
  | .hbm, ⟨16, _⟩ => ⟨S1x2048, .f32⟩
  | .hbm, ⟨17, _⟩ => ⟨S1x16, .f32⟩
  | .hbm, ⟨18, _⟩ => ⟨S1x16, .f32⟩
  | .hbm, ⟨19, _⟩ => ⟨S16x64, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x3x2048, .f32⟩
  | .hbm, ⟨25, _⟩ => ⟨S_, .f32⟩
  | .hbm, ⟨26, _⟩ => ⟨S1x16x64x128, .f32⟩
  | .hbm, ⟨27, _⟩ => ⟨S8192x1024, .bf16⟩
  | .hbm, ⟨28, _⟩ => ⟨S1x16x64x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x128, .f32⟩
  | .local _ .vmem, ⟨7, _⟩ => ⟨S128x128, .f32⟩
  | .local _ .vmem, ⟨8, _⟩ => ⟨S1x3x2048, .f32⟩
  | .local _ .vmem, ⟨9, _⟩ => ⟨S1x16x64x128, .f32⟩
  | .local _ .vmem, ⟨10, _⟩ => ⟨S4x2048, .f32⟩
  | .local _ .vmem, ⟨11, _⟩ => ⟨S1x2048, .f32⟩
  | .local _ .vmem, ⟨12, _⟩ => ⟨S1x16, .f32⟩
  | .local _ .vmem, ⟨13, _⟩ => ⟨S1x16, .f32⟩
  | .local _ .vmem, ⟨14, _⟩ => ⟨S1x1024, .f32⟩
  | .local _ .vmem, ⟨15, _⟩ => ⟨S1x1024, .f32⟩
  | .local _ .vmem, ⟨16, _⟩ => ⟨S16x1024, .f32⟩
  | .local _ .vmem, ⟨17, _⟩ => ⟨S128x1024, .bf16⟩
  | .local _ .vmem, ⟨18, _⟩ => ⟨S128x1024, .bf16⟩
  | .local _ .vmem, ⟨19, _⟩ => ⟨S1x16x64x128, .f32⟩
  | .local _ .vmem, ⟨20, _⟩ => ⟨S3x2048, .f32⟩
  | .local _ .vmem, ⟨21, _⟩ => ⟨S16x64x128, .f32⟩
  | .local _ .vmem, ⟨22, _⟩ => ⟨S128x1024, .f32⟩
  | _, _ => ⟨S9216x15488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19

abbrev nD : Nat := 1
abbrev τ : Topo := Topo.v7x

variable {F : FTy → Type} [FloatOps F]

abbrev grid0 : Pipeline.Grid := ⟨2, ![1, 64], ![false, false]⟩

def k0_cond2 (i : grid0.Coords) : BitVec 1 :=
  let arg1 : BitVec 32 := BitVec.ofNat 32 (i 1).val
  let c63_i32 : BitVec 32 := 63#32
  let v821 : BitVec 1 := Scalar.cmpi .eq arg1 c63_i32
  let v822 : BitVec 32 := Scalar.extui v821
  let c0_i32_246 : BitVec 32 := 0#32
  let v823 : BitVec 1 := Scalar.cmpi .ne v822 c0_i32_246
  v823

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c120_i32 : BitVec 32 := 120#32
  let c0_i32_0 : BitVec 32 := 0#32
  ![v2.toNat, c120_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x3x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x16x64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S16x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x16x64x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]
-- ==== ReferenceIdeal.lean ====
abbrev S9216x15488 : Shape := ⟨2, ![9216, 15488]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S8192x1024 : Shape := ⟨2, ![8192, 1024]⟩
abbrev S8192x2048 : Shape := ⟨2, ![8192, 2048]⟩
abbrev S8192x16 : Shape := ⟨2, ![8192, 16]⟩
abbrev S_ : Shape := ⟨0, ![]⟩
abbrev S3x2048 : Shape := ⟨2, ![3, 2048]⟩
abbrev S8195x2048 : Shape := ⟨2, ![8195, 2048]⟩
abbrev S1x2048 : Shape := ⟨2, ![1, 2048]⟩
abbrev S8192x16x64 : Shape := ⟨3, ![8192, 16, 64]⟩
abbrev S8192x512 : Shape := ⟨2, ![8192, 512]⟩
abbrev S8192x4x128 : Shape := ⟨3, ![8192, 4, 128]⟩
abbrev S8192x4x4x128 : Shape := ⟨4, ![8192, 4, 4, 128]⟩
abbrev S8192x16x128 : Shape := ⟨3, ![8192, 16, 128]⟩
abbrev S1x16 : Shape := ⟨2, ![1, 16]⟩
abbrev S16x64x128 : Shape := ⟨3, ![16, 64, 128]⟩
abbrev S8192x16x1 : Shape := ⟨3, ![8192, 16, 1]⟩
abbrev S64x128x16x64 : Shape := ⟨4, ![64, 128, 16, 64]⟩
abbrev S64x128x16 : Shape := ⟨3, ![64, 128, 16]⟩
abbrev S64x128x16x128 : Shape := ⟨4, ![64, 128, 16, 128]⟩
abbrev S16x64x128x128 : Shape := ⟨4, ![16, 64, 128, 128]⟩
abbrev S16x64x128x1 : Shape := ⟨4, ![16, 64, 128, 1]⟩
abbrev S128x128 : Shape := ⟨2, ![128, 128]⟩
abbrev S64x16x64x128 : Shape := ⟨4, ![64, 16, 64, 128]⟩
abbrev S16x64x1 : Shape := ⟨3, ![16, 64, 1]⟩
abbrev S64x128x16x1 : Shape := ⟨4, ![64, 128, 16, 1]⟩
abbrev S1x16x64x128 : Shape := ⟨4, ![1, 16, 64, 128]⟩
abbrev S65x16x64x128 : Shape := ⟨4, ![65, 16, 64, 128]⟩
abbrev S16x64 : Shape := ⟨2, ![16, 64]⟩
abbrev S16x65 : Shape := ⟨2, ![16, 65]⟩
abbrev S16x65x1 : Shape := ⟨3, ![16, 65, 1]⟩
abbrev S16x65x65 : Shape := ⟨3, ![16, 65, 65]⟩
abbrev S65x65 : Shape := ⟨2, ![65, 65]⟩
abbrev S16x64x128x65 : Shape := ⟨4, ![16, 64, 128, 65]⟩
abbrev S16x1 : Shape := ⟨2, ![16, 1]⟩
abbrev S1x16x1 : Shape := ⟨3, ![1, 16, 1]⟩
abbrev S8192x4x256 : Shape := ⟨3, ![8192, 4, 256]⟩
abbrev S8192x4 : Shape := ⟨2, ![8192, 4]⟩
abbrev S8192x4x1 : Shape := ⟨3, ![8192, 4, 1]⟩
abbrev S1x1024 : Shape := ⟨2, ![1, 1024]⟩

abbrev nBuf : Space → Nat
  | .hbm => 246
  | .vmem => 0
  | .smem => 0
  | _ => 0

abbrev hbmTy0_0 (i : Nat) : BufTy := match i % 128 with
  | 0 => ⟨S9216x15488, .f32⟩
  | 1 => ⟨S4x2048, .f32⟩
  | 2 => ⟨S2048, .f32⟩
  | 3 => ⟨S16, .f32⟩
  | 4 => ⟨S16, .f32⟩
  | 5 => ⟨S16, .f32⟩
  | 6 => ⟨S1024, .f32⟩
  | 7 => ⟨S8192x1024, .f32⟩
  | 8 => ⟨S8192x2048, .f32⟩
  | 9 => ⟨S8192x16, .f32⟩
  | 10 => ⟨S_, .f32⟩
  | 11 => ⟨S3x2048, .f32⟩
  | 12 => ⟨S8195x2048, .f32⟩
  | 13 => ⟨S8192x2048, .f32⟩
  | 14 => ⟨S1x2048, .f32⟩
  | 15 => ⟨S2048, .f32⟩
  | 16 => ⟨S1x2048, .f32⟩
  | 17 => ⟨S8192x2048, .f32⟩
  | 18 => ⟨S8192x2048, .f32⟩
  | 19 => ⟨S_, .f32⟩
  | 20 => ⟨S8192x2048, .f32⟩
  | 21 => ⟨S8192x2048, .f32⟩
  | 22 => ⟨S8192x2048, .f32⟩
  | 23 => ⟨S1x2048, .f32⟩
  | 24 => ⟨S2048, .f32⟩
  | 25 => ⟨S1x2048, .f32⟩
  | 26 => ⟨S8192x2048, .f32⟩
  | 27 => ⟨S8192x2048, .f32⟩
  | 28 => ⟨S8192x2048, .f32⟩
  | 29 => ⟨S8192x2048, .f32⟩
  | 30 => ⟨S1x2048, .f32⟩
  | 31 => ⟨S2048, .f32⟩
  | 32 => ⟨S1x2048, .f32⟩
  | 33 => ⟨S8192x2048, .f32⟩
  | 34 => ⟨S8192x2048, .f32⟩
  | 35 => ⟨S8192x2048, .f32⟩
  | 36 => ⟨S8192x2048, .f32⟩
  | 37 => ⟨S1x2048, .f32⟩
  | 38 => ⟨S2048, .f32⟩
  | 39 => ⟨S1x2048, .f32⟩
  | 40 => ⟨S8192x2048, .f32⟩
  | 41 => ⟨S8192x2048, .f32⟩
  | 42 => ⟨S8192x2048, .f32⟩
  | 43 => ⟨S1x2048, .f32⟩
  | 44 => ⟨S8192x2048, .f32⟩
  | 45 => ⟨S8192x2048, .f32⟩
  | 46 => ⟨S8192x2048, .f32⟩
  | 47 => ⟨S8192x2048, .f32⟩
  | 48 => ⟨S_, .f32⟩
  | 49 => ⟨S8192x2048, .f32⟩
  | 50 => ⟨S8192x2048, .f32⟩
  | 51 => ⟨S_, .f32⟩
  | 52 => ⟨S8192x2048, .f32⟩
  | 53 => ⟨S8192x2048, .f32⟩
  | 54 => ⟨S8192x2048, .f32⟩
  | 55 => ⟨S8192x1024, .f32⟩
  | 56 => ⟨S8192x16x64, .f32⟩
  | 57 => ⟨S8192x512, .f32⟩
  | 58 => ⟨S8192x512, .f32⟩
  | 59 => ⟨S8192x4x128, .f32⟩
  | 60 => ⟨S8192x4x4x128, .f32⟩
  | 61 => ⟨S8192x16x128, .f32⟩
  | 62 => ⟨S8192x4x128, .f32⟩
  | 63 => ⟨S8192x4x4x128, .f32⟩
  | 64 => ⟨S8192x16x128, .f32⟩
  | 65 => ⟨S1x16, .f32⟩
  | 66 => ⟨S8192x16, .f32⟩
  | 67 => ⟨S8192x16, .f32⟩
  | 68 => ⟨S_, .f32⟩
  | 69 => ⟨S8192x16, .f32⟩
  | 70 => ⟨S8192x16, .f32⟩
  | 71 => ⟨S8192x16, .f32⟩
  | 72 => ⟨S8192x16, .f32⟩
  | 73 => ⟨S8192x16, .i1⟩
  | 74 => ⟨S8192x16, .f32⟩
  | 75 => ⟨S8192x16, .f32⟩
  | 76 => ⟨S8192x16, .f32⟩
  | 77 => ⟨S8192x16, .f32⟩
  | 78 => ⟨S8192x16, .f32⟩
  | 79 => ⟨S8192x16, .f32⟩
  | 80 => ⟨S8192x16, .f32⟩
  | 81 => ⟨S8192x16, .f32⟩
  | 82 => ⟨S16, .f32⟩
  | 83 => ⟨S16, .f32⟩
  | 84 => ⟨S_, .f32⟩
  | 85 => ⟨S16x64x128, .f32⟩
  | 86 => ⟨S8192x16x1, .f32⟩
  | 87 => ⟨S8192x16x64, .f32⟩
  | 88 => ⟨S8192x16x64, .f32⟩
  | 89 => ⟨S64x128x16x64, .f32⟩
  | 90 => ⟨S1x16, .f32⟩
  | 91 => ⟨S8192x16, .f32⟩
  | 92 => ⟨S8192x16, .f32⟩
  | 93 => ⟨S64x128x16, .f32⟩
  | 94 => ⟨S16x64x128, .f32⟩
  | 95 => ⟨S64x128x16x128, .f32⟩
  | 96 => ⟨S64x128x16x128, .f32⟩
  | 97 => ⟨S_, .f32⟩
  | 98 => ⟨S_, .f32⟩
  | 99 => ⟨S16x64x128, .f32⟩
  | 100 => ⟨S16x64x128x128, .f32⟩
  | 101 => ⟨S16x64x128x1, .f32⟩
  | 102 => ⟨S16x64x128x128, .f32⟩
  | 103 => ⟨S_, .i1⟩
  | 104 => ⟨S128x128, .i1⟩
  | 105 => ⟨S128x128, .i32⟩
  | 106 => ⟨S_, .i32⟩
  | 107 => ⟨S128x128, .i32⟩
  | 108 => ⟨S128x128, .i32⟩
  | 109 => ⟨S128x128, .i32⟩
  | 110 => ⟨S128x128, .i1⟩
  | 111 => ⟨S_, .i1⟩
  | 112 => ⟨S128x128, .i1⟩
  | 113 => ⟨S128x128, .i1⟩
  | 114 => ⟨S_, .f32⟩
  | 115 => ⟨S_, .f32⟩
  | 116 => ⟨S16x64x128x128, .i1⟩
  | 117 => ⟨S16x64x128x128, .f32⟩
  | 118 => ⟨S16x64x128x128, .f32⟩
  | 119 => ⟨S_, .f32⟩
  | 120 => ⟨S_, .f32⟩
  | 121 => ⟨S16x64x128x128, .f32⟩
  | 122 => ⟨S_, .i1⟩
  | 123 => ⟨S128x128, .i1⟩
  | 124 => ⟨S128x128, .i32⟩
  | 125 => ⟨S_, .i32⟩
  | 126 => ⟨S128x128, .i32⟩
  | 127 => ⟨S128x128, .i32⟩
  | _ => ⟨S9216x15488, .f32⟩

abbrev hbmTy0_1 (i : Nat) : BufTy := match i % 128 with
  | 0 => ⟨S128x128, .i32⟩
  | 1 => ⟨S128x128, .i1⟩
  | 2 => ⟨S_, .i1⟩
  | 3 => ⟨S128x128, .i1⟩
  | 4 => ⟨S128x128, .i1⟩
  | 5 => ⟨S_, .f32⟩
  | 6 => ⟨S_, .f32⟩
  | 7 => ⟨S16x64x128x128, .i1⟩
  | 8 => ⟨S16x64x128x128, .f32⟩
  | 9 => ⟨S16x64x128x128, .f32⟩
  | 10 => ⟨S16x64x128x128, .f32⟩
  | 11 => ⟨S16x64x128x128, .f32⟩
  | 12 => ⟨S64x16x64x128, .f32⟩
  | 13 => ⟨S64x128x16x64, .f32⟩
  | 14 => ⟨S16x64x1, .f32⟩
  | 15 => ⟨S16x64x128, .f32⟩
  | 16 => ⟨S16x64x128, .f32⟩
  | 17 => ⟨S16x64x128, .f32⟩
  | 18 => ⟨S64x128x16, .f32⟩
  | 19 => ⟨S64x128x16x1, .f32⟩
  | 20 => ⟨S64x128x16x64, .f32⟩
  | 21 => ⟨S64x128x16x64, .f32⟩
  | 22 => ⟨S64x16x64x128, .f32⟩
  | 23 => ⟨S1x16x64x128, .f32⟩
  | 24 => ⟨S65x16x64x128, .f32⟩
  | 25 => ⟨S16x64x1, .f32⟩
  | 26 => ⟨S16x64, .f32⟩
  | 27 => ⟨S_, .i32⟩
  | 28 => ⟨S_, .f32⟩
  | 29 => ⟨S16x65, .f32⟩
  | 30 => ⟨S16x65x1, .f32⟩
  | 31 => ⟨S16x65x65, .f32⟩
  | 32 => ⟨S_, .i1⟩
  | 33 => ⟨S65x65, .i1⟩
  | 34 => ⟨S65x65, .i32⟩
  | 35 => ⟨S_, .i32⟩
  | 36 => ⟨S65x65, .i32⟩
  | 37 => ⟨S65x65, .i32⟩
  | 38 => ⟨S65x65, .i32⟩
  | 39 => ⟨S65x65, .i1⟩
  | 40 => ⟨S_, .i1⟩
  | 41 => ⟨S65x65, .i1⟩
  | 42 => ⟨S65x65, .i1⟩
  | 43 => ⟨S_, .f32⟩
  | 44 => ⟨S_, .f32⟩
  | 45 => ⟨S16x65x65, .i1⟩
  | 46 => ⟨S16x65x65, .f32⟩
  | 47 => ⟨S16x65x65, .f32⟩
  | 48 => ⟨S_, .f32⟩
  | 49 => ⟨S_, .f32⟩
  | 50 => ⟨S16x65x65, .f32⟩
  | 51 => ⟨S_, .i1⟩
  | 52 => ⟨S65x65, .i1⟩
  | 53 => ⟨S65x65, .i32⟩
  | 54 => ⟨S_, .i32⟩
  | 55 => ⟨S65x65, .i32⟩
  | 56 => ⟨S65x65, .i32⟩
  | 57 => ⟨S65x65, .i32⟩
  | 58 => ⟨S65x65, .i1⟩
  | 59 => ⟨S_, .i1⟩
  | 60 => ⟨S65x65, .i1⟩
  | 61 => ⟨S65x65, .i1⟩
  | 62 => ⟨S_, .f32⟩
  | 63 => ⟨S_, .f32⟩
  | 64 => ⟨S16x65x65, .i1⟩
  | 65 => ⟨S16x65x65, .f32⟩
  | 66 => ⟨S16x65x65, .f32⟩
  | 67 => ⟨S16x65x65, .f32⟩
  | 68 => ⟨S16x64x128x65, .f32⟩
  | 69 => ⟨S65x16x64x128, .f32⟩
  | 70 => ⟨S64x16x64x128, .f32⟩
  | 71 => ⟨S1x16x64x128, .f32⟩
  | 72 => ⟨S16x64x128, .f32⟩
  | 73 => ⟨S64x16x64x128, .f32⟩
  | 74 => ⟨S64x128x16x64, .f32⟩
  | 75 => ⟨S16x64x128, .f32⟩
  | 76 => ⟨S64x128x16, .f32⟩
  | 77 => ⟨S64x128x16x1, .f32⟩
  | 78 => ⟨S64x128x16x64, .f32⟩
  | 79 => ⟨S64x128x16x64, .f32⟩
  | 80 => ⟨S64x128x16x64, .f32⟩
  | 81 => ⟨S8192x16x64, .f32⟩
  | 82 => ⟨S16x1, .f32⟩
  | 83 => ⟨S1x16x1, .f32⟩
  | 84 => ⟨S8192x16x64, .f32⟩
  | 85 => ⟨S8192x16x64, .f32⟩
  | 86 => ⟨S8192x16x64, .f32⟩
  | 87 => ⟨S8192x1024, .f32⟩
  | 88 => ⟨S8192x1024, .f32⟩
  | 89 => ⟨S8192x1024, .f32⟩
  | 90 => ⟨S_, .f32⟩
  | 91 => ⟨S8192x1024, .f32⟩
  | 92 => ⟨S8192x1024, .f32⟩
  | 93 => ⟨S_, .f32⟩
  | 94 => ⟨S8192x1024, .f32⟩
  | 95 => ⟨S8192x1024, .f32⟩
  | 96 => ⟨S8192x1024, .f32⟩
  | 97 => ⟨S8192x1024, .f32⟩
  | 98 => ⟨S8192x4x256, .f32⟩
  | 99 => ⟨S8192x4x256, .f32⟩
  | 100 => ⟨S_, .f32⟩
  | 101 => ⟨S8192x4, .f32⟩
  | 102 => ⟨S8192x4x1, .f32⟩
  | 103 => ⟨S_, .f32⟩
  | 104 => ⟨S8192x4x1, .f32⟩
  | 105 => ⟨S8192x4x1, .f32⟩
  | 106 => ⟨S_, .f32⟩
  | 107 => ⟨S8192x4x1, .f32⟩
  | 108 => ⟨S8192x4x1, .f32⟩
  | 109 => ⟨S8192x4x1, .f32⟩
  | 110 => ⟨S8192x4x256, .f32⟩
  | 111 => ⟨S8192x4x256, .f32⟩
  | 112 => ⟨S8192x1024, .f32⟩
  | 113 => ⟨S1x1024, .f32⟩
  | 114 => ⟨S8192x1024, .f32⟩
  | 115 => ⟨S8192x1024, .f32⟩
  | 116 => ⟨S8192x1024, .bf16⟩
  | 117 => ⟨S1x16x64x128, .f32⟩
  | _ => ⟨S9216x15488, .f32⟩

abbrev hbmTy (i : Nat) : BufTy := match i / 128 with
  | 0 => hbmTy0_0 i
  | 1 => hbmTy0_1 i
  | _ => ⟨S9216x15488, .f32⟩

abbrev bufTy : (tb : Table) → Fin (tcTables nBuf tb) → BufTy
  | .hbm, ⟨i, _⟩ => hbmTy i
  | _, _ => ⟨S9216x15488, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_1 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call2_call0_cst : Ref sig .tc := ⟨.hbm, 97, rfl⟩
abbrev main_call2_call0_v0 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c : Ref sig .tc := ⟨.hbm, 103, rfl⟩
abbrev main_v70 : Ref sig .tc := ⟨.hbm, 104, rfl⟩
abbrev main_call3_v0 : Ref sig .tc := ⟨.hbm, 105, rfl⟩
abbrev main_call3_c : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_c_0 : Ref sig .tc := ⟨.hbm, 111, rfl⟩
abbrev main_call3_v5 : Ref sig .tc := ⟨.hbm, 112, rfl⟩
abbrev main_v71 : Ref sig .tc := ⟨.hbm, 113, rfl⟩
abbrev main_cst_2 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_v72 : Ref sig .tc := ⟨.hbm, 118, rfl⟩
abbrev main_call5_call0_cst : Ref sig .tc := ⟨.hbm, 119, rfl⟩
abbrev main_call5_call0_v0 : Ref sig .tc := ⟨.hbm, 120, rfl⟩
abbrev main_v73 : Ref sig .tc := ⟨.hbm, 121, rfl⟩
abbrev main_c_3 : Ref sig .tc := ⟨.hbm, 122, rfl⟩
abbrev main_v74 : Ref sig .tc := ⟨.hbm, 123, rfl⟩
abbrev main_call6_v0 : Ref sig .tc := ⟨.hbm, 124, rfl⟩
abbrev main_call6_c : Ref sig .tc := ⟨.hbm, 125, rfl⟩
abbrev main_call6_v1 : Ref sig .tc := ⟨.hbm, 126, rfl⟩
abbrev main_call6_v2 : Ref sig .tc := ⟨.hbm, 127, rfl⟩
abbrev main_call6_v3 : Ref sig .tc := ⟨.hbm, 128, rfl⟩
abbrev main_call6_v4 : Ref sig .tc := ⟨.hbm, 129, rfl⟩
abbrev main_call6_c_0 : Ref sig .tc := ⟨.hbm, 130, rfl⟩
abbrev main_call6_v5 : Ref sig .tc := ⟨.hbm, 131, rfl⟩
abbrev main_v75 : Ref sig .tc := ⟨.hbm, 132, rfl⟩
abbrev main_cst_4 : Ref sig .tc := ⟨.hbm, 133, rfl⟩
abbrev main_call7_v0 : Ref sig .tc := ⟨.hbm, 134, rfl⟩
abbrev main_call7_v1 : Ref sig .tc := ⟨.hbm, 135, rfl⟩
abbrev main_call7_v2 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_c_5 : Ref sig .tc := ⟨.hbm, 155, rfl⟩
abbrev main_call8_v0 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_c_6 : Ref sig .tc := ⟨.hbm, 160, rfl⟩
abbrev main_v97 : Ref sig .tc := ⟨.hbm, 161, rfl⟩
abbrev main_call9_v0 : Ref sig .tc := ⟨.hbm, 162, rfl⟩
abbrev main_call9_c : Ref sig .tc := ⟨.hbm, 163, rfl⟩
abbrev main_call9_v1 : Ref sig .tc := ⟨.hbm, 164, rfl⟩
abbrev main_call9_v2 : Ref sig .tc := ⟨.hbm, 165, rfl⟩
abbrev main_call9_v3 : Ref sig .tc := ⟨.hbm, 166, rfl⟩
abbrev main_call9_v4 : Ref sig .tc := ⟨.hbm, 167, rfl⟩
abbrev main_call9_c_0 : Ref sig .tc := ⟨.hbm, 168, rfl⟩
abbrev main_call9_v5 : Ref sig .tc := ⟨.hbm, 169, rfl⟩
abbrev main_v98 : Ref sig .tc := ⟨.hbm, 170, rfl⟩
abbrev main_cst_7 : Ref sig .tc := ⟨.hbm, 171, rfl⟩
abbrev main_call10_v0 : Ref sig .tc := ⟨.hbm, 172, rfl⟩
abbrev main_call10_v1 : Ref sig .tc := ⟨.hbm, 173, rfl⟩
abbrev main_call10_v2 : Ref sig .tc := ⟨.hbm, 174, rfl⟩
abbrev main_v99 : Ref sig .tc := ⟨.hbm, 175, rfl⟩
abbrev main_call11_call0_cst : Ref sig .tc := ⟨.hbm, 176, rfl⟩
abbrev main_call11_call0_v0 : Ref sig .tc := ⟨.hbm, 177, rfl⟩
abbrev main_v100 : Ref sig .tc := ⟨.hbm, 178, rfl⟩
abbrev main_c_8 : Ref sig .tc := ⟨.hbm, 179, rfl⟩
abbrev main_v101 : Ref sig .tc := ⟨.hbm, 180, rfl⟩
abbrev main_call12_v0 : Ref sig .tc := ⟨.hbm, 181, rfl⟩
abbrev main_call12_c : Ref sig .tc := ⟨.hbm, 182, rfl⟩
abbrev main_call12_v1 : Ref sig .tc := ⟨.hbm, 183, rfl⟩
abbrev main_call12_v2 : Ref sig .tc := ⟨.hbm, 184, rfl⟩
abbrev main_call12_v3 : Ref sig .tc := ⟨.hbm, 185, rfl⟩
abbrev main_call12_v4 : Ref sig .tc := ⟨.hbm, 186, rfl⟩
abbrev main_call12_c_0 : Ref sig .tc := ⟨.hbm, 187, rfl⟩
abbrev main_call12_v5 : Ref sig .tc := ⟨.hbm, 188, rfl⟩
abbrev main_v102 : Ref sig .tc := ⟨.hbm, 189, rfl⟩
abbrev main_cst_9 : Ref sig .tc := ⟨.hbm, 190, rfl⟩
abbrev main_call13_v0 : Ref sig .tc := ⟨.hbm, 191, rfl⟩
abbrev main_call13_v1 : Ref sig .tc := ⟨.hbm, 192, rfl⟩
abbrev main_call13_v2 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_call14_v0 : Ref sig .tc := ⟨.hbm, 216, rfl⟩
abbrev main_call14_v1 : Ref sig .tc := ⟨.hbm, 217, rfl⟩
abbrev main_call14_cst : Ref sig .tc := ⟨.hbm, 218, rfl⟩
abbrev main_call14_v2 : Ref sig .tc := ⟨.hbm, 219, rfl⟩
abbrev main_call14_v3 : Ref sig .tc := ⟨.hbm, 220, rfl⟩
abbrev main_call14_cst_0 : Ref sig .tc := ⟨.hbm, 221, rfl⟩
abbrev main_call14_v4 : Ref sig .tc := ⟨.hbm, 222, rfl⟩
abbrev main_call14_v5 : Ref sig .tc := ⟨.hbm, 223, rfl⟩
abbrev main_v125 : Ref sig .tc := ⟨.hbm, 224, rfl⟩
abbrev main_v126 : Ref sig .tc := ⟨.hbm, 225, rfl⟩
abbrev main_v127 : Ref sig .tc := ⟨.hbm, 226, rfl⟩
abbrev main_v128 : Ref sig .tc := ⟨.hbm, 227, rfl⟩
abbrev main_cst_10 : Ref sig .tc := ⟨.hbm, 228, rfl⟩
abbrev main_v129 : Ref sig .tc := ⟨.hbm, 229, rfl⟩
abbrev main_v130 : Ref sig .tc := ⟨.hbm, 230, rfl⟩
abbrev main_cst_11 : Ref sig .tc := ⟨.hbm, 231, rfl⟩
abbrev main_v131 : Ref sig .tc := ⟨.hbm, 232, rfl⟩
abbrev main_v132 : Ref sig .tc := ⟨.hbm, 233, rfl⟩
abbrev main_cst_12 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩

abbrev nD : Nat := 1
abbrev τ : Topo := Topo.v7x

variable {F : FTy → Type} [FloatOps F]
-- ==== Kernel2.lean ====
abbrev S9216x2048 : Shape := ⟨2, ![9216, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 10
  | .vmem => 12
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S1x2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S9216x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![18, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S9216x2048 : Shape := ⟨2, ![9216, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S9216x5632 : Shape := ⟨2, ![9216, 5632]⟩

abbrev nBuf : Space → Nat
  | .hbm => 38
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S9216x2048, .f32⟩
  | .hbm, ⟨6, _⟩ => ⟨S_, .f32⟩
  | .hbm, ⟨7, _⟩ => ⟨S9216, .f32⟩
  | .hbm, ⟨8, _⟩ => ⟨S9216x1, .f32⟩
  | .hbm, ⟨9, _⟩ => ⟨S_, .f32⟩
  | .hbm, ⟨10, _⟩ => ⟨S9216x1, .f32⟩
  | .hbm, ⟨11, _⟩ => ⟨S9216x1, .f32⟩
  | .hbm, ⟨12, _⟩ => ⟨S_, .f32⟩
  | .hbm, ⟨13, _⟩ => ⟨S9216x1, .f32⟩
  | .hbm, ⟨14, _⟩ => ⟨S9216x1, .f32⟩
  | .hbm, ⟨15, _⟩ => ⟨S9216x1, .f32⟩
  | .hbm, ⟨16, _⟩ => ⟨S9216x2048, .f32⟩
  | .hbm, ⟨17, _⟩ => ⟨S9216x2048, .f32⟩
  | .hbm, ⟨18, _⟩ => ⟨S1x2048, .f32⟩
  | .hbm, ⟨19, _⟩ => ⟨S9216x2048, .f32⟩
  | .hbm, ⟨20, _⟩ => ⟨S9216x2048, .f32⟩
  | .hbm, ⟨21, _⟩ => ⟨S9216x5632, .f32⟩
  | .hbm, ⟨22, _⟩ => ⟨S9216x5632, .f32⟩
  | .hbm, ⟨23, _⟩ => ⟨S9216x5632, .f32⟩
  | .hbm, ⟨24, _⟩ => ⟨S_, .f32⟩
  | .hbm, ⟨25, _⟩ => ⟨S9216x5632, .f32⟩
  | .hbm, ⟨26, _⟩ => ⟨S9216x5632, .f32⟩
  | .hbm, ⟨27, _⟩ => ⟨S_, .f32⟩
  | .hbm, ⟨28, _⟩ => ⟨S9216x5632, .f32⟩
  | .hbm, ⟨29, _⟩ => ⟨S9216x5632, .f32⟩
  | .hbm, ⟨30, _⟩ => ⟨S9216x5632, .f32⟩
  | .hbm, ⟨31, _⟩ => ⟨S9216x5632, .f32⟩
  | .hbm, ⟨32, _⟩ => ⟨S9216x5632, .f32⟩
  | .hbm, ⟨33, _⟩ => ⟨S9216x2048, .f32⟩
  | .hbm, ⟨34, _⟩ => ⟨S_, .f32⟩
  | .hbm, ⟨35, _⟩ => ⟨S9216x2048, .f32⟩
  | .hbm, ⟨36, _⟩ => ⟨S9216x2048, .f32⟩
  | .hbm, ⟨37, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel3.lean ====
abbrev S9216x2048 : Shape := ⟨2, ![9216, 2048]⟩
abbrev S2048 : Shape := ⟨1, ![2048]⟩
abbrev S2048x15232 : Shape := ⟨2, ![2048, 15232]⟩
abbrev S1x2048 : Shape := ⟨2, ![1, 2048]⟩
abbrev S2048x1024 : Shape := ⟨2, ![2048, 1024]⟩
abbrev S2048x2048 : Shape := ⟨2, ![2048, 2048]⟩
abbrev S2048x16 : Shape := ⟨2, ![2048, 16]⟩
abbrev S2048x256 : Shape := ⟨2, ![2048, 256]⟩
abbrev S2048x64 : Shape := ⟨2, ![2048, 64]⟩
abbrev S2048x3360 : Shape := ⟨2, ![2048, 3360]⟩
abbrev S2048x6144 : Shape := ⟨2, ![2048, 6144]⟩
abbrev S2048x288 : Shape := ⟨2, ![2048, 288]⟩
abbrev S2048x3072 : Shape := ⟨2, ![2048, 3072]⟩
abbrev S_ : Shape := ⟨0, ![]⟩
abbrev S2048x224 : Shape := ⟨2, ![2048, 224]⟩
abbrev S2048x32 : Shape := ⟨2, ![2048, 32]⟩
abbrev S2048x15488 : Shape := ⟨2, ![2048, 15488]⟩
abbrev S9216x15488 : Shape := ⟨2, ![9216, 15488]⟩
abbrev S512x2048 : Shape := ⟨2, ![512, 2048]⟩
abbrev S2048x1408 : Shape := ⟨2, ![2048, 1408]⟩
abbrev S512x1408 : Shape := ⟨2, ![512, 1408]⟩
abbrev S512 : Shape := ⟨1, ![512]⟩
abbrev S512x1 : Shape := ⟨2, ![512, 1]⟩

abbrev nBuf : Space → Nat
  | .hbm => 24
  | .vmem => 8
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x15232, .f32⟩
  | .hbm, ⟨3, _⟩ => ⟨S1x2048, .f32⟩
  | .hbm, ⟨4, _⟩ => ⟨S2048x1024, .f32⟩
  | .hbm, ⟨5, _⟩ => ⟨S2048x2048, .f32⟩
  | .hbm, ⟨6, _⟩ => ⟨S2048x16, .f32⟩
  | .hbm, ⟨7, _⟩ => ⟨S2048x1024, .f32⟩
  | .hbm, ⟨8, _⟩ => ⟨S2048x256, .f32⟩
  | .hbm, ⟨9, _⟩ => ⟨S2048x256, .f32⟩
  | .hbm, ⟨10, _⟩ => ⟨S2048x1024, .f32⟩
  | .hbm, ⟨11, _⟩ => ⟨S2048x64, .f32⟩
  | .hbm, ⟨12, _⟩ => ⟨S2048x16, .f32⟩
  | .hbm, ⟨13, _⟩ => ⟨S2048x3360, .f32⟩
  | .hbm, ⟨14, _⟩ => ⟨S2048x6144, .f32⟩
  | .hbm, ⟨15, _⟩ => ⟨S2048x288, .f32⟩
  | .hbm, ⟨16, _⟩ => ⟨S2048x3072, .f32⟩
  | .hbm, ⟨17, _⟩ => ⟨S_, .f32⟩
  | .hbm, ⟨18, _⟩ => ⟨S2048x224, .f32⟩
  | .hbm, ⟨19, _⟩ => ⟨S_, .f32⟩
  | .hbm, ⟨20, _⟩ => ⟨S2048x32, .f32⟩
  | .hbm, ⟨21, _⟩ => ⟨S2048x15488, .f32⟩
  | .hbm, ⟨22, _⟩ => ⟨S2048x15488, .bf16⟩
  | .hbm, ⟨23, _⟩ => ⟨S9216x15488, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1408, .bf16⟩
  | .local _ .vmem, ⟨4, _⟩ => ⟨S2048x1408, .bf16⟩
  | .local _ .vmem, ⟨5, _⟩ => ⟨S512x1408, .f32⟩
  | .local _ .vmem, ⟨6, _⟩ => ⟨S512x1408, .f32⟩
  | .local _ .vmem, ⟨7, _⟩ => ⟨S512x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![18, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S9216x2048 : Shape := ⟨2, ![9216, 2048]⟩
abbrev S2048 : Shape := ⟨1, ![2048]⟩
abbrev S2048x15232 : Shape := ⟨2, ![2048, 15232]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S9216x15232 : Shape := ⟨2, ![9216, 15232]⟩
abbrev S9216x1024 : Shape := ⟨2, ![9216, 1024]⟩
abbrev S9216x16 : Shape := ⟨2, ![9216, 16]⟩
abbrev S9216x256 : Shape := ⟨2, ![9216, 256]⟩
abbrev S9216x64 : Shape := ⟨2, ![9216, 64]⟩
abbrev S9216x3360 : Shape := ⟨2, ![9216, 3360]⟩
abbrev S9216x6144 : Shape := ⟨2, ![9216, 6144]⟩
abbrev S9216x3072 : Shape := ⟨2, ![9216, 3072]⟩
abbrev S9216x288 : Shape := ⟨2, ![9216, 288]⟩
abbrev S9216x224 : Shape := ⟨2, ![9216, 224]⟩
abbrev S9216x32 : Shape := ⟨2, ![9216, 32]⟩
abbrev S9216x15488 : Shape := ⟨2, ![9216, 15488]⟩

abbrev nBuf : Space → Nat
  | .hbm => 38
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x15232, .f32⟩
  | .hbm, ⟨3, _⟩ => ⟨S9216x2048, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S_, .f32⟩
  | .hbm, ⟨8, _⟩ => ⟨S9216x1, .f32⟩
  | .hbm, ⟨9, _⟩ => ⟨S9216x1, .f32⟩
  | .hbm, ⟨10, _⟩ => ⟨S_, .f32⟩
  | .hbm, ⟨11, _⟩ => ⟨S9216x1, .f32⟩
  | .hbm, ⟨12, _⟩ => ⟨S9216x1, .f32⟩
  | .hbm, ⟨13, _⟩ => ⟨S9216x1, .f32⟩
  | .hbm, ⟨14, _⟩ => ⟨S9216x2048, .f32⟩
  | .hbm, ⟨15, _⟩ => ⟨S9216x2048, .f32⟩
  | .hbm, ⟨16, _⟩ => ⟨S1x2048, .f32⟩
  | .hbm, ⟨17, _⟩ => ⟨S9216x2048, .f32⟩
  | .hbm, ⟨18, _⟩ => ⟨S9216x2048, .f32⟩
  | .hbm, ⟨19, _⟩ => ⟨S9216x15232, .f32⟩
  | .hbm, ⟨20, _⟩ => ⟨S9216x1024, .f32⟩
  | .hbm, ⟨21, _⟩ => ⟨S9216x2048, .f32⟩
  | .hbm, ⟨22, _⟩ => ⟨S9216x16, .f32⟩
  | .hbm, ⟨23, _⟩ => ⟨S9216x1024, .f32⟩
  | .hbm, ⟨24, _⟩ => ⟨S9216x256, .f32⟩
  | .hbm, ⟨25, _⟩ => ⟨S9216x256, .f32⟩
  | .hbm, ⟨26, _⟩ => ⟨S9216x1024, .f32⟩
  | .hbm, ⟨27, _⟩ => ⟨S9216x64, .f32⟩
  | .hbm, ⟨28, _⟩ => ⟨S9216x16, .f32⟩
  | .hbm, ⟨29, _⟩ => ⟨S9216x3360, .f32⟩
  | .hbm, ⟨30, _⟩ => ⟨S9216x6144, .f32⟩
  | .hbm, ⟨31, _⟩ => ⟨S9216x3072, .f32⟩
  | .hbm, ⟨32, _⟩ => ⟨S9216x288, .f32⟩
  | .hbm, ⟨33, _⟩ => ⟨S_, .f32⟩
  | .hbm, ⟨34, _⟩ => ⟨S9216x224, .f32⟩
  | .hbm, ⟨35, _⟩ => ⟨S_, .f32⟩
  | .hbm, ⟨36, _⟩ => ⟨S9216x32, .f32⟩
  | .hbm, ⟨37, _⟩ => ⟨S9216x15488, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel4.lean ====
abbrev S9216x2048 : Shape := ⟨2, ![9216, 2048]⟩
abbrev S9216x15488 : Shape := ⟨2, ![9216, 15488]⟩
abbrev S9216x1024 : Shape := ⟨2, ![9216, 1024]⟩
abbrev S1024x2048 : Shape := ⟨2, ![1024, 2048]⟩
abbrev S2048x2048 : Shape := ⟨2, ![2048, 2048]⟩
abbrev S512x2048 : Shape := ⟨2, ![512, 2048]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 14
  | .vmem => 24
  | .smem => 0
  | _ => 0

abbrev bufTy : (tb : Table) → Fin (tcTables nBuf tb) → BufTy
  | .hbm, ⟨0, _⟩ => ⟨S9216x2048, .f32⟩
  | .hbm, ⟨1, _⟩ => ⟨S9216x15488, .f32⟩
  | .hbm, ⟨2, _⟩ => ⟨S9216x1024, .bf16⟩
  | .hbm, ⟨3, _⟩ => ⟨S9216x1024, .bf16⟩
  | .hbm, ⟨4, _⟩ => ⟨S9216x1024, .bf16⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S1024x2048, .bf16⟩
  | .hbm, ⟨10, _⟩ => ⟨S1024x2048, .bf16⟩
  | .hbm, ⟨11, _⟩ => ⟨S1024x2048, .bf16⟩
  | .hbm, ⟨12, _⟩ => ⟨S2048x2048, .bf16⟩
  | .hbm, ⟨13, _⟩ => ⟨S9216x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S512x2048, .bf16⟩
  | .local _ .vmem, ⟨21, _⟩ => ⟨S512x2048, .bf16⟩
  | .local _ .vmem, ⟨22, _⟩ => ⟨S512x2048, .f32⟩
  | .local _ .vmem, ⟨23, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![18, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference4Ideal.lean ====
abbrev S9216x2048 : Shape := ⟨2, ![9216, 2048]⟩
abbrev S9216x15488 : Shape := ⟨2, ![9216, 15488]⟩
abbrev S9216x1024 : Shape := ⟨2, ![9216, 1024]⟩
abbrev S1024x2048 : Shape := ⟨2, ![1024, 2048]⟩
abbrev S2048x2048 : Shape := ⟨2, ![2048, 2048]⟩
abbrev S9216x6144 : Shape := ⟨2, ![9216, 6144]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S9216x15488, .f32⟩
  | .hbm, ⟨2, _⟩ => ⟨S9216x1024, .bf16⟩
  | .hbm, ⟨3, _⟩ => ⟨S9216x1024, .bf16⟩
  | .hbm, ⟨4, _⟩ => ⟨S9216x1024, .bf16⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S9216x6144, .f32⟩
  | .hbm, ⟨10, _⟩ => ⟨S9216x6144, .f32⟩
  | .hbm, ⟨11, _⟩ => ⟨S9216x6144, .f32⟩
  | .hbm, ⟨12, _⟩ => ⟨S_, .f32⟩
  | .hbm, ⟨13, _⟩ => ⟨S9216x6144, .f32⟩
  | .hbm, ⟨14, _⟩ => ⟨S9216x6144, .f32⟩
  | .hbm, ⟨15, _⟩ => ⟨S_, .f32⟩
  | .hbm, ⟨16, _⟩ => ⟨S9216x6144, .f32⟩
  | .hbm, ⟨17, _⟩ => ⟨S9216x6144, .f32⟩
  | .hbm, ⟨18, _⟩ => ⟨S9216x2048, .f32⟩
  | .hbm, ⟨19, _⟩ => ⟨S9216x2048, .f32⟩
  | .hbm, ⟨20, _⟩ => ⟨S9216x2048, .f32⟩
  | .hbm, ⟨21, _⟩ => ⟨S9216x2048, .f32⟩
  | .hbm, ⟨22, _⟩ => ⟨S9216x2048, .f32⟩
  | .hbm, ⟨23, _⟩ => ⟨S9216x2048, .f32⟩
  | .hbm, ⟨24, _⟩ => ⟨S9216x2048, .f32⟩
  | .hbm, ⟨25, _⟩ => ⟨S9216x2048, .f32⟩
  | .hbm, ⟨26, _⟩ => ⟨S9216x2048, .f32⟩
  | .hbm, ⟨27, _⟩ => ⟨S9216x2048, .f32⟩
  | .hbm, ⟨28, _⟩ => ⟨S9216x2048, .f32⟩
  | .hbm, ⟨29, _⟩ => ⟨S9216x2048, .f32⟩
  | .hbm, ⟨30, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel5.lean ====
abbrev S9216x2048 : Shape := ⟨2, ![9216, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S1x2048, .f32⟩
  | .hbm, ⟨3, _⟩ => ⟨S9216x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S9216x2048 : Shape := ⟨2, ![9216, 2048]⟩
abbrev S2048 : Shape := ⟨1, ![2048]⟩
abbrev S_ : Shape := ⟨0, ![]⟩
abbrev S9216 : Shape := ⟨1, ![9216]⟩
abbrev S9216x1 : Shape := ⟨2, ![9216, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S9216x2048, .f32⟩
  | .hbm, ⟨3, _⟩ => ⟨S_, .f32⟩
  | .hbm, ⟨4, _⟩ => ⟨S9216, .f32⟩
  | .hbm, ⟨5, _⟩ => ⟨S9216x1, .f32⟩
  | .hbm, ⟨6, _⟩ => ⟨S_, .f32⟩
  | .hbm, ⟨7, _⟩ => ⟨S9216x1, .f32⟩
  | .hbm, ⟨8, _⟩ => ⟨S9216x1, .f32⟩
  | .hbm, ⟨9, _⟩ => ⟨S_, .f32⟩
  | .hbm, ⟨10, _⟩ => ⟨S9216x1, .f32⟩
  | .hbm, ⟨11, _⟩ => ⟨S9216x1, .f32⟩
  | .hbm, ⟨12, _⟩ => ⟨S9216x1, .f32⟩
  | .hbm, ⟨13, _⟩ => ⟨S9216x2048, .f32⟩
  | .hbm, ⟨14, _⟩ => ⟨S9216x2048, .f32⟩
  | .hbm, ⟨15, _⟩ => ⟨S1x2048, .f32⟩
  | .hbm, ⟨16, _⟩ => ⟨S9216x2048, .f32⟩
  | .hbm, ⟨17, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel6.lean ====
abbrev S9216x15488 : Shape := ⟨2, ![9216, 15488]⟩
abbrev S64 : Shape := ⟨1, ![64]⟩
abbrev S1x64 : Shape := ⟨2, ![1, 64]⟩
abbrev S9216x64 : Shape := ⟨2, ![9216, 64]⟩
abbrev S512x128 : Shape := ⟨2, ![512, 128]⟩
abbrev S512x64 : Shape := ⟨2, ![512, 64]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S9216x15488, .f32⟩
  | .hbm, ⟨1, _⟩ => ⟨S64, .f32⟩
  | .hbm, ⟨2, _⟩ => ⟨S64, .f32⟩
  | .hbm, ⟨3, _⟩ => ⟨S1x64, .f32⟩
  | .hbm, ⟨4, _⟩ => ⟨S1x64, .f32⟩
  | .hbm, ⟨5, _⟩ => ⟨S9216x64, .f32⟩
  | .local _ .vmem, ⟨0, _⟩ => ⟨S512x128, .f32⟩
  | .local _ .vmem, ⟨1, _⟩ => ⟨S512x128, .f32⟩
  | .local _ .vmem, ⟨2, _⟩ => ⟨S1x64, .f32⟩
  | .local _ .vmem, ⟨3, _⟩ => ⟨S1x64, .f32⟩
  | .local _ .vmem, ⟨4, _⟩ => ⟨S512x64, .f32⟩
  | .local _ .vmem, ⟨5, _⟩ => ⟨S512x64, .f32⟩
  | _, _ => ⟨S9216x15488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c120_i32 : BitVec 32 := 120#32
  let c0_i32 : BitVec 32 := 0#32
  ![arg0.toNat, c120_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S9216x15488 : Shape := ⟨2, ![9216, 15488]⟩
abbrev S64 : Shape := ⟨1, ![64]⟩
abbrev S9216x64 : Shape := ⟨2, ![9216, 64]⟩
abbrev S_ : Shape := ⟨0, ![]⟩
abbrev S9216 : Shape := ⟨1, ![9216]⟩
abbrev S9216x1 : Shape := ⟨2, ![9216, 1]⟩
abbrev S1x64 : Shape := ⟨2, ![1, 64]⟩

abbrev nBuf : Space → Nat
  | .hbm => 33
  | .vmem => 0
  | .smem => 0
  | _ => 0

abbrev bufTy : (tb : Table) → Fin (tcTables nBuf tb) → BufTy
  | .hbm, ⟨0, _⟩ => ⟨S9216x15488, .f32⟩
  | .hbm, ⟨1, _⟩ => ⟨S64, .f32⟩
  | .hbm, ⟨2, _⟩ => ⟨S64, .f32⟩
  | .hbm, ⟨3, _⟩ => ⟨S9216x64, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S_, .f32⟩
  | .hbm, ⟨8, _⟩ => ⟨S9216x1, .f32⟩
  | .hbm, ⟨9, _⟩ => ⟨S9216x1, .f32⟩
  | .hbm, ⟨10, _⟩ => ⟨S9216x64, .f32⟩
  | .hbm, ⟨11, _⟩ => ⟨S9216x64, .f32⟩
  | .hbm, ⟨12, _⟩ => ⟨S9216x64, .f32⟩
  | .hbm, ⟨13, _⟩ => ⟨S_, .f32⟩
  | .hbm, ⟨14, _⟩ => ⟨S9216, .f32⟩
  | .hbm, ⟨15, _⟩ => ⟨S9216x1, .f32⟩
  | .hbm, ⟨16, _⟩ => ⟨S_, .f32⟩
  | .hbm, ⟨17, _⟩ => ⟨S9216x1, .f32⟩
  | .hbm, ⟨18, _⟩ => ⟨S9216x1, .f32⟩
  | .hbm, ⟨19, _⟩ => ⟨S9216x64, .f32⟩
  | .hbm, ⟨20, _⟩ => ⟨S9216x64, .f32⟩
  | .hbm, ⟨21, _⟩ => ⟨S_, .f32⟩
  | .hbm, ⟨22, _⟩ => ⟨S9216x1, .f32⟩
  | .hbm, ⟨23, _⟩ => ⟨S9216x1, .f32⟩
  | .hbm, ⟨24, _⟩ => ⟨S9216x1, .f32⟩
  | .hbm, ⟨25, _⟩ => ⟨S9216x64, .f32⟩
  | .hbm, ⟨26, _⟩ => ⟨S9216x64, .f32⟩
  | .hbm, ⟨27, _⟩ => ⟨S1x64, .f32⟩
  | .hbm, ⟨28, _⟩ => ⟨S9216x64, .f32⟩
  | .hbm, ⟨29, _⟩ => ⟨S9216x64, .f32⟩
  | .hbm, ⟨30, _⟩ => ⟨S1x64, .f32⟩
  | .hbm, ⟨31, _⟩ => ⟨S9216x64, .f32⟩
  | .hbm, ⟨32, _⟩ => ⟨S9216x64, .f32⟩
  | _, _ => ⟨S9216x15488, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel7.lean ====
abbrev S9216x15488 : Shape := ⟨2, ![9216, 15488]⟩
abbrev S128x3x2048 : Shape := ⟨3, ![128, 3, 2048]⟩
abbrev S128x16x64x128 : Shape := ⟨4, ![128, 16, 64, 128]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S16x16 : Shape := ⟨2, ![16, 16]⟩
abbrev S_ : Shape := ⟨0, ![]⟩
abbrev S16x16x64 : Shape := ⟨3, ![16, 16, 64]⟩
abbrev S16x1024 : Shape := ⟨2, ![16, 1024]⟩
abbrev S1x2048 : Shape := ⟨2, ![1, 2048]⟩
abbrev S1x16 : Shape := ⟨2, ![1, 16]⟩
abbrev S16x64 : Shape := ⟨2, ![16, 64]⟩
abbrev S1x1024 : Shape := ⟨2, ![1, 1024]⟩
abbrev S1024x1024 : Shape := ⟨2, ![1024, 1024]⟩
abbrev S8x1024 : Shape := ⟨2, ![8, 1024]⟩
abbrev S8x128 : Shape := ⟨2, ![8, 128]⟩
abbrev S1x3x2048 : Shape := ⟨3, ![1, 3, 2048]⟩
abbrev S1x16x64x128 : Shape := ⟨4, ![1, 16, 64, 128]⟩
abbrev S3x2048 : Shape := ⟨2, ![3, 2048]⟩
abbrev S16x64x128 : Shape := ⟨3, ![16, 64, 128]⟩
abbrev S8x1 : Shape := ⟨2, ![8, 1]⟩
abbrev S3x1024 : Shape := ⟨2, ![3, 1024]⟩
abbrev S8x16 : Shape := ⟨2, ![8, 16]⟩
abbrev S8x8 : Shape := ⟨2, ![8, 8]⟩
abbrev S16x8 : Shape := ⟨2, ![16, 8]⟩
abbrev S1x8 : Shape := ⟨2, ![1, 8]⟩
abbrev S8x64 : Shape := ⟨2, ![8, 64]⟩
abbrev S1x64x128 : Shape := ⟨3, ![1, 64, 128]⟩
abbrev S64x128 : Shape := ⟨2, ![64, 128]⟩
abbrev S1x1 : Shape := ⟨2, ![1, 1]⟩
abbrev S8x256 : Shape := ⟨2, ![8, 256]⟩
abbrev S8 : Shape := ⟨1, ![8]⟩
abbrev S1x256 : Shape := ⟨2, ![1, 256]⟩

abbrev nBuf : Space → Nat
  | .hbm => 27
  | .vmem => 26
  | .smem => 0
  | _ => 0

abbrev bufTy : (tb : Table) → Fin (tcTables nBuf tb) → BufTy
  | .hbm, ⟨0, _⟩ => ⟨S9216x15488, .f32⟩
  | .hbm, ⟨1, _⟩ => ⟨S128x3x2048, .f32⟩
  | .hbm, ⟨2, _⟩ => ⟨S128x16x64x128, .f32⟩
  | .hbm, ⟨3, _⟩ => ⟨S4x2048, .f32⟩
  | .hbm, ⟨4, _⟩ => ⟨S2048, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S1024, .f32⟩
  | .hbm, ⟨9, _⟩ => ⟨S16x16, .i32⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i32⟩
  | .hbm, ⟨14, _⟩ => ⟨S16x16, .i1⟩
  | .hbm, ⟨15, _⟩ => ⟨S16x16, .f32⟩
  | .hbm, ⟨16, _⟩ => ⟨S16x16x64, .f32⟩
  | .hbm, ⟨17, _⟩ => ⟨S16x1024, .f32⟩
  | .hbm, ⟨18, _⟩ => ⟨S1x2048, .f32⟩
  | .hbm, ⟨19, _⟩ => ⟨S1x16, .f32⟩
  | .hbm, ⟨20, _⟩ => ⟨S1x16, .f32⟩
  | .hbm, ⟨21, _⟩ => ⟨S16x64, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S1024x1024, .bf16⟩
  | .hbm, ⟨26, _⟩ => ⟨S128x16x64x128, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x128, .f32⟩
  | .local _ .vmem, ⟨7, _⟩ => ⟨S8x128, .f32⟩
  | .local _ .vmem, ⟨8, _⟩ => ⟨S1x3x2048, .f32⟩
  | .local _ .vmem, ⟨9, _⟩ => ⟨S1x3x2048, .f32⟩
  | .local _ .vmem, ⟨10, _⟩ => ⟨S1x16x64x128, .f32⟩
  | .local _ .vmem, ⟨11, _⟩ => ⟨S1x16x64x128, .f32⟩
  | .local _ .vmem, ⟨12, _⟩ => ⟨S4x2048, .f32⟩
  | .local _ .vmem, ⟨13, _⟩ => ⟨S1x2048, .f32⟩
  | .local _ .vmem, ⟨14, _⟩ => ⟨S1x16, .f32⟩
  | .local _ .vmem, ⟨15, _⟩ => ⟨S1x16, .f32⟩
  | .local _ .vmem, ⟨16, _⟩ => ⟨S1x1024, .f32⟩
  | .local _ .vmem, ⟨17, _⟩ => ⟨S1x1024, .f32⟩
  | .local _ .vmem, ⟨18, _⟩ => ⟨S16x1024, .f32⟩
  | .local _ .vmem, ⟨19, _⟩ => ⟨S8x1024, .bf16⟩
  | .local _ .vmem, ⟨20, _⟩ => ⟨S8x1024, .bf16⟩
  | .local _ .vmem, ⟨21, _⟩ => ⟨S1x16x64x128, .f32⟩
  | .local _ .vmem, ⟨22, _⟩ => ⟨S1x16x64x128, .f32⟩
  | .local _ .vmem, ⟨23, _⟩ => ⟨S3x2048, .f32⟩
  | .local _ .vmem, ⟨24, _⟩ => ⟨S16x64x128, .f32⟩
  | .local _ .vmem, ⟨25, _⟩ => ⟨S8x1024, .f32⟩
  | _, _ => ⟨S9216x15488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![128, 1], ![false, false]⟩

def k0_cond2 (i : grid0.Coords) : BitVec 1 :=
  let arg1 : BitVec 32 := BitVec.ofNat 32 (i 1).val
  let c0_i32_247 : BitVec 32 := 0#32
  let v827 : BitVec 1 := Scalar.cmpi .eq arg1 c0_i32_247
  let v828 : BitVec 32 := Scalar.extui v827
  let c0_i32_248 : BitVec 32 := 0#32
  let v829 : BitVec 1 := Scalar.cmpi .ne v828 c0_i32_248
  v829

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c1_i32_0 : BitVec 32 := 1#32
  let c0_i32 : BitVec 32 := 0#32
  ![v2.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c2_i32 : BitVec 32 := 2#32
  let c0_i32 : BitVec 32 := 0#32
  ![v2.toNat, c2_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c120_i32 : BitVec 32 := 120#32
  let c0_i32 : BitVec 32 := 0#32
  ![v2.toNat, c120_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S16x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S8x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Reference7Ideal.lean ====
abbrev S9216x15488 : Shape := ⟨2, ![9216, 15488]⟩
abbrev S128x3x2048 : Shape := ⟨3, ![128, 3, 2048]⟩
abbrev S128x16x64x128 : Shape := ⟨4, ![128, 16, 64, 128]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S1024x15488 : Shape := ⟨2, ![1024, 15488]⟩
abbrev S128x8x15488 : Shape := ⟨3, ![128, 8, 15488]⟩
abbrev S128x4x15488 : Shape := ⟨3, ![128, 4, 15488]⟩
abbrev S128x4x2048 : Shape := ⟨3, ![128, 4, 2048]⟩
abbrev S128x4x16 : Shape := ⟨3, ![128, 4, 16]⟩
abbrev S128x7x2048 : Shape := ⟨3, ![128, 7, 2048]⟩
abbrev S1x2048 : Shape := ⟨2, ![1, 2048]⟩
abbrev S1x1x2048 : Shape := ⟨3, ![1, 1, 2048]⟩
abbrev S_ : Shape := ⟨0, ![]⟩
abbrev S128x4x1024 : Shape := ⟨3, ![128, 4, 1024]⟩
abbrev S128x4x16x64 : Shape := ⟨4, ![128, 4, 16, 64]⟩
abbrev S128x4x512 : Shape := ⟨3, ![128, 4, 512]⟩
abbrev S128x4x4x128 : Shape := ⟨4, ![128, 4, 4, 128]⟩
abbrev S128x4x4x4x128 : Shape := ⟨5, ![128, 4, 4, 4, 128]⟩
abbrev S128x4x16x128 : Shape := ⟨4, ![128, 4, 16, 128]⟩
abbrev S1x1x16 : Shape := ⟨3, ![1, 1, 16]⟩
abbrev S128x4x16x1 : Shape := ⟨4, ![128, 4, 16, 1]⟩
abbrev S128x16x4 : Shape := ⟨3, ![128, 16, 4]⟩
abbrev S128x16x1 : Shape := ⟨3, ![128, 16, 1]⟩
abbrev S128x1x16x64x128 : Shape := ⟨5, ![128, 1, 16, 64, 128]⟩
abbrev S128x2x16x64x128 : Shape := ⟨5, ![128, 2, 16, 64, 128]⟩
abbrev S128x16x2 : Shape := ⟨3, ![128, 16, 2]⟩
abbrev S128x16x2x1 : Shape := ⟨4, ![128, 16, 2, 1]⟩
abbrev S128x16x2x2 : Shape := ⟨4, ![128, 16, 2, 2]⟩
abbrev S2x2 : Shape := ⟨2, ![2, 2]⟩
abbrev S128x16x64x128x2 : Shape := ⟨5, ![128, 16, 64, 128, 2]⟩

abbrev nBuf : Space → Nat
  | .hbm => 150
  | .vmem => 0
  | .smem => 0
  | _ => 0

abbrev hbmTy0_0 (i : Nat) : BufTy := match i % 128 with
  | 0 => ⟨S9216x15488, .f32⟩
  | 1 => ⟨S128x3x2048, .f32⟩
  | 2 => ⟨S128x16x64x128, .f32⟩
  | 3 => ⟨S4x2048, .f32⟩
  | 4 => ⟨S2048, .f32⟩
  | 5 => ⟨S16, .f32⟩
  | 6 => ⟨S16, .f32⟩
  | 7 => ⟨S16, .f32⟩
  | 8 => ⟨S1024, .f32⟩
  | 9 => ⟨S1024x15488, .f32⟩
  | 10 => ⟨S128x8x15488, .f32⟩
  | 11 => ⟨S128x4x15488, .f32⟩
  | 12 => ⟨S128x4x2048, .f32⟩
  | 13 => ⟨S128x4x16, .f32⟩
  | 14 => ⟨S128x7x2048, .f32⟩
  | 15 => ⟨S128x4x2048, .f32⟩
  | 16 => ⟨S1x2048, .f32⟩
  | 17 => ⟨S2048, .f32⟩
  | 18 => ⟨S1x1x2048, .f32⟩
  | 19 => ⟨S128x4x2048, .f32⟩
  | 20 => ⟨S128x4x2048, .f32⟩
  | 21 => ⟨S_, .f32⟩
  | 22 => ⟨S128x4x2048, .f32⟩
  | 23 => ⟨S128x4x2048, .f32⟩
  | 24 => ⟨S128x4x2048, .f32⟩
  | 25 => ⟨S1x2048, .f32⟩
  | 26 => ⟨S2048, .f32⟩
  | 27 => ⟨S1x1x2048, .f32⟩
  | 28 => ⟨S128x4x2048, .f32⟩
  | 29 => ⟨S128x4x2048, .f32⟩
  | 30 => ⟨S128x4x2048, .f32⟩
  | 31 => ⟨S128x4x2048, .f32⟩
  | 32 => ⟨S1x2048, .f32⟩
  | 33 => ⟨S2048, .f32⟩
  | 34 => ⟨S1x1x2048, .f32⟩
  | 35 => ⟨S128x4x2048, .f32⟩
  | 36 => ⟨S128x4x2048, .f32⟩
  | 37 => ⟨S128x4x2048, .f32⟩
  | 38 => ⟨S128x4x2048, .f32⟩
  | 39 => ⟨S1x2048, .f32⟩
  | 40 => ⟨S2048, .f32⟩
  | 41 => ⟨S1x1x2048, .f32⟩
  | 42 => ⟨S128x4x2048, .f32⟩
  | 43 => ⟨S128x4x2048, .f32⟩
  | 44 => ⟨S128x4x2048, .f32⟩
  | 45 => ⟨S1x1x2048, .f32⟩
  | 46 => ⟨S128x4x2048, .f32⟩
  | 47 => ⟨S128x4x2048, .f32⟩
  | 48 => ⟨S128x4x2048, .f32⟩
  | 49 => ⟨S128x4x2048, .f32⟩
  | 50 => ⟨S_, .f32⟩
  | 51 => ⟨S128x4x2048, .f32⟩
  | 52 => ⟨S128x4x2048, .f32⟩
  | 53 => ⟨S_, .f32⟩
  | 54 => ⟨S128x4x2048, .f32⟩
  | 55 => ⟨S128x4x2048, .f32⟩
  | 56 => ⟨S128x4x2048, .f32⟩
  | 57 => ⟨S128x4x1024, .f32⟩
  | 58 => ⟨S128x4x16x64, .f32⟩
  | 59 => ⟨S128x4x512, .f32⟩
  | 60 => ⟨S128x4x4x128, .f32⟩
  | 61 => ⟨S128x4x4x4x128, .f32⟩
  | 62 => ⟨S128x4x16x128, .f32⟩
  | 63 => ⟨S1x1x16, .f32⟩
  | 64 => ⟨S128x4x16, .f32⟩
  | 65 => ⟨S128x4x16, .f32⟩
  | 66 => ⟨S_, .f32⟩
  | 67 => ⟨S128x4x16, .f32⟩
  | 68 => ⟨S128x4x16, .f32⟩
  | 69 => ⟨S128x4x16, .f32⟩
  | 70 => ⟨S128x4x16, .f32⟩
  | 71 => ⟨S128x4x16, .i1⟩
  | 72 => ⟨S128x4x16, .f32⟩
  | 73 => ⟨S128x4x16, .f32⟩
  | 74 => ⟨S128x4x16, .f32⟩
  | 75 => ⟨S128x4x16, .f32⟩
  | 76 => ⟨S128x4x16, .f32⟩
  | 77 => ⟨S128x4x16, .f32⟩
  | 78 => ⟨S128x4x16, .f32⟩
  | 79 => ⟨S128x4x16, .f32⟩
  | 80 => ⟨S16, .f32⟩
  | 81 => ⟨S16, .f32⟩
  | 82 => ⟨S128x4x16x1, .f32⟩
  | 83 => ⟨S128x4x16x64, .f32⟩
  | 84 => ⟨S128x4x16x64, .f32⟩
  | 85 => ⟨S1x1x16, .f32⟩
  | 86 => ⟨S128x4x16, .f32⟩
  | 87 => ⟨S128x4x16, .f32⟩
  | 88 => ⟨S128x16x4, .f32⟩
  | 89 => ⟨S_, .f32⟩
  | 90 => ⟨S_, .f32⟩
  | 91 => ⟨S128x16x4, .f32⟩
  | 92 => ⟨S128x16x1, .f32⟩
  | 93 => ⟨S128x16x4, .f32⟩
  | 94 => ⟨S128x16x4, .f32⟩
  | 95 => ⟨S128x16x4, .f32⟩
  | 96 => ⟨S128x4x16, .f32⟩
  | 97 => ⟨S128x4x16x1, .f32⟩
  | 98 => ⟨S128x4x16x64, .f32⟩
  | 99 => ⟨S128x4x16x64, .f32⟩
  | 100 => ⟨S128x16x64x128, .f32⟩
  | 101 => ⟨S128x1x16x64x128, .f32⟩
  | 102 => ⟨S128x1x16x64x128, .f32⟩
  | 103 => ⟨S128x2x16x64x128, .f32⟩
  | 104 => ⟨S128x16x1, .f32⟩
  | 105 => ⟨S_, .i32⟩
  | 106 => ⟨S_, .f32⟩
  | 107 => ⟨S128x16x2, .f32⟩
  | 108 => ⟨S128x16x2x1, .f32⟩
  | 109 => ⟨S128x16x2x2, .f32⟩
  | 110 => ⟨S_, .i1⟩
  | 111 => ⟨S2x2, .i1⟩
  | 112 => ⟨S2x2, .i32⟩
  | 113 => ⟨S_, .i32⟩
  | 114 => ⟨S2x2, .i32⟩
  | 115 => ⟨S2x2, .i32⟩
  | 116 => ⟨S2x2, .i32⟩
  | 117 => ⟨S2x2, .i1⟩
  | 118 => ⟨S_, .i1⟩
  | 119 => ⟨S2x2, .i1⟩
  | 120 => ⟨S2x2, .i1⟩
  | 121 => ⟨S_, .f32⟩
  | 122 => ⟨S_, .f32⟩
  | 123 => ⟨S128x16x2x2, .i1⟩
  | 124 => ⟨S128x16x2x2, .f32⟩
  | 125 => ⟨S128x16x2x2, .f32⟩
  | 126 => ⟨S_, .f32⟩
  | 127 => ⟨S_, .f32⟩
  | _ => ⟨S9216x15488, .f32⟩

abbrev hbmTy0_1 (i : Nat) : BufTy := match i % 128 with
  | 0 => ⟨S128x16x2x2, .f32⟩
  | 1 => ⟨S_, .i1⟩
  | 2 => ⟨S2x2, .i1⟩
  | 3 => ⟨S2x2, .i32⟩
  | 4 => ⟨S_, .i32⟩
  | 5 => ⟨S2x2, .i32⟩
  | 6 => ⟨S2x2, .i32⟩
  | 7 => ⟨S2x2, .i32⟩
  | 8 => ⟨S2x2, .i1⟩
  | 9 => ⟨S_, .i1⟩
  | 10 => ⟨S2x2, .i1⟩
  | 11 => ⟨S2x2, .i1⟩
  | 12 => ⟨S_, .f32⟩
  | 13 => ⟨S_, .f32⟩
  | 14 => ⟨S128x16x2x2, .i1⟩
  | 15 => ⟨S128x16x2x2, .f32⟩
  | 16 => ⟨S128x16x2x2, .f32⟩
  | 17 => ⟨S128x16x2x2, .f32⟩
  | 18 => ⟨S128x16x64x128x2, .f32⟩
  | 19 => ⟨S128x2x16x64x128, .f32⟩
  | 20 => ⟨S128x1x16x64x128, .f32⟩
  | 21 => ⟨S128x16x64x128, .f32⟩
  | _ => ⟨S9216x15488, .f32⟩

abbrev hbmTy (i : Nat) : BufTy := match i / 128 with
  | 0 => hbmTy0_0 i
  | 1 => hbmTy0_1 i
  | _ => ⟨S9216x15488, .f32⟩

abbrev bufTy : (tb : Table) → Fin (tcTables nBuf tb) → BufTy
  | .hbm, ⟨i, _⟩ => hbmTy i
  | _, _ => ⟨S9216x15488, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_call2_call0_cst : Ref sig .tc := ⟨.hbm, 89, rfl⟩
abbrev main_call2_call0_v0 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c : Ref sig .tc := ⟨.hbm, 105, rfl⟩
abbrev main_call3_v0 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_0 : Ref sig .tc := ⟨.hbm, 110, rfl⟩
abbrev main_v75 : Ref sig .tc := ⟨.hbm, 111, rfl⟩
abbrev main_call4_v0 : Ref sig .tc := ⟨.hbm, 112, rfl⟩
abbrev main_call4_c : Ref sig .tc := ⟨.hbm, 113, rfl⟩
abbrev main_call4_v1 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_c_0 : Ref sig .tc := ⟨.hbm, 118, rfl⟩
abbrev main_call4_v5 : Ref sig .tc := ⟨.hbm, 119, rfl⟩
abbrev main_v76 : Ref sig .tc := ⟨.hbm, 120, rfl⟩
abbrev main_cst_1 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_v77 : Ref sig .tc := ⟨.hbm, 125, rfl⟩
abbrev main_call6_call0_cst : Ref sig .tc := ⟨.hbm, 126, rfl⟩
abbrev main_call6_call0_v0 : Ref sig .tc := ⟨.hbm, 127, rfl⟩
abbrev main_v78 : Ref sig .tc := ⟨.hbm, 128, rfl⟩
abbrev main_c_2 : Ref sig .tc := ⟨.hbm, 129, rfl⟩
abbrev main_v79 : Ref sig .tc := ⟨.hbm, 130, rfl⟩
abbrev main_call7_v0 : Ref sig .tc := ⟨.hbm, 131, rfl⟩
abbrev main_call7_c : Ref sig .tc := ⟨.hbm, 132, rfl⟩
abbrev main_call7_v1 : Ref sig .tc := ⟨.hbm, 133, rfl⟩
abbrev main_call7_v2 : Ref sig .tc := ⟨.hbm, 134, rfl⟩
abbrev main_call7_v3 : Ref sig .tc := ⟨.hbm, 135, rfl⟩
abbrev main_call7_v4 : Ref sig .tc := ⟨.hbm, 136, rfl⟩
abbrev main_call7_c_0 : Ref sig .tc := ⟨.hbm, 137, rfl⟩
abbrev main_call7_v5 : Ref sig .tc := ⟨.hbm, 138, rfl⟩
abbrev main_v80 : Ref sig .tc := ⟨.hbm, 139, rfl⟩
abbrev main_cst_3 : Ref sig .tc := ⟨.hbm, 140, rfl⟩
abbrev main_call8_v0 : Ref sig .tc := ⟨.hbm, 141, rfl⟩
abbrev main_call8_v1 : Ref sig .tc := ⟨.hbm, 142, rfl⟩
abbrev main_call8_v2 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩

abbrev nD : Nat := 1
abbrev τ : Topo := Topo.v7x

variable {F : FTy → Type} [FloatOps F]
-- ==== Kernel8.lean ====
abbrev S9216x15488 : Shape := ⟨2, ![9216, 15488]⟩
abbrev S128x3360 : Shape := ⟨2, ![128, 3360]⟩
abbrev S128x16x64x64 : Shape := ⟨4, ![128, 16, 64, 64]⟩
abbrev S3360 : Shape := ⟨1, ![3360]⟩
abbrev S1024 : Shape := ⟨1, ![1024]⟩
abbrev S64x1024 : Shape := ⟨2, ![64, 1024]⟩
abbrev S160x1024 : Shape := ⟨2, ![160, 1024]⟩
abbrev S_ : Shape := ⟨0, ![]⟩
abbrev S224x1024 : Shape := ⟨2, ![224, 1024]⟩
abbrev S384x1024 : Shape := ⟨2, ![384, 1024]⟩
abbrev S224 : Shape := ⟨1, ![224]⟩
abbrev S3584 : Shape := ⟨1, ![3584]⟩
abbrev S1x3584 : Shape := ⟨2, ![1, 3584]⟩
abbrev S1x1024 : Shape := ⟨2, ![1, 1024]⟩
abbrev S128x224 : Shape := ⟨2, ![128, 224]⟩
abbrev S128x3584 : Shape := ⟨2, ![128, 3584]⟩
abbrev S128x1x3584 : Shape := ⟨3, ![128, 1, 3584]⟩
abbrev S1024x1024 : Shape := ⟨2, ![1024, 1024]⟩
abbrev S8x1024 : Shape := ⟨2, ![8, 1024]⟩
abbrev S8x512 : Shape := ⟨2, ![8, 512]⟩
abbrev S1x1x3584 : Shape := ⟨3, ![1, 1, 3584]⟩
abbrev S1x16x64x64 : Shape := ⟨4, ![1, 16, 64, 64]⟩
abbrev S16x64x64 : Shape := ⟨3, ![16, 64, 64]⟩
abbrev S8x1 : Shape := ⟨2, ![8, 1]⟩
abbrev S1x512 : Shape := ⟨2, ![1, 512]⟩
abbrev S8x64 : Shape := ⟨2, ![8, 64]⟩
abbrev S8x384 : Shape := ⟨2, ![8, 384]⟩
abbrev S8x8 : Shape := ⟨2, ![8, 8]⟩
abbrev S8 : Shape := ⟨1, ![8]⟩
abbrev S16x64 : Shape := ⟨2, ![16, 64]⟩
abbrev S16x16 : Shape := ⟨2, ![16, 16]⟩
abbrev S1x64x64 : Shape := ⟨3, ![1, 64, 64]⟩
abbrev S64x64 : Shape := ⟨2, ![64, 64]⟩
abbrev S1x64 : Shape := ⟨2, ![1, 64]⟩

abbrev nBuf : Space → Nat
  | .hbm => 34
  | .vmem => 30
  | .smem => 0
  | _ => 0

abbrev bufTy : (tb : Table) → Fin (tcTables nBuf tb) → BufTy
  | .hbm, ⟨0, _⟩ => ⟨S9216x15488, .f32⟩
  | .hbm, ⟨1, _⟩ => ⟨S128x3360, .f32⟩
  | .hbm, ⟨2, _⟩ => ⟨S128x16x64x64, .f32⟩
  | .hbm, ⟨3, _⟩ => ⟨S3360, .f32⟩
  | .hbm, ⟨4, _⟩ => ⟨S1024, .f32⟩
  | .hbm, ⟨5, _⟩ => ⟨S64x1024, .f32⟩
  | .hbm, ⟨6, _⟩ => ⟨S1024, .f32⟩
  | .hbm, ⟨7, _⟩ => ⟨S64x1024, .f32⟩
  | .hbm, ⟨8, _⟩ => ⟨S160x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S224x1024, .f32⟩
  | .hbm, ⟨16, _⟩ => ⟨S384x1024, .f32⟩
  | .hbm, ⟨17, _⟩ => ⟨S_, .f32⟩
  | .hbm, ⟨18, _⟩ => ⟨S224, .f32⟩
  | .hbm, ⟨19, _⟩ => ⟨S3584, .f32⟩
  | .hbm, ⟨20, _⟩ => ⟨S1x3584, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S128x224, .f32⟩
  | .hbm, ⟨30, _⟩ => ⟨S128x3584, .f32⟩
  | .hbm, ⟨31, _⟩ => ⟨S128x1x3584, .f32⟩
  | .hbm, ⟨32, _⟩ => ⟨S1024x1024, .bf16⟩
  | .hbm, ⟨33, _⟩ => ⟨S128x16x64x64, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x512, .f32⟩
  | .local _ .vmem, ⟨7, _⟩ => ⟨S8x512, .f32⟩
  | .local _ .vmem, ⟨8, _⟩ => ⟨S1x1x3584, .f32⟩
  | .local _ .vmem, ⟨9, _⟩ => ⟨S1x1x3584, .f32⟩
  | .local _ .vmem, ⟨10, _⟩ => ⟨S1x16x64x64, .f32⟩
  | .local _ .vmem, ⟨11, _⟩ => ⟨S1x16x64x64, .f32⟩
  | .local _ .vmem, ⟨12, _⟩ => ⟨S1x3584, .f32⟩
  | .local _ .vmem, ⟨13, _⟩ => ⟨S1x1024, .f32⟩
  | .local _ .vmem, ⟨14, _⟩ => ⟨S64x1024, .f32⟩
  | .local _ .vmem, ⟨15, _⟩ => ⟨S1x1024, .f32⟩
  | .local _ .vmem, ⟨16, _⟩ => ⟨S64x1024, .f32⟩
  | .local _ .vmem, ⟨17, _⟩ => ⟨S384x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S8x1024, .bf16⟩
  | .local _ .vmem, ⟨24, _⟩ => ⟨S8x1024, .bf16⟩
  | .local _ .vmem, ⟨25, _⟩ => ⟨S1x16x64x64, .f32⟩
  | .local _ .vmem, ⟨26, _⟩ => ⟨S1x16x64x64, .f32⟩
  | .local _ .vmem, ⟨27, _⟩ => ⟨S1x3584, .f32⟩
  | .local _ .vmem, ⟨28, _⟩ => ⟨S16x64x64, .f32⟩
  | .local _ .vmem, ⟨29, _⟩ => ⟨S8x1024, .f32⟩
  | _, _ => ⟨S9216x15488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15_0 : Ref sig .tc := ⟨.hbm, 32, rfl⟩
abbrev main_v15_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨2, ![128, 1], ![false, false]⟩

def k0_cond2 (i : grid0.Coords) : BitVec 1 :=
  let arg1 : BitVec 32 := BitVec.ofNat 32 (i 1).val
  let c0_i32_574 : BitVec 32 := 0#32
  let v1898 : BitVec 1 := Scalar.cmpi .eq arg1 c0_i32_574
  let v1899 : BitVec 32 := Scalar.extui v1898
  let c0_i32_575 : BitVec 32 := 0#32
  let v1900 : BitVec 1 := Scalar.cmpi .ne v1899 c0_i32_575
  v1900

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c5_i32 : BitVec 32 := 5#32
  let c0_i32 : BitVec 32 := 0#32
  ![v2.toNat, c5_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c6_i32 : BitVec 32 := 6#32
  let c0_i32 : BitVec 32 := 0#32
  ![v2.toNat, c6_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c7_i32 : BitVec 32 := 7#32
  let c0_i32 : BitVec 32 := 0#32
  ![v2.toNat, c7_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c28_i32 : BitVec 32 := 28#32
  let c0_i32 : BitVec 32 := 0#32
  ![v2.toNat, c28_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S384x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S8x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x16x64x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== Reference8Ideal.lean ====
abbrev S9216x15488 : Shape := ⟨2, ![9216, 15488]⟩
abbrev S128x3360 : Shape := ⟨2, ![128, 3360]⟩
abbrev S128x16x64x64 : Shape := ⟨4, ![128, 16, 64, 64]⟩
abbrev S3360 : Shape := ⟨1, ![3360]⟩
abbrev S1024 : Shape := ⟨1, ![1024]⟩
abbrev S64x1024 : Shape := ⟨2, ![64, 1024]⟩
abbrev S160x1024 : Shape := ⟨2, ![160, 1024]⟩
abbrev S1024x15488 : Shape := ⟨2, ![1024, 15488]⟩
abbrev S128x8x15488 : Shape := ⟨3, ![128, 8, 15488]⟩
abbrev S128x4x15488 : Shape := ⟨3, ![128, 4, 15488]⟩
abbrev S128x4x3072 : Shape := ⟨3, ![128, 4, 3072]⟩
abbrev S128x4x288 : Shape := ⟨3, ![128, 4, 288]⟩
abbrev S128x4x3360 : Shape := ⟨3, ![128, 4, 3360]⟩
abbrev S128x1x3360 : Shape := ⟨3, ![128, 1, 3360]⟩
abbrev S128x3x3360 : Shape := ⟨3, ![128, 3, 3360]⟩
abbrev S1x1x3360 : Shape := ⟨3, ![1, 1, 3360]⟩
abbrev S128x4x1024 : Shape := ⟨3, ![128, 4, 1024]⟩
abbrev S128x4x64 : Shape := ⟨3, ![128, 4, 64]⟩
abbrev S128x4x160 : Shape := ⟨3, ![128, 4, 160]⟩
abbrev S1x1x1024 : Shape := ⟨3, ![1, 1, 1024]⟩
abbrev S_ : Shape := ⟨0, ![]⟩
abbrev S128x4x16x64 : Shape := ⟨4, ![128, 4, 16, 64]⟩
abbrev S16x64 : Shape := ⟨2, ![16, 64]⟩
abbrev S1x1x16x64 : Shape := ⟨4, ![1, 1, 16, 64]⟩
abbrev S128x4x16 : Shape := ⟨3, ![128, 4, 16]⟩
abbrev S128x4x16x1 : Shape := ⟨4, ![128, 4, 16, 1]⟩
abbrev S128x1x16x64 : Shape := ⟨4, ![128, 1, 16, 64]⟩
abbrev S128x16x64 : Shape := ⟨3, ![128, 16, 64]⟩
abbrev S128x16x1x64 : Shape := ⟨4, ![128, 16, 1, 64]⟩
abbrev S128x16x64x1 : Shape := ⟨4, ![128, 16, 64, 1]⟩

abbrev nBuf : Space → Nat
  | .hbm => 210
  | .vmem => 0
  | .smem => 0
  | _ => 0

abbrev hbmTy0_0 (i : Nat) : BufTy := match i % 128 with
  | 0 => ⟨S9216x15488, .f32⟩
  | 1 => ⟨S128x3360, .f32⟩
  | 2 => ⟨S128x16x64x64, .f32⟩
  | 3 => ⟨S3360, .f32⟩
  | 4 => ⟨S1024, .f32⟩
  | 5 => ⟨S64x1024, .f32⟩
  | 6 => ⟨S1024, .f32⟩
  | 7 => ⟨S64x1024, .f32⟩
  | 8 => ⟨S160x1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024x15488, .f32⟩
  | 15 => ⟨S128x8x15488, .f32⟩
  | 16 => ⟨S128x4x15488, .f32⟩
  | 17 => ⟨S128x4x3072, .f32⟩
  | 18 => ⟨S128x4x288, .f32⟩
  | 19 => ⟨S128x4x3360, .f32⟩
  | 20 => ⟨S128x1x3360, .f32⟩
  | 21 => ⟨S128x3x3360, .f32⟩
  | 22 => ⟨S128x4x3360, .f32⟩
  | 23 => ⟨S128x4x3360, .f32⟩
  | 24 => ⟨S1x1x3360, .f32⟩
  | 25 => ⟨S128x4x3360, .f32⟩
  | 26 => ⟨S128x4x3360, .f32⟩
  | 27 => ⟨S128x4x3360, .f32⟩
  | 28 => ⟨S128x4x1024, .f32⟩
  | 29 => ⟨S128x4x1024, .f32⟩
  | 30 => ⟨S128x4x1024, .f32⟩
  | 31 => ⟨S128x4x64, .f32⟩
  | 32 => ⟨S128x4x64, .f32⟩
  | 33 => ⟨S128x4x160, .f32⟩
  | 34 => ⟨S128x4x64, .f32⟩
  | 35 => ⟨S128x4x1024, .f32⟩
  | 36 => ⟨S1x1x1024, .f32⟩
  | 37 => ⟨S128x4x1024, .f32⟩
  | 38 => ⟨S128x4x1024, .f32⟩
  | 39 => ⟨S128x4x1024, .f32⟩
  | 40 => ⟨S_, .f32⟩
  | 41 => ⟨S128x4x1024, .f32⟩
  | 42 => ⟨S128x4x1024, .f32⟩
  | 43 => ⟨S128x4x1024, .f32⟩
  | 44 => ⟨S128x4x1024, .f32⟩
  | 45 => ⟨S128x4x1024, .i1⟩
  | 46 => ⟨S128x4x1024, .f32⟩
  | 47 => ⟨S128x4x1024, .f32⟩
  | 48 => ⟨S128x4x1024, .f32⟩
  | 49 => ⟨S128x4x1024, .f32⟩
  | 50 => ⟨S128x4x1024, .f32⟩
  | 51 => ⟨S128x4x1024, .f32⟩
  | 52 => ⟨S128x4x1024, .f32⟩
  | 53 => ⟨S128x4x1024, .f32⟩
  | 54 => ⟨S128x4x1024, .f32⟩
  | 55 => ⟨S_, .f32⟩
  | 56 => ⟨S128x4x1024, .f32⟩
  | 57 => ⟨S128x4x1024, .f32⟩
  | 58 => ⟨S128x4x1024, .f32⟩
  | 59 => ⟨S128x4x1024, .f32⟩
  | 60 => ⟨S128x4x1024, .f32⟩
  | 61 => ⟨S128x4x1024, .f32⟩
  | 62 => ⟨S1x1x1024, .f32⟩
  | 63 => ⟨S128x4x1024, .f32⟩
  | 64 => ⟨S128x4x1024, .f32⟩
  | 65 => ⟨S128x4x1024, .f32⟩
  | 66 => ⟨S128x4x1024, .f32⟩
  | 67 => ⟨S_, .f32⟩
  | 68 => ⟨S128x4x1024, .f32⟩
  | 69 => ⟨S128x4x1024, .f32⟩
  | 70 => ⟨S_, .f32⟩
  | 71 => ⟨S128x4x1024, .f32⟩
  | 72 => ⟨S128x4x1024, .f32⟩
  | 73 => ⟨S128x4x16x64, .f32⟩
  | 74 => ⟨S128x4x16x64, .f32⟩
  | 75 => ⟨S128x4x16x64, .f32⟩
  | 76 => ⟨S128x4x16x64, .f32⟩
  | 77 => ⟨S16x64, .f32⟩
  | 78 => ⟨S1x1x16x64, .f32⟩
  | 79 => ⟨S128x4x16x64, .f32⟩
  | 80 => ⟨S128x4x16x64, .f32⟩
  | 81 => ⟨S128x4x16x64, .f32⟩
  | 82 => ⟨S_, .f32⟩
  | 83 => ⟨S128x4x16, .f32⟩
  | 84 => ⟨S128x4x16x1, .f32⟩
  | 85 => ⟨S128x4x16x1, .f32⟩
  | 86 => ⟨S_, .f32⟩
  | 87 => ⟨S128x4x16x1, .f32⟩
  | 88 => ⟨S128x4x16x1, .f32⟩
  | 89 => ⟨S128x4x16x64, .f32⟩
  | 90 => ⟨S128x4x16x64, .f32⟩
  | 91 => ⟨S_, .f32⟩
  | 92 => ⟨S128x4x16x64, .f32⟩
  | 93 => ⟨S128x4x16x64, .f32⟩
  | 94 => ⟨S16x64, .f32⟩
  | 95 => ⟨S1x1x16x64, .f32⟩
  | 96 => ⟨S128x4x16x64, .f32⟩
  | 97 => ⟨S128x4x16x64, .f32⟩
  | 98 => ⟨S_, .f32⟩
  | 99 => ⟨S128x4x16x64, .f32⟩
  | 100 => ⟨S128x4x16x64, .f32⟩
  | 101 => ⟨S128x4x16x64, .f32⟩
  | 102 => ⟨S128x1x16x64, .f32⟩
  | 103 => ⟨S128x16x64, .f32⟩
  | 104 => ⟨S128x1x16x64, .f32⟩
  | 105 => ⟨S128x16x64, .f32⟩
  | 106 => ⟨S128x1x16x64, .f32⟩
  | 107 => ⟨S128x16x64, .f32⟩
  | 108 => ⟨S128x1x16x64, .f32⟩
  | 109 => ⟨S128x16x64, .f32⟩
  | 110 => ⟨S128x1x16x64, .f32⟩
  | 111 => ⟨S128x16x64, .f32⟩
  | 112 => ⟨S128x16x1x64, .f32⟩
  | 113 => ⟨S128x16x64x64, .f32⟩
  | 114 => ⟨S128x16x64x64, .f32⟩
  | 115 => ⟨S128x16x64, .f32⟩
  | 116 => ⟨S128x16x64x1, .f32⟩
  | 117 => ⟨S128x16x64, .f32⟩
  | 118 => ⟨S128x16x1x64, .f32⟩
  | 119 => ⟨S128x16x64x64, .f32⟩
  | 120 => ⟨S128x16x64x64, .f32⟩
  | 121 => ⟨S128x16x64x64, .f32⟩
  | 122 => ⟨S128x16x64x64, .f32⟩
  | 123 => ⟨S128x16x64x1, .f32⟩
  | 124 => ⟨S128x16x1x64, .f32⟩
  | 125 => ⟨S128x16x64x64, .f32⟩
  | 126 => ⟨S128x16x64x64, .f32⟩
  | 127 => ⟨S128x16x64x64, .f32⟩
  | _ => ⟨S9216x15488, .f32⟩

abbrev hbmTy0_1 (i : Nat) : BufTy := match i % 128 with
  | 0 => ⟨S128x16x64x64, .f32⟩
  | 1 => ⟨S128x1x16x64, .f32⟩
  | 2 => ⟨S128x16x64, .f32⟩
  | 3 => ⟨S128x1x16x64, .f32⟩
  | 4 => ⟨S128x16x64, .f32⟩
  | 5 => ⟨S128x1x16x64, .f32⟩
  | 6 => ⟨S128x16x64, .f32⟩
  | 7 => ⟨S128x1x16x64, .f32⟩
  | 8 => ⟨S128x16x64, .f32⟩
  | 9 => ⟨S128x1x16x64, .f32⟩
  | 10 => ⟨S128x16x64, .f32⟩
  | 11 => ⟨S128x16x1x64, .f32⟩
  | 12 => ⟨S128x16x64x64, .f32⟩
  | 13 => ⟨S128x16x64x64, .f32⟩
  | 14 => ⟨S128x16x64, .f32⟩
  | 15 => ⟨S128x16x64x1, .f32⟩
  | 16 => ⟨S128x16x64, .f32⟩
  | 17 => ⟨S128x16x1x64, .f32⟩
  | 18 => ⟨S128x16x64x64, .f32⟩
  | 19 => ⟨S128x16x64x64, .f32⟩
  | 20 => ⟨S128x16x64x64, .f32⟩
  | 21 => ⟨S128x16x64x64, .f32⟩
  | 22 => ⟨S128x16x64x1, .f32⟩
  | 23 => ⟨S128x16x1x64, .f32⟩
  | 24 => ⟨S128x16x64x64, .f32⟩
  | 25 => ⟨S128x16x64x64, .f32⟩
  | 26 => ⟨S128x16x64x64, .f32⟩
  | 27 => ⟨S128x16x64x64, .f32⟩
  | 28 => ⟨S128x1x16x64, .f32⟩
  | 29 => ⟨S128x16x64, .f32⟩
  | 30 => ⟨S128x1x16x64, .f32⟩
  | 31 => ⟨S128x16x64, .f32⟩
  | 32 => ⟨S128x1x16x64, .f32⟩
  | 33 => ⟨S128x16x64, .f32⟩
  | 34 => ⟨S128x1x16x64, .f32⟩
  | 35 => ⟨S128x16x64, .f32⟩
  | 36 => ⟨S128x1x16x64, .f32⟩
  | 37 => ⟨S128x16x64, .f32⟩
  | 38 => ⟨S128x16x1x64, .f32⟩
  | 39 => ⟨S128x16x64x64, .f32⟩
  | 40 => ⟨S128x16x64x64, .f32⟩
  | 41 => ⟨S128x16x64, .f32⟩
  | 42 => ⟨S128x16x64x1, .f32⟩
  | 43 => ⟨S128x16x64, .f32⟩
  | 44 => ⟨S128x16x1x64, .f32⟩
  | 45 => ⟨S128x16x64x64, .f32⟩
  | 46 => ⟨S128x16x64x64, .f32⟩
  | 47 => ⟨S128x16x64x64, .f32⟩
  | 48 => ⟨S128x16x64x64, .f32⟩
  | 49 => ⟨S128x16x64x1, .f32⟩
  | 50 => ⟨S128x16x1x64, .f32⟩
  | 51 => ⟨S128x16x64x64, .f32⟩
  | 52 => ⟨S128x16x64x64, .f32⟩
  | 53 => ⟨S128x16x64x64, .f32⟩
  | 54 => ⟨S128x16x64x64, .f32⟩
  | 55 => ⟨S128x1x16x64, .f32⟩
  | 56 => ⟨S128x16x64, .f32⟩
  | 57 => ⟨S128x1x16x64, .f32⟩
  | 58 => ⟨S128x16x64, .f32⟩
  | 59 => ⟨S128x1x16x64, .f32⟩
  | 60 => ⟨S128x16x64, .f32⟩
  | 61 => ⟨S128x1x16x64, .f32⟩
  | 62 => ⟨S128x16x64, .f32⟩
  | 63 => ⟨S128x1x16x64, .f32⟩
  | 64 => ⟨S128x16x64, .f32⟩
  | 65 => ⟨S128x16x1x64, .f32⟩
  | 66 => ⟨S128x16x64x64, .f32⟩
  | 67 => ⟨S128x16x64x64, .f32⟩
  | 68 => ⟨S128x16x64, .f32⟩
  | 69 => ⟨S128x16x64x1, .f32⟩
  | 70 => ⟨S128x16x64, .f32⟩
  | 71 => ⟨S128x16x1x64, .f32⟩
  | 72 => ⟨S128x16x64x64, .f32⟩
  | 73 => ⟨S128x16x64x64, .f32⟩
  | 74 => ⟨S128x16x64x64, .f32⟩
  | 75 => ⟨S128x16x64x64, .f32⟩
  | 76 => ⟨S128x16x64x1, .f32⟩
  | 77 => ⟨S128x16x1x64, .f32⟩
  | 78 => ⟨S128x16x64x64, .f32⟩
  | 79 => ⟨S128x16x64x64, .f32⟩
  | 80 => ⟨S128x16x64x64, .f32⟩
  | 81 => ⟨S128x16x64x64, .f32⟩
  | _ => ⟨S9216x15488, .f32⟩

abbrev hbmTy (i : Nat) : BufTy := match i / 128 with
  | 0 => hbmTy0_0 i
  | 1 => hbmTy0_1 i
  | _ => ⟨S9216x15488, .f32⟩

abbrev bufTy : (tb : Table) → Fin (tcTables nBuf tb) → BufTy
  | .hbm, ⟨i, _⟩ => hbmTy i
  | _, _ => ⟨S9216x15488, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_v26 : Ref sig .tc := ⟨.hbm, 53, rfl⟩
abbrev main_v27 : Ref sig .tc := ⟨.hbm, 54, rfl⟩
abbrev main_cst : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_0 : Ref sig .tc := ⟨.hbm, 67, rfl⟩
abbrev main_v39 : Ref sig .tc := ⟨.hbm, 68, rfl⟩
abbrev main_v40 : Ref sig .tc := ⟨.hbm, 69, rfl⟩
abbrev main_cst_1 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_2 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_3 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_4 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_5 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩

abbrev nD : Nat := 1
abbrev τ : Topo := Topo.v7x

variable {F : FTy → Type} [FloatOps F]
-- ==== Proof.Heads.lean ====
/-
The step of the SSD kernel over one block of 128 rows, head by head. The printed body runs the sixteen heads one
after another, each cut into payloads at different places; here each head is ONE function of its number.
-/
module
public import proofs.«01_k».proof.Proof.Gen.KernelIdeal.Value
public import Idealize.ShloMosaic.Lib.Tactic

@[expose] public section
noncomputable section
namespace Cert.KernelIdeal.Step
open Cert.KernelIdeal Cert.KernelIdeal.Gen Idealize.ShloMosaic Idealize.ShloMosaic.TcCoe Idealize.SL.Sem
variable {F : FTy → Type} [FloatOps F]

/-- A head's column of a 128 by 16 array lies in it. -/
theorem sliceCol (h : Fin 16) : S128x16.Slices ![0, h.val] S128x1 := by
  fin_cases h <;> decide
/-- A head's row of a 16 by 128 array lies in it. -/
theorem sliceRow (h : Fin 16) : S16x128.Slices ![h.val, 0] S1x128 := by
  fin_cases h <;> decide
/-- A head's last entry of a 16 by 128 array lies in it. -/
theorem sliceLast (h : Fin 16) : S16x128.Slices ![h.val, 127] S1x1 := by
  fin_cases h <;> decide
/-- A head's 64 columns lie in the 1024. -/
theorem sliceHead (h : Fin 16) : S128x1024.Slices ![0, 64 * h.val] S128x64 := by
  fin_cases h <;> decide
/-- The 128 columns of B of a head's group lie in the 1024. -/
theorem sliceB (h : Fin 16) : S128x1024.Slices ![0, 128 * (h.val / 4)] S128x128 := by
  fin_cases h <;> decide
/-- The 128 columns of C of a head's group lie in the 1024. -/
theorem sliceC (h : Fin 16) : S128x1024.Slices ![0, 512 + 128 * (h.val / 4)] S128x128 := by
  fin_cases h <;> decide

/-- The B rows of head `h`'s group. -/
def headB (bcb : FVec F S128x1024 .bf16) (h : Fin 16) : FVec F S128x128 .bf16 :=
  extractStridedSlice S128x128 ![0, 128 * (h.val / 4)] bcb (sliceB h)

/-- The C rows of head `h`'s group. -/
def headC (bcb : FVec F S128x1024 .bf16) (h : Fin 16) : FVec F S128x128 .bf16 :=
  extractStridedSlice S128x128 ![0, 512 + 128 * (h.val / 4)] bcb (sliceC h)

/-- The decays between the rows of a block for head `h`: the exponential of the difference of the cumulative sums
    on and under the diagonal, of minus infinity above it. -/
def headL (m : IVec S128x128 1) (cs : FVec F S128x16 .f32) (cst : FVec F S16x128 .f32) (h : Fin 16) :
    FVec F S128x128 .f32 :=
  exp (select m (subf (broadcastTo S128x128 (extractStridedSlice S128x1 ![0, h.val] cs (sliceCol h)) broadcasts_S128x1_S128x128)
    (broadcastTo S128x128 (extractStridedSlice S1x128 ![h.val, 0] cst (sliceRow h)) broadcasts_S1x128_S128x128))
    (broadcast S128x128 (Scalar.ofBits .f32 0xFF800000#32)))

/-- What head `h` adds within the block. -/
def headYd (m : IVec S128x128 1) (cs : FVec F S128x16 .f32) (cst : FVec F S16x128 .f32)
    (xd bcb : FVec F S128x1024 .bf16) (h : Fin 16) : FVec F S128x64 .f32 :=
  matmul dot_S128x128_S128x64_S128x64_1_0_0_1_n_n none
    (truncf .bf16 (mulf (matmul dot_S128x128_S128x128_S128x128_1_1_0_0_n_n none (headC bcb h) (headB bcb h)
      (constant S128x128 .f32 0x00000000#32)) (headL m cs cst h)) bitsLt_bf16_f32)
    (extractStridedSlice S128x64 ![0, 64 * h.val] xd (sliceHead h)) (constant S128x64 .f32 0x00000000#32)

/-- What head `h` reads of the state the block starts from. -/
def headYo (ecs : FVec F S128x1024 .f32) (bcb : FVec F S128x1024 .bf16) (h : Fin 16) (st : Vec F S1x64x128 .f32) :
    FVec F S128x64 .f32 :=
  mulf (matmul dot_S128x128_S64x128_S128x64_1_1_0_0_n_n none (headC bcb h)
    (truncf .bf16 (shapeCast S64x128 st shapeCasts_S1x64x128_S64x128) bitsLt_bf16_f32)
    (constant S128x64 .f32 0x00000000#32)) (extractStridedSlice S128x64 ![0, 64 * h.val] ecs (sliceHead h))

/-- Head `h`'s rows of the block. -/
def headY (m : IVec S128x128 1) (cs : FVec F S128x16 .f32) (cst : FVec F S16x128 .f32) (ecs : FVec F S128x1024 .f32)
    (xd bcb : FVec F S128x1024 .bf16) (h : Fin 16) (st : Vec F S1x64x128 .f32) : FVec F S128x64 .f32 :=
  shapeCast S128x64 (addf (headYd m cs cst xd bcb h) (headYo ecs bcb h st)) shapeCasts_S128x64_S128x64

/-- Head `h`'s state after the block. -/
def headS (cst : FVec F S16x128 .f32) (xdw bcb : FVec F S128x1024 .bf16) (h : Fin 16) (st : Vec F S1x64x128 .f32) :
    FVec F S1x64x128 .f32 :=
  shapeCast S1x64x128 (addf (mulf (shapeCast S64x128 st shapeCasts_S1x64x128_S64x128)
      (broadcastTo S64x128 (exp (extractStridedSlice S1x1 ![h.val, 127] cst (sliceLast h))) broadcasts_S1x1_S64x128))
    (matmul dot_S128x64_S128x128_S64x128_0_0_1_1_n_n none (extractStridedSlice S128x64 ![0, 64 * h.val] xdw (sliceHead h))
      (headB bcb h) (constant S64x128 .f32 0x00000000#32))) shapeCasts_S64x128_S1x64x128

end Cert.KernelIdeal.Step
end
end
-- ==== Proof.Step.lean ====
/-
The three cases of the SSD kernel's body as ONE step on the values it loads: the convolution, the time steps and
their cumulative sums, the sixteen heads, the gate and the grouped norm.
-/
module
public import proofs.«01_k».proof.Proof.Heads
public import Idealize.ShloMosaic.Lib.Pointwise

@[expose] public section
noncomputable section
namespace Cert.KernelIdeal.Step
open Cert.KernelIdeal Cert.KernelIdeal.Gen Idealize.ShloMosaic Idealize.ShloMosaic.TcCoe Idealize.SL.Sem
variable {F : FTy → Type} [FloatOps F]

/-- The row number down a column. -/
abbrev iotaR : IVec S128x1 32 := iota .tc S128x1 32 [0] iota_S128x1_d0_w32
/-- The row number of a square. -/
abbrev iotaI : IVec S128x128 32 := iota .tc S128x128 32 [0] iota_S128x128_d0_w32
/-- The column number of a square. -/
abbrev iotaJ : IVec S128x128 32 := iota .tc S128x128 32 [1] iota_S128x128_d1_w32

/-- The values one step loads: gate rows, the raw rows of x and of B and C, the raw time steps, the convolution's
    weights and bias (two halves), the time-step bias, the decay logarithm, the skip weight per column, the norm
    weight per group, the head expansion, the three rows before the block, the state per head. -/
structure Loads (F : FTy → Type) [FloatOps F] where
  z : Vec F S128x1024 .f32
  xr : Vec F S128x1024 .f32
  br : Vec F S128x1024 .f32
  dr : Vec F S128x16 .f32
  cw : Vec F S4x2048 .f32
  cl : Vec F S1x1024 .f32
  ch : Vec F S1x1024 .f32
  db : Vec F S1x16 .f32
  al : Vec F S1x16 .f32
  dx : Vec F S1x1024 .f32
  nw : Fin 4 → Vec F S1x256 .f32
  e : Vec F S16x1024 .f32
  pv : Vec F S3x2048 .f32
  st : Fin 16 → Vec F S1x64x128 .f32

variable (L : Loads F)

/-- The rows of x after the convolution and the silu. -/
def XS : FVec F S128x1024 .f32 :=
  k0_pay9 iotaR L.cw L.xr (k0_pay5 L.pv) (k0_pay6 L.cw L.pv L.xr L.cl) (k0_pay7 L.pv L.xr) k0_pay8
/-- The rows of B and C after the convolution and the silu. -/
def BC : FVec F S128x1024 .f32 :=
  k0_pay18 L.cw (k0_pay14 iotaR L.cw L.br (k0_pay10 L.pv) (k0_pay11 L.cw L.br L.ch) (k0_pay12 L.br) (k0_pay13 iotaR))
    (k0_pay15 iotaR L.br (k0_pay10 L.pv)) (k0_pay16 (k0_pay10 L.pv)) (k0_pay17 iotaR)
/-- The time steps. -/
def DT : FVec F S128x16 .f32 := k0_pay21 L.dr L.db
/-- The logarithms of the decays. -/
def AD : FVec F S128x16 .f32 := k0_pay22 L.dr L.db L.al
/-- Their cumulative sums. -/
def CS : FVec F S128x16 .f32 := k0_pay24 (AD L) iotaI iotaJ
/-- Their cumulative sums, transposed. -/
def CST : FVec F S16x128 .f32 := k0_pay25 (AD L) iotaI iotaJ
/-- The decays from the block's start, per column. -/
def ECS : FVec F S128x1024 .f32 := k0_pay27 (AD L) iotaI iotaJ L.e
/-- x times the time step times the decay to the block's end. -/
def XDW : FVec F S128x1024 .bf16 := k0_pay29 (XS L) (DT L) (AD L) iotaI iotaJ L.e
/-- x times the time step. -/
def XD : FVec F S128x1024 .bf16 := k0_pay30 (XS L) (DT L) L.e
/-- B and C, rounded. -/
def BCB : FVec F S128x1024 .bf16 := k0_pay31 (BC L)

/-- The rows of head `h`. -/
def YH (h : Fin 16) : FVec F S128x64 .f32 :=
  headY (k0_pay23 iotaI iotaJ) (CS L) (CST L) (ECS L) (XD L) (BCB L) h (L.st h)
/-- The state of head `h` after the step. -/
def SH (h : Fin 16) : FVec F S1x64x128 .f32 := headS (CST L) (XDW L) (BCB L) h (L.st h)

/-- The head a column belongs to. -/
def hd (k : Fin 1024) : Fin 16 := ⟨k.val / 64, by omega⟩
/-- The column within its head. -/
def hc (k : Fin 1024) : Fin 64 := ⟨k.val % 64, by omega⟩
/-- The group a column belongs to. -/
def gr (k : Fin 1024) : Fin 4 := ⟨k.val / 256, by omega⟩
/-- The column within its group. -/
def gc (k : Fin 1024) : Fin 256 := ⟨k.val % 256, by omega⟩

/-- The rows of all heads, side by side. -/
def YA : Vec F S128x1024 .f32 := fun y => YH L (hd (y 1)) (ix2 (y 0) (hc (y 1)))
/-- The gated rows. -/
def GY : FVec F S128x1024 .f32 := k0_pay108 (XS L) (YA L) L.dx L.z

/-- A group's 256 columns lie in the 1024. -/
theorem sliceGroup (g : Fin 4) : S128x1024.Slices ![0, 256 * g.val] S128x256 := by
  fin_cases g <;> decide
/-- The normed rows of group `g`. -/
def NG (gy : FVec F S128x1024 .f32) (w : Vec F S1x256 .f32) (g : Fin 4) : FVec F S128x256 .bf16 :=
  let a := extractStridedSlice S128x256 ![0, 256 * g.val] gy (sliceGroup g)
  truncf .bf16 (mulf (mulf a (broadcastTo S128x256 (rsqrt (addf (divf (shapeCast S128x1
    (multiReduction .add [1] S128 (mulf a a) 0x00000000#32 reduces_S128x256_S128 (.inl rfl) rfl) shapeCasts_S128_S128x1)
    (broadcast S128x1 (Scalar.ofBits .f32 0x43800000#32))) (broadcast S128x1 (Scalar.ofBits .f32 0x358637BD#32))))
    broadcasts_S128x1_S128x256)) (broadcastTo S128x256 (shapeCast S1x256 w shapeCasts_S1x256_S1x256)
    broadcasts_S1x256_S128x256)) bitsLt_bf16_f32
/-- The output rows. -/
def OUT : Vec F S128x1024 .bf16 := fun y => NG (GY L) (L.nw (gr (y 1))) (gr (y 1)) (ix2 (y 0) (gc (y 1)))
/-- The three rows kept for the next block. -/
def PV : Vec F S3x2048 .f32 := fun y =>
  if h : (y 1).val < 1024 then L.xr (ix2 ⟨125 + (y 0).val, by have := (y 0).isLt; simp at this; omega⟩ ⟨(y 1).val, h⟩)
  else L.br (ix2 ⟨125 + (y 0).val, by have := (y 0).isLt; simp at this; omega⟩ ⟨(y 1).val - 1024, by have := (y 1).isLt; simp at this; omega⟩)
/-- The state kept for the next block. -/
def ST : Vec F S16x64x128 .f32 := fun y => SH L (y 0) (ix3 0 (y 1) (y 2))

/-- The rows of all heads, read inside one head's columns. -/
theorem YA_at {o : Nat} (h : Fin 16) (ho : o = 64 * h.val) (inb : ∀ a, (![0, o] : Fin 2 → Nat) a + S128x64.size a ≤ S128x1024.size a)
    (x : S128x64.Idx) : YA L ((Rect.unit (s := S128x1024) ![0, o] S128x64.size inb).emb x) = YH L h x := by
  subst ho
  have e : hd ((Rect.unit (s := S128x1024) ![0, 64 * h.val] S128x64.size inb).emb x 1) = h := by
    apply Fin.ext; show (64 * h.val + 1 * (x 1).val) / 64 = h.val
    have := (x 1).isLt; simp at this; omega
  unfold YA; rw [e]; congr 1
  funext a; fin_cases a
  · apply Fin.ext; show 0 + 1 * (x 0).val = (x 0).val; omega
  · apply Fin.ext; show (64 * h.val + 1 * (x 1).val) % 64 = (x 1).val
    have := (x 1).isLt; simp at this; omega

/-- The output rows, read inside one group's columns. -/
theorem OUT_at {o : Nat} (g : Fin 4) (ho : o = 256 * g.val) (inb : ∀ a, (![0, o] : Fin 2 → Nat) a + S128x256.size a ≤ S128x1024.size a)
    (x : S128x256.Idx) : OUT L ((Rect.unit (s := S128x1024) ![0, o] S128x256.size inb).emb x) = NG (GY L) (L.nw g) g x := by
  subst ho
  have e : gr ((Rect.unit (s := S128x1024) ![0, 256 * g.val] S128x256.size inb).emb x 1) = g := by
    apply Fin.ext; show (256 * g.val + 1 * (x 1).val) / 256 = g.val
    have := (x 1).isLt; simp at this; omega
  unfold OUT; rw [e]; congr 1
  funext a; fin_cases a
  · apply Fin.ext; show 0 + 1 * (x 0).val = (x 0).val; omega
  · apply Fin.ext; show (256 * g.val + 1 * (x 1).val) % 256 = (x 1).val
    have := (x 1).isLt; simp at this; omega

/-- The state kept, read at one head. -/
theorem ST_at {o : Nat} (h : Fin 16) (ho : o = h.val) (inb : ∀ a, (![o, 0, 0] : Fin 3 → Nat) a + S1x64x128.size a ≤ S16x64x128.size a)
    (x : S1x64x128.Idx) : ST L ((Rect.unit (s := S16x64x128) ![o, 0, 0] S1x64x128.size inb).emb x) = SH L h x := by
  subst ho
  have h0 : (x 0).val = 0 := by have := (x 0).isLt; simp at this; omega
  have e : (Rect.unit (s := S16x64x128) ![h.val, 0, 0] S1x64x128.size inb).emb x 0 = h := by
    apply Fin.ext; show h.val + 1 * (x 0).val = h.val; omega
  unfold ST; rw [e]; congr 1
  funext a; fin_cases a
  · apply Fin.ext; show 0 = (x 0).val; omega
  · apply Fin.ext; show 0 + 1 * (x 1).val = (x 1).val; omega
  · apply Fin.ext; show 0 + 1 * (x 2).val = (x 2).val; omega

/-- The kept rows, read in the half of x; -/
theorem PV_lo (inb : ∀ a, (![0, 0] : Fin 2 → Nat) a + S3x1024.size a ≤ S3x2048.size a) (x : S3x1024.Idx) :
    PV L ((Rect.unit (s := S3x2048) ![0, 0] S3x1024.size inb).emb x) = k0_pay19 L.xr x := by
  have h1 := (x 1).isLt; simp at h1
  have hlt : ((Rect.unit (s := S3x2048) ![0, 0] S3x1024.size inb).emb x 1).val < 1024 := by
    show 0 + 1 * (x 1).val < 1024; omega
  unfold PV k0_pay19; rw [dif_pos hlt, shapeCast_self]
  unfold extractStridedSlice; congr 1
  funext a; fin_cases a
  · apply Fin.ext; show 125 + (0 + 1 * (x 0).val) = 125 + (x 0).val; omega
  · apply Fin.ext; show 0 + 1 * (x 1).val = 0 + (x 1).val; omega

/-- and in the half of B and C. -/
theorem PV_hi (inb : ∀ a, (![0, 1024] : Fin 2 → Nat) a + S3x1024.size a ≤ S3x2048.size a) (x : S3x1024.Idx) :
    PV L ((Rect.unit (s := S3x2048) ![0, 1024] S3x1024.size inb).emb x) = k0_pay20 L.br x := by
  have h1 := (x 1).isLt; simp at h1
  have hlt : ¬ ((Rect.unit (s := S3x2048) ![0, 1024] S3x1024.size inb).emb x 1).val < 1024 := by
    show ¬ (1024 + 1 * (x 1).val < 1024); omega
  unfold PV k0_pay20; rw [dif_neg hlt, shapeCast_self]
  unfold extractStridedSlice; congr 1
  funext a; fin_cases a
  · apply Fin.ext; show 125 + (0 + 1 * (x 0).val) = 125 + (x 0).val; omega
  · apply Fin.ext; show 1024 + 1 * (x 1).val - 1024 = 0 + (x 1).val; omega

end Cert.KernelIdeal.Step
end
end
-- ==== Proof.Loaded.lean ====
/-
The values the printed body loads, as the values of its blocks.
-/
module
public import proofs.«01_k».proof.Proof.Step

@[expose] public section
set_option maxHeartbeats 8000000
noncomputable section
namespace Cert.KernelIdeal.Step
open Cert.KernelIdeal Cert.KernelIdeal.Gen Idealize.ShloMosaic Idealize.ShloMosaic.TcCoe Idealize.SL.Sem
variable {F : FTy → Type} [FloatOps F]

/-- One head's state lies in the states. -/
theorem inbSt (h : Fin 16) : ∀ a, (![h.val, 0, 0] : Fin 3 → Nat) a + S1x64x128.size a ≤ S16x64x128.size a := by
  fin_cases h <;> decide
/-- One group's weights lie in the weights. -/
theorem inbNw (g : Fin 4) : ∀ a, (![0, 256 * g.val] : Fin 2 → Nat) a + S1x256.size a ≤ S1x1024.size a := by
  fin_cases g <;> decide

/-- The values a step loads from its input blocks, the rows before it and the state before it. -/
def blk (x0 x1 x2 : Vec F S128x1024 .f32) (x3 : Vec F S128x128 .f32) (x6 : Vec F S4x2048 .f32) (x7 : Vec F S1x2048 .f32)
    (x8 x9 : Vec F S1x16 .f32) (x10 x11 : Vec F S1x1024 .f32) (x12 : Vec F S16x1024 .f32) (xs0 : Vec F S3x2048 .f32)
    (xs1 : Vec F S16x64x128 .f32) : Loads F where
  z := x0
  xr := x1
  br := x2
  dr := View.ld x3 (Rect.unit (s := S128x128) ![0, 64] S128x16.size inb_S128x128_S128x16_0_64)
  cw := x6
  cl := View.ld x7 (Rect.unit (s := S1x2048) ![0, 0] S1x1024.size inb_S1x2048_S1x1024_0_0)
  ch := View.ld x7 (Rect.unit (s := S1x2048) ![0, 1024] S1x1024.size inb_S1x2048_S1x1024_0_1024)
  db := x8
  al := x9
  dx := x10
  nw := fun g => View.ld x11 (Rect.unit (s := S1x1024) ![0, 256 * g.val] S1x256.size (inbNw g))
  e := x12
  pv := xs0
  st := fun h => View.ld xs1 (Rect.unit (s := S16x64x128) ![h.val, 0, 0] S1x64x128.size (inbSt h))

/-- The zero offset of a matrix. -/
theorem hz2 : (![0, 0] : Fin 2 → Nat) = fun _ => 0 := by funext a; fin_cases a <;> rfl
/-- The zero offset of a rank-three array. -/
theorem hz3 : (![0, 0, 0] : Fin 3 → Nat) = fun _ => 0 := by funext a; fin_cases a <;> rfl
/-- The zero offset of a rank-four array. -/
theorem hz4 : (![0, 0, 0, 0] : Fin 4 → Nat) = fun _ => 0 := by funext a; fin_cases a <;> rfl

/-- A load of a whole operand reads it. -/
theorem ldw {sig : RefSig} {κ : Kind} {sp : Space} {S : Shape} {e : EltTy} (a : Memref sig κ sp S e) (ha : a.IsWhole)
    {off : Fin S.rank → Nat} (h : off = fun _ => 0) (inb : ∀ b, off b + S.size b ≤ S.size b) (x : S.Idx → Elt F e) :
    View.readAt (Elt F) a.view (Rect.unit off S.size inb).toLoadRect (ha.unread x) = x := by
  rw [View.readAt_eq_ld, ha.read_unread, View.ld_unit_zero h]
/-- A load of a part of a whole operand reads the part. -/
theorem ldp {sig : RefSig} {κ : Kind} {sp : Space} {S : Shape} {e : EltTy} (a : Memref sig κ sp S e) (ha : a.IsWhole)
    (r : Rect S) (x : S.Idx → Elt F e) :
    View.readAt (Elt F) a.view r.toLoadRect (ha.unread x) = View.ld x r := by
  rw [View.readAt_eq_ld, ha.read_unread]

section
variable (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x1024 .f32) (harg4 : arg4.IsWhole)
  (arg5 : Memref sig .tc .vmem S128x128 .f32) (harg5 : arg5.IsWhole)
  (arg6 : Memref sig .tc .vmem S1x3x2048 .f32) (harg6 : arg6.IsWhole)
  (arg7 : Memref sig .tc .vmem S1x16x64x128 .f32) (harg7 : arg7.IsWhole)
  (arg8 : Memref sig .tc .vmem S4x2048 .f32) (harg8 : arg8.IsWhole)
  (arg9 : Memref sig .tc .vmem S1x2048 .f32) (harg9 : arg9.IsWhole)
  (arg10 : Memref sig .tc .vmem S1x16 .f32) (harg10 : arg10.IsWhole)
  (arg11 : Memref sig .tc .vmem S1x16 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S16x1024 .f32) (harg14 : arg14.IsWhole)
  (arg15 : Memref sig .tc .vmem S128x1024 .bf16) (harg15 : arg15.IsWhole)
  (arg16 : Memref sig .tc .vmem S1x16x64x128 .f32) (harg16 : arg16.IsWhole)
  (arg17 : Memref sig .tc .vmem S3x2048 .f32) (harg17 : arg17.IsWhole)
  (arg18 : Memref sig .tc .vmem S16x64x128 .f32) (harg18 : arg18.IsWhole)
  (arg19 : Memref sig .tc .vmem S128x1024 .f32) (harg19 : arg19.IsWhole)
variable (x0 : Vec F S128x1024 .f32) (x1 : Vec F S128x1024 .f32) (x2 : Vec F S128x1024 .f32) (x3 : Vec F S128x128 .f32) (x4 : Vec F S1x3x2048 .f32) (x5 : Vec F S1x16x64x128 .f32) (x6 : Vec F S4x2048 .f32) (x7 : Vec F S1x2048 .f32) (x8 : Vec F S1x16 .f32) (x9 : Vec F S1x16 .f32) (x10 : Vec F S1x1024 .f32) (x11 : Vec F S1x1024 .f32) (x12 : Vec F S16x1024 .f32)
variable (pv : Vec F S3x2048 .f32) (st : Fin 16 → Vec F S1x64x128 .f32)

/-- The same values as the loads of the printed body. -/
def raw : Loads F where
  z := View.readAt (Elt F) arg2.view (Rect.unit (s := S128x1024) ![0, 0] S128x1024.size inb_S128x1024_S128x1024_0_0).toLoadRect (harg2.unread x0)
  xr := View.readAt (Elt F) arg3.view (Rect.unit (s := S128x1024) ![0, 0] S128x1024.size inb_S128x1024_S128x1024_0_0).toLoadRect (harg3.unread x1)
  br := View.readAt (Elt F) arg4.view (Rect.unit (s := S128x1024) ![0, 0] S128x1024.size inb_S128x1024_S128x1024_0_0).toLoadRect (harg4.unread x2)
  dr := View.readAt (Elt F) arg5.view (Rect.unit (s := S128x128) ![0, 64] S128x16.size inb_S128x128_S128x16_0_64).toLoadRect (harg5.unread x3)
  cw := View.readAt (Elt F) arg8.view (Rect.unit (s := S4x2048) ![0, 0] S4x2048.size inb_S4x2048_S4x2048_0_0).toLoadRect (harg8.unread x6)
  cl := View.readAt (Elt F) arg9.view (Rect.unit (s := S1x2048) ![0, 0] S1x1024.size inb_S1x2048_S1x1024_0_0).toLoadRect (harg9.unread x7)
  ch := View.readAt (Elt F) arg9.view (Rect.unit (s := S1x2048) ![0, 1024] S1x1024.size inb_S1x2048_S1x1024_0_1024).toLoadRect (harg9.unread x7)
  db := View.readAt (Elt F) arg10.view (Rect.unit (s := S1x16) ![0, 0] S1x16.size inb_S1x16_S1x16_0_0).toLoadRect (harg10.unread x8)
  al := View.readAt (Elt F) arg11.view (Rect.unit (s := S1x16) ![0, 0] S1x16.size inb_S1x16_S1x16_0_0).toLoadRect (harg11.unread x9)
  dx := View.readAt (Elt F) arg12.view (Rect.unit (s := S1x1024) ![0, 0] S1x1024.size inb_S1x1024_S1x1024_0_0).toLoadRect (harg12.unread x10)
  nw := fun g => View.readAt (Elt F) arg13.view (Rect.unit (s := S1x1024) ![0, 256 * g.val] S1x256.size (inbNw g)).toLoadRect (harg13.unread x11)
  e := View.readAt (Elt F) arg14.view (Rect.unit (s := S16x1024) ![0, 0] S16x1024.size inb_S16x1024_S16x1024_0_0).toLoadRect (harg14.unread x12)
  pv := pv
  st := st

/-- The loads of the printed body are the values of its blocks. -/
theorem raw_eq (xs1 : Vec F S16x64x128 .f32) :
    raw arg2 harg2 arg3 harg3 arg4 harg4 arg5 harg5 arg8 harg8 arg9 harg9 arg10 harg10 arg11 harg11 arg12 harg12 arg13 harg13 arg14 harg14 x0 x1 x2 x3 x6 x7 x8 x9 x10 x11 x12 pv (fun h => View.ld xs1 (Rect.unit (s := S16x64x128) ![h.val, 0, 0] S1x64x128.size (inbSt h))) = blk x0 x1 x2 x3 x6 x7 x8 x9 x10 x11 x12 pv xs1 := by
  unfold raw blk
  simp only [Loads.mk.injEq]
  exact ⟨ldw _ _ hz2 _ _, ldw _ _ hz2 _ _, ldw _ _ hz2 _ _, ldp _ _ _ _, ldw _ _ hz2 _ _, ldp _ _ _ _, ldp _ _ _ _,
    ldw _ _ hz2 _ _, ldw _ _ hz2 _ _, ldw _ _ hz2 _ _, funext fun g => ldp _ _ _ _, ldw _ _ hz2 _ _, trivial, trivial⟩
end

end Cert.KernelIdeal.Step
end
end
-- ==== Proof.CaseA.lean ====
/-
The printed body's first block, as the step on the loads.
-/
module
public import proofs.«01_k».proof.Proof.Loaded

@[expose] public section
set_option maxHeartbeats 8000000
noncomputable section
namespace Cert.KernelIdeal.Step
open Cert.KernelIdeal Cert.KernelIdeal.Gen Idealize.ShloMosaic Idealize.ShloMosaic.TcCoe Idealize.SL.Sem
variable {F : FTy → Type} [FloatOps F]

variable (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x1024 .f32) (harg4 : arg4.IsWhole)
  (arg5 : Memref sig .tc .vmem S128x128 .f32) (harg5 : arg5.IsWhole)
  (arg6 : Memref sig .tc .vmem S1x3x2048 .f32) (harg6 : arg6.IsWhole)
  (arg7 : Memref sig .tc .vmem S1x16x64x128 .f32) (harg7 : arg7.IsWhole)
  (arg8 : Memref sig .tc .vmem S4x2048 .f32) (harg8 : arg8.IsWhole)
  (arg9 : Memref sig .tc .vmem S1x2048 .f32) (harg9 : arg9.IsWhole)
  (arg10 : Memref sig .tc .vmem S1x16 .f32) (harg10 : arg10.IsWhole)
  (arg11 : Memref sig .tc .vmem S1x16 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S16x1024 .f32) (harg14 : arg14.IsWhole)
  (arg15 : Memref sig .tc .vmem S128x1024 .bf16) (harg15 : arg15.IsWhole)
  (arg16 : Memref sig .tc .vmem S1x16x64x128 .f32) (harg16 : arg16.IsWhole)
  (arg17 : Memref sig .tc .vmem S3x2048 .f32) (harg17 : arg17.IsWhole)
  (arg18 : Memref sig .tc .vmem S16x64x128 .f32) (harg18 : arg18.IsWhole)
  (arg19 : Memref sig .tc .vmem S128x1024 .f32) (harg19 : arg19.IsWhole)
variable (x0 : Vec F S128x1024 .f32) (x1 : Vec F S128x1024 .f32) (x2 : Vec F S128x1024 .f32) (x3 : Vec F S128x128 .f32) (x4 : Vec F S1x3x2048 .f32) (x5 : Vec F S1x16x64x128 .f32) (x6 : Vec F S4x2048 .f32) (x7 : Vec F S1x2048 .f32) (x8 : Vec F S1x16 .f32) (x9 : Vec F S1x16 .f32) (x10 : Vec F S1x1024 .f32) (x11 : Vec F S1x1024 .f32) (x12 : Vec F S16x1024 .f32)

/-- The values this case's body loads. -/
def loadA : Loads F := raw arg2 harg2 arg3 harg3 arg4 harg4 arg5 harg5 arg8 harg8 arg9 harg9 arg10 harg10 arg11 harg11 arg12 harg12 arg13 harg13 arg14 harg14 x0 x1 x2 x3 x6 x7 x8 x9 x10 x11 x12 (kernelRun0_A.sl.v5 c arg6 harg6 arg17 x4) ![kernelRun0_A.sl.v234 c arg7 harg7 arg18 x5, kernelRun0_A.sl.v266 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v298 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v330 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v365 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v397 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v429 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v461 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v496 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v528 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v560 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v592 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v627 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v659 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v691 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v723 c arg3 harg3 arg4 harg4 arg5 harg5 arg6 harg6 arg7 harg7 arg8 harg8 arg9 harg9 arg10 harg10 arg11 harg11 arg14 harg14 arg17 arg18 x1 x2 x3 x4 x5 x6 x7 x8 x9 x12]

/-- A load of one head's state passes over a store of another head's. -/
theorem skip {sig : RefSig} {κ : Kind} {sp : Space} (v : View sig κ sp S16x64x128 .f32) {k h : Nat} (hk : k ≠ h)
    (inb : ∀ a, (![k, 0, 0] : Fin 3 → Nat) a + S1x64x128.size a ≤ S16x64x128.size a)
    (inb' : ∀ a, (![h, 0, 0] : Fin 3 → Nat) a + S1x64x128.size a ≤ S16x64x128.size a)
    (w : S1x64x128.Idx → Elt F .f32) (L : List (View.Piece (Elt F) S16x64x128 .f32)) :
    v.readCov ((⟨Rect.unit (s := S16x64x128) ![k, 0, 0] S1x64x128.size inb, w⟩ : View.Piece (Elt F) S16x64x128 .f32) :: L)
      (Rect.unit (s := S16x64x128) ![h, 0, 0] S1x64x128.size inb').toLoadRect
      = v.readCov L (Rect.unit (s := S16x64x128) ![h, 0, 0] S1x64x128.size inb').toLoadRect := by
  rw [View.readCov_eq_canon', View.readCov_eq_canon']
  funext j
  refine View.canon_cons_of_not_mem _ _ ?_
  rw [Rect.mem_set_unit]
  intro hm
  have h0 := hm 0
  have hj : ((Rect.unit (s := S16x64x128) ![h, 0, 0] S1x64x128.size inb').toLoadRect.idx j 0).val = h + 1 * (j 0).val := rfl
  have hj0 := (j 0).isLt
  simp at h0 hj0
  omega

/-- A load of one head's state off a store of all of them reads that head's. -/
theorem bottom {sig : RefSig} {κ : Kind} {sp : Space} (v : View sig κ sp S16x64x128 .f32) (r : Rect S16x64x128)
    (inb : ∀ a, (![0, 0, 0] : Fin 3 → Nat) a + S16x64x128.size a ≤ S16x64x128.size a) (w : S16x64x128.Idx → Elt F .f32) :
    v.readCov [(⟨Rect.unit (s := S16x64x128) ![0, 0, 0] S16x64x128.size inb, w⟩ : View.Piece (Elt F) S16x64x128 .f32)] r.toLoadRect
      = View.ld w r := by
  rw [View.readCov_eq_canon']
  funext j
  rw [View.canon_cons_unit_zero hz3]

/-- The values the first block's body loads are those of its blocks, the rows and the state before it the two given
    arguments. -/
theorem load_eqA : (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) = (blk x0 x1 x2 x3 x6 x7 x8 x9 x10 x11 x12 (k0_pay3 x4) (k0_pay4 x5)) := by
  unfold loadA
  rw [← raw_eq arg2 harg2 arg3 harg3 arg4 harg4 arg5 harg5 arg8 harg8 arg9 harg9 arg10 harg10 arg11 harg11 arg12 harg12 arg13 harg13 arg14 harg14 x0 x1 x2 x3 x6 x7 x8 x9 x10 x11 x12]
  congr 1
  · unfold kernelRun0_A.sl.v5 kernelRun0_A.sl.HS0_1
    rw [View.readCov_unit_zero _ hz2, ldw _ _ hz3]
  · funext h
    fin_cases h
    · change kernelRun0_A.sl.v234 c arg7 harg7 arg18 x5 = _
      unfold kernelRun0_A.sl.v234 kernelRun0_A.sl.HS1_1
      exact (bottom ..).trans (by rw [ldw _ _ hz4])
    · change kernelRun0_A.sl.v266 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v266 kernelRun0_A.sl.HS1_2 kernelRun0_A.sl.HS1_1
      rw [skip _ (by decide)]; exact (bottom ..).trans (by rw [ldw _ _ hz4])
    · change kernelRun0_A.sl.v298 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v298 kernelRun0_A.sl.HS1_3 kernelRun0_A.sl.HS1_2 kernelRun0_A.sl.HS1_1
      rw [skip _ (by decide), skip _ (by decide)]; exact (bottom ..).trans (by rw [ldw _ _ hz4])
    · change kernelRun0_A.sl.v330 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v330 kernelRun0_A.sl.HS1_4 kernelRun0_A.sl.HS1_3 kernelRun0_A.sl.HS1_2 kernelRun0_A.sl.HS1_1
      rw [skip _ (by decide), skip _ (by decide), skip _ (by decide)]; exact (bottom ..).trans (by rw [ldw _ _ hz4])
    · change kernelRun0_A.sl.v365 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v365 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide)]; exact (bottom ..).trans (by rw [ldw _ _ hz4])
    · change kernelRun0_A.sl.v397 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v397 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide)]; exact (bottom ..).trans (by rw [ldw _ _ hz4])
    · change kernelRun0_A.sl.v429 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v429 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide), skip _ (by decide)]; exact (bottom ..).trans (by rw [ldw _ _ hz4])
    · change kernelRun0_A.sl.v461 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v461 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide), skip _ (by decide), skip _ (by decide)]; exact (bottom ..).trans (by rw [ldw _ _ hz4])
    · change kernelRun0_A.sl.v496 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v496 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide), skip _ (by decide), skip _ (by decide), skip _ (by decide)]; exact (bottom ..).trans (by rw [ldw _ _ hz4])
    · change kernelRun0_A.sl.v528 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v528 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide), skip _ (by decide), skip _ (by decide), skip _ (by decide), skip _ (by decide)]; exact (bottom ..).trans (by rw [ldw _ _ hz4])
    · change kernelRun0_A.sl.v560 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v560 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide), skip _ (by decide), skip _ (by decide), skip _ (by decide), skip _ (by decide), skip _ (by decide)]; exact (bottom ..).trans (by rw [ldw _ _ hz4])
    · change kernelRun0_A.sl.v592 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v592 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide), skip _ (by decide), skip _ (by decide), skip _ (by decide), skip _ (by decide), skip _ (by decide), skip _ (by decide)]; exact (bottom ..).trans (by rw [ldw _ _ hz4])
    · change kernelRun0_A.sl.v627 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v627 kernelRun0_A.sl.HS1_13 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide), skip _ (by decide), skip _ (by decide), skip _ (by decide), skip _ (by decide), skip _ (by decide), skip _ (by decide), skip _ (by decide)]; exact (bottom ..).trans (by rw [ldw _ _ hz4])
    · change kernelRun0_A.sl.v659 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v659 kernelRun0_A.sl.HS1_14 kernelRun0_A.sl.HS1_13 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide), skip _ (by decide), skip _ (by decide), skip _ (by decide), skip _ (by decide), skip _ (by decide), skip _ (by decide), skip _ (by decide), skip _ (by decide)]; exact (bottom ..).trans (by rw [ldw _ _ hz4])
    · change kernelRun0_A.sl.v691 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v691 kernelRun0_A.sl.HS1_15 kernelRun0_A.sl.HS1_14 kernelRun0_A.sl.HS1_13 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide), skip _ (by decide), skip _ (by decide), skip _ (by decide), skip _ (by decide), skip _ (by decide), skip _ (by decide), skip _ (by decide), skip _ (by decide), skip _ (by decide)]; exact (bottom ..).trans (by rw [ldw _ _ hz4])
    · change kernelRun0_A.sl.v723 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v723 kernelRun0_A.sl.HS1_16 kernelRun0_A.sl.HS1_15 kernelRun0_A.sl.HS1_14 kernelRun0_A.sl.HS1_13 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide), skip _ (by decide), skip _ (by decide), skip _ (by decide), skip _ (by decide), skip _ (by decide), skip _ (by decide), skip _ (by decide), skip _ (by decide), skip _ (by decide), skip _ (by decide)]; exact (bottom ..).trans (by rw [ldw _ _ hz4])

/-- The rows the heads post, read back whole. -/
theorem post_A : kernelRun0_A.sl.v743 c arg3 harg3 arg4 harg4 arg5 harg5 arg6 harg6 arg7 harg7 arg8 harg8 arg9 harg9 arg10 harg10 arg11 harg11 arg14 harg14 arg17 arg18 arg19 x1 x2 x3 x4 x5 x6 x7 x8 x9 x12 = YA (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) := by
  unfold kernelRun0_A.sl.v743
  have hcov := View.cover_of_tiledL (kernelRun0_A.sl.HS2_16 c arg3 harg3 arg4 harg4 arg5 harg5 arg6 harg6 arg7 harg7 arg8 harg8 arg9 harg9 arg10 harg10 arg11 harg11 arg14 harg14 arg17 arg18 x1 x2 x3 x4 x5 x6 x7 x8 x9 x12) S128x64.size (by sl_kernel_rfl)
  rw [View.readCov_eq_canon_ld _ _ _ hcov, View.ld_unit_zero hz2]
  funext y
  refine View.canon_apply_of_pieces (YA (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)) _ ?_ y (hcov y)
  unfold kernelRun0_A.sl.HS2_16
  simp only [List.forall_mem_cons, List.not_mem_nil, false_imp_iff, implies_true, and_true]
  refine ⟨?_, ?_, ?_, ?_, ?_, ?_, ?_, ?_, ?_, ?_, ?_, ?_, ?_, ?_, ?_, ?_⟩
  · exact fun x => Eq.trans (b := YH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 15 x) (by sl_kernel_rfl) (YA_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 15 rfl _ x).symm
  · exact fun x => Eq.trans (b := YH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 14 x) (by sl_kernel_rfl) (YA_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 14 rfl _ x).symm
  · exact fun x => Eq.trans (b := YH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 13 x) (by sl_kernel_rfl) (YA_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 13 rfl _ x).symm
  · exact fun x => Eq.trans (b := YH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 12 x) (by sl_kernel_rfl) (YA_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 12 rfl _ x).symm
  · exact fun x => Eq.trans (b := YH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 11 x) (by sl_kernel_rfl) (YA_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 11 rfl _ x).symm
  · exact fun x => Eq.trans (b := YH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 10 x) (by sl_kernel_rfl) (YA_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 10 rfl _ x).symm
  · exact fun x => Eq.trans (b := YH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 9 x) (by sl_kernel_rfl) (YA_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 9 rfl _ x).symm
  · exact fun x => Eq.trans (b := YH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 8 x) (by sl_kernel_rfl) (YA_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 8 rfl _ x).symm
  · exact fun x => Eq.trans (b := YH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 7 x) (by sl_kernel_rfl) (YA_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 7 rfl _ x).symm
  · exact fun x => Eq.trans (b := YH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 6 x) (by sl_kernel_rfl) (YA_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 6 rfl _ x).symm
  · exact fun x => Eq.trans (b := YH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 5 x) (by sl_kernel_rfl) (YA_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 5 rfl _ x).symm
  · exact fun x => Eq.trans (b := YH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 4 x) (by sl_kernel_rfl) (YA_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 4 rfl _ x).symm
  · exact fun x => Eq.trans (b := YH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 3 x) (by sl_kernel_rfl) (YA_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 3 rfl _ x).symm
  · exact fun x => Eq.trans (b := YH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 2 x) (by sl_kernel_rfl) (YA_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 2 rfl _ x).symm
  · exact fun x => Eq.trans (b := YH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 1 x) (by sl_kernel_rfl) (YA_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 1 rfl _ x).symm
  · exact fun x => Eq.trans (b := YH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 0 x) (by sl_kernel_rfl) (YA_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 0 rfl _ x).symm

/-- The state a step keeps. -/
theorem sout1_A (hc0 : cond0_0 i) (hc1 : ¬cond0_1 i) : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 = ST (blk x0 x1 x2 x3 x6 x7 x8 x9 x10 x11 x12 (k0_pay3 x4) (k0_pay4 x5)) := by
  rw [← load_eqA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12]
  funext y
  unfold sout0_A_1
  rw [← List.take_append_drop 16 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.2.1, View.writes_append]
  refine View.read_writes_apply_of_pieces _ _ (ST (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)) _ ?_ y
    (View.cover_of_tiledL ((kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.2.1.take 16) S1x64x128.size (by sl_kernel_rfl) y)
  unfold kernelRun0_A kernelRun0_A.sl.HS1_16 kernelRun0_A.sl.HS1_15 kernelRun0_A.sl.HS1_14 kernelRun0_A.sl.HS1_13 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  simp only [List.take_succ_cons, List.take_zero, List.forall_mem_cons, List.not_mem_nil, false_imp_iff, implies_true, and_true]
  refine ⟨?_, ?_, ?_, ?_, ?_, ?_, ?_, ?_, ?_, ?_, ?_, ?_, ?_, ?_, ?_, ?_⟩
  · exact fun x => Eq.trans (b := SH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 15 x) (by sl_kernel_rfl) (ST_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 15 rfl _ x).symm
  · exact fun x => Eq.trans (b := SH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 14 x) (by sl_kernel_rfl) (ST_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 14 rfl _ x).symm
  · exact fun x => Eq.trans (b := SH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 13 x) (by sl_kernel_rfl) (ST_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 13 rfl _ x).symm
  · exact fun x => Eq.trans (b := SH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 12 x) (by sl_kernel_rfl) (ST_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 12 rfl _ x).symm
  · exact fun x => Eq.trans (b := SH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 11 x) (by sl_kernel_rfl) (ST_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 11 rfl _ x).symm
  · exact fun x => Eq.trans (b := SH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 10 x) (by sl_kernel_rfl) (ST_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 10 rfl _ x).symm
  · exact fun x => Eq.trans (b := SH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 9 x) (by sl_kernel_rfl) (ST_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 9 rfl _ x).symm
  · exact fun x => Eq.trans (b := SH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 8 x) (by sl_kernel_rfl) (ST_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 8 rfl _ x).symm
  · exact fun x => Eq.trans (b := SH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 7 x) (by sl_kernel_rfl) (ST_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 7 rfl _ x).symm
  · exact fun x => Eq.trans (b := SH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 6 x) (by sl_kernel_rfl) (ST_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 6 rfl _ x).symm
  · exact fun x => Eq.trans (b := SH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 5 x) (by sl_kernel_rfl) (ST_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 5 rfl _ x).symm
  · exact fun x => Eq.trans (b := SH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 4 x) (by sl_kernel_rfl) (ST_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 4 rfl _ x).symm
  · exact fun x => Eq.trans (b := SH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 3 x) (by sl_kernel_rfl) (ST_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 3 rfl _ x).symm
  · exact fun x => Eq.trans (b := SH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 2 x) (by sl_kernel_rfl) (ST_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 2 rfl _ x).symm
  · exact fun x => Eq.trans (b := SH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 1 x) (by sl_kernel_rfl) (ST_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 1 rfl _ x).symm
  · exact fun x => Eq.trans (b := SH (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 0 x) (by sl_kernel_rfl) (ST_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 0 rfl _ x).symm

/-- The rows a step keeps. -/
theorem sout0_A (hc0 : cond0_0 i) (hc1 : ¬cond0_1 i) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 = PV (blk x0 x1 x2 x3 x6 x7 x8 x9 x10 x11 x12 (k0_pay3 x4) (k0_pay4 x5)) := by
  rw [← load_eqA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12]
  funext y
  unfold sout0_A_0
  rw [← List.take_append_drop 2 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.1, View.writes_append]
  refine View.read_writes_apply_of_pieces _ _ (PV (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)) _ ?_ y
    (View.cover_of_tiledL ((kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.1.take 2) S3x1024.size (by sl_kernel_rfl) y)
  unfold kernelRun0_A kernelRun0_A.sl.HS0_1
  simp only [List.take_succ_cons, List.take_zero, List.forall_mem_cons, List.not_mem_nil, false_imp_iff, implies_true, and_true]
  refine ⟨?_, ?_⟩
  · exact fun x => (PV_hi (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) _ x).symm
  · exact fun x => (PV_lo (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) _ x).symm

/-- The rows a step writes. -/
theorem out_A (hc0 : cond0_0 i) (hc1 : ¬cond0_1 i) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 = OUT (blk x0 x1 x2 x3 x6 x7 x8 x9 x10 x11 x12 (k0_pay3 x4) (k0_pay4 x5)) := by
  rw [← load_eqA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12]
  funext y
  unfold out0_A_13
  refine View.read_writes_apply_of_pieces _ _ (OUT (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)) _ ?_ y (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 y)
  unfold kernelRun0_A
  simp only [List.forall_mem_cons, List.not_mem_nil, false_imp_iff, implies_true, and_true]
  have hp := post_A (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg17 := arg17) (arg18 := arg18) (arg19 := arg19) (x0 := x0) (x1 := x1) (x2 := x2) (x3 := x3) (x4 := x4) (x5 := x5) (x6 := x6) (x7 := x7) (x8 := x8) (x9 := x9) (x10 := x10) (x11 := x11) (x12 := x12)
  refine ⟨?_, ?_, ?_, ?_⟩
  · intro x
    refine Eq.trans ?_ (OUT_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 3 rfl _ x).symm
    refine Eq.trans (b := (fun w => k0_pay1 (k0_pay115 (k0_pay108 (XS (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)) (kernelRun0_A.sl.v743 c arg3 harg3 arg4 harg4 arg5 harg5 arg6 harg6 arg7 harg7 arg8 harg8 arg9 harg9 arg10 harg10 arg11 harg11 arg14 harg14 arg17 arg18 arg19 x1 x2 x3 x4 x5 x6 x7 x8 x9 x12) ((loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)).dx ((loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)).z) w)) (((loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)).nw 3) x) (by sl_kernel_rfl) ?_
    rw [hp]
    sl_kernel_rfl
  · intro x
    refine Eq.trans ?_ (OUT_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 2 rfl _ x).symm
    refine Eq.trans (b := k0_pay114 (k0_pay108 (XS (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)) (kernelRun0_A.sl.v743 c arg3 harg3 arg4 harg4 arg5 harg5 arg6 harg6 arg7 harg7 arg8 harg8 arg9 harg9 arg10 harg10 arg11 harg11 arg14 harg14 arg17 arg18 arg19 x1 x2 x3 x4 x5 x6 x7 x8 x9 x12) ((loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)).dx ((loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)).z) (((loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)).nw 2) x) (by sl_kernel_rfl) ?_
    rw [hp]
    sl_kernel_rfl
  · intro x
    refine Eq.trans ?_ (OUT_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 1 rfl _ x).symm
    refine Eq.trans (b := k0_pay113 (k0_pay110 (XS (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)) (kernelRun0_A.sl.v743 c arg3 harg3 arg4 harg4 arg5 harg5 arg6 harg6 arg7 harg7 arg8 harg8 arg9 harg9 arg10 harg10 arg11 harg11 arg14 harg14 arg17 arg18 arg19 x1 x2 x3 x4 x5 x6 x7 x8 x9 x12) ((loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)).dx ((loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)).z) (k0_pay111 (XS (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)) (kernelRun0_A.sl.v743 c arg3 harg3 arg4 harg4 arg5 harg5 arg6 harg6 arg7 harg7 arg8 harg8 arg9 harg9 arg10 harg10 arg11 harg11 arg14 harg14 arg17 arg18 arg19 x1 x2 x3 x4 x5 x6 x7 x8 x9 x12) ((loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)).dx ((loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)).z) k0_pay112 (((loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)).nw 1) x) (by sl_kernel_rfl) ?_
    rw [hp]
    sl_kernel_rfl
  · intro x
    refine Eq.trans ?_ (OUT_at (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12) 0 rfl _ x).symm
    refine Eq.trans (b := k0_pay109 (XS (loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)) (kernelRun0_A.sl.v743 c arg3 harg3 arg4 harg4 arg5 harg5 arg6 harg6 arg7 harg7 arg8 harg8 arg9 harg9 arg10 harg10 arg11 harg11 arg14 harg14 arg17 arg18 arg19 x1 x2 x3 x4 x5 x6 x7 x8 x9 x12) ((loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)).dx ((loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)).z (((loadA c arg2 harg2 arg3 harg3 arg4 harg4 arg5 harg5 arg6 harg6 arg7 harg7 arg8 harg8 arg9 harg9 arg10 harg10 arg11 harg11 arg12 harg12 arg13 harg13 arg14 harg14 arg17 arg18 x0 x1 x2 x3 x4 x5 x6 x7 x8 x9 x10 x11 x12)).nw 0) x) (by sl_kernel_rfl) ?_
    rw [hp]
    sl_kernel_rfl

end Cert.KernelIdeal.Step
end
end
-- ==== Proof.CaseB.lean ====
/-
The printed body's middle blocks, as the step on the loads.
-/
module
public import proofs.«01_k».proof.Proof.Loaded

@[expose] public section
set_option maxHeartbeats 8000000
noncomputable section
namespace Cert.KernelIdeal.Step
open Cert.KernelIdeal Cert.KernelIdeal.Gen Idealize.ShloMosaic Idealize.ShloMosaic.TcCoe Idealize.SL.Sem
variable {F : FTy → Type} [FloatOps F]

variable (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x1024 .f32) (harg4 : arg4.IsWhole)
  (arg5 : Memref sig .tc .vmem S128x128 .f32) (harg5 : arg5.IsWhole)
  (arg6 : Memref sig .tc .vmem S1x3x2048 .f32) (harg6 : arg6.IsWhole)
  (arg7 : Memref sig .tc .vmem S1x16x64x128 .f32) (harg7 : arg7.IsWhole)
  (arg8 : Memref sig .tc .vmem S4x2048 .f32) (harg8 : arg8.IsWhole)
  (arg9 : Memref sig .tc .vmem S1x2048 .f32) (harg9 : arg9.IsWhole)
  (arg10 : Memref sig .tc .vmem S1x16 .f32) (harg10 : arg10.IsWhole)
  (arg11 : Memref sig .tc .vmem S1x16 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S16x1024 .f32) (harg14 : arg14.IsWhole)
  (arg15 : Memref sig .tc .vmem S128x1024 .bf16) (harg15 : arg15.IsWhole)
  (arg16 : Memref sig .tc .vmem S1x16x64x128 .f32) (harg16 : arg16.IsWhole)
  (arg17 : Memref sig .tc .vmem S3x2048 .f32) (harg17 : arg17.IsWhole)
  (arg18 : Memref sig .tc .vmem S16x64x128 .f32) (harg18 : arg18.IsWhole)
  (arg19 : Memref sig .tc .vmem S128x1024 .f32) (harg19 : arg19.IsWhole)
variable (x0 : Vec F S128x1024 .f32) (x1 : Vec F S128x1024 .f32) (x2 : Vec F S128x1024 .f32) (x3 : Vec F S128x128 .f32) (x4 : Vec F S1x3x2048 .f32) (x5 : Vec F S1x16x64x128 .f32) (x6 : Vec F S4x2048 .f32) (x7 : Vec F S1x2048 .f32) (x8 : Vec F S1x16 .f32) (x9 : Vec F S1x16 .f32) (x10 : Vec F S1x1024 .f32) (x11 : Vec F S1x1024 .f32) (x12 : Vec F S16x1024 .f32)
variable (xs0 : Vec F S3x2048 .f32) (xs1 : Vec F S16x64x128 .f32)

/-- The values this case's body loads. -/
def loadB : Loads F := raw arg2 harg2 arg3 harg3 arg4 harg4 arg5 harg5 arg8 harg8 arg9 harg9 arg10 harg10 arg11 harg11 arg12 harg12 arg13 harg13 arg14 harg14 x0 x1 x2 x3 x6 x7 x8 x9 x10 x11 x12 (View.readAt (Elt F) arg17.view (Rect.unit (s := S3x2048) ![0, 0] S3x2048.size inb_S3x2048_S3x2048_0_0).toLoadRect (harg17.unread xs0)) (fun h => View.readAt (Elt F) arg18.view (Rect.unit (s := S16x64x128) ![h.val, 0, 0] S1x64x128.size (inbSt h)).toLoadRect (harg18.unread xs1))

/-- The values this case's body loads are those of its blocks. -/
theorem load_eqB : (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) = (blk x0 x1 x2 x3 x6 x7 x8 x9 x10 x11 x12 xs0 xs1) := by
  unfold loadB
  rw [← raw_eq arg2 harg2 arg3 harg3 arg4 harg4 arg5 harg5 arg8 harg8 arg9 harg9 arg10 harg10 arg11 harg11 arg12 harg12 arg13 harg13 arg14 harg14 x0 x1 x2 x3 x6 x7 x8 x9 x10 x11 x12]
  congr 1
  · exact ldw _ _ hz2 _ _
  · funext h
    exact ldp _ _ _ _

/-- The rows the heads post, read back whole. -/
theorem post_B : kernelRun0_B.sl.v743 c arg3 harg3 arg4 harg4 arg5 harg5 arg8 harg8 arg9 harg9 arg10 harg10 arg11 harg11 arg14 harg14 arg17 harg17 arg18 harg18 arg19 x1 x2 x3 x6 x7 x8 x9 x12 xs0 xs1 = YA (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) := by
  unfold kernelRun0_B.sl.v743
  have hcov := View.cover_of_tiledL (kernelRun0_B.sl.HS2_16 c arg3 harg3 arg4 harg4 arg5 harg5 arg8 harg8 arg9 harg9 arg10 harg10 arg11 harg11 arg14 harg14 arg17 harg17 arg18 harg18 x1 x2 x3 x6 x7 x8 x9 x12 xs0 xs1) S128x64.size (by sl_kernel_rfl)
  rw [View.readCov_eq_canon_ld _ _ _ hcov, View.ld_unit_zero hz2]
  funext y
  refine View.canon_apply_of_pieces (YA (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)) _ ?_ y (hcov y)
  unfold kernelRun0_B.sl.HS2_16
  simp only [List.forall_mem_cons, List.not_mem_nil, false_imp_iff, implies_true, and_true]
  refine ⟨?_, ?_, ?_, ?_, ?_, ?_, ?_, ?_, ?_, ?_, ?_, ?_, ?_, ?_, ?_, ?_⟩
  · exact fun x => Eq.trans (b := YH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 15 x) (by sl_kernel_rfl) (YA_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 15 rfl _ x).symm
  · exact fun x => Eq.trans (b := YH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 14 x) (by sl_kernel_rfl) (YA_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 14 rfl _ x).symm
  · exact fun x => Eq.trans (b := YH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 13 x) (by sl_kernel_rfl) (YA_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 13 rfl _ x).symm
  · exact fun x => Eq.trans (b := YH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 12 x) (by sl_kernel_rfl) (YA_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 12 rfl _ x).symm
  · exact fun x => Eq.trans (b := YH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 11 x) (by sl_kernel_rfl) (YA_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 11 rfl _ x).symm
  · exact fun x => Eq.trans (b := YH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 10 x) (by sl_kernel_rfl) (YA_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 10 rfl _ x).symm
  · exact fun x => Eq.trans (b := YH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 9 x) (by sl_kernel_rfl) (YA_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 9 rfl _ x).symm
  · exact fun x => Eq.trans (b := YH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 8 x) (by sl_kernel_rfl) (YA_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 8 rfl _ x).symm
  · exact fun x => Eq.trans (b := YH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 7 x) (by sl_kernel_rfl) (YA_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 7 rfl _ x).symm
  · exact fun x => Eq.trans (b := YH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 6 x) (by sl_kernel_rfl) (YA_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 6 rfl _ x).symm
  · exact fun x => Eq.trans (b := YH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 5 x) (by sl_kernel_rfl) (YA_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 5 rfl _ x).symm
  · exact fun x => Eq.trans (b := YH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 4 x) (by sl_kernel_rfl) (YA_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 4 rfl _ x).symm
  · exact fun x => Eq.trans (b := YH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 3 x) (by sl_kernel_rfl) (YA_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 3 rfl _ x).symm
  · exact fun x => Eq.trans (b := YH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 2 x) (by sl_kernel_rfl) (YA_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 2 rfl _ x).symm
  · exact fun x => Eq.trans (b := YH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 1 x) (by sl_kernel_rfl) (YA_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 1 rfl _ x).symm
  · exact fun x => Eq.trans (b := YH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 0 x) (by sl_kernel_rfl) (YA_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 0 rfl _ x).symm

/-- The state a step keeps. -/
theorem sout1_B (hc0 : ¬cond0_0 i) (hc1 : ¬cond0_1 i) : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 = ST (blk x0 x1 x2 x3 x6 x7 x8 x9 x10 x11 x12 xs0 xs1) := by
  rw [← load_eqB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1]
  funext y
  unfold sout0_B_1
  refine View.read_writes_apply_of_pieces _ _ (ST (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)) _ ?_ y (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 y)
  unfold kernelRun0_B
  simp only [List.forall_mem_cons, List.not_mem_nil, false_imp_iff, implies_true, and_true]
  refine ⟨?_, ?_, ?_, ?_, ?_, ?_, ?_, ?_, ?_, ?_, ?_, ?_, ?_, ?_, ?_, ?_⟩
  · exact fun x => Eq.trans (b := SH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 15 x) (by sl_kernel_rfl) (ST_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 15 rfl _ x).symm
  · exact fun x => Eq.trans (b := SH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 14 x) (by sl_kernel_rfl) (ST_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 14 rfl _ x).symm
  · exact fun x => Eq.trans (b := SH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 13 x) (by sl_kernel_rfl) (ST_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 13 rfl _ x).symm
  · exact fun x => Eq.trans (b := SH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 12 x) (by sl_kernel_rfl) (ST_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 12 rfl _ x).symm
  · exact fun x => Eq.trans (b := SH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 11 x) (by sl_kernel_rfl) (ST_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 11 rfl _ x).symm
  · exact fun x => Eq.trans (b := SH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 10 x) (by sl_kernel_rfl) (ST_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 10 rfl _ x).symm
  · exact fun x => Eq.trans (b := SH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 9 x) (by sl_kernel_rfl) (ST_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 9 rfl _ x).symm
  · exact fun x => Eq.trans (b := SH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 8 x) (by sl_kernel_rfl) (ST_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 8 rfl _ x).symm
  · exact fun x => Eq.trans (b := SH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 7 x) (by sl_kernel_rfl) (ST_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 7 rfl _ x).symm
  · exact fun x => Eq.trans (b := SH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 6 x) (by sl_kernel_rfl) (ST_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 6 rfl _ x).symm
  · exact fun x => Eq.trans (b := SH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 5 x) (by sl_kernel_rfl) (ST_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 5 rfl _ x).symm
  · exact fun x => Eq.trans (b := SH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 4 x) (by sl_kernel_rfl) (ST_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 4 rfl _ x).symm
  · exact fun x => Eq.trans (b := SH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 3 x) (by sl_kernel_rfl) (ST_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 3 rfl _ x).symm
  · exact fun x => Eq.trans (b := SH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 2 x) (by sl_kernel_rfl) (ST_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 2 rfl _ x).symm
  · exact fun x => Eq.trans (b := SH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 1 x) (by sl_kernel_rfl) (ST_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 1 rfl _ x).symm
  · exact fun x => Eq.trans (b := SH (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 0 x) (by sl_kernel_rfl) (ST_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 0 rfl _ x).symm

/-- The rows a step keeps. -/
theorem sout0_B (hc0 : ¬cond0_0 i) (hc1 : ¬cond0_1 i) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 = PV (blk x0 x1 x2 x3 x6 x7 x8 x9 x10 x11 x12 xs0 xs1) := by
  rw [← load_eqB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1]
  funext y
  unfold sout0_B_0
  refine View.read_writes_apply_of_pieces _ _ (PV (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)) _ ?_ y (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 y)
  unfold kernelRun0_B
  simp only [List.forall_mem_cons, List.not_mem_nil, false_imp_iff, implies_true, and_true]
  refine ⟨?_, ?_⟩
  · exact fun x => (PV_hi (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) _ x).symm
  · exact fun x => (PV_lo (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) _ x).symm

/-- The rows a step writes. -/
theorem out_B (hc0 : ¬cond0_0 i) (hc1 : ¬cond0_1 i) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 = OUT (blk x0 x1 x2 x3 x6 x7 x8 x9 x10 x11 x12 xs0 xs1) := by
  rw [← load_eqB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1]
  funext y
  unfold out0_B_13
  refine View.read_writes_apply_of_pieces _ _ (OUT (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)) _ ?_ y (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 y)
  unfold kernelRun0_B
  simp only [List.forall_mem_cons, List.not_mem_nil, false_imp_iff, implies_true, and_true]
  have hp := post_B (c := c) (arg2 := arg2) (harg2 := harg2) (arg3 := arg3) (harg3 := harg3) (arg4 := arg4) (harg4 := harg4) (arg5 := arg5) (harg5 := harg5) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg17 := arg17) (harg17 := harg17) (arg18 := arg18) (harg18 := harg18) (arg19 := arg19) (x0 := x0) (x1 := x1) (x2 := x2) (x3 := x3) (x6 := x6) (x7 := x7) (x8 := x8) (x9 := x9) (x10 := x10) (x11 := x11) (x12 := x12) (xs0 := xs0) (xs1 := xs1)
  refine ⟨?_, ?_, ?_, ?_⟩
  · intro x
    refine Eq.trans ?_ (OUT_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 3 rfl _ x).symm
    refine Eq.trans (b := (fun w => k0_pay1 (k0_pay115 (k0_pay108 (XS (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)) (kernelRun0_B.sl.v743 c arg3 harg3 arg4 harg4 arg5 harg5 arg8 harg8 arg9 harg9 arg10 harg10 arg11 harg11 arg14 harg14 arg17 harg17 arg18 harg18 arg19 x1 x2 x3 x6 x7 x8 x9 x12 xs0 xs1) ((loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).dx ((loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).z) w)) (((loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).nw 3) x) (by sl_kernel_rfl) ?_
    rw [hp]
    sl_kernel_rfl
  · intro x
    refine Eq.trans ?_ (OUT_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 2 rfl _ x).symm
    refine Eq.trans (b := k0_pay114 (k0_pay108 (XS (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)) (kernelRun0_B.sl.v743 c arg3 harg3 arg4 harg4 arg5 harg5 arg8 harg8 arg9 harg9 arg10 harg10 arg11 harg11 arg14 harg14 arg17 harg17 arg18 harg18 arg19 x1 x2 x3 x6 x7 x8 x9 x12 xs0 xs1) ((loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).dx ((loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).z) (((loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).nw 2) x) (by sl_kernel_rfl) ?_
    rw [hp]
    sl_kernel_rfl
  · intro x
    refine Eq.trans ?_ (OUT_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 1 rfl _ x).symm
    refine Eq.trans (b := k0_pay113 (k0_pay110 (XS (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)) (kernelRun0_B.sl.v743 c arg3 harg3 arg4 harg4 arg5 harg5 arg8 harg8 arg9 harg9 arg10 harg10 arg11 harg11 arg14 harg14 arg17 harg17 arg18 harg18 arg19 x1 x2 x3 x6 x7 x8 x9 x12 xs0 xs1) ((loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).dx ((loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).z) (k0_pay111 (XS (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)) (kernelRun0_B.sl.v743 c arg3 harg3 arg4 harg4 arg5 harg5 arg8 harg8 arg9 harg9 arg10 harg10 arg11 harg11 arg14 harg14 arg17 harg17 arg18 harg18 arg19 x1 x2 x3 x6 x7 x8 x9 x12 xs0 xs1) ((loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).dx ((loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).z) k0_pay112 (((loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).nw 1) x) (by sl_kernel_rfl) ?_
    rw [hp]
    sl_kernel_rfl
  · intro x
    refine Eq.trans ?_ (OUT_at (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 0 rfl _ x).symm
    refine Eq.trans (b := k0_pay109 (XS (loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)) (kernelRun0_B.sl.v743 c arg3 harg3 arg4 harg4 arg5 harg5 arg8 harg8 arg9 harg9 arg10 harg10 arg11 harg11 arg14 harg14 arg17 harg17 arg18 harg18 arg19 x1 x2 x3 x6 x7 x8 x9 x12 xs0 xs1) ((loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).dx ((loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).z (((loadB arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).nw 0) x) (by sl_kernel_rfl) ?_
    rw [hp]
    sl_kernel_rfl

end Cert.KernelIdeal.Step
end
end
-- ==== Proof.CaseC.lean ====
/-
The printed body's last block, as the step on the loads.
-/
module
public import proofs.«01_k».proof.Proof.Loaded

@[expose] public section
set_option maxHeartbeats 8000000
noncomputable section
namespace Cert.KernelIdeal.Step
open Cert.KernelIdeal Cert.KernelIdeal.Gen Idealize.ShloMosaic Idealize.ShloMosaic.TcCoe Idealize.SL.Sem
variable {F : FTy → Type} [FloatOps F]

variable (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x1024 .f32) (harg4 : arg4.IsWhole)
  (arg5 : Memref sig .tc .vmem S128x128 .f32) (harg5 : arg5.IsWhole)
  (arg6 : Memref sig .tc .vmem S1x3x2048 .f32) (harg6 : arg6.IsWhole)
  (arg7 : Memref sig .tc .vmem S1x16x64x128 .f32) (harg7 : arg7.IsWhole)
  (arg8 : Memref sig .tc .vmem S4x2048 .f32) (harg8 : arg8.IsWhole)
  (arg9 : Memref sig .tc .vmem S1x2048 .f32) (harg9 : arg9.IsWhole)
  (arg10 : Memref sig .tc .vmem S1x16 .f32) (harg10 : arg10.IsWhole)
  (arg11 : Memref sig .tc .vmem S1x16 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S16x1024 .f32) (harg14 : arg14.IsWhole)
  (arg15 : Memref sig .tc .vmem S128x1024 .bf16) (harg15 : arg15.IsWhole)
  (arg16 : Memref sig .tc .vmem S1x16x64x128 .f32) (harg16 : arg16.IsWhole)
  (arg17 : Memref sig .tc .vmem S3x2048 .f32) (harg17 : arg17.IsWhole)
  (arg18 : Memref sig .tc .vmem S16x64x128 .f32) (harg18 : arg18.IsWhole)
  (arg19 : Memref sig .tc .vmem S128x1024 .f32) (harg19 : arg19.IsWhole)
variable (x0 : Vec F S128x1024 .f32) (x1 : Vec F S128x1024 .f32) (x2 : Vec F S128x1024 .f32) (x3 : Vec F S128x128 .f32) (x4 : Vec F S1x3x2048 .f32) (x5 : Vec F S1x16x64x128 .f32) (x6 : Vec F S4x2048 .f32) (x7 : Vec F S1x2048 .f32) (x8 : Vec F S1x16 .f32) (x9 : Vec F S1x16 .f32) (x10 : Vec F S1x1024 .f32) (x11 : Vec F S1x1024 .f32) (x12 : Vec F S16x1024 .f32)
variable (xs0 : Vec F S3x2048 .f32) (xs1 : Vec F S16x64x128 .f32)

/-- The values this case's body loads. -/
def loadC : Loads F := raw arg2 harg2 arg3 harg3 arg4 harg4 arg5 harg5 arg8 harg8 arg9 harg9 arg10 harg10 arg11 harg11 arg12 harg12 arg13 harg13 arg14 harg14 x0 x1 x2 x3 x6 x7 x8 x9 x10 x11 x12 (View.readAt (Elt F) arg17.view (Rect.unit (s := S3x2048) ![0, 0] S3x2048.size inb_S3x2048_S3x2048_0_0).toLoadRect (harg17.unread xs0)) (fun h => View.readAt (Elt F) arg18.view (Rect.unit (s := S16x64x128) ![h.val, 0, 0] S1x64x128.size (inbSt h)).toLoadRect (harg18.unread xs1))

/-- The values this case's body loads are those of its blocks. -/
theorem load_eqC : (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) = (blk x0 x1 x2 x3 x6 x7 x8 x9 x10 x11 x12 xs0 xs1) := by
  unfold loadC
  rw [← raw_eq arg2 harg2 arg3 harg3 arg4 harg4 arg5 harg5 arg8 harg8 arg9 harg9 arg10 harg10 arg11 harg11 arg12 harg12 arg13 harg13 arg14 harg14 x0 x1 x2 x3 x6 x7 x8 x9 x10 x11 x12]
  congr 1
  · exact ldw _ _ hz2 _ _
  · funext h
    exact ldp _ _ _ _

/-- The rows the heads post, read back whole. -/
theorem post_C : kernelRun0_C.sl.v743 c arg3 harg3 arg4 harg4 arg5 harg5 arg8 harg8 arg9 harg9 arg10 harg10 arg11 harg11 arg14 harg14 arg17 harg17 arg18 harg18 arg19 x1 x2 x3 x6 x7 x8 x9 x12 xs0 xs1 = YA (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) := by
  unfold kernelRun0_C.sl.v743
  have hcov := View.cover_of_tiledL (kernelRun0_C.sl.HS2_16 c arg3 harg3 arg4 harg4 arg5 harg5 arg8 harg8 arg9 harg9 arg10 harg10 arg11 harg11 arg14 harg14 arg17 harg17 arg18 harg18 x1 x2 x3 x6 x7 x8 x9 x12 xs0 xs1) S128x64.size (by sl_kernel_rfl)
  rw [View.readCov_eq_canon_ld _ _ _ hcov, View.ld_unit_zero hz2]
  funext y
  refine View.canon_apply_of_pieces (YA (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)) _ ?_ y (hcov y)
  unfold kernelRun0_C.sl.HS2_16
  simp only [List.forall_mem_cons, List.not_mem_nil, false_imp_iff, implies_true, and_true]
  refine ⟨?_, ?_, ?_, ?_, ?_, ?_, ?_, ?_, ?_, ?_, ?_, ?_, ?_, ?_, ?_, ?_⟩
  · exact fun x => Eq.trans (b := YH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 15 x) (by sl_kernel_rfl) (YA_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 15 rfl _ x).symm
  · exact fun x => Eq.trans (b := YH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 14 x) (by sl_kernel_rfl) (YA_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 14 rfl _ x).symm
  · exact fun x => Eq.trans (b := YH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 13 x) (by sl_kernel_rfl) (YA_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 13 rfl _ x).symm
  · exact fun x => Eq.trans (b := YH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 12 x) (by sl_kernel_rfl) (YA_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 12 rfl _ x).symm
  · exact fun x => Eq.trans (b := YH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 11 x) (by sl_kernel_rfl) (YA_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 11 rfl _ x).symm
  · exact fun x => Eq.trans (b := YH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 10 x) (by sl_kernel_rfl) (YA_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 10 rfl _ x).symm
  · exact fun x => Eq.trans (b := YH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 9 x) (by sl_kernel_rfl) (YA_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 9 rfl _ x).symm
  · exact fun x => Eq.trans (b := YH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 8 x) (by sl_kernel_rfl) (YA_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 8 rfl _ x).symm
  · exact fun x => Eq.trans (b := YH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 7 x) (by sl_kernel_rfl) (YA_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 7 rfl _ x).symm
  · exact fun x => Eq.trans (b := YH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 6 x) (by sl_kernel_rfl) (YA_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 6 rfl _ x).symm
  · exact fun x => Eq.trans (b := YH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 5 x) (by sl_kernel_rfl) (YA_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 5 rfl _ x).symm
  · exact fun x => Eq.trans (b := YH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 4 x) (by sl_kernel_rfl) (YA_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 4 rfl _ x).symm
  · exact fun x => Eq.trans (b := YH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 3 x) (by sl_kernel_rfl) (YA_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 3 rfl _ x).symm
  · exact fun x => Eq.trans (b := YH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 2 x) (by sl_kernel_rfl) (YA_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 2 rfl _ x).symm
  · exact fun x => Eq.trans (b := YH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 1 x) (by sl_kernel_rfl) (YA_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 1 rfl _ x).symm
  · exact fun x => Eq.trans (b := YH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 0 x) (by sl_kernel_rfl) (YA_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 0 rfl _ x).symm

/-- The state a step keeps. -/
theorem sout1_C (hc0 : ¬cond0_0 i) (hc1 : cond0_1 i) : sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 = ST (blk x0 x1 x2 x3 x6 x7 x8 x9 x10 x11 x12 xs0 xs1) := by
  rw [← load_eqC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1]
  funext y
  unfold sout0_C_1
  refine View.read_writes_apply_of_pieces _ _ (ST (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)) _ ?_ y (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 y)
  unfold kernelRun0_C
  unfold kernelRun0_C.sl.HS1_16
  simp only [List.forall_mem_cons, List.not_mem_nil, false_imp_iff, implies_true, and_true]
  refine ⟨?_, ?_, ?_, ?_, ?_, ?_, ?_, ?_, ?_, ?_, ?_, ?_, ?_, ?_, ?_, ?_⟩
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 15 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 15 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 14 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 14 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 13 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 13 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 12 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 12 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 11 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 11 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 10 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 10 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 9 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 9 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 8 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 8 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 7 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 7 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 6 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 6 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 5 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 5 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 4 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 4 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 3 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 3 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 2 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 2 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 1 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 1 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 0 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 0 rfl _ x).symm

/-- The rows a step keeps. -/
theorem sout0_C (hc0 : ¬cond0_0 i) (hc1 : cond0_1 i) : sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 = PV (blk x0 x1 x2 x3 x6 x7 x8 x9 x10 x11 x12 xs0 xs1) := by
  rw [← load_eqC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1]
  funext y
  unfold sout0_C_0
  refine View.read_writes_apply_of_pieces _ _ (PV (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)) _ ?_ y (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 y)
  unfold kernelRun0_C
  simp only [List.forall_mem_cons, List.not_mem_nil, false_imp_iff, implies_true, and_true]
  refine ⟨?_, ?_⟩
  · exact fun x => (PV_hi (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) _ x).symm
  · exact fun x => (PV_lo (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) _ x).symm

/-- The last step's state, as it is written to the result. -/
theorem out14_C (hc0 : ¬cond0_0 i) (hc1 : cond0_1 i) : out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 = k0_pay2 (ST (blk x0 x1 x2 x3 x6 x7 x8 x9 x10 x11 x12 xs0 xs1)) := by
  rw [← load_eqC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1]
  unfold out0_C_14
  rw [View.read_writes_eq_canon _ _ _ (cover0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1)]
  unfold kernelRun0_C
  dsimp only
  rw [View.canon_unit_zero hz4]
  congr 1
  unfold kernelRun0_C.sl.v824
  have hcov := View.cover_of_tiledL (kernelRun0_C.sl.HS1_16 c arg3 harg3 arg4 harg4 arg5 harg5 arg8 harg8 arg9 harg9 arg10 harg10 arg11 harg11 arg14 harg14 arg17 harg17 arg18 harg18 x1 x2 x3 x6 x7 x8 x9 x12 xs0 xs1) S1x64x128.size (by sl_kernel_rfl)
  rw [View.readCov_eq_canon_ld _ _ _ hcov, View.ld_unit_zero hz3]
  funext y
  refine View.canon_apply_of_pieces (ST (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)) _ ?_ y (hcov y)
  unfold kernelRun0_C.sl.HS1_16
  simp only [List.forall_mem_cons, List.not_mem_nil, false_imp_iff, implies_true, and_true]
  refine ⟨?_, ?_, ?_, ?_, ?_, ?_, ?_, ?_, ?_, ?_, ?_, ?_, ?_, ?_, ?_, ?_⟩
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 15 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 15 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 14 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 14 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 13 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 13 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 12 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 12 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 11 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 11 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 10 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 10 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 9 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 9 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 8 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 8 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 7 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 7 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 6 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 6 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 5 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 5 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 4 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 4 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 3 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 3 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 2 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 2 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 1 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 1 rfl _ x).symm
  · exact fun x => Eq.trans (b := SH (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 0 x) (by sl_kernel_rfl) (ST_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 0 rfl _ x).symm

/-- The rows a step writes. -/
theorem out_C (hc0 : ¬cond0_0 i) (hc1 : cond0_1 i) : out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 = OUT (blk x0 x1 x2 x3 x6 x7 x8 x9 x10 x11 x12 xs0 xs1) := by
  rw [← load_eqC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1]
  funext y
  unfold out0_C_13
  refine View.read_writes_apply_of_pieces _ _ (OUT (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)) _ ?_ y (cover0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 y)
  unfold kernelRun0_C
  simp only [List.forall_mem_cons, List.not_mem_nil, false_imp_iff, implies_true, and_true]
  have hp := post_C (c := c) (arg2 := arg2) (harg2 := harg2) (arg3 := arg3) (harg3 := harg3) (arg4 := arg4) (harg4 := harg4) (arg5 := arg5) (harg5 := harg5) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg17 := arg17) (harg17 := harg17) (arg18 := arg18) (harg18 := harg18) (arg19 := arg19) (x0 := x0) (x1 := x1) (x2 := x2) (x3 := x3) (x6 := x6) (x7 := x7) (x8 := x8) (x9 := x9) (x10 := x10) (x11 := x11) (x12 := x12) (xs0 := xs0) (xs1 := xs1)
  refine ⟨?_, ?_, ?_, ?_⟩
  · intro x
    refine Eq.trans ?_ (OUT_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 3 rfl _ x).symm
    refine Eq.trans (b := (fun w => k0_pay1 (k0_pay115 (k0_pay108 (XS (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)) (kernelRun0_C.sl.v743 c arg3 harg3 arg4 harg4 arg5 harg5 arg8 harg8 arg9 harg9 arg10 harg10 arg11 harg11 arg14 harg14 arg17 harg17 arg18 harg18 arg19 x1 x2 x3 x6 x7 x8 x9 x12 xs0 xs1) ((loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).dx ((loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).z) w)) (((loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).nw 3) x) (by sl_kernel_rfl) ?_
    rw [hp]
    sl_kernel_rfl
  · intro x
    refine Eq.trans ?_ (OUT_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 2 rfl _ x).symm
    refine Eq.trans (b := k0_pay114 (k0_pay108 (XS (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)) (kernelRun0_C.sl.v743 c arg3 harg3 arg4 harg4 arg5 harg5 arg8 harg8 arg9 harg9 arg10 harg10 arg11 harg11 arg14 harg14 arg17 harg17 arg18 harg18 arg19 x1 x2 x3 x6 x7 x8 x9 x12 xs0 xs1) ((loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).dx ((loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).z) (((loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).nw 2) x) (by sl_kernel_rfl) ?_
    rw [hp]
    sl_kernel_rfl
  · intro x
    refine Eq.trans ?_ (OUT_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 1 rfl _ x).symm
    refine Eq.trans (b := k0_pay113 (k0_pay110 (XS (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)) (kernelRun0_C.sl.v743 c arg3 harg3 arg4 harg4 arg5 harg5 arg8 harg8 arg9 harg9 arg10 harg10 arg11 harg11 arg14 harg14 arg17 harg17 arg18 harg18 arg19 x1 x2 x3 x6 x7 x8 x9 x12 xs0 xs1) ((loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).dx ((loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).z) (k0_pay111 (XS (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)) (kernelRun0_C.sl.v743 c arg3 harg3 arg4 harg4 arg5 harg5 arg8 harg8 arg9 harg9 arg10 harg10 arg11 harg11 arg14 harg14 arg17 harg17 arg18 harg18 arg19 x1 x2 x3 x6 x7 x8 x9 x12 xs0 xs1) ((loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).dx ((loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).z) k0_pay112 (((loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).nw 1) x) (by sl_kernel_rfl) ?_
    rw [hp]
    sl_kernel_rfl
  · intro x
    refine Eq.trans ?_ (OUT_at (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1) 0 rfl _ x).symm
    refine Eq.trans (b := k0_pay109 (XS (loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)) (kernelRun0_C.sl.v743 c arg3 harg3 arg4 harg4 arg5 harg5 arg8 harg8 arg9 harg9 arg10 harg10 arg11 harg11 arg14 harg14 arg17 harg17 arg18 harg18 arg19 x1 x2 x3 x6 x7 x8 x9 x12 xs0 xs1) ((loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).dx ((loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).z (((loadC arg2 harg2 arg3 harg3 arg4 harg4 arg5 harg5 arg8 harg8 arg9 harg9 arg10 harg10 arg11 harg11 arg12 harg12 arg13 harg13 arg14 harg14 arg17 harg17 arg18 harg18 x0 x1 x2 x3 x6 x7 x8 x9 x10 x11 x12 xs0 xs1)).nw 0) x) (by sl_kernel_rfl) ?_
    rw [hp]
    sl_kernel_rfl

end Cert.KernelIdeal.Step
end
end
-- ==== Proof.Chain.lean ====
module

public import proofs.«01_k».proof.Proof.CaseA
public import proofs.«01_k».proof.Proof.CaseB
public import proofs.«01_k».proof.Proof.CaseC
public import proofs.«01_k».proof.Proof.Gen.KernelIdeal.Value

/-! The kernel's blocks in order: what each block of 128 rows loads, and that the outputs and the carried scratch after
each block are the step's on those loads. -/

@[expose] public section
set_option maxHeartbeats 2000000
noncomputable section

namespace Cert.KernelIdeal.Step
open Cert.KernelIdeal Cert.KernelIdeal.Gen Cert.KernelIdeal.Value Idealize.ShloMosaic Idealize.ShloMosaic.TcCoe Idealize.SL.Sem
variable {F : FTy → Type} [FloatOps F]
variable (m : (ℓ : Loc nD τ sig) → Buf (Elt F) ℓ) (c : Dev nD)

/-- What block `t` loads, over given carried rows and state. -/
def ldAt (t : Fin cfg0.N) (a : Vec F S3x2048 .f32) (s : Vec F S16x64x128 .f32) : Loads F :=
  blk (X0_0 m c t) (X0_1 m c t) (X0_2 m c t) (iblk m c 3 t) (iblk m c 6 t) (iblk m c 7 t) (iblk m c 8 t) (iblk m c 9 t)
    (iblk m c 10 t) (iblk m c 11 t) (iblk m c 12 t) a s

/-- What block `n` loads in the run: the first block starts from the two given arrays, a later one from what the block
before it kept. -/
def Lds : (n : Nat) → n < cfg0.N → Loads F
  | 0, h => ldAt m c ⟨0, h⟩ (k0_pay3 (iblk m c 4 ⟨0, h⟩)) (k0_pay4 (iblk m c 5 ⟨0, h⟩))
  | n + 1, h => ldAt m c ⟨n + 1, h⟩ (PV (Lds n (Nat.lt_of_succ_lt h))) (ST (Lds n (Nat.lt_of_succ_lt h)))

/-- One step of the run in case A. -/
theorem step_A (t : Fin cfg0.N) (acc : Vec F S128x1024 .bf16 × Vec F S1x16x64x128 .f32 × Vec F S3x2048 .f32 × Vec F S16x64x128 .f32) (h0 : t.val % 64 = 0) (h1 : ¬t.val % 64 = 63) :
    (stAt0 m c t.val t.isLt acc).1 = OUT (ldAt m c t (k0_pay3 (iblk m c 4 t)) (k0_pay4 (iblk m c 5 t))) ∧ (stAt0 m c t.val t.isLt acc).2.2.1 = PV (ldAt m c t (k0_pay3 (iblk m c 4 t)) (k0_pay4 (iblk m c 5 t)))
    ∧ (stAt0 m c t.val t.isLt acc).2.2.2 = ST (ldAt m c t (k0_pay3 (iblk m c 4 t)) (k0_pay4 (iblk m c 5 t))) := by
  rw [stAt0_A m c t acc h0 h1]
  dsimp only
  unfold ldAt
  exact ⟨out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) _ _, sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) _ _, sout1_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) _ _⟩

/-- One step of the run in case B. -/
theorem step_B (t : Fin cfg0.N) (acc : Vec F S128x1024 .bf16 × Vec F S1x16x64x128 .f32 × Vec F S3x2048 .f32 × Vec F S16x64x128 .f32) (h0 : ¬t.val % 64 = 0) (h1 : ¬t.val % 64 = 63) :
    (stAt0 m c t.val t.isLt acc).1 = OUT (ldAt m c t acc.2.2.1 acc.2.2.2) ∧ (stAt0 m c t.val t.isLt acc).2.2.1 = PV (ldAt m c t acc.2.2.1 acc.2.2.2)
    ∧ (stAt0 m c t.val t.isLt acc).2.2.2 = ST (ldAt m c t acc.2.2.1 acc.2.2.2) := by
  rw [stAt0_B m c t acc h0 h1]
  dsimp only
  unfold ldAt
  exact ⟨out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) acc.2.2.1 acc.2.2.2 _ _, sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) acc.2.2.1 acc.2.2.2 _ _, sout1_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) acc.2.2.1 acc.2.2.2 _ _⟩

/-- One step of the run in case C. -/
theorem step_C (t : Fin cfg0.N) (acc : Vec F S128x1024 .bf16 × Vec F S1x16x64x128 .f32 × Vec F S3x2048 .f32 × Vec F S16x64x128 .f32) (h0 : ¬t.val % 64 = 0) (h1 : t.val % 64 = 63) :
    (stAt0 m c t.val t.isLt acc).1 = OUT (ldAt m c t acc.2.2.1 acc.2.2.2) ∧ (stAt0 m c t.val t.isLt acc).2.2.1 = PV (ldAt m c t acc.2.2.1 acc.2.2.2)
    ∧ (stAt0 m c t.val t.isLt acc).2.2.2 = ST (ldAt m c t acc.2.2.1 acc.2.2.2)
    ∧ (stAt0 m c t.val t.isLt acc).2.1 = k0_pay2 (ST (ldAt m c t acc.2.2.1 acc.2.2.2)) := by
  rw [stAt0_C m c t acc h0 h1]
  dsimp only
  unfold ldAt
  exact ⟨out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) acc.2.2.1 acc.2.2.2 _ _, sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) acc.2.2.1 acc.2.2.2 _ _, sout1_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) acc.2.2.1 acc.2.2.2 _ _, out14_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) acc.2.2.1 acc.2.2.2 _ _⟩

/-- The outputs and the carried scratch after block `n`. -/
theorem outs (n : Nat) (h : n < cfg0.N) : (outsAt0 m c n h).1 = OUT (Lds m c n h)
    ∧ (outsAt0 m c n h).2.2.1 = PV (Lds m c n h) ∧ (outsAt0 m c n h).2.2.2 = ST (Lds m c n h)
    ∧ (n = 63 → (outsAt0 m c n h).2.1 = k0_pay2 (ST (Lds m c n h))) := by
  have hN : n < 64 := lt_of_lt_of_eq h N_0
  induction n with
  | zero =>
    rw [outsAt0_zero]
    obtain ⟨a, b, d⟩ := step_A m c ⟨0, h⟩ junk0 (Nat.zero_mod _) (by show ¬0 % 64 = 63; decide)
    exact ⟨a, b, d, fun e => absurd e (by decide)⟩
  | succ n ih =>
    obtain ⟨-, hb, hd, -⟩ := ih (Nat.lt_of_succ_lt h) (by omega)
    rw [outsAt0_succ]
    by_cases hc : n + 1 = 63
    · have := step_C m c ⟨n + 1, h⟩ (outsAt0 m c n (Nat.lt_of_succ_lt h)) (by show ¬(n + 1) % 64 = 0; omega) (by show (n + 1) % 64 = 63; omega)
      rw [hb, hd] at this
      exact ⟨this.1, this.2.1, this.2.2.1, fun _ => this.2.2.2⟩
    · have := step_B m c ⟨n + 1, h⟩ (outsAt0 m c n (Nat.lt_of_succ_lt h)) (by show ¬(n + 1) % 64 = 0; omega) (by show ¬(n + 1) % 64 = 63; omega)
      rw [hb, hd] at this
      exact ⟨this.1, this.2.1, this.2.2, fun e => absurd e hc⟩

/-- The rows written at the end of the run. -/
theorem G13_at (i : S8192x1024.Idx) (h : (i 0).val / 128 < cfg0.N) : G13 m c i = OUT (Lds m c ((i 0).val / 128) h) (loc13Of i) := by
  have h1 := (i 1).isLt
  have hp : pt13Of i = (i 0).val / 128 := by
    show 1 * ((i 0).val / 128 - 0) + 1 * ((i 1).val / 1024 - 0) = _
    simp at h1; omega
  unfold G13
  simp only [hp]
  rw [dif_pos h, ← outsAt0_sweep m c _ h, (outs m c _ h).1]

/-- The state written at the end of the run. -/
theorem G14_at : G14 m c = k0_pay2 (ST (Lds m c 63 (lt_of_lt_of_eq (by decide) N_0.symm))) := by
  rw [G14_last, ← outsAt0_sweep m c 63, (outs m c 63 _).2.2.2 rfl]

end Cert.KernelIdeal.Step
end
end
-- ==== Proof.Arr.lean ====
/-
Arrays read at natural numbers, and the recurrence's mathematics over such readings.
-/
module
public import Idealize.ShloMosaic.Lib.Pointwise
public import Idealize.ShloMosaic.PureOps.Ideal.Laws

@[expose] public section
noncomputable section
namespace Cert.Arr
open Idealize.ShloMosaic

/-- A row read at a natural number, zero past its end. -/
def N1 {a : Nat} (f : (⟨1, ![a]⟩ : Shape).Idx → EReal) (i : Nat) : EReal := if h : i < a then f (ix1 ⟨i, h⟩) else 0
/-- A matrix read at natural numbers, zero past its ends. -/
def N2 {a b : Nat} (f : (⟨2, ![a, b]⟩ : Shape).Idx → EReal) (i j : Nat) : EReal :=
  if h : i < a ∧ j < b then f (ix2 ⟨i, h.1⟩ ⟨j, h.2⟩) else 0

/-- A row at an index is its reading there. -/
theorem N1_at {a : Nat} (f : (⟨1, ![a]⟩ : Shape).Idx → EReal) (x : (⟨1, ![a]⟩ : Shape).Idx) (i : Nat) (h : (x 0).val = i) :
    f x = N1 f i := by
  have hx : i < a := h ▸ (x 0).isLt
  unfold N1; rw [dif_pos hx]; congr 1
  funext d; match d with | ⟨0, _⟩ => exact Fin.ext h
/-- A matrix at an index is its reading there. -/
theorem N2_at {a b : Nat} (f : (⟨2, ![a, b]⟩ : Shape).Idx → EReal) (x : (⟨2, ![a, b]⟩ : Shape).Idx) (i j : Nat)
    (h : (x 0).val = i) (h' : (x 1).val = j) : f x = N2 f i j := by
  have hx : i < a := h ▸ (x 0).isLt
  have hy : j < b := h' ▸ (x 1).isLt
  unfold N2; rw [dif_pos ⟨hx, hy⟩]; congr 1
  funext d; match d with | ⟨0, _⟩ => exact Fin.ext h | ⟨1, _⟩ => exact Fin.ext h'

/-- What the recurrence is given. -/
structure In where
  p : Nat → Nat → EReal
  cw : Nat → Nat → EReal
  cb : Nat → EReal
  db : Nat → EReal
  al : Nat → EReal
  ds : Nat → EReal
  nw : Nat → EReal

variable (I : In)

/-- The convolved columns with three rows of zeros before them. -/
def cpad (t j : Nat) : EReal := if t < 3 then 0 else I.p (t - 3) (1024 + j)
/-- The convolution at row `t`. -/
def cu (t j : Nat) : EReal :=
  I.cb j + cpad I (t + 3) j * I.cw 3 j + cpad I (t + 2) j * I.cw 2 j + cpad I (t + 1) j * I.cw 1 j + cpad I t j * I.cw 0 j
/-- The convolution after the silu. -/
def cv (t j : Nat) : EReal := cu I t j * Ideal.logistic (cu I t j)
/-- The softplus. -/
def sp (x : EReal) : EReal := max x 0 + Ideal.log1p (Ideal.exp (0 - max x (-x)))
/-- Head `h`'s time step at row `t`. -/
def dt (t h : Nat) : EReal := sp (I.p t (15424 + h) + I.db h)
/-- The logarithm of head `h`'s decay at row `t`. -/
def ad (t h : Nat) : EReal := dt I t h * (0 - Ideal.exp (I.al h))
/-- The sum of the logarithms of the first `l + 1` rows of block `n`. -/
def cs (n l h : Nat) : EReal := ∑ i ∈ Finset.range (l + 1), ad I (128 * n + i) h
/-- x times the time step, at a column of the heads' 1024. -/
def xd (t k : Nat) : EReal := cv I t k * dt I t (k / 64)
/-- B of head `h`'s group. -/
def bm (t h j : Nat) : EReal := cv I t (1024 + (128 * (h / 4) + j))
/-- C of head `h`'s group. -/
def cm (t h j : Nat) : EReal := cv I t (1024 + (512 + 128 * (h / 4) + j))
/-- The state block `n` starts from. -/
def st : Nat → Nat → Nat → EReal
  | 0, _, _ => 0
  | n + 1, k, j => st n k j * Ideal.exp (cs I n 127 (k / 64))
      + ∑ l : Fin 128, xd I (128 * n + l.val) k * Ideal.exp (cs I n 127 (k / 64) - cs I n l.val (k / 64))
          * bm I (128 * n + l.val) (k / 64) j
/-- What the rows of block `n` give one another. -/
def yd (n l k : Nat) : EReal :=
  ∑ s : Fin 128, (∑ j : Fin 128, cm I (128 * n + l) (k / 64) j.val * bm I (128 * n + s.val) (k / 64) j.val)
    * Ideal.exp (if s.val ≤ l then cs I n l (k / 64) - cs I n s.val (k / 64) else ⊥) * xd I (128 * n + s.val) k
/-- What the rows of block `n` read of the state. -/
def yo (n l k : Nat) : EReal :=
  (∑ j : Fin 128, cm I (128 * n + l) (k / 64) j.val * st I n k j.val) * Ideal.exp (cs I n l (k / 64))
/-- The gated rows. -/
def gy (n l k : Nat) : EReal :=
  (yd I n l k + yo I n l k + cv I (128 * n + l) k * I.ds (k / 64)) * (I.p (128 * n + l) k * Ideal.logistic (I.p (128 * n + l) k))
/-- A row of columns normed over its group's 256, times the norm's weight. -/
def normed (f : Nat → EReal) (w : EReal) (k : Nat) : EReal :=
  f k * Ideal.rsqrt (Ideal.div (∑ i : Fin 256, f (256 * (k / 256) + i.val) * f (256 * (k / 256) + i.val)) (Ideal.ofBits .f32 0x43800000#32)
    + Ideal.ofBits .f32 0x358637BD#32) * w
/-- The output rows. -/
def out (n l k : Nat) : EReal := normed (gy I n l) (I.nw k) k

end Cert.Arr
end
end
-- ==== Proof.Rd.lean ====
/-
What a block loads, as entries of the launch's arrays.
-/
module
public import proofs.«01_k».proof.Proof.Chain
public import proofs.«01_k».proof.Proof.Arr
public import Idealize.ShloMosaic.Lib.StableHlo.ReadAt

@[expose] public section
set_option maxHeartbeats 2000000
noncomputable section
namespace Cert.KernelIdeal.Step
open Cert.KernelIdeal Cert.KernelIdeal.Gen Cert.KernelIdeal.Value Idealize.ShloMosaic Idealize.ShloMosaic.TcCoe Idealize.SL.Sem Cert.Arr
variable (m : (ℓ : Loc nD τ sig) → Buf (Elt Ideal) ℓ) (c : Dev nD)

/-- The launch's arrays, read at natural numbers. -/
def inp : In where
  p := N2 (a := 9216) (b := 15488) (m ((c : Thread nD τ).loc main_arg0))
  cw := N2 (a := 4) (b := 2048) (m ((c : Thread nD τ).loc main_arg1))
  cb := N1 (a := 2048) (m ((c : Thread nD τ).loc main_arg2))
  db := N1 (a := 16) (m ((c : Thread nD τ).loc main_arg3))
  al := N1 (a := 16) (m ((c : Thread nD τ).loc main_arg4))
  ds := N1 (a := 16) (m ((c : Thread nD τ).loc main_arg5))
  nw := N1 (a := 1024) (m ((c : Thread nD τ).loc main_arg6))

/-- Block `t` of window 0: rows from `128 t` of the projection's columns from 0. -/
theorem X0_at (t : Fin cfg0.N) (x : S128x1024.Idx) : X0_0 m c t x = (inp m c).p (128 * t.val + (x 0).val) (0 + (x 1).val) := by
  have hi : win0_0.index t 0 = t.val ∧ win0_0.index t 1 = 0 := by revert t; decide +kernel
  unfold X0_0 Pipeline.Window.fill
  rw [dif_pos (moved0_0 t x)]
  unfold iblk
  rw [View.read_apply]
  show V m c main_arg0 _ = _
  rw [V_main_arg0]
  refine N2_at (a := 9216) (b := 15488) _ _ _ _ ?_ ?_
  · show win0_0.index t 0 * 128 + 1 * (x 0).val = _; rw [hi.1]; omega
  · show win0_0.index t 1 * 1024 + 1 * (x 1).val = _; rw [hi.2]; omega

/-- Block `t` of window 1: rows from `128 t` of the projection's columns from 1024. -/
theorem X1_at (t : Fin cfg0.N) (x : S128x1024.Idx) : X0_1 m c t x = (inp m c).p (128 * t.val + (x 0).val) (1024 + (x 1).val) := by
  have hi : win0_1.index t 0 = t.val ∧ win0_1.index t 1 = 1 := by revert t; decide +kernel
  unfold X0_1 Pipeline.Window.fill
  rw [dif_pos (moved0_1 t x)]
  unfold iblk
  rw [View.read_apply]
  show V m c main_arg0 _ = _
  rw [V_main_arg0]
  refine N2_at (a := 9216) (b := 15488) _ _ _ _ ?_ ?_
  · show win0_1.index t 0 * 128 + 1 * (x 0).val = _; rw [hi.1]; omega
  · show win0_1.index t 1 * 1024 + 1 * (x 1).val = _; rw [hi.2]; omega

/-- Block `t` of window 2: rows from `128 t` of the projection's columns from 2048. -/
theorem X2_at (t : Fin cfg0.N) (x : S128x1024.Idx) : X0_2 m c t x = (inp m c).p (128 * t.val + (x 0).val) (2048 + (x 1).val) := by
  have hi : win0_2.index t 0 = t.val ∧ win0_2.index t 1 = 2 := by revert t; decide +kernel
  unfold X0_2 Pipeline.Window.fill
  rw [dif_pos (moved0_2 t x)]
  unfold iblk
  rw [View.read_apply]
  show V m c main_arg0 _ = _
  rw [V_main_arg0]
  refine N2_at (a := 9216) (b := 15488) _ _ _ _ ?_ ?_
  · show win0_2.index t 0 * 128 + 1 * (x 0).val = _; rw [hi.1]; omega
  · show win0_2.index t 1 * 1024 + 1 * (x 1).val = _; rw [hi.2]; omega

/-- Block `t` of window 3: rows from `128 t` of the projection's last 128 columns. -/
theorem X3_at (t : Fin cfg0.N) (x : S128x128.Idx) : iblk m c 3 t x = (inp m c).p (128 * t.val + (x 0).val) (15360 + (x 1).val) := by
  have hi : win0_3.index t 0 = t.val ∧ win0_3.index t 1 = 120 := by revert t; decide +kernel
  unfold iblk
  rw [View.read_apply]
  show V m c main_arg0 _ = _
  rw [V_main_arg0]
  refine N2_at (a := 9216) (b := 15488) _ _ _ _ ?_ ?_
  · show win0_3.index t 0 * 128 + 1 * (x 0).val = _; rw [hi.1]; omega
  · show win0_3.index t 1 * 128 + 1 * (x 1).val = _; rw [hi.2]; omega

/-- The convolution's weights, whole. -/
theorem X6_at (t : Fin cfg0.N) (x : S4x2048.Idx) : iblk m c 6 t x = (inp m c).cw (x 0).val (x 1).val := by
  have hi : win0_6.index t 0 = 0 ∧ win0_6.index t 1 = 0 := by revert t; decide +kernel
  unfold iblk
  rw [View.read_apply]
  show V m c main_arg1 _ = _
  rw [V_main_arg1]
  refine N2_at (a := 4) (b := 2048) _ _ _ _ ?_ ?_
  · show win0_6.index t 0 * 4 + 1 * (x 0).val = _; rw [hi.1]; omega
  · show win0_6.index t 1 * 2048 + 1 * (x 1).val = _; rw [hi.2]; omega

/-- The convolution's bias, as a row. -/
theorem X7_at (t : Fin cfg0.N) (x : S1x2048.Idx) : iblk m c 7 t x = (inp m c).cb (x 1).val := by
  have hi : win0_7.index t 0 = 0 ∧ win0_7.index t 1 = 0 := by revert t; decide +kernel
  have h : V m c main_v8 x = (inp m c).cb (x 1).val := by
    after_reads_at
    exact N1_at (a := 2048) _ _ _ (by simp)
  unfold iblk
  rw [View.read_apply]
  show V m c main_v8 _ = _
  rw [← h]; congr 1
  funext a
  fin_cases a
  · apply Fin.ext; show win0_7.index t 0 * 1 + 1 * (x 0).val = (x 0).val; rw [hi.1]; omega
  · apply Fin.ext; show win0_7.index t 1 * 2048 + 1 * (x 1).val = (x 1).val; rw [hi.2]; omega

/-- The time steps' bias, as a row. -/
theorem X8_at (t : Fin cfg0.N) (x : S1x16.Idx) : iblk m c 8 t x = (inp m c).db (x 1).val := by
  have hi : win0_8.index t 0 = 0 ∧ win0_8.index t 1 = 0 := by revert t; decide +kernel
  have h : V m c main_v9 x = (inp m c).db (x 1).val := by
    after_reads_at
    exact N1_at (a := 16) _ _ _ (by simp)
  unfold iblk
  rw [View.read_apply]
  show V m c main_v9 _ = _
  rw [← h]; congr 1
  funext a
  fin_cases a
  · apply Fin.ext; show win0_8.index t 0 * 1 + 1 * (x 0).val = (x 0).val; rw [hi.1]; omega
  · apply Fin.ext; show win0_8.index t 1 * 16 + 1 * (x 1).val = (x 1).val; rw [hi.2]; omega

/-- The decays' logarithms, as a row. -/
theorem X9_at (t : Fin cfg0.N) (x : S1x16.Idx) : iblk m c 9 t x = (inp m c).al (x 1).val := by
  have hi : win0_9.index t 0 = 0 ∧ win0_9.index t 1 = 0 := by revert t; decide +kernel
  have h : V m c main_v10 x = (inp m c).al (x 1).val := by
    after_reads_at
    exact N1_at (a := 16) _ _ _ (by simp)
  unfold iblk
  rw [View.read_apply]
  show V m c main_v10 _ = _
  rw [← h]; congr 1
  funext a
  fin_cases a
  · apply Fin.ext; show win0_9.index t 0 * 1 + 1 * (x 0).val = (x 0).val; rw [hi.1]; omega
  · apply Fin.ext; show win0_9.index t 1 * 16 + 1 * (x 1).val = (x 1).val; rw [hi.2]; omega

/-- The skip weights, repeated over each head's columns. -/
theorem X10_at (t : Fin cfg0.N) (x : S1x1024.Idx) : iblk m c 10 t x = (inp m c).ds ((x 1).val / 64) := by
  have hi : win0_10.index t 0 = 0 ∧ win0_10.index t 1 = 0 := by revert t; decide +kernel
  have h : V m c main_v13 x = (inp m c).ds ((x 1).val / 64) := by
    after_reads_at
    exact N1_at (a := 16) _ _ _ (by simp)
  unfold iblk
  rw [View.read_apply]
  show V m c main_v13 _ = _
  rw [← h]; congr 1
  funext a
  fin_cases a
  · apply Fin.ext; show win0_10.index t 0 * 1 + 1 * (x 0).val = (x 0).val; rw [hi.1]; omega
  · apply Fin.ext; show win0_10.index t 1 * 1024 + 1 * (x 1).val = (x 1).val; rw [hi.2]; omega

/-- The norm's weights, as a row. -/
theorem X11_at (t : Fin cfg0.N) (x : S1x1024.Idx) : iblk m c 11 t x = (inp m c).nw (x 1).val := by
  have hi : win0_11.index t 0 = 0 ∧ win0_11.index t 1 = 0 := by revert t; decide +kernel
  have h : V m c main_v14 x = (inp m c).nw (x 1).val := by
    after_reads_at
    exact N1_at (a := 1024) _ _ _ (by simp)
  unfold iblk
  rw [View.read_apply]
  show V m c main_v14 _ = _
  rw [← h]; congr 1
  funext a
  fin_cases a
  · apply Fin.ext; show win0_11.index t 0 * 1 + 1 * (x 0).val = (x 0).val; rw [hi.1]; omega
  · apply Fin.ext; show win0_11.index t 1 * 1024 + 1 * (x 1).val = (x 1).val; rw [hi.2]; omega

/-- The identity, each column repeated 64 times. -/
theorem X12_at (t : Fin cfg0.N) (x : S16x1024.Idx) : iblk m c 12 t x = if (x 0).val = (x 1).val / 64 then (1 : EReal) else 0 := by
  have hi : win0_12.index t 0 = 0 ∧ win0_12.index t 1 = 0 := by revert t; decide +kernel
  have h : V m c main_v7 x = if (x 0).val = (x 1).val / 64 then (1 : EReal) else 0 := by
    after_reads_at
    have h0 : (x 0).val < 16 := (x 0).isLt
    have h1 : (x 1).val < 1024 := (x 1).isLt
    have e : (BitVec.ofNat 32 (x 0).val + 0#32 = BitVec.ofNat 32 ((x 1).val / 64)) ↔ (x 0).val = (x 1).val / 64 := by
      rw [BitVec.add_zero, ← BitVec.toNat_inj, BitVec.toNat_ofNat, BitVec.toNat_ofNat, Nat.mod_eq_of_lt (by omega), Nat.mod_eq_of_lt (by omega)]
    simp only [BitVec.add_zero] at e
    by_cases hx : (x 0).val = (x 1).val / 64
    · rw [if_pos hx]; simp [IntOp.cmpi, IntOp.addi, e.mpr hx, FloatOps.uitofp]
    · rw [if_neg hx]; simp [IntOp.cmpi, IntOp.addi, mt e.mp hx, FloatOps.uitofp]
  unfold iblk
  rw [View.read_apply]
  show V m c main_v7 _ = _
  rw [← h]; congr 1
  funext a
  fin_cases a
  · apply Fin.ext; show win0_12.index t 0 * 16 + 1 * (x 0).val = (x 0).val; rw [hi.1]; omega
  · apply Fin.ext; show win0_12.index t 1 * 1024 + 1 * (x 1).val = (x 1).val; rw [hi.2]; omega

variable (t : Fin cfg0.N) (a : Vec Ideal S3x2048 .f32) (s : Vec Ideal S16x64x128 .f32)

/-- The gate's rows. -/
theorem z_at (x) : (ldAt m c t a s).z x = (inp m c).p (128 * t.val + (x 0).val) (x 1).val :=
  (X0_at m c t x).trans (by rw [Nat.zero_add])
/-- The rows of x before the convolution. -/
theorem xr_at (x) : (ldAt m c t a s).xr x = (inp m c).p (128 * t.val + (x 0).val) (1024 + (x 1).val) := X1_at m c t x
/-- The rows of B and C before the convolution. -/
theorem br_at (x) : (ldAt m c t a s).br x = (inp m c).p (128 * t.val + (x 0).val) (2048 + (x 1).val) := X2_at m c t x
/-- The time steps before their bias. -/
theorem dr_at (x) : (ldAt m c t a s).dr x = (inp m c).p (128 * t.val + (x 0).val) (15424 + (x 1).val) := by
  refine (X3_at m c t _).trans ?_
  show (inp m c).p (128 * t.val + (0 + 1 * (x 0).val)) (15360 + (64 + 1 * (x 1).val)) = _
  congr 1 <;> omega
/-- The convolution's weights. -/
theorem cw_at (x) : (ldAt m c t a s).cw x = (inp m c).cw (x 0).val (x 1).val := X6_at m c t x
/-- Its bias on x; -/
theorem cl_at (x) : (ldAt m c t a s).cl x = (inp m c).cb (x 1).val := by
  refine (X7_at m c t _).trans ?_
  show (inp m c).cb (0 + 1 * (x 1).val) = _
  congr 1; omega
/-- on B and C. -/
theorem ch_at (x) : (ldAt m c t a s).ch x = (inp m c).cb (1024 + (x 1).val) := by
  refine (X7_at m c t _).trans ?_
  show (inp m c).cb (1024 + 1 * (x 1).val) = _
  congr 1; omega
/-- The time steps' bias. -/
theorem db_at (x) : (ldAt m c t a s).db x = (inp m c).db (x 1).val := X8_at m c t x
/-- The decays' logarithms. -/
theorem al_at (x) : (ldAt m c t a s).al x = (inp m c).al (x 1).val := X9_at m c t x
/-- The skip weights. -/
theorem dx_at (x) : (ldAt m c t a s).dx x = (inp m c).ds ((x 1).val / 64) := X10_at m c t x
/-- The norm's weights, group by group. -/
theorem nw_at (g : Fin 4) (x) : (ldAt m c t a s).nw g x = (inp m c).nw (256 * g.val + (x 1).val) := by
  refine (X11_at m c t _).trans ?_
  show (inp m c).nw (256 * g.val + 1 * (x 1).val) = _
  congr 1; omega
/-- The repeated identity. -/
theorem e_at (x) : (ldAt m c t a s).e x = if (x 0).val = (x 1).val / 64 then (1 : EReal) else 0 := X12_at m c t x
/-- The rows carried in. -/
theorem pv_at : (ldAt m c t a s).pv = a := rfl
/-- The state carried in. -/
theorem st_at (h : Fin 16) (x : S1x64x128.Idx) : (ldAt m c t a s).st h x = s (ix3 h (x 1) (x 2)) := by
  show s _ = _
  congr 1
  funext d
  have h0 : (x 0).val = 0 := by have := (x 0).isLt; simp at this; omega
  fin_cases d
  · apply Fin.ext; show h.val + 1 * (x 0).val = h.val; omega
  · apply Fin.ext; show 0 + 1 * (x 1).val = (x 1).val; omega
  · apply Fin.ext; show 0 + 1 * (x 2).val = (x 2).val; omega

/-- The rows before the first are zero. -/
theorem first_pv (x : S3x2048.Idx) : k0_pay3 (iblk m c 4 t) x = (0 : EReal) := by
  have h : ∀ y, V m c main_v15 y = (0 : EReal) := by intro y; after_reads_at
  have h' : ∀ y, iblk m c 4 t y = (0 : EReal) := by
    intro y; unfold iblk; rw [View.read_apply]; exact h _
  unfold k0_pay3 shapeCast
  exact h' _
/-- The state before the first block is zero. -/
theorem first_st (x : S16x64x128.Idx) : k0_pay4 (iblk m c 5 t) x = (0 : EReal) := by
  have h : ∀ y, V m c main_v16 y = (0 : EReal) := by intro y; after_reads_at
  have h' : ∀ y, iblk m c 5 t y = (0 : EReal) := by
    intro y; unfold iblk; rw [View.read_apply]; exact h _
  unfold k0_pay4 shapeCast
  exact h' _

end Cert.KernelIdeal.Step
end
end
-- ==== Proof.Words.lean ====
/-
Small numbers as machine words: comparisons, choices on a bit, and sums that a comparison cuts off.
-/
module
public import proofs.«01_k».proof.Proof.Arr

@[expose] public section
noncomputable section
namespace Cert.Arr
open Idealize.ShloMosaic

/-- A small number as a signed word. -/
theorem toInt_small (r : Nat) (hr : r < 2 ^ 31) : (BitVec.ofNat 32 r).toInt = r := by
  rw [BitVec.toInt_eq_toNat_of_lt] <;> rw [BitVec.toNat_ofNat, Nat.mod_eq_of_lt (by omega)]
  omega
/-- Comparing small numbers as signed words. -/
theorem sge_iff (r c : Nat) (hr : r < 2 ^ 31) (hc : c < 2 ^ 31) :
    IntOp.cmpi .sge (BitVec.ofNat 32 r) (BitVec.ofNat 32 c) = if c ≤ r then 1#1 else 0#1 := by
  by_cases h : c ≤ r <;> simp only [IntOp.cmpi, BitVec.sle, toInt_small r hr, toInt_small c hc, Nat.cast_le, h, if_true, if_false, decide_true, decide_false] <;> rfl
/-- The same, the other way round. -/
theorem sle_iff (r c : Nat) (hr : r < 2 ^ 31) (hc : c < 2 ^ 31) :
    IntOp.cmpi .sle (BitVec.ofNat 32 r) (BitVec.ofNat 32 c) = if r ≤ c then 1#1 else 0#1 := by
  by_cases h : r ≤ c <;> simp only [IntOp.cmpi, BitVec.sle, toInt_small r hr, toInt_small c hc, Nat.cast_le, h, if_true, if_false, decide_true, decide_false] <;> rfl
/-- Equality of small numbers as words. -/
theorem eq_iff (r c : Nat) (hr : r < 2 ^ 31) (hc : c < 2 ^ 31) :
    IntOp.cmpi .eq (BitVec.ofNat 32 r) (BitVec.ofNat 32 c) = if r = c then 1#1 else 0#1 := by
  have e : BitVec.ofNat 32 r = BitVec.ofNat 32 c ↔ r = c := by
    rw [← BitVec.toNat_inj, BitVec.toNat_ofNat, BitVec.toNat_ofNat, Nat.mod_eq_of_lt (by omega), Nat.mod_eq_of_lt (by omega)]
  by_cases h : r = c
  · subst h; simp [IntOp.cmpi]
  · rw [if_neg h]
    have e' : (BitVec.ofNat 32 r == BitVec.ofNat 32 c) = false := beq_eq_false_iff_ne.mpr (mt e.mp h)
    simp only [IntOp.cmpi, e']; rfl
/-- A choice on a proposition's bit. -/
theorem sel_bit {α : Type} (p : Prop) [Decidable p] (a b : α) : Scalar.select (if p then 1#1 else 0#1) a b = if p then a else b := by
  split_ifs <;> simp [Scalar.select]
/-- A choice on two small numbers being equal. -/
theorem sel_eq {α : Type} (r c : Nat) (hr : r < 2 ^ 31) (hc : c < 2 ^ 31) (a b : α) :
    Scalar.select (IntOp.cmpi .eq (BitVec.ofNat 32 r) (BitVec.ofNat 32 c)) a b = if r = c then a else b := by
  rw [eq_iff r c hr hc, sel_bit]
/-- A bit as a number. -/
theorem bit01 (p : Prop) [Decidable p] :
    FloatOps.sitofp (F := Ideal) .f32 (BitVec.setWidth 32 (if p then 1#1 else 0#1)) = if p then (1 : EReal) else 0 := by
  split_ifs <;> simp [FloatOps.sitofp]

/-- The word of minus infinity. -/
theorem neg_inf : Ideal.ofBits .f32 0xFF800000#32 = ⊥ := by simp [Ideal.ofBits, Ideal.ieee]
/-- A sum over the rows up to one. -/
theorem sum_le (f : Nat → EReal) (l : Nat) (hl : l < 128) :
    (∑ x : Fin 128, if x.val ≤ l then f x.val else 0) = ∑ i ∈ Finset.range (l + 1), f i := by
  rw [Fin.sum_univ_eq_sum_range (fun x => if x ≤ l then f x else 0) 128, ← Finset.sum_filter]
  congr 1
  ext x; simp; omega
/-- A sum against a repeated identity's column. -/
theorem sum_eye {n : Nat} (f : Fin n → EReal) (h : Nat) (hn : h < n) :
    (∑ x : Fin n, f x * if x.val = h then (1 : EReal) else 0) = f ⟨h, hn⟩ := by
  rw [Finset.sum_eq_single ⟨h, hn⟩]
  · simp
  · intro b _ hb; rw [if_neg (fun e => hb (Fin.ext e))]; simp
  · simp

/-- Comparing a small number less one with another. -/
theorem sgt_iff (r c : Nat) (hr : r < 2 ^ 30) (hc : c < 2 ^ 30) :
    IntOp.cmpi .sge (IntOp.addi (BitVec.ofNat 32 r) 4294967295#32) (BitVec.ofNat 32 c) = if c < r then 1#1 else 0#1 := by
  cases r with
  | zero =>
    have e : (IntOp.addi (BitVec.ofNat 32 0) 4294967295#32 : BitVec 32).toInt = -1 := by decide
    rw [if_neg (by omega)]
    unfold IntOp.cmpi
    simp only [BitVec.sle, e, toInt_small c (by omega)]
    rw [decide_eq_false (by omega)]; rfl
  | succ q =>
    have e : (IntOp.addi (BitVec.ofNat 32 (q + 1)) 4294967295#32 : BitVec 32) = BitVec.ofNat 32 q := by
      have e1 : (BitVec.ofNat 32 1 + 4294967295#32 : BitVec 32) = 0#32 := by decide
      unfold IntOp.addi
      rw [BitVec.ofNat_add, BitVec.add_assoc, e1, BitVec.add_zero]
    rw [e, sge_iff _ _ (by omega) (by omega)]
    by_cases h : c ≤ q
    · rw [if_pos h, if_pos (by omega)]
    · rw [if_neg h, if_neg (by omega)]
/-- Comparing a small number plus nothing with another. -/
theorem sge0_iff (r c : Nat) (hr : r < 2 ^ 31) (hc : c < 2 ^ 31) :
    IntOp.cmpi .sge (IntOp.addi (BitVec.ofNat 32 r) 0#32) (BitVec.ofNat 32 c) = if c ≤ r then 1#1 else 0#1 := by
  rw [← sge_iff r c hr hc]; congr 1; exact BitVec.add_zero _

end Cert.Arr
end
end
-- ==== Proof.At.lean ====
/-
The kernel's step at an index, over the launch's arrays.
-/
module
public import proofs.«01_k».proof.Proof.Rd
public import proofs.«01_k».proof.Proof.Words

@[expose] public section
set_option maxRecDepth 16384
set_option maxHeartbeats 1000000
noncomputable section
namespace Cert.KernelIdeal.Step
open Cert.KernelIdeal Cert.KernelIdeal.Gen Cert.KernelIdeal.Value Idealize.ShloMosaic Idealize.ShloMosaic.TcCoe Idealize.SL.Sem Cert.Arr

variable (m : (ℓ : Loc nD τ sig) → Buf (Elt Ideal) ℓ) (c : Dev nD)
variable (t : Fin cfg0.N) (a : Vec Ideal S3x2048 .f32) (s : Vec Ideal S16x64x128 .f32)

/-- The rows of x before the convolution, padded. -/
theorem xr_pad (x) : (ldAt m c t a s).xr x = cpad (inp m c) (128 * t.val + (x 0).val + 3) (x 1).val := by
  rw [xr_at]; unfold cpad; rw [if_neg (by omega)]; congr 1
/-- The rows of B and C before the convolution, padded. -/
theorem br_pad (x) : (ldAt m c t a s).br x = cpad (inp m c) (128 * t.val + (x 0).val + 3) (1024 + (x 1).val) := by
  rw [br_at]; unfold cpad; rw [if_neg (by omega)]; congr 1; omega

/-- Rows rolled by one, the first from the rows carried in: the padded rows one earlier; -/
theorem roll1 (f : Nat → EReal) (b r : Nat) (hr : r < 128) :
    (if r = 0 then f (b + 2) else f (b + (r + 128 - 1) % 128 + 3)) = f (b + r + 2) := by
  split_ifs <;> congr 1 <;> omega
/-- by two; -/
theorem roll2 (f : Nat → EReal) (b r : Nat) (hr : r < 128) :
    (if r = 1 then f (b + 2) else if r = 0 then f (b + 1) else f (b + (r + 128 - 2) % 128 + 3)) = f (b + r + 1) := by
  split_ifs <;> congr 1 <;> omega
/-- by three. -/
theorem roll3 (f : Nat → EReal) (b r : Nat) (hr : r < 128) :
    (if r = 2 then f (b + 2) else if r = 1 then f (b + 1) else if r = 0 then f (b + 0) else f (b + (r + 128 - 3) % 128 + 3)) = f (b + r) := by
  split_ifs <;> congr 1 <;> omega

section
variable (ha : ∀ x, a x = cpad (inp m c) (128 * t.val + (x 0).val) (x 1).val)
include ha

/-- The rows of x after the convolution and the silu. -/
theorem XS_at (r : Fin 128) (k : Fin 1024) : XS (ldAt m c t a s) (ix2 r k) = cv (inp m c) (128 * t.val + r.val) k.val := by
  have hr := r.isLt
  unfold XS cv cu
  pointwise [k0_pay9, k0_pay5, k0_pay6, k0_pay7, k0_pay8, iotaR, sel_eq _ _ (lt_trans hr (by decide)) (show 0 < 2 ^ 31 by decide),
    sel_eq _ _ (lt_trans hr (by decide)) (show 1 < 2 ^ 31 by decide), sel_eq _ _ (lt_trans hr (by decide)) (show 2 < 2 ^ 31 by decide)]
  simp only [pv_at, ha, xr_pad, cl_at, cw_at, ix2_0, ix2_1, show ((2 : Fin 3).val) = 2 from rfl, show ((1 : Fin 3).val) = 1 from rfl,
    show ((0 : Fin 3).val) = 0 from rfl, show ((0 : Fin 4).val) = 0 from rfl, show ((1 : Fin 4).val) = 1 from rfl,
    show ((2 : Fin 4).val) = 2 from rfl, show ((3 : Fin 4).val) = 3 from rfl]
  rw [roll1 (fun x => cpad (inp m c) x k.val) _ _ hr, roll2 (fun x => cpad (inp m c) x k.val) _ _ hr,
    roll3 (fun x => cpad (inp m c) x k.val) _ _ hr]

/-- The rows of B and C after the convolution and the silu. -/
theorem BC_at (r : Fin 128) (k : Fin 1024) : BC (ldAt m c t a s) (ix2 r k) = cv (inp m c) (128 * t.val + r.val) (1024 + k.val) := by
  have hr := r.isLt
  unfold BC cv cu
  pointwise [k0_pay18, k0_pay14, k0_pay15, k0_pay16, k0_pay17, k0_pay10, k0_pay11, k0_pay12, k0_pay13, iotaR, sel_eq _ _ (lt_trans hr (by decide)) (show 0 < 2 ^ 31 by decide),
    sel_eq _ _ (lt_trans hr (by decide)) (show 1 < 2 ^ 31 by decide), sel_eq _ _ (lt_trans hr (by decide)) (show 2 < 2 ^ 31 by decide)]
  simp only [pv_at, ha, br_pad, ch_at, cw_at, ix2_0, ix2_1, show ((2 : Fin 3).val) = 2 from rfl, show ((1 : Fin 3).val) = 1 from rfl,
    show ((0 : Fin 3).val) = 0 from rfl, show ((0 : Fin 4).val) = 0 from rfl, show ((1 : Fin 4).val) = 1 from rfl,
    show ((2 : Fin 4).val) = 2 from rfl, show ((3 : Fin 4).val) = 3 from rfl]
  rw [roll1 (fun x => cpad (inp m c) x (1024 + k.val)) _ _ hr, roll2 (fun x => cpad (inp m c) x (1024 + k.val)) _ _ hr,
    roll3 (fun x => cpad (inp m c) x (1024 + k.val)) _ _ hr]
end

/-- The time steps. -/
theorem DT_at (r : Fin 128) (h : Fin 16) : DT (ldAt m c t a s) (ix2 r h) = dt (inp m c) (128 * t.val + r.val) h.val := by
  unfold DT dt sp
  pointwise [k0_pay21, k0_pay20]
  rw [if_neg (not_not.mpr rfl)]
  simp only [dr_at, db_at, ix2_0, ix2_1, Ideal.absf_def]
/-- The logarithms of the decays. -/
theorem AD_at (r : Fin 128) (h : Fin 16) : AD (ldAt m c t a s) (ix2 r h) = ad (inp m c) (128 * t.val + r.val) h.val := by
  unfold ad
  rw [← DT_at m c t a s]
  unfold AD DT
  pointwise [k0_pay22]
  simp only [al_at, ix2_1]
/-- Their cumulative sums. -/
theorem CS_at (r : Fin 128) (h : Fin 16) : CS (ldAt m c t a s) (ix2 r h) = cs (inp m c) t.val r.val h.val := by
  have hr := r.isLt
  unfold CS cs
  pointwise [k0_pay24, k0_pay23, iotaI, iotaJ]
  rw [← sum_le (fun i => ad (inp m c) (128 * t.val + i) h.val) r.val hr]
  refine Finset.sum_congr rfl fun x _ => ?_
  rw [sge_iff _ _ (lt_trans hr (by decide)) (lt_trans x.isLt (by decide)), bit01, AD_at]
  split_ifs <;> simp
/-- Their cumulative sums, transposed. -/
theorem CST_at (h : Fin 16) (r : Fin 128) : CST (ldAt m c t a s) (ix2 h r) = cs (inp m c) t.val r.val h.val := by
  have hr := r.isLt
  unfold CST cs
  pointwise [k0_pay25, iotaI, iotaJ]
  rw [← sum_le (fun i => ad (inp m c) (128 * t.val + i) h.val) r.val hr]
  refine Finset.sum_congr rfl fun x _ => ?_
  rw [sle_iff _ _ (lt_trans x.isLt (by decide)) (lt_trans hr (by decide)), bit01]
  have e : (∑ y : Fin 16, FloatOps.sitofp (F := Ideal) .f32 (BitVec.setWidth 32 (IntOp.cmpi .eq (BitVec.ofNat 32 h.val) (BitVec.ofNat 32 y.val)))
      * AD (ldAt m c t a s) (ix2 x y)) = ad (inp m c) (128 * t.val + x.val) h.val := by
    rw [← AD_at m c t a s, ← sum_eye (fun y => AD (ldAt m c t a s) (ix2 x y)) h.val h.isLt]
    refine Finset.sum_congr rfl fun y _ => ?_
    rw [eq_iff _ _ (lt_trans h.isLt (by decide)) (lt_trans y.isLt (by decide)), bit01, mul_comm]
    simp only [eq_comm]
  refine (congrArg (· * _) e).trans ?_
  split_ifs <;> simp
/-- A product with the repeated identity reads the head's column. -/
theorem sumE (f : Fin 16 → EReal) (k : Fin 1024) : (∑ x : Fin 16, f x * (ldAt m c t a s).e (ix2 x k)) = f (hd k) := by
  simp only [e_at, ix2_0, ix2_1]
  exact sum_eye f (k.val / 64) (hd k).isLt
/-- The decays from the block's start. -/
theorem ECS_at (r : Fin 128) (k : Fin 1024) : ECS (ldAt m c t a s) (ix2 r k) = Ideal.exp (cs (inp m c) t.val r.val (k.val / 64)) := by
  unfold ECS
  pointwise [k0_pay27, k0_pay26]
  refine (sumE m c t a s _ k).trans ?_
  exact congrArg Ideal.exp (CS_at m c t a s r (hd k))

section
variable (ha : ∀ x, a x = cpad (inp m c) (128 * t.val + (x 0).val) (x 1).val)
include ha

/-- x times the time step. -/
theorem XD_at (r : Fin 128) (k : Fin 1024) : XD (ldAt m c t a s) (ix2 r k) = xd (inp m c) (128 * t.val + r.val) k.val := by
  unfold XD xd
  pointwise [k0_pay30, k0_pay28, k0_pay26]
  rw [XS_at m c t a s ha, sumE m c t a s _ k, DT_at]
  rfl
/-- x times the time step and the decay to the block's end. -/
theorem XDW_at (r : Fin 128) (k : Fin 1024) : XDW (ldAt m c t a s) (ix2 r k) = xd (inp m c) (128 * t.val + r.val) k.val
    * Ideal.exp (cs (inp m c) t.val 127 (k.val / 64) - cs (inp m c) t.val r.val (k.val / 64)) := by
  rw [← XD_at m c t a s ha r k]
  unfold XDW XD
  pointwise [k0_pay29, k0_pay30, k0_pay28, k0_pay26]
  congr 1
  refine (sumE m c t a s _ k).trans ?_
  exact congrArg Ideal.exp (congrArg₂ (· - ·) (CS_at m c t a s 127 (hd k)) (CS_at m c t a s r (hd k)))
end

section
variable (ha : ∀ x, a x = cpad (inp m c) (128 * t.val + (x 0).val) (x 1).val)
variable (hs : ∀ x, s x = st (inp m c) t.val (64 * (x 0).val + (x 1).val) (x 2).val)
include ha hs

/-- The rows of a head. -/
theorem YH_at (h : Fin 16) (r : Fin 128) (k : Fin 64) : YH (ldAt m c t a s) h (ix2 r k)
    = yd (inp m c) t.val r.val (64 * h.val + k.val) + yo (inp m c) t.val r.val (64 * h.val + k.val) := by
  have hr := r.isLt
  have hk := k.isLt
  have hh : (64 * h.val + k.val) / 64 = h.val := by omega
  unfold YH yd yo bm cm
  pointwise [headY, headYd, headYo, headL, headC, headB, k0_pay23, k0_pay31, BCB, iotaI, iotaJ]
  simp only [BC_at m c t a s ha, XD_at m c t a s ha, CS_at, CST_at, ECS_at, st_at, hs, ix3_0, ix3_1, ix3_2, hh]
  congr 1
  refine Finset.sum_congr rfl fun x _ => ?_
  rw [sge_iff _ _ (lt_trans hr (by decide)) (lt_trans x.isLt (by decide)), sel_bit, neg_inf]

/-- The state of a head after the block. -/
theorem SH_at (h : Fin 16) (k : Fin 64) (j : Fin 128) : SH (ldAt m c t a s) h (ix3 0 k j)
    = st (inp m c) (t.val + 1) (64 * h.val + k.val) j.val := by
  have hk := k.isLt
  have hh : (64 * h.val + k.val) / 64 = h.val := by omega
  unfold SH st bm
  pointwise [headS, headB, k0_pay31, BCB]
  simp only [BC_at m c t a s ha, XDW_at m c t a s ha, CST_at, st_at, hs, ix3_0, ix3_1, ix3_2, hh]
  rfl

/-- The gated rows. -/
theorem GY_at (r : Fin 128) (k : Fin 1024) : GY (ldAt m c t a s) (ix2 r k) = gy (inp m c) t.val r.val k.val := by
  have e : 64 * (hd k).val + (hc k).val = k.val := by show 64 * (k.val / 64) + k.val % 64 = k.val; omega
  unfold GY gy
  pointwise [k0_pay108, YA]
  simp only [XS_at m c t a s ha, YH_at m c t a s ha hs, e, dx_at, z_at, ix2_0, ix2_1]

/-- The output rows. -/
theorem OUT_ix (r : Fin 128) (k : Fin 1024) : OUT (ldAt m c t a s) (ix2 r k) = out (inp m c) t.val r.val k.val := by
  unfold OUT out normed NG
  pointwise
  have e : 256 * (gr k).val + (gc k).val = k.val := by show 256 * (k.val / 256) + k.val % 256 = k.val; omega
  simp only [GY_at m c t a s ha hs, nw_at, ix2_0, ix2_1, e]
  rfl

end
/-- What block `n` loads holds the padded rows before it and the state it starts from. -/
theorem Lds_at (n : Nat) (h : n < cfg0.N) : ∃ a s, Lds m c n h = ldAt m c ⟨n, h⟩ a s
    ∧ (∀ x, a x = cpad (inp m c) (128 * n + (x 0).val) (x 1).val)
    ∧ (∀ x, s x = st (inp m c) n (64 * (x 0).val + (x 1).val) (x 2).val) := by
  induction n with
  | zero =>
    refine ⟨_, _, rfl, fun x => ?_, fun x => ?_⟩
    · rw [first_pv]; have h0 : (x 0).val < 3 := (x 0).isLt
      unfold cpad; rw [if_pos (by omega)]
    · rw [first_st]; rfl
  | succ n ih =>
    obtain ⟨a, s, e, ha, hs⟩ := ih (Nat.lt_of_succ_lt h)
    refine ⟨_, _, rfl, fun x => ?_, fun x => ?_⟩
    · rw [e]; unfold PV
      split_ifs with h1
      · rw [xr_pad]; congr 1; show 128 * n + (125 + (x 0).val) + 3 = 128 * (n + 1) + (x 0).val; omega
      · rw [br_pad]; congr 1
        · show 128 * n + (125 + (x 0).val) + 3 = 128 * (n + 1) + (x 0).val; omega
        · show 1024 + ((x 1).val - 1024) = (x 1).val; omega
    · rw [e]; unfold ST; exact SH_at m c ⟨n, _⟩ a s ha hs (x 0) (x 1) (x 2)

/-- The kernel's rows. -/
theorem rows_at (i : S8192x1024.Idx) : G13 m c i = out (inp m c) ((i 0).val / 128) ((i 0).val % 128) (i 1).val := by
  have h0 : (i 0).val < 8192 := (i 0).isLt
  have h1 : (i 1).val < 1024 := (i 1).isLt
  have h : (i 0).val / 128 < cfg0.N := by rw [show cfg0.N = 64 from N_0]; omega
  rw [G13_at m c i h]
  obtain ⟨a, s, e, ha, hs⟩ := Lds_at m c _ h
  rw [e]
  have ei : loc13Of i = ix2 ⟨(i 0).val % 128, by omega⟩ (i 1) := by
    funext d
    match d with
    | ⟨0, _⟩ => rfl
    | ⟨1, _⟩ => exact Fin.ext (Nat.mod_eq_of_lt h1)
  rw [ei]
  exact OUT_ix m c ⟨_, h⟩ a s ha hs _ _

/-- The kernel's final state. -/
theorem final_at (i : S1x16x64x128.Idx) : G14 m c i = st (inp m c) 64 (64 * (i 1).val + (i 2).val) (i 3).val := by
  have h : 63 < cfg0.N := lt_of_lt_of_eq (by decide) N_0.symm
  rw [G14_at m c]
  obtain ⟨a, s, e, ha, hs⟩ := Lds_at m c 63 h
  rw [e]
  idx_vars i
  pointwise [k0_pay2]
  unfold ST
  exact SH_at m c ⟨63, h⟩ a s ha hs _ _ _

end Cert.KernelIdeal.Step
end
end
-- ==== Proof.Recur.lean ====
/- Facts about extended reals that join the tile-by-tile recurrence to its closed form: softplus and
the decay are real, a sum of decays is a difference of prefix sums, and the carried state is a
weighted sum of the tiles' contributions. -/
module

public import proofs.«01_k».proof.Proof.Words

@[expose] public section

noncomputable section

namespace Cert.Recur

open Idealize.ShloMosaic Cert.Arr

/-- The softplus of a value below infinity is a nonnegative real. -/
theorem sp_real (x : EReal) (h : x < ⊤) : ∃ r : ℝ, 0 ≤ r ∧ sp x = (r : EReal) := by
  unfold sp
  induction x with
  | bot =>
    refine ⟨0, le_refl _, ?_⟩
    have e : Ideal.log1p 0 = 0 := by
      unfold Ideal.log1p
      rw [add_zero, ← EReal.coe_one]
      show (if (1 : ℝ) ≤ 0 then _ else _) = _
      rw [if_neg (by norm_num), Real.log_one, EReal.coe_zero]
    simp [e]
  | top => exact absurd h (lt_irrefl _)
  | coe r =>
    have e1 : (max (r : EReal) (-(r : EReal))) = ((max r (-r) : ℝ) : EReal) := by
      rw [← EReal.coe_neg]; exact (EReal.coe_strictMono.monotone.map_max).symm
    have e2 : (max (r : EReal) 0) = ((max r 0 : ℝ) : EReal) := by
      rw [← EReal.coe_zero]; exact (EReal.coe_strictMono.monotone.map_max).symm
    have e3 : (0 : EReal) - ((max r (-r) : ℝ) : EReal) = ((0 - max r (-r) : ℝ) : EReal) := by
      rw [EReal.coe_sub, EReal.coe_zero]
    have hp : 0 < Real.exp (0 - max r (-r)) := Real.exp_pos _
    have e4 : Ideal.log1p ((Real.exp (0 - max r (-r)) : ℝ) : EReal)
        = ((Real.log (1 + Real.exp (0 - max r (-r))) : ℝ) : EReal) := by
      unfold Ideal.log1p
      rw [← EReal.coe_one, ← EReal.coe_add]
      show (if 1 + Real.exp (0 - max r (-r)) ≤ 0 then _ else _) = _
      rw [if_neg (by linarith)]
    rw [e1, e2, e3, Ideal.exp_coe, e4, ← EReal.coe_add]
    exact ⟨_, add_nonneg (le_max_right _ _) (Real.log_nonneg (by linarith)), rfl⟩

/-- Minus the exponential of a value below infinity is a real at most zero. -/
theorem negexp_real (x : EReal) (h : x < ⊤) : ∃ r : ℝ, r ≤ 0 ∧ 0 - Ideal.exp x = (r : EReal) := by
  induction x with
  | bot => exact ⟨0, le_refl _, by simp⟩
  | top => exact absurd h (lt_irrefl _)
  | coe r =>
    refine ⟨0 - Real.exp r, by linarith [Real.exp_pos r], ?_⟩
    rw [Ideal.exp_coe, EReal.coe_sub, EReal.coe_zero]

/-- The log-decay is a real at most zero. -/
theorem ad_real (I : In) (t h : ℕ) (h1 : I.p t (15424 + h) + I.db h < ⊤) (h2 : I.al h < ⊤) :
    ∃ r : ℝ, r ≤ 0 ∧ ad I t h = (r : EReal) := by
  obtain ⟨a, ha, ea⟩ := sp_real _ h1
  obtain ⟨b, hb, eb⟩ := negexp_real _ h2
  refine ⟨a * b, mul_nonpos_of_nonneg_of_nonpos ha hb, ?_⟩
  unfold ad dt
  rw [ea, eb, EReal.coe_mul]

/-- A finite sum of reals, read among the extended reals. -/
theorem coe_sum {ι : Type} (s : Finset ι) (a : ι → ℝ) :
    (∑ i ∈ s, (a i : EReal)) = ((∑ i ∈ s, a i : ℝ) : EReal) := by
  classical
  induction s using Finset.induction with
  | empty => simp
  | insert i s hi ih => rw [Finset.sum_insert hi, Finset.sum_insert hi, ih, EReal.coe_add]

/-- Multiplying by a nonnegative real goes through a sum. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction with
  | empty => simp
  | insert i s hi ih =>
    rw [Finset.sum_insert hi, Finset.sum_insert hi, ← ih]
    exact EReal.right_distrib_of_nonneg_of_ne_top (by exact_mod_cast hr) (EReal.coe_ne_top _) _ _

/-- A sum over the positions after `s` up to `l`. -/
def seg (A : ℕ → EReal) (l s : ℕ) : EReal :=
  ∑ i ∈ Finset.range (l + 1), if s < i then A i else 0

/-- The sum over an interval is the difference of two prefix sums. -/
theorem seg_sub (A : ℕ → EReal) (l s : ℕ) (hs : s ≤ l)
    (hA : ∀ i, i ≤ l → ∃ r : ℝ, A i = (r : EReal)) :
    seg A l s = (∑ i ∈ Finset.range (l + 1), A i) - ∑ i ∈ Finset.range (s + 1), A i := by
  choose! a ha using hA
  have e1 : (∑ i ∈ Finset.range (l + 1), A i) = ((∑ i ∈ Finset.range (l + 1), a i : ℝ) : EReal) := by
    rw [← coe_sum]
    exact Finset.sum_congr rfl fun i hi => ha i (by have := Finset.mem_range.1 hi; omega)
  have e2 : (∑ i ∈ Finset.range (s + 1), A i) = ((∑ i ∈ Finset.range (s + 1), a i : ℝ) : EReal) := by
    rw [← coe_sum]
    exact Finset.sum_congr rfl fun i hi => ha i (by have := Finset.mem_range.1 hi; omega)
  have e3 : seg A l s = ((∑ i ∈ Finset.range (l + 1), if s < i then a i else 0 : ℝ) : EReal) := by
    unfold seg
    rw [← coe_sum]
    refine Finset.sum_congr rfl fun i hi => ?_
    split
    · exact ha i (by have := Finset.mem_range.1 hi; omega)
    · simp
  rw [e1, e2, e3, ← EReal.coe_sub]
  congr 1
  rw [← Finset.sum_filter, eq_sub_iff_add_eq, ← Finset.sum_filter_add_sum_filter_not (Finset.range (l + 1)) (fun i => s < i) a]
  congr 1
  refine Finset.sum_congr ?_ fun _ _ => rfl
  ext i; simp only [Finset.mem_filter, Finset.mem_range]; omega

/-- The interval sum is a real. -/
theorem seg_real (A : ℕ → EReal) (l s : ℕ) (hA : ∀ i, i ≤ l → ∃ r : ℝ, A i = (r : EReal)) :
    ∃ r : ℝ, seg A l s = (r : EReal) := by
  choose! a ha using hA
  refine ⟨∑ i ∈ Finset.range (l + 1), if s < i then a i else 0, ?_⟩
  unfold seg
  rw [← coe_sum]
  refine Finset.sum_congr rfl fun i hi => ?_
  split
  · exact ha i (by have := Finset.mem_range.1 hi; omega)
  · simp

/-- The weight of tile `c` in the state after tile `z`. -/
def wt (T : ℕ → EReal) (z c : ℕ) : EReal := Ideal.exp (if c ≤ z then seg T z c else ⊥)

theorem wt_lt (T : ℕ → EReal) (z c : ℕ) (h : z < c) : wt T z c = 0 := by
  unfold wt; rw [if_neg (by omega)]; rfl

theorem wt_self (T : ℕ → EReal) (z : ℕ) : wt T z z = 1 := by
  unfold wt seg
  rw [if_pos (le_refl _), Finset.sum_eq_zero]
  · rw [← EReal.coe_zero, Ideal.exp_coe, Real.exp_zero, EReal.coe_one]
  · intro i hi; rw [if_neg (by have := Finset.mem_range.1 hi; omega)]

/-- One more tile multiplies a weight by that tile's decay. -/
theorem wt_succ (T : ℕ → EReal) (z c : ℕ) (hc : c ≠ z + 1)
    (hT : ∀ i, i ≤ z + 1 → ∃ r : ℝ, T i = (r : EReal)) :
    wt T (z + 1) c = wt T z c * Ideal.exp (T (z + 1)) := by
  by_cases h : c ≤ z
  · unfold wt
    rw [if_pos h, if_pos (by omega)]
    obtain ⟨r, hr⟩ := seg_real T z c fun i hi => hT i (by omega)
    obtain ⟨q, hq⟩ := hT (z + 1) (le_refl _)
    have : seg T (z + 1) c = seg T z c + T (z + 1) := by
      unfold seg
      rw [Finset.sum_range_succ, if_pos (by omega)]
    rw [this, hr, hq, ← EReal.coe_add, Ideal.exp_coe, Ideal.exp_coe, Ideal.exp_coe, Real.exp_add, EReal.coe_mul]
  · rw [wt_lt T _ _ (by omega), wt_lt T _ _ (by omega), zero_mul]

/-- A carried value that is multiplied by a decay and added to at every step is the weighted sum of
what was added. -/
theorem unroll (N : ℕ) (u S T : ℕ → EReal) (h0 : S 0 = 0)
    (hs : ∀ n, n < N → S (n + 1) = S n * Ideal.exp (T (n + 1)) + u n)
    (hT : ∀ i, i ≤ N → ∃ r : ℝ, T i = (r : EReal)) (z : ℕ) (hz : z ≤ N) :
    S z = ∑ c : Fin N, u c.val * wt T z (c.val + 1) := by
  induction z with
  | zero =>
    rw [h0, Finset.sum_eq_zero]
    intro c _; rw [wt_lt _ _ _ (by omega), mul_zero]
  | succ z ih =>
    obtain ⟨q, hq⟩ := hT (z + 1) hz
    rw [hs z (by omega), ih (by omega), hq, Ideal.exp_coe, sum_mul_real _ _ _ (Real.exp_pos q).le]
    have e : u z = ∑ c : Fin N, if c = (⟨z, by omega⟩ : Fin N) then u c.val else 0 := by
      rw [Finset.sum_ite_eq' Finset.univ]; simp
    conv_lhs => rw [e]
    rw [← Finset.sum_add_distrib]
    refine Finset.sum_congr rfl fun c _ => ?_
    by_cases hc : c = (⟨z, by omega⟩ : Fin N)
    · subst hc
      rw [if_pos rfl, wt_lt _ _ _ (by simp), wt_self, mul_zero, zero_mul, zero_add, mul_one]
    · have hne : c.val ≠ z := fun h => hc (Fin.ext h)
      rw [if_neg hc, add_zero, wt_succ T z (c.val + 1) (by omega) fun i hi => hT i (by omega), hq,
        Ideal.exp_coe, mul_assoc]

/-- A window of `N` positions ending at `l`, summed, is the prefix sum. -/
theorem window_sum (N l : ℕ) (hl : l < N) (f : ℕ → EReal) :
    (∑ k : Fin N, if N - 1 ≤ l + k.val then f (l + k.val - (N - 1)) else 0)
      = ∑ i ∈ Finset.range (l + 1), f i := by
  rw [Fin.sum_univ_eq_sum_range (fun k => if N - 1 ≤ l + k then f (l + k - (N - 1)) else 0) N,
    ← Finset.sum_filter]
  refine Finset.sum_bij' (fun k _ => l + k - (N - 1)) (fun i _ => i + (N - 1) - l) ?_ ?_ ?_ ?_ ?_ <;>
    intro a ha <;> simp only [Finset.mem_filter, Finset.mem_range] at ha ⊢ <;> omega

end Cert.Recur

end

end
-- ==== Proof.Cumsum.lean ====
/- A running sum, written as a sliding window padded in front, is the prefix sum along its axis. -/
module

public import proofs.«01_k».proof.Proof.Recur

@[expose] public section

noncomputable section

namespace Cert.Recur

open Idealize.ShloMosaic Cert.Arr

/-- Adding up a list's terms from the left is the sum over its positions. -/
theorem foldl_fin (n : ℕ) (F : Fin n → EReal) :
    (List.finRange n).foldl (fun r k => r + F k) 0 = ∑ k, F k := by
  rw [Fin.sum_univ_def, List.sum_eq_foldl, List.foldl_map]

/-- A window's sum is the sum over the window's positions, a position in the padding giving zero. -/
theorem window_idx {s t : Shape} (window strides lo hi : Fin s.rank → Nat)
    (h : s.ReduceWindows window strides lo hi t) (x : s.Idx → EReal) (j : t.Idx) :
    Ideal.hostReduceWindowAdd window strides lo hi h x 0 j
      = ∑ w : (⟨s.rank, window⟩ : Shape).Idx,
          (let p : Fin s.rank → Nat := fun a => (j (a.cast h.1.symm)).val * strides a + (w a).val
           if hin : ∀ a, lo a ≤ p a ∧ p a - lo a < s.size a then x (fun a => ⟨p a - lo a, (hin a).2⟩) else 0) := by
  rw [← Equiv.sum_comp (⟨s.rank, window⟩ : Shape).rowMajor.symm, ← foldl_fin]
  unfold Ideal.hostReduceWindowAdd Host.reduceWindow
  dsimp only
  congr 1
  funext r n
  congr 1
  split <;> rfl

/-- The running sum along the last of three axes. -/
theorem cumsum3 {a b N : ℕ} (hN : 0 < N)
    (h : (⟨3, ![a, b, N]⟩ : Shape).ReduceWindows ![1, 1, N] ![1, 1, 1] ![0, 0, N - 1] ![0, 0, 0] ⟨3, ![a, b, N]⟩)
    (x : (⟨3, ![a, b, N]⟩ : Shape).Idx → EReal) (i : Fin a) (j : Fin b) (l : Fin N) (f : ℕ → EReal)
    (hf : ∀ k : Fin N, x (ix3 i j k) = f k.val) :
    Ideal.hostReduceWindowAdd (s := ⟨3, ![a, b, N]⟩) ![1, 1, N] ![1, 1, 1] ![0, 0, N - 1] ![0, 0, 0] h x 0 (ix3 i j l)
      = ∑ k ∈ Finset.range (l.val + 1), f k := by
  rw [window_idx, ← window_sum N l.val l.isLt f]
  refine (Fintype.sum_equiv
    ({ toFun := fun k => ix3 (n0 := 1) (n1 := 1) 0 0 k
       invFun := fun w => w 2
       left_inv := fun k => rfl
       right_inv := fun w => by
        funext d
        match d with
        | ⟨0, _⟩ => exact (Fin.fin_one_eq_zero _).symm
        | ⟨1, _⟩ => exact (Fin.fin_one_eq_zero _).symm
        | ⟨2, _⟩ => rfl } : Fin N ≃ (⟨3, ![1, 1, N]⟩ : Shape).Idx) _ _ fun k => ?_).symm
  dsimp only [Equiv.coe_fn_mk]
  by_cases hk : N - 1 ≤ l.val + k.val
  · rw [if_pos hk, dif_pos]
    · rw [← hf ⟨l.val + k.val - (N - 1), by omega⟩]
      congr 1
      funext d
      match d with
      | ⟨0, _⟩ => exact Fin.ext (by show i.val = i.val * 1 + 0 - 0; omega)
      | ⟨1, _⟩ => exact Fin.ext (by show j.val = j.val * 1 + 0 - 0; omega)
      | ⟨2, _⟩ => exact Fin.ext (by show l.val + k.val - (N - 1) = l.val * 1 + k.val - (N - 1); omega)
    · intro d
      match d with
      | ⟨0, _⟩ => show 0 ≤ i.val * 1 + 0 ∧ i.val * 1 + 0 - 0 < a; omega
      | ⟨1, _⟩ => show 0 ≤ j.val * 1 + 0 ∧ j.val * 1 + 0 - 0 < b; omega
      | ⟨2, _⟩ => show N - 1 ≤ l.val * 1 + k.val ∧ l.val * 1 + k.val - (N - 1) < N; omega
  · rw [if_neg hk, dif_neg]
    intro hin
    have h2 : N - 1 ≤ l.val * 1 + k.val := (hin 2).1
    omega

/-- The running sum along the middle of three axes. -/
theorem cumsum3m {a N c : ℕ} (hN : 0 < N)
    (h : (⟨3, ![a, N, c]⟩ : Shape).ReduceWindows ![1, N, 1] ![1, 1, 1] ![0, N - 1, 0] ![0, 0, 0] ⟨3, ![a, N, c]⟩)
    (x : (⟨3, ![a, N, c]⟩ : Shape).Idx → EReal) (i : Fin a) (j : Fin c) (l : Fin N) (f : ℕ → EReal)
    (hf : ∀ k : Fin N, x (ix3 i k j) = f k.val) :
    Ideal.hostReduceWindowAdd (s := ⟨3, ![a, N, c]⟩) ![1, N, 1] ![1, 1, 1] ![0, N - 1, 0] ![0, 0, 0] h x 0 (ix3 i l j)
      = ∑ k ∈ Finset.range (l.val + 1), f k := by
  rw [window_idx, ← window_sum N l.val l.isLt f]
  refine (Fintype.sum_equiv
    ({ toFun := fun k => ix3 (n0 := 1) (n2 := 1) 0 k 0
       invFun := fun w => w 1
       left_inv := fun k => rfl
       right_inv := fun w => by
        funext d
        match d with
        | ⟨0, _⟩ => exact (Fin.fin_one_eq_zero _).symm
        | ⟨1, _⟩ => rfl
        | ⟨2, _⟩ => exact (Fin.fin_one_eq_zero _).symm } : Fin N ≃ (⟨3, ![1, N, 1]⟩ : Shape).Idx) _ _ fun k => ?_).symm
  dsimp only [Equiv.coe_fn_mk]
  by_cases hk : N - 1 ≤ l.val + k.val
  · rw [if_pos hk, dif_pos]
    · rw [← hf ⟨l.val + k.val - (N - 1), by omega⟩]
      congr 1
      funext d
      match d with
      | ⟨0, _⟩ => exact Fin.ext (by show i.val = i.val * 1 + 0 - 0; omega)
      | ⟨1, _⟩ => exact Fin.ext (by show l.val + k.val - (N - 1) = l.val * 1 + k.val - (N - 1); omega)
      | ⟨2, _⟩ => exact Fin.ext (by show j.val = j.val * 1 + 0 - 0; omega)
    · intro d
      match d with
      | ⟨0, _⟩ => show 0 ≤ i.val * 1 + 0 ∧ i.val * 1 + 0 - 0 < a; omega
      | ⟨1, _⟩ => show N - 1 ≤ l.val * 1 + k.val ∧ l.val * 1 + k.val - (N - 1) < N; omega
      | ⟨2, _⟩ => show 0 ≤ j.val * 1 + 0 ∧ j.val * 1 + 0 - 0 < c; omega
  · rw [if_neg hk, dif_neg]
    intro hin
    have h2 : N - 1 ≤ l.val * 1 + k.val := (hin 1).1
    omega

/-- The running sum along the third of four axes. -/
theorem cumsum4 {a b N c : ℕ} (hN : 0 < N)
    (h : (⟨4, ![a, b, N, c]⟩ : Shape).ReduceWindows ![1, 1, N, 1] ![1, 1, 1, 1] ![0, 0, N - 1, 0] ![0, 0, 0, 0] ⟨4, ![a, b, N, c]⟩)
    (x : (⟨4, ![a, b, N, c]⟩ : Shape).Idx → EReal) (i : Fin a) (i' : Fin b) (j : Fin c) (l : Fin N) (f : ℕ → EReal)
    (hf : ∀ k : Fin N, x (ix4 i i' k j) = f k.val) :
    Ideal.hostReduceWindowAdd (s := ⟨4, ![a, b, N, c]⟩) ![1, 1, N, 1] ![1, 1, 1, 1] ![0, 0, N - 1, 0] ![0, 0, 0, 0] h x 0 (ix4 i i' l j)
      = ∑ k ∈ Finset.range (l.val + 1), f k := by
  rw [window_idx, ← window_sum N l.val l.isLt f]
  refine (Fintype.sum_equiv
    ({ toFun := fun k => ix4 (n0 := 1) (n1 := 1) (n3 := 1) 0 0 k 0
       invFun := fun w => w 2
       left_inv := fun k => rfl
       right_inv := fun w => by
        funext d
        match d with
        | ⟨0, _⟩ => exact (Fin.fin_one_eq_zero _).symm
        | ⟨1, _⟩ => exact (Fin.fin_one_eq_zero _).symm
        | ⟨2, _⟩ => rfl
        | ⟨3, _⟩ => exact (Fin.fin_one_eq_zero _).symm } : Fin N ≃ (⟨4, ![1, 1, N, 1]⟩ : Shape).Idx) _ _ fun k => ?_).symm
  dsimp only [Equiv.coe_fn_mk]
  by_cases hk : N - 1 ≤ l.val + k.val
  · rw [if_pos hk, dif_pos]
    · rw [← hf ⟨l.val + k.val - (N - 1), by omega⟩]
      congr 1
      funext d
      match d with
      | ⟨0, _⟩ => exact Fin.ext (by show i.val = i.val * 1 + 0 - 0; omega)
      | ⟨1, _⟩ => exact Fin.ext (by show i'.val = i'.val * 1 + 0 - 0; omega)
      | ⟨2, _⟩ => exact Fin.ext (by show l.val + k.val - (N - 1) = l.val * 1 + k.val - (N - 1); omega)
      | ⟨3, _⟩ => exact Fin.ext (by show j.val = j.val * 1 + 0 - 0; omega)
    · intro d
      match d with
      | ⟨0, _⟩ => show 0 ≤ i.val * 1 + 0 ∧ i.val * 1 + 0 - 0 < a; omega
      | ⟨1, _⟩ => show 0 ≤ i'.val * 1 + 0 ∧ i'.val * 1 + 0 - 0 < b; omega
      | ⟨2, _⟩ => show N - 1 ≤ l.val * 1 + k.val ∧ l.val * 1 + k.val - (N - 1) < N; omega
      | ⟨3, _⟩ => show 0 ≤ j.val * 1 + 0 ∧ j.val * 1 + 0 - 0 < c; omega
  · rw [if_neg hk, dif_neg]
    intro hin
    have h2 : N - 1 ≤ l.val * 1 + k.val := (hin 2).1
    omega

end Cert.Recur

end

end
-- ==== Proof.RefAt.lean ====
/- The plain reading of the recurrence, stage by stage, at an index: the convolution, the step sizes,
the decays, the tile outputs, the carried states and the normalised result. -/
module

public import proofs.«01_k».proof.Proof.Gen.ReferenceIdeal.Read
public import proofs.«01_k».proof.Proof.Cumsum

@[expose] public section

set_option maxRecDepth 16384

noncomputable section

namespace Cert.ReferenceIdeal.At

open Cert.ReferenceIdeal Cert.ReferenceIdeal.Gen Cert.ReferenceIdeal.Read Idealize.ShloMosaic Idealize.ShloMosaic.TcCoe Cert.Arr Cert.Recur

variable (x0 : (⟨S9216x15488, .f32⟩ : BufTy).Contents (Elt Ideal)) (x1 : (⟨S4x2048, .f32⟩ : BufTy).Contents (Elt Ideal)) (x2 : (⟨S2048, .f32⟩ : BufTy).Contents (Elt Ideal)) (x3 x4 x5 : (⟨S16, .f32⟩ : BufTy).Contents (Elt Ideal)) (x6 : (⟨S1024, .f32⟩ : BufTy).Contents (Elt Ideal))

/-- The arguments, read at natural numbers. -/
def rin : In := ⟨N2 x0, N2 x1, N1 x2, N1 x3, N1 x4, N1 x5, N1 x6⟩

/-- The padded channels. -/
theorem v4_at (t : Fin 8195) (j : Fin 2048) : val_main_v4 x0 (ix2 t j) = cpad (rin x0 x1 x2 x3 x4 x5 x6) t.val j.val := by
  pointwise [val_main_v4, val_main_v3, val_main_v1, val_main_cst]
  unfold cpad
  split
  · rfl
  · exact N2_at x0 _ _ _ rfl rfl
/-- The convolution's sum. -/
theorem v36_at (t : Fin 8192) (j : Fin 2048) : val_main_v36 x0 x1 x2 (ix2 t j) = cu (rin x0 x1 x2 x3 x4 x5 x6) t.val j.val := by
  pointwise [val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst_0]
  simp only [v4_at x0 x1 x2 x3 x4 x5 x6]
  rw [N1_at x2 _ j.val rfl, N2_at x1 _ 0 j.val rfl rfl, N2_at x1 _ 1 j.val rfl rfl, N2_at x1 _ 2 j.val rfl rfl, N2_at x1 _ 3 j.val rfl rfl,
    Nat.add_comm 1, Nat.add_comm 2, Nat.add_comm 3]
  unfold cu
  simp only [rin]
  ac_rfl
/-- The convolution. -/
theorem v37_at (t : Fin 8192) (j : Fin 2048) : val_main_v37 x0 x1 x2 (ix2 t j) = cv (rin x0 x1 x2 x3 x4 x5 x6) t.val j.val := by
  pointwise [val_main_v37, val_main_call0_v0, val_main_call0_v1, val_main_call0_cst, val_main_call0_v2, val_main_call0_v3, val_main_call0_cst_0, val_main_call0_v4, val_main_call0_v5]
  simp only [v36_at x0 x1 x2 x3 x4 x5 x6]
  rfl
/-- The step sizes. -/
theorem v51_at (t : Fin 8192) (h : Fin 16) : val_main_v51 x0 x3 (ix2 t h) = dt (rin x0 x1 x2 x3 x4 x5 x6) t.val h.val := by
  pointwise [val_main_v51, val_main_call1_cst, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_v50, val_main_v49, val_main_v48, val_main_v2]
  rw [if_neg (by simp), N1_at x3 _ h.val rfl, N2_at x0 _ t.val (15424 + h.val) rfl rfl]
  unfold dt sp
  rw [zero_sub]
  rfl
/-- The log-decays. -/
theorem v63_at (h : Fin 16) (n : Fin 64) (l : Fin 128) : val_main_v63 x0 x3 x4 (ix3 h n l) = ad (rin x0 x1 x2 x3 x4 x5 x6) (128 * n.val + l.val) h.val := by
  pointwise [val_main_v63, val_main_v62, val_main_v61, val_main_v60, val_main_v59, val_main_v53, val_main_v52]
  simp only [v51_at x0 x1 x2 x3 x4 x5 x6]
  rw [N1_at x4 _ h.val rfl, Nat.mul_comm n.val]
  unfold ad
  rw [zero_sub]
  rfl
/-- The log-decays, kept below the diagonal. -/
theorem v72_at (h : Fin 16) (n : Fin 64) (l s : Fin 128) : val_main_v72 x0 x3 x4 (ix4 h n l s) = if s.val < l.val then ad (rin x0 x1 x2 x3 x4 x5 x6) (128 * n.val + l.val) h.val else 0 := by
  pointwise [val_main_v72, val_main_call4_v0, val_main_call4_v1, val_main_call4_v2, val_main_cst_2, val_main_v71, val_main_call3_v0, val_main_call3_c, val_main_call3_v1, val_main_call3_v2, val_main_call3_v3, val_main_call3_v4, val_main_call3_c_0, val_main_call3_v5, val_main_v70, val_main_c, val_main_v69, val_main_v68]
  simp only [v63_at x0 x1 x2 x3 x4 x5 x6]
  rw [sgt_iff _ _ (by omega) (by omega), sel_bit, sel_bit]
  have z : (constant (F := Ideal) S_ .f32 0#32) ix0 = (0 : EReal) := by
    show Ideal.ofBits .f32 0#32 = 0
    simp [Ideal.ofBits, Ideal.ieee]
  split
  · rfl
  · exact z
/-- The running sums of the log-decays. -/
theorem v66_at (h : Fin 16) (n : Fin 64) (l : Fin 128) : val_main_v66 x0 x3 x4 (ix3 h n l) = cs (rin x0 x1 x2 x3 x4 x5 x6) n.val l.val h.val := by
  have z : (val_main_call2_call0_v0 (F := Ideal)) (Shape.Idx.first h_S_) = (0 : EReal) := by
    pointwise [val_main_call2_call0_v0, val_main_call2_call0_cst]
  refine Eq.trans ?_ (cumsum3 (by decide) reduceWindows_S16x64x128_S16x64x128_w1s1p0_0_w1s1p0_0_w128s1p127_0 (val_main_v63 x0 x3 x4) h n l
    (fun i => ad (rin x0 x1 x2 x3 x4 x5 x6) (128 * n.val + i) h.val) fun k => v63_at x0 x1 x2 x3 x4 x5 x6 h n k)
  unfold val_main_v66 Host.reduceWindowAdd
  rw [z]; rfl
/-- The log-decays summed between two positions. -/
theorem v73_at (h : Fin 16) (n : Fin 64) (l s : Fin 128) : val_main_v73 x0 x3 x4 (ix4 h n l s) = seg (fun i => ad (rin x0 x1 x2 x3 x4 x5 x6) (128 * n.val + i) h.val) l.val s.val := by
  have z : (val_main_call5_call0_v0 (F := Ideal)) (Shape.Idx.first h_S_) = (0 : EReal) := by
    pointwise [val_main_call5_call0_v0, val_main_call5_call0_cst]
  refine Eq.trans ?_ (cumsum4 (by decide) reduceWindows_S16x64x128x128_S16x64x128x128_w1s1p0_0_w1s1p0_0_w128s1p127_0_w1s1p0_0 (val_main_v72 x0 x3 x4) h n s l
    (fun i => if s.val < i then ad (rin x0 x1 x2 x3 x4 x5 x6) (128 * n.val + i) h.val else 0) fun k => v72_at x0 x1 x2 x3 x4 x5 x6 h n k s)
  unfold val_main_v73 Host.reduceWindowAdd
  rw [z]; rfl
/-- The decays within a tile. -/
theorem v77_at (h : Fin 16) (n : Fin 64) (l s : Fin 128) : val_main_v77 x0 x3 x4 (ix4 h n l s) =
    Ideal.exp (if s.val ≤ l.val then seg (fun i => ad (rin x0 x1 x2 x3 x4 x5 x6) (128 * n.val + i) h.val) l.val s.val else ⊥) := by
  pointwise [val_main_v77, val_main_v76, val_main_call7_v0, val_main_call7_v1, val_main_call7_v2, val_main_cst_4, val_main_v75, val_main_call6_v0, val_main_call6_c, val_main_call6_v1, val_main_call6_v2, val_main_call6_v3, val_main_call6_v4, val_main_call6_c_0, val_main_call6_v5, val_main_v74, val_main_c_3]
  rw [v73_at x0 x1 x2 x3 x4 x5 x6, sge0_iff _ _ (by omega) (by omega), sel_bit, sel_bit]
  have z : (constant (F := Ideal) S_ .f32 4286578688#32) ix0 = (⊥ : EReal) := neg_inf
  split
  · rfl
  · exact congrArg Ideal.exp z
/-- The input times its step size. -/
theorem v58_at (n : Fin 64) (l : Fin 128) (h : Fin 16) (p : Fin 64) : val_main_v58 x0 x1 x2 x3 (ix4 n l h p) = xd (rin x0 x1 x2 x3 x4 x5 x6) (128 * n.val + l.val) (64 * h.val + p.val) := by
  pointwise [val_main_v58, val_main_v57, val_main_v56, val_main_v55, val_main_v39, val_main_v38]
  simp only [v51_at x0 x1 x2 x3 x4 x5 x6, v37_at x0 x1 x2 x3 x4 x5 x6]
  unfold xd
  rw [Nat.mul_comm n.val, Nat.mul_comm h.val, show (64 * h.val + p.val) / 64 = h.val by omega]
/-- The input projection of the recurrence. -/
theorem v64_at (n : Fin 64) (l : Fin 128) (h : Fin 16) (j : Fin 128) : val_main_v64 x0 x1 x2 (ix4 n l h j) = bm (rin x0 x1 x2 x3 x4 x5 x6) (128 * n.val + l.val) h.val j.val := by
  pointwise [val_main_v64, val_main_v44, val_main_v43, val_main_v42, val_main_v40]
  simp only [v37_at x0 x1 x2 x3 x4 x5 x6]
  unfold bm
  rw [Nat.mul_comm n.val, Nat.mul_comm (h.val / 4)]
/-- The output projection of the recurrence. -/
theorem v65_at (n : Fin 64) (l : Fin 128) (h : Fin 16) (j : Fin 128) : val_main_v65 x0 x1 x2 (ix4 n l h j) = cm (rin x0 x1 x2 x3 x4 x5 x6) (128 * n.val + l.val) h.val j.val := by
  pointwise [val_main_v65, val_main_v47, val_main_v46, val_main_v45, val_main_v41]
  simp only [v37_at x0 x1 x2 x3 x4 x5 x6]
  unfold cm
  rw [Nat.mul_comm n.val, Nat.mul_comm (h.val / 4)]
  congr 1
  omega

/-- Every log-decay is a real. -/
def RealDecay (I : In) : Prop := ∀ t h, t < 8192 → h < 16 → ∃ r : ℝ, ad I t h = (r : EReal)

variable (hd : RealDecay (rin x0 x1 x2 x3 x4 x5 x6))
include hd

/-- The part of a tile's output that comes from the tile itself. -/
theorem v80_at (n : Fin 64) (l : Fin 128) (h : Fin 16) (p : Fin 64) : val_main_v80 x0 x1 x2 x3 x4 (ix4 n l h p) = yd (rin x0 x1 x2 x3 x4 x5 x6) n.val l.val (64 * h.val + p.val) := by
  pointwise [val_main_v80, val_main_v79, val_main_v78, val_main_v67]
  simp only [v65_at x0 x1 x2 x3 x4 x5 x6, v64_at x0 x1 x2 x3 x4 x5 x6, v58_at x0 x1 x2 x3 x4 x5 x6, v77_at x0 x1 x2 x3 x4 x5 x6]
  unfold yd
  rw [show (64 * h.val + p.val) / 64 = h.val by omega]
  refine Finset.sum_congr rfl fun s _ => ?_
  rw [mul_comm]
  congr 3
  by_cases hs : s.val ≤ l.val
  · rw [if_pos hs, if_pos hs, seg_sub _ _ _ hs fun i hi => hd _ _ (by omega) h.isLt]
    rfl
  · rw [if_neg hs, if_neg hs]
omit hd
/-- What a tile adds to the state. -/
def upd (I : In) (n k j : ℕ) : EReal :=
  ∑ l : Fin 128, xd I (128 * n + l.val) k * Ideal.exp (cs I n 127 (k / 64) - cs I n l.val (k / 64)) * bm I (128 * n + l.val) (k / 64) j
/-- The reading's tile contributions. -/
theorem v89_at (n : Fin 64) (h : Fin 16) (p : Fin 64) (j : Fin 128) : val_main_v89 x0 x1 x2 x3 x4 (ix4 n h p j) = upd (rin x0 x1 x2 x3 x4 x5 x6) n.val (64 * h.val + p.val) j.val := by
  pointwise [val_main_v81, val_main_v82, val_main_v83, val_main_v84, val_main_v85, val_main_v86, val_main_v87, val_main_v88, val_main_v89]
  simp only [v66_at x0 x1 x2 x3 x4 x5 x6, v64_at x0 x1 x2 x3 x4 x5 x6, v58_at x0 x1 x2 x3 x4 x5 x6]
  unfold upd
  rw [show (64 * h.val + p.val) / 64 = h.val by omega]
  refine Finset.sum_congr rfl fun l _ => ?_
  congr 1
  exact mul_comm _ _
/-- A tile's whole log-decay, counted from one. -/
def tot (I : In) (h z : ℕ) : EReal := if z = 0 then 0 else cs I (z - 1) 127 h
/-- The tiles' log-decays, with a zero in front. -/
theorem v94_at (h : Fin 16) (z : Fin 65) : val_main_v94 x0 x3 x4 (ix2 h z) = tot (rin x0 x1 x2 x3 x4 x5 x6) h.val z.val := by
  have e93 : ∀ n : Fin 64, val_main_v93 x0 x3 x4 (ix2 h n) = cs (rin x0 x1 x2 x3 x4 x5 x6) n.val 127 h.val := by
    intro n
    pointwise [val_main_v93, val_main_v92]
    exact v66_at x0 x1 x2 x3 x4 x5 x6 h n 127
  have z0 : (val_main_call8_v0 (F := Ideal)) (Shape.Idx.first h_S_) = (0 : EReal) := by
    pointwise [val_main_call8_v0, val_main_c_5]
    simp [FloatOps.sitofp]
  unfold val_main_v94 tot
  by_cases hz : z.val = 0
  · rw [if_pos hz, ← z0]
    refine dif_neg fun hin => ?_
    have h2 : 1 ≤ z.val := (hin 1).1
    omega
  · rw [if_neg hz, ← e93 ⟨z.val - 1, by omega⟩]
    have hin : ∀ a : Fin 2, (![0, 1] : Fin 2 → Nat) a ≤ ((ix2 h z) a).val ∧ (((ix2 h z) a).val - (![0, 1] : Fin 2 → Nat) a) % (0 + 1) = 0
        ∧ (((ix2 h z) a).val - (![0, 1] : Fin 2 → Nat) a) / (0 + 1) < S16x64.size a := by
      intro a
      match a with
      | ⟨0, _⟩ => show 0 ≤ h.val ∧ (h.val - 0) % (0 + 1) = 0 ∧ (h.val - 0) / (0 + 1) < 16; omega
      | ⟨1, _⟩ => show 1 ≤ z.val ∧ (z.val - 1) % (0 + 1) = 0 ∧ (z.val - 1) / (0 + 1) < 64; omega
    refine (dif_pos ?_).trans ?_
    · intro a
      match a with
      | ⟨0, _⟩ => exact hin 0
      | ⟨1, _⟩ => exact hin 1
    · congr 1
      funext a
      match a with
      | ⟨0, _⟩ => exact Fin.ext (by show (h.val - 0) / (0 + 1) = h.val; omega)
      | ⟨1, _⟩ => exact Fin.ext (by show (z.val - 1) / (0 + 1) = z.val - 1; omega)
/-- The tiles' log-decays, kept below the diagonal. -/
theorem v99_at (h : Fin 16) (i z : Fin 65) : val_main_v99 x0 x3 x4 (ix3 h i z) = if z.val < i.val then tot (rin x0 x1 x2 x3 x4 x5 x6) h.val i.val else 0 := by
  pointwise [val_main_v99, val_main_call10_v0, val_main_call10_v1, val_main_call10_v2, val_main_cst_7, val_main_v98, val_main_call9_v0, val_main_call9_c, val_main_call9_v1, val_main_call9_v2, val_main_call9_v3, val_main_call9_v4, val_main_call9_c_0, val_main_call9_v5, val_main_v97, val_main_c_6, val_main_v96, val_main_v95]
  rw [v94_at x0 x1 x2 x3 x4 x5 x6, sgt_iff _ _ (by omega) (by omega), sel_bit, sel_bit]
  have z : (constant (F := Ideal) S_ .f32 0#32) ix0 = (0 : EReal) := by
    show Ideal.ofBits .f32 0#32 = 0
    simp [Ideal.ofBits, Ideal.ieee]
  split
  · rfl
  · exact z
/-- The tiles' log-decays summed between two tiles. -/
theorem v100_at (h : Fin 16) (i z : Fin 65) : val_main_v100 x0 x3 x4 (ix3 h i z) = seg (tot (rin x0 x1 x2 x3 x4 x5 x6) h.val) i.val z.val := by
  have z0 : (val_main_call11_call0_v0 (F := Ideal)) (Shape.Idx.first h_S_) = (0 : EReal) := by
    pointwise [val_main_call11_call0_v0, val_main_call11_call0_cst]
  refine Eq.trans ?_ (cumsum3m (by decide) reduceWindows_S16x65x65_S16x65x65_w1s1p0_0_w65s1p64_0_w1s1p0_0 (val_main_v99 x0 x3 x4) h z i
    (fun i => if z.val < i then tot (rin x0 x1 x2 x3 x4 x5 x6) h.val i else 0) fun k => v99_at x0 x1 x2 x3 x4 x5 x6 h k z)
  unfold val_main_v100 Host.reduceWindowAdd
  rw [z0]; rfl
/-- The weight of one tile in the state of another. -/
theorem v104_at (h : Fin 16) (i z : Fin 65) : val_main_v104 x0 x3 x4 (ix3 h i z) = wt (tot (rin x0 x1 x2 x3 x4 x5 x6) h.val) i.val z.val := by
  pointwise [val_main_v104, val_main_v103, val_main_call13_v0, val_main_call13_v1, val_main_call13_v2, val_main_cst_9, val_main_v102, val_main_call12_v0, val_main_call12_c, val_main_call12_v1, val_main_call12_v2, val_main_call12_v3, val_main_call12_v4, val_main_call12_c_0, val_main_call12_v5, val_main_v101, val_main_c_8]
  rw [v100_at x0 x1 x2 x3 x4 x5 x6, sge0_iff _ _ (by omega) (by omega), sel_bit, sel_bit]
  have z : (constant (F := Ideal) S_ .f32 4286578688#32) ix0 = (⊥ : EReal) := neg_inf
  unfold wt
  split
  · rfl
  · exact congrArg Ideal.exp z
/-- A tile's whole log-decay is a real. -/
theorem tot_real (I : In) (hd : RealDecay I) (h : Fin 16) (i : ℕ) (hi : i ≤ 64) : ∃ r : ℝ, tot I h.val i = (r : EReal) := by
  unfold tot
  split
  · exact ⟨0, rfl⟩
  · have : ∀ q, q < 128 → ∃ r : ℝ, ad I (128 * (i - 1) + q) h.val = (r : EReal) := fun q hq => hd _ _ (by omega) h.isLt
    choose! a ha using this
    refine ⟨∑ q ∈ Finset.range 128, a q, ?_⟩
    rw [← coe_sum]
    exact Finset.sum_congr rfl fun q hq => ha q (Finset.mem_range.1 hq)
include hd
/-- The states before every tile, and after the last. -/
theorem v106_at (z : Fin 65) (h : Fin 16) (p : Fin 64) (j : Fin 128) : val_main_v106 x0 x1 x2 x3 x4 (ix4 z h p j) = st (rin x0 x1 x2 x3 x4 x5 x6) z.val (64 * h.val + p.val) j.val := by
  pointwise [val_main_v106, val_main_v105, val_main_v91, val_main_v90, val_main_v54, val_main_cst_1]
  simp only [v89_at x0 x1 x2 x3 x4 x5 x6, v104_at x0 x1 x2 x3 x4 x5 x6]
  rw [unroll 64 (fun n => upd (rin x0 x1 x2 x3 x4 x5 x6) n (64 * h.val + p.val) j.val) (fun n => st (rin x0 x1 x2 x3 x4 x5 x6) n (64 * h.val + p.val) j.val)
    (tot (rin x0 x1 x2 x3 x4 x5 x6) h.val) rfl ?_ (tot_real _ hd h) z.val (by omega)]
  · rw [Finset.sum_eq_zero fun x _ => zero_mul _, zero_add]
    exact Finset.sum_congr rfl fun x _ => by rw [Nat.add_comm 1]
  · intro n _
    have e : (64 * h.val + p.val) / 64 = h.val := by omega
    show st _ n _ _ * Ideal.exp (cs _ n 127 ((64 * h.val + p.val) / 64)) + _ = _
    rw [e]; unfold upd; rw [e]; rfl
/-- The part of a tile's output that comes from the carried state. -/
theorem v116_at (n : Fin 64) (l : Fin 128) (h : Fin 16) (p : Fin 64) : val_main_v116 x0 x1 x2 x3 x4 (ix4 n l h p) = yo (rin x0 x1 x2 x3 x4 x5 x6) n.val l.val (64 * h.val + p.val) := by
  pointwise [val_main_v116, val_main_v115, val_main_v114, val_main_v113, val_main_v112, val_main_v111, val_main_v110, val_main_v107]
  simp only [v106_at x0 x1 x2 x3 x4 x5 x6 hd, v65_at x0 x1 x2 x3 x4 x5 x6, v66_at x0 x1 x2 x3 x4 x5 x6]
  unfold yo
  rw [show (64 * h.val + p.val) / 64 = h.val by omega]
  congr 1
  exact Finset.sum_congr rfl fun x _ => mul_comm _ _
/-- The gated output. -/
theorem v126_at (t : Fin 8192) (k : Fin 1024) : val_main_v126 x0 x1 x2 x3 x4 x5 (ix2 t k) = gy (rin x0 x1 x2 x3 x4 x5 x6) (t.val / 128) (t.val % 128) k.val := by
  pointwise [val_main_v126, val_main_v125, val_main_call14_v0, val_main_call14_v1, val_main_call14_cst, val_main_call14_v2, val_main_call14_v3, val_main_call14_cst_0, val_main_call14_v4, val_main_call14_v5, val_main_v0, val_main_v124, val_main_v123, val_main_v122, val_main_v121, val_main_v120, val_main_v119, val_main_v118, val_main_v117, val_main_v39, val_main_v38]
  simp only [v80_at x0 x1 x2 x3 x4 x5 x6 hd, v116_at x0 x1 x2 x3 x4 x5 x6 hd, v37_at x0 x1 x2 x3 x4 x5 x6]
  rw [N1_at x5 _ (k.val / 64) rfl, N2_at x0 _ t.val k.val rfl rfl]
  unfold gy
  rw [Nat.div_add_mod, Nat.div_add_mod]
  rfl
/-- The first result. -/
theorem v142_at (t : Fin 8192) (k : Fin 1024) : val_main_v142 x0 x1 x2 x3 x4 x5 x6 (ix2 t k) = out (rin x0 x1 x2 x3 x4 x5 x6) (t.val / 128) (t.val % 128) k.val := by
  pointwise [val_main_v127, val_main_v128, val_main_v129, val_main_v130, val_main_v131, val_main_v132, val_main_v133, val_main_v134, val_main_v135, val_main_v136, val_main_v137, val_main_v138, val_main_v139, val_main_v140, val_main_v141, val_main_v142, val_main_cst_10, val_main_cst_11, val_main_cst_12]
  simp only [v126_at x0 x1 x2 x3 x4 x5 x6 hd]
  rw [N1_at x6 _ k.val rfl, Nat.mul_comm (k.val / 256)]
  rfl
/-- The second result. -/
theorem v143_at (a : Fin 1) (h : Fin 16) (p : Fin 64) (j : Fin 128) : val_main_v143 x0 x1 x2 x3 x4 (ix4 a h p j) = st (rin x0 x1 x2 x3 x4 x5 x6) 64 (64 * h.val + p.val) j.val := by
  pointwise [val_main_v143, val_main_v109, val_main_v108]
  exact v106_at x0 x1 x2 x3 x4 x5 x6 hd 64 h p j

end Cert.ReferenceIdeal.At

end

end
-- ==== Proof.Ssd.lean ====
/- The recurrence's claims: both programs run and keep their arguments, and on decays that are real
they end with the same rows and the same final state. -/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.At
public import proofs.«01_k».proof.Proof.RefAt
public import Idealize.ShloMosaic.Adequacy
public import Idealize.ShloMosaic.Init

@[expose] public section

set_option maxRecDepth 16384

noncomputable section

namespace Cert.Ssd

open Idealize.ShloMosaic Idealize.SL.Sem Idealize.ShloMosaic.StableHlo Cert.Arr Cert.ReferenceIdeal.At

/-- The facts the precondition's operations state. -/
instance factsPre : Cert.Pre_finite_decay.Facts := by constructor <;> decide

/-- The kernel's frame. -/
theorem frame_p : Cert.quiescent_Kernel := fun m ρ _ => Cert.Kernel.Gen.frame m ρ
/-- The frame of the kernel read exactly. -/
theorem frame_pi : Cert.quiescent_KernelIdeal := fun m ρ _ => Cert.KernelIdeal.Gen.frame m ρ
/-- The same under the precondition. -/
theorem frame_pi_pre : Cert.quiescent_KernelIdeal_pre_finite_decay := fun m ρ _ => Cert.KernelIdeal.Gen.frame m ρ
/-- The reference's frame. -/
theorem frame_ri : Cert.quiescent_ReferenceIdeal := fun m ρ _ =>
  (θ_run Cert.ReferenceIdeal.defs _ _).mono (fun r h => ⟨fun c => (h c).2.2,
    Idealize.ShloMosaic.sem_eq_zero_of_no_sems (by decide) r.2⟩) (Cert.ReferenceIdeal.Value.run m ρ)
/-- The same under the precondition. -/
theorem frame_ri_pre : Cert.quiescent_ReferenceIdeal_pre_finite_decay := fun m ρ _ => frame_ri m ρ trivial

/-- The precondition makes every log-decay a real. -/
theorem real_decay (x0 : FVec Ideal Cert.Pre_finite_decay.S9216x15488 .f32) (x1 : FVec Ideal Cert.Pre_finite_decay.S4x2048 .f32)
    (x2 : FVec Ideal Cert.Pre_finite_decay.S2048 .f32) (x3 x4 x5 : FVec Ideal Cert.Pre_finite_decay.S16 .f32) (x6 : FVec Ideal Cert.Pre_finite_decay.S1024 .f32)
    (h : Cert.Pre_finite_decay.fn (F := Ideal) x0 x1 x2 x3 x4 x5 x6 = fun _ => 1#1) : RealDecay (rin x0 x1 x2 x3 x4 x5 x6) := by
  intro t h' ht hh
  have e := congrFun h (ix2 ⟨t, ht⟩ ⟨h', hh⟩)
  revert e
  pointwise [Cert.Pre_finite_decay.fn]
  intro e
  have top : Ideal.ofBits .f32 2139095040#32 = ⊤ := by simp [Ideal.ofBits, Ideal.ieee]
  rw [top] at e
  have both : ∀ a b : Bool, IntOp.andi (BitVec.ofBool a) (BitVec.ofBool b) = 1#1 → a = true ∧ b = true := by decide
  obtain ⟨e1, e2⟩ := both _ _ e
  have e1 := of_decide_eq_true e1
  have e2 := of_decide_eq_true e2
  rw [N2_at x0 _ t (15424 + h') rfl rfl, N1_at x3 _ h' rfl] at e1
  rw [N1_at x4 _ h' rfl] at e2
  obtain ⟨r, _, hr⟩ := Cert.Recur.ad_real (rin x0 x1 x2 x3 x4 x5 x6) t h' e1 e2
  exact ⟨r, hr⟩

/-- The rows of both programs. -/
theorem rows_eq (m : (ℓ : Loc Cert.KernelIdeal.nD Cert.KernelIdeal.τ Cert.KernelIdeal.sig) → Buf (Elt Ideal) ℓ) (c : Dev Cert.KernelIdeal.nD)
    (hd : RealDecay (Cert.KernelIdeal.Step.inp m c)) :
    Cert.ReferenceIdeal.Read.val_main_v142 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) = Cert.KernelIdeal.Value.G13 m c := by
  funext i
  rw [Cert.KernelIdeal.Step.rows_at]
  refine Eq.trans (congrArg _ ?_) (v142_at _ _ _ _ _ _ _ hd (i 0) (i 1))
  funext d
  match d with
  | ⟨0, _⟩ => rfl
  | ⟨1, _⟩ => rfl

/-- The final states of both programs. -/
theorem state_eq (m : (ℓ : Loc Cert.KernelIdeal.nD Cert.KernelIdeal.τ Cert.KernelIdeal.sig) → Buf (Elt Ideal) ℓ) (c : Dev Cert.KernelIdeal.nD)
    (hd : RealDecay (Cert.KernelIdeal.Step.inp m c)) :
    Cert.ReferenceIdeal.Read.val_main_v143 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) = Cert.KernelIdeal.Value.G14 m c := by
  funext i
  rw [Cert.KernelIdeal.Step.final_at]
  refine Eq.trans (congrArg _ ?_) (v143_at _ _ _ _ _ _ _ hd (i 0) (i 1) (i 2) (i 3))
  funext d
  match d with
  | ⟨0, _⟩ => rfl
  | ⟨1, _⟩ => rfl
  | ⟨2, _⟩ => rfl
  | ⟨3, _⟩ => rfl

/-- Both programs compute the same rows and the same final state. -/
theorem algebraic : Cert.algebraic_KernelIdeal_ReferenceIdeal_pre_finite_decay := by
  intro m ρ m' ρ' hpre hagree
  have hd : ∀ c, RealDecay (Cert.KernelIdeal.Step.inp m c) := fun c => real_decay _ _ _ _ _ _ _ (hpre c)
  refine ⟨fun c => Cert.KernelIdeal.Value.G13 m c, fun c => Cert.KernelIdeal.Value.G14 m c, Cert.KernelIdeal.Value.run m ρ, ?_⟩
  refine (θ_run Cert.ReferenceIdeal.defs _ _).mono ?_ (Cert.ReferenceIdeal.Value.run m' ρ')
  intro r h c
  obtain ⟨a0, a1, a2, a3, a4, a5, a6⟩ := hagree c
  refine ⟨((h c).1.trans (Cert.ReferenceIdeal.Read.val_main_v142_eq (launchContents m' c))).trans ?_,
    ((h c).2.1.trans (Cert.ReferenceIdeal.Read.val_main_v143_eq (launchContents m' c))).trans ?_, (h c).2.2⟩
  · refine Eq.trans ?_ (rows_eq m c (hd c))
    rw [← a0, ← a1, ← a2, ← a3, ← a4, ← a5, ← a6]
  · refine Eq.trans ?_ (state_eq m c (hd c))
    rw [← a0, ← a1, ← a2, ← a3, ← a4]

end Cert.Ssd

end

end
-- ==== Proof.Ld.lean ====
/-
Loads of whole operands.
-/
module
public import Idealize.ShloMosaic.Lib.Pipeline.Value
public import Idealize.ShloMosaic.PureOps.Ideal.Laws

@[expose] public section
noncomputable section
namespace Cert.Ld
open Idealize.ShloMosaic
variable {F : FTy → Type} [FloatOps F]

/-- The zero offset of a matrix. -/
theorem z2 : (![0, 0] : Fin 2 → Nat) = fun _ => 0 := by funext a; fin_cases a <;> rfl
/-- A load of a whole operand reads it. -/
theorem ld {sig : RefSig} {κ : Kind} {sp : Space} {S : Shape} {e : EltTy} (a : Memref sig κ sp S e) (ha : a.IsWhole)
    {off : Fin S.rank → Nat} (h : off = fun _ => 0) (inb : ∀ b, off b + S.size b ≤ S.size b) (x : S.Idx → Elt F e) :
    View.readAt (Elt F) a.view (Rect.unit off S.size inb).toLoadRect (ha.unread x) = x := by
  rw [View.readAt_eq_ld, ha.read_unread, View.ld_unit_zero h]

/-- The whole rectangle places every index at itself. -/
theorem emb0 {S : Shape} {α : Type} {off : Fin S.rank → Nat} (h : off = fun _ => 0) (inb : ∀ b, off b + S.size b ≤ S.size b)
    (X : S.Idx → α) (x : S.Idx) : X ((Rect.unit off S.size inb).emb x) = X x := by
  subst h; show X ((Rect.whole S).emb x) = X x; rw [Rect.emb_whole_apply]

/-- A sum over whole blocks and the next block is the sum over one block more. -/
theorem block_sum (f : ℕ → EReal) (b r : ℕ) :
    (∑ i ∈ Finset.range (b * r), f i) + ∑ x : Fin b, f (b * r + x.val) = ∑ i ∈ Finset.range (b * (r + 1)), f i := by
  rw [Nat.mul_succ, Finset.sum_range_add, Finset.sum_range (fun x => f (b * r + x))]

end Cert.Ld
end
end
-- ==== Proof.FfnBody.lean ====
/-
The feed-forward kernel's body: what one grid point leaves in its output block and its scratch.
-/
module
public import proofs.«01_k».proof.Proof.Gen.Kernel2Ideal.Value
public import proofs.«01_k».proof.Proof.Ld

@[expose] public section
set_option maxHeartbeats 2000000
noncomputable section
namespace Cert.Ffn
open Cert.Kernel2Ideal Cert.Kernel2Ideal.Gen Idealize.ShloMosaic Idealize.ShloMosaic.TcCoe Idealize.SL.Sem Cert.Ld
variable {F : FTy → Type} [FloatOps F]
variable (c : Dev nD) (i : grid0.Coords)
  (arg2 : Memref sig .tc .vmem S512x2048 .f32) (harg2 : arg2.IsWhole)
  (arg3 : Memref sig .tc .vmem S1x2048 .f32) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S512x2048 .bf16) (harg6 : arg6.IsWhole)
  (arg7 : Memref sig .tc .vmem S512x2048 .f32) (harg7 : arg7.IsWhole)
  (arg8 : Memref sig .tc .vmem S512x2048 .bf16) (harg8 : arg8.IsWhole)
variable (x0 : Vec F S512x2048 .f32) (x1 : Vec F S1x2048 .f32) (x2 : Vec F S2048x512 .bf16) (x3 : Vec F S2048x512 .bf16) (x4 : Vec F S512x2048 .bf16)

/-- At a row block's first point the scratch takes the normalised rows. -/
theorem sout_A (hc0 : cond0_0 i) : sout0_A_0 c i arg2 harg2 arg3 harg3 arg4 harg4 arg5 harg5 arg6 harg6 arg7 harg7 arg8 harg8 hc0 x0 x1 x2 x3 x4 = k0_pay1 x0 x1 := by
  funext y
  unfold sout0_A_0
  refine View.read_writes_apply_of_pieces _ _ (k0_pay1 x0 x1) _ ?_ y
    (View.cover_of_tiledL (kernelRun0_A c i arg2 harg2 arg3 harg3 arg4 harg4 arg5 harg5 arg6 harg6 arg7 harg7 arg8 harg8 hc0 x0 x1 x2 x3 x4).2.1 S512x2048.size (by sl_kernel_rfl) y)
  unfold kernelRun0_A
  simp only [List.forall_mem_cons, List.not_mem_nil, false_imp_iff, implies_true, and_true]
  unfold kernelRun0_A.sl.HS0_1
  simp only [List.forall_mem_cons, List.not_mem_nil, false_imp_iff, implies_true, and_true]
  intro x
  rw [ld _ _ z2, ld _ _ z2]
  exact (emb0 z2 _ (k0_pay1 x0 x1) x).symm

/-- There the output block takes the rows and the first block of hidden units. -/
theorem out_A (hc0 : cond0_0 i) : out0_A_5 c i arg2 harg2 arg3 harg3 arg4 harg4 arg5 harg5 arg6 harg6 arg7 harg7 arg8 harg8 hc0 x0 x1 x2 x3 x4 = k0_pay2 (k0_pay1 x0 x1) x2 x3 x0 x4 := by
  funext y
  unfold out0_A_5
  rw [← List.take_append_drop 1 (kernelRun0_A c i arg2 harg2 arg3 harg3 arg4 harg4 arg5 harg5 arg6 harg6 arg7 harg7 arg8 harg8 hc0 x0 x1 x2 x3 x4).1, View.writes_append]
  refine View.read_writes_apply_of_pieces _ _ (k0_pay2 (k0_pay1 x0 x1) x2 x3 x0 x4) _ ?_ y
    (View.cover_of_tiledL ((kernelRun0_A c i arg2 harg2 arg3 harg3 arg4 harg4 arg5 harg5 arg6 harg6 arg7 harg7 arg8 harg8 hc0 x0 x1 x2 x3 x4).1.take 1) S512x2048.size (by sl_kernel_rfl) y)
  unfold kernelRun0_A
  simp only [List.take_succ_cons, List.take_zero, List.forall_mem_cons, List.not_mem_nil, false_imp_iff, implies_true, and_true]
  unfold kernelRun0_A.sl.v3 kernelRun0_A.sl.v16
  unfold kernelRun0_A.sl.HS0_1 kernelRun0_A.sl.H5_1
  intro x
  rw [View.readCov_unit_zero _ z2, View.readCov_unit_zero _ z2, ld _ _ z2, ld _ _ z2, ld _ _ z2, ld _ _ z2, ld _ _ z2]
  exact (emb0 z2 _ (k0_pay2 (k0_pay1 x0 x1) x2 x3 x0 x4) x).symm

/-- At a later point the output block takes one more block of hidden units. -/
theorem out_B (hc0 : ¬cond0_0 i) (xo5 : Vec F S512x2048 .f32) (xs0 : Vec F S512x2048 .bf16) :
    out0_B_5 c i arg2 harg2 arg3 harg3 arg4 harg4 arg5 harg5 arg6 harg6 arg7 harg7 arg8 harg8 hc0 x0 x1 x2 x3 x4 xo5 xs0 = k0_pay2 xs0 x2 x3 xo5 x4 := by
  funext y
  unfold out0_B_5
  refine View.read_writes_apply_of_pieces _ _ (k0_pay2 xs0 x2 x3 xo5 x4) _ ?_ y
    (View.cover_of_tiledL (kernelRun0_B c i arg2 harg2 arg3 harg3 arg4 harg4 arg5 harg5 arg6 harg6 arg7 harg7 arg8 harg8 hc0 x0 x1 x2 x3 x4 xo5 xs0).1 S512x2048.size (by sl_kernel_rfl) y)
  unfold kernelRun0_B
  simp only [List.forall_mem_cons, List.not_mem_nil, false_imp_iff, implies_true, and_true]
  intro x
  rw [ld _ _ z2, ld _ _ z2, ld _ _ z2, ld _ _ z2, ld _ _ z2]
  exact (emb0 z2 _ (k0_pay2 xs0 x2 x3 xo5 x4) x).symm

end Cert.Ffn
end
end
-- ==== Proof.Norm.lean ====
/-
The root-mean-square normalisation of a row of 2048, and sums over blocks.
-/
module
public import proofs.«01_k».proof.Proof.Recur
public import proofs.«01_k».proof.Proof.Ld

@[expose] public section
noncomputable section
namespace Cert.Norm
open Idealize.ShloMosaic

/-- Entry `(i, k)` of the rows `X` normalised by their root mean square and weighted by `g`. -/
def nrm (X : ℕ → ℕ → EReal) (g : ℕ → EReal) (i k : ℕ) : EReal :=
  X i k * Ideal.rsqrt (Ideal.div (∑ y : Fin 2048, X i y.val * X i y.val) (Ideal.ofBits .f32 0x45000000#32) + Ideal.ofBits .f32 0x358637BD#32) * g k

/-- The word of one half. -/
def half : EReal := Ideal.ofBits .f32 0x3F000000#32
/-- It is the real one half. -/
theorem half_real : half = ((1 / 2 : ℝ) : EReal) := by
  unfold half; simp [Ideal.ofBits, Ideal.ieee]; norm_num
  rw [← EReal.coe_mul]; norm_num

end Cert.Norm
end
end
-- ==== Proof.Ffn.lean ====
/-
The feed-forward kernel's output array at an index.
-/
module
public import proofs.«01_k».proof.Proof.FfnBody
public import proofs.«01_k».proof.Proof.Norm
public import Idealize.ShloMosaic.Lib.StableHlo.ReadAt

@[expose] public section
set_option maxRecDepth 16384
set_option maxHeartbeats 2000000
noncomputable section
namespace Cert.Ffn
open Cert.Kernel2Ideal Cert.Kernel2Ideal.Gen Cert.Kernel2Ideal.Value Idealize.ShloMosaic Idealize.ShloMosaic.TcCoe Idealize.SL.Sem Cert.Arr Cert.Norm Cert.Ld

/-- The call's arrays, read at natural numbers: rows, norm weights, gate, up and down weights. -/
structure In where
  (x : ℕ → ℕ → EReal) (g : ℕ → EReal) (wg wu wd : ℕ → ℕ → EReal)

/-- A hidden row of the gate. -/
def ga (v : In) (i f : ℕ) : EReal := ∑ k : Fin 2048, nrm v.x v.g i k.val * v.wg k.val f
/-- A hidden row of the way up. -/
def up (v : In) (i f : ℕ) : EReal := ∑ k : Fin 2048, nrm v.x v.g i k.val * v.wu k.val f
/-- One hidden unit's part of the output, as the kernel rounds nothing of it: the half at the gate. -/
def part (v : In) (i j f : ℕ) : EReal := half * (ga v i f * Ideal.logistic (ga v i f)) * up v i f * v.wd f j

variable (m : (ℓ : Loc nD τ sig) → Buf (Elt Ideal) ℓ) (c : Dev nD)

/-- The launch's arrays, read at natural numbers. -/
def inp : In where
  x := N2 (a := 9216) (b := 2048) (m ((c : Thread nD τ).loc main_arg0))
  g := N1 (a := 2048) (m ((c : Thread nD τ).loc main_arg1))
  wg := N2 (a := 2048) (b := 5632) (m ((c : Thread nD τ).loc main_arg2))
  wu := N2 (a := 2048) (b := 5632) (m ((c : Thread nD τ).loc main_arg3))
  wd := N2 (a := 5632) (b := 2048) (m ((c : Thread nD τ).loc main_arg4))

/-- The rows' block. -/
theorem X0_at (t : Fin cfg0.N) (x : S512x2048.Idx) : iblk m c 0 t x = (inp m c).x (512 * (t.val / 11) + (x 0).val) (x 1).val := by
  have hi : win0_0.index t 0 = t.val / 11 ∧ win0_0.index t 1 = 0 := by revert t; decide +kernel
  unfold iblk
  rw [View.read_apply]
  show V m c main_arg0 _ = _
  rw [V_main_arg0]
  refine N2_at (a := 9216) (b := 2048) _ _ _ _ ?_ ?_
  · show win0_0.index t 0 * 512 + 1 * (x 0).val = _; rw [hi.1]; omega
  · show win0_0.index t 1 * 2048 + 1 * (x 1).val = _; rw [hi.2]; omega

/-- The norm's weights. -/
theorem X1_at (t : Fin cfg0.N) (x : S1x2048.Idx) : iblk m c 1 t x = (inp m c).g (x 1).val := by
  have hi : win0_1.index t 0 = 0 ∧ win0_1.index t 1 = 0 := by revert t; decide +kernel
  have h : ∀ y : S1x2048.Idx, V m c main_v0 y = (inp m c).g (y 1).val := by
    intro y
    after_reads_at
    exact N1_at (a := 2048) _ _ _ (by simp)
  unfold iblk
  rw [View.read_apply]
  refine (h _).trans (congrArg (inp m c).g ?_)
  show win0_1.index t 1 * 2048 + 1 * (x 1).val = (x 1).val; rw [hi.2]; omega

/-- The gate's block of weights. -/
theorem X2_at (t : Fin cfg0.N) (x : S2048x512.Idx) : iblk m c 2 t x = (inp m c).wg (x 0).val (512 * (t.val % 11) + (x 1).val) := by
  have hi : win0_2.index t 0 = 0 ∧ win0_2.index t 1 = t.val % 11 := by revert t; decide +kernel
  have h : ∀ y : S2048x5632.Idx, V m c main_v1 y = (inp m c).wg (y 0).val (y 1).val := by
    intro y
    after_reads_at
    exact N2_at (a := 2048) (b := 5632) _ _ _ _ rfl rfl
  unfold iblk
  rw [View.read_apply]
  refine (h _).trans (congrArg₂ (inp m c).wg ?_ ?_)
  · show win0_2.index t 0 * 2048 + 1 * (x 0).val = _; rw [hi.1]; omega
  · show win0_2.index t 1 * 512 + 1 * (x 1).val = _; rw [hi.2]; omega

/-- The way up's block of weights. -/
theorem X3_at (t : Fin cfg0.N) (x : S2048x512.Idx) : iblk m c 3 t x = (inp m c).wu (x 0).val (512 * (t.val % 11) + (x 1).val) := by
  have hi : win0_3.index t 0 = 0 ∧ win0_3.index t 1 = t.val % 11 := by revert t; decide +kernel
  have h : ∀ y : S2048x5632.Idx, V m c main_v2 y = (inp m c).wu (y 0).val (y 1).val := by
    intro y
    after_reads_at
    exact N2_at (a := 2048) (b := 5632) _ _ _ _ rfl rfl
  unfold iblk
  rw [View.read_apply]
  refine (h _).trans (congrArg₂ (inp m c).wu ?_ ?_)
  · show win0_3.index t 0 * 2048 + 1 * (x 0).val = _; rw [hi.1]; omega
  · show win0_3.index t 1 * 512 + 1 * (x 1).val = _; rw [hi.2]; omega

/-- The way down's block of weights. -/
theorem X4_at (t : Fin cfg0.N) (x : S512x2048.Idx) : iblk m c 4 t x = (inp m c).wd (512 * (t.val % 11) + (x 0).val) (x 1).val := by
  have hi : win0_4.index t 0 = t.val % 11 ∧ win0_4.index t 1 = 0 := by revert t; decide +kernel
  have h : ∀ y : S5632x2048.Idx, V m c main_v3 y = (inp m c).wd (y 0).val (y 1).val := by
    intro y
    after_reads_at
    exact N2_at (a := 5632) (b := 2048) _ _ _ _ rfl rfl
  unfold iblk
  rw [View.read_apply]
  refine (h _).trans (congrArg₂ (inp m c).wd ?_ ?_)
  · show win0_4.index t 0 * 512 + 1 * (x 0).val = _; rw [hi.1]; omega
  · show win0_4.index t 1 * 2048 + 1 * (x 1).val = _; rw [hi.2]; omega

/-- The normalised rows. -/
theorem norm_at (t : Fin cfg0.N) (r : Fin 512) (k : Fin 2048) :
    k0_pay1 (iblk m c 0 t) (iblk m c 1 t) (ix2 r k) = nrm (inp m c).x (inp m c).g (512 * (t.val / 11) + r.val) k.val := by
  pointwise [k0_pay1]
  simp only [X0_at, X1_at, ix2_0, ix2_1]
  rfl

/-- One point's step of the output block. -/
theorem step_at (t : Fin cfg0.N) (n : Vec Ideal S512x2048 .bf16) (o : Vec Ideal S512x2048 .f32)
    (hn : ∀ r k, n (ix2 r k) = nrm (inp m c).x (inp m c).g (512 * (t.val / 11) + r.val) k.val) (r : Fin 512) (j : Fin 2048) :
    k0_pay2 n (iblk m c 2 t) (iblk m c 3 t) o (iblk m c 4 t) (ix2 r j)
      = o (ix2 r j) + ∑ f : Fin 512, part (inp m c) (512 * (t.val / 11) + r.val) j.val (512 * (t.val % 11) + f.val) := by
  pointwise [k0_pay2]
  simp only [X2_at, X3_at, X4_at, hn, ix2_0, ix2_1]
  rfl

/-- What the output block and the scratch hold after a point: the rows with the hidden units so far added, and the normalised rows. -/
theorem fold_at (q r : ℕ) (hr : r < 11) (h : 11 * q + r < cfg0.N) :
    (∀ a b, (outsAt0 m c (11 * q + r) h).1 (ix2 a b) = (inp m c).x (512 * q + a.val) b.val
      + ∑ f ∈ Finset.range (512 * (r + 1)), part (inp m c) (512 * q + a.val) b.val f)
    ∧ ∀ a b, (outsAt0 m c (11 * q + r) h).2 (ix2 a b) = nrm (inp m c).x (inp m c).g (512 * q + a.val) b.val := by
  induction r with
  | zero =>
    have e0 : (⟨11 * q + 0, h⟩ : Fin cfg0.N).val % 11 = 0 := by show (11 * q + 0) % 11 = 0; omega
    have e1 : (⟨11 * q + 0, h⟩ : Fin cfg0.N).val / 11 = q := by show (11 * q + 0) / 11 = q; omega
    rw [outsAt0_A m c ⟨11 * q + 0, h⟩ e0]
    dsimp only
    rw [out_A, sout_A]
    have hn := norm_at m c ⟨11 * q + 0, h⟩
    rw [e1] at hn
    refine ⟨fun a b => ?_, hn⟩
    rw [step_at m c ⟨11 * q + 0, h⟩ _ _ (by rw [e1]; exact hn), X0_at, e0, e1, ← block_sum _ 512 0]
    simp
  | succ r ih =>
    have e0 : ¬(⟨11 * q + (r + 1), h⟩ : Fin cfg0.N).val % 11 = 0 := by show ¬(11 * q + (r + 1)) % 11 = 0; omega
    have e2 : (⟨11 * q + (r + 1), h⟩ : Fin cfg0.N).val % 11 = r + 1 := by show (11 * q + (r + 1)) % 11 = r + 1; omega
    have e1 : (⟨11 * q + (r + 1), h⟩ : Fin cfg0.N).val / 11 = q := by show (11 * q + (r + 1)) / 11 = q; omega
    have ih := ih (by omega) (Nat.lt_of_succ_lt h)
    rw [outsAt0_B m c ⟨11 * q + (r + 1), h⟩ e0]
    dsimp only
    rw [out_B]
    refine ⟨fun a b => ?_, ih.2⟩
    rw [step_at m c ⟨11 * q + (r + 1), h⟩ _ _ (by rw [e1]; exact ih.2), e1, e2, ← block_sum _ 512 (r + 1)]
    exact (congrArg (· + _) (ih.1 a b)).trans (add_assoc _ _ _)

/-- The output array at an index. -/
theorem G_at (i : Fin 9216) (j : Fin 2048) : G5 m c (ix2 i j) = (inp m c).x i.val j.val
      + ∑ f : Fin 5632, part (inp m c) i.val j.val f.val := by
  have hi := i.isLt
  have hj := j.isLt
  have hN : cfg0.N = 198 := N_0
  have hp : pt5Of (ix2 i j) = 11 * (i.val / 512) + 10 := by
    show 11 * (1 * (i.val / 512 - 0) + 1 * (j.val / 2048 - 0)) + 10 = _
    rw [Nat.div_eq_of_lt hj]; omega
  have hlt : pt5Of (ix2 i j) < cfg0.N := by rw [hp, hN]; omega
  unfold G5
  rw [dif_pos hlt, ← outsAt0_sweep m c _ hlt]
  have hl : loc5Of (ix2 i j) = ix2 (⟨i.val % 512, Nat.mod_lt _ (by decide)⟩ : Fin 512) j := by
    funext a
    fin_cases a
    · rfl
    · exact Fin.ext (Nat.mod_eq_of_lt hj)
  have key : ∀ n (hn : n < cfg0.N), n = 11 * (i.val / 512) + 10 → (outsAt0 m c n hn).1 (loc5Of (ix2 i j)) = (inp m c).x i.val j.val
      + ∑ f : Fin 5632, part (inp m c) i.val j.val f.val := by
    intro n hn e
    subst e
    rw [hl, (fold_at m c (i.val / 512) 10 (by decide) hn).1]
    have e : 512 * (i.val / 512) + i.val % 512 = i.val := by omega
    dsimp only
    rw [e, Finset.sum_range]
  exact key _ _ hp

end Cert.Ffn
end
end
-- ==== Proof.FfnRef.lean ====
/-
The feed-forward reference at an index.
-/
module
public import proofs.«01_k».proof.Proof.Gen.Reference2Ideal.Read
public import proofs.«01_k».proof.Proof.Ffn

@[expose] public section
set_option maxRecDepth 16384
noncomputable section
namespace Cert.Ffn.Ref
open Cert.Reference2Ideal Cert.Reference2Ideal.Gen Cert.Reference2Ideal.Read Idealize.ShloMosaic Idealize.ShloMosaic.TcCoe Cert.Arr Cert.Norm Cert.Recur

variable (x0 : (⟨S9216x2048, .f32⟩ : BufTy).Contents (Elt Ideal)) (x1 : (⟨S2048, .f32⟩ : BufTy).Contents (Elt Ideal))
  (x2 x3 : (⟨S2048x5632, .f32⟩ : BufTy).Contents (Elt Ideal)) (x4 : (⟨S5632x2048, .f32⟩ : BufTy).Contents (Elt Ideal))

/-- The arguments, read at natural numbers. -/
def rin : In := ⟨N2 x0, N1 x1, N2 x2, N2 x3, N2 x4⟩

/-- The normalised rows. -/
theorem v12_at (i : Fin 9216) (k : Fin 2048) : val_main_v12 x0 x1 (ix2 i k) = nrm (rin x0 x1 x2 x3 x4).x (rin x0 x1 x2 x3 x4).g i.val k.val := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  simp only [fun y : Fin 2048 => N2_at x0 (ix2 i y) i.val y.val rfl rfl, fun y : Fin 2048 => N1_at x1 (ix1 y) y.val rfl]
  rfl
/-- A hidden row of the gate. -/
theorem v13_at (i : Fin 9216) (f : Fin 5632) : val_main_v13 x0 x1 x2 (ix2 i f) = ga (rin x0 x1 x2 x3 x4) i.val f.val := by
  pointwise [val_main_v13]
  simp only [v12_at x0 x1 x2 x3 x4, fun (y : Fin 2048) (f : Fin 5632) => N2_at x2 (ix2 y f) y.val f.val rfl rfl]
  rfl
/-- A hidden row of the way up. -/
theorem v15_at (i : Fin 9216) (f : Fin 5632) : val_main_v15 x0 x1 x3 (ix2 i f) = up (rin x0 x1 x2 x3 x4) i.val f.val := by
  pointwise [val_main_v15]
  simp only [v12_at x0 x1 x2 x3 x4, fun (y : Fin 2048) (f : Fin 5632) => N2_at x3 (ix2 y f) y.val f.val rfl rfl]
  rfl
/-- The gate's activation. -/
theorem v16_at (i : Fin 9216) (f : Fin 5632) : val_main_v16 x0 x1 x2 x3 (ix2 i f)
    = ga (rin x0 x1 x2 x3 x4) i.val f.val * Ideal.logistic (ga (rin x0 x1 x2 x3 x4) i.val f.val) * up (rin x0 x1 x2 x3 x4) i.val f.val := by
  pointwise [val_main_v16, val_main_v14, val_main_call0_v5, val_main_call0_v4, val_main_call0_cst_0, val_main_call0_v3, val_main_call0_cst, val_main_call0_v2, val_main_call0_v1, val_main_call0_v0]
  simp only [v13_at x0 x1 x2 x3 x4, v15_at x0 x1 x2 x3 x4]
  rfl
/-- The output. -/
theorem v20_at (i : Fin 9216) (j : Fin 2048) : val_main_v20 x0 x1 x2 x3 x4 (ix2 i j) = (rin x0 x1 x2 x3 x4).x i.val j.val
    + ∑ f : Fin 5632, part (rin x0 x1 x2 x3 x4) i.val j.val f.val := by
  pointwise [val_main_v20, val_main_v19, val_main_v18, val_main_cst_2, val_main_v17]
  simp only [v16_at x0 x1 x2 x3 x4, N2_at x0 (ix2 i j) i.val j.val rfl rfl, fun (f : Fin 5632) => N2_at x4 (ix2 f j) f.val j.val rfl rfl]
  refine congrArg₂ (· + ·) rfl ?_
  show half * _ = _
  rw [half_real, mul_comm, sum_mul_real _ _ _ (by norm_num)]
  refine Finset.sum_congr rfl fun f _ => ?_
  unfold part
  rw [half_real]
  simp only [rin]
  ac_rfl

end Cert.Ffn.Ref
end
end
-- ==== Proof.FfnClaim.lean ====
/-
The feed-forward call's claims.
-/
module
public import proofs.«01_k».proof.Proof.FfnRef
public import proofs.«01_k».proof.Proof.Gen.Kernel2.Frame
public import proofs.«01_k».proof.Proof.Gen.Reference2Ideal.Run
public import proofs.«01_k».proof.Defs
public import Idealize.ShloMosaic.Adequacy
public import Idealize.ShloMosaic.Init

@[expose] public section
set_option maxHeartbeats 2000000
noncomputable section
namespace Cert.Ffn
open Idealize.ShloMosaic Idealize.SL.Sem Idealize.ShloMosaic.StableHlo Cert.Arr

/-- The printed call leaves its arguments and its semaphores as they were. -/
theorem frame_p : Cert.quiescent_Kernel2 := fun m ρ _ => Cert.Kernel2.Gen.frame m ρ
/-- So does its idealisation; -/
theorem frame_pi : Cert.quiescent_Kernel2Ideal := fun m ρ _ => Cert.Kernel2Ideal.Gen.frame m ρ
/-- and the reference. -/
theorem frame_ri : Cert.quiescent_Reference2Ideal := fun m ρ _ =>
  (θ_run Cert.Reference2Ideal.defs _ _).mono (fun r h => ⟨fun c => (h c).2,
    Idealize.ShloMosaic.sem_eq_zero_of_no_sems (by decide) r.2⟩) (Cert.Reference2Ideal.Value.run m ρ)

/-- The two programs' outputs are one array, entry by entry. -/
theorem rows_eq (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v20 (m ((c.tc).loc Cert.Kernel2Ideal.main_arg0)) (m ((c.tc).loc Cert.Kernel2Ideal.main_arg1))
      (m ((c.tc).loc Cert.Kernel2Ideal.main_arg2)) (m ((c.tc).loc Cert.Kernel2Ideal.main_arg3)) (m ((c.tc).loc Cert.Kernel2Ideal.main_arg4))
    = Cert.Kernel2Ideal.Value.G5 m c := by
  refine funext fun (i : Cert.Kernel2Ideal.S9216x2048.Idx) => ?_
  rw [show i = ix2 (i 0) (i 1) from by funext a; fin_cases a <;> rfl]
  exact (Ref.v20_at _ _ _ _ _ (i 0) (i 1)).trans (G_at m c (i 0) (i 1)).symm

/-- At the reals, the call computes the reference. -/
theorem algebraic : Cert.algebraic_Kernel2Ideal_Reference2Ideal := by
  intro m ρ m' ρ' _ hagree
  refine ⟨fun c => Cert.Kernel2Ideal.Value.G5 m c, Cert.Kernel2Ideal.Value.run m ρ, ?_⟩
  refine (θ_run Cert.Reference2Ideal.defs _ _).mono ?_ (Cert.Reference2Ideal.Value.run m' ρ')
  intro r h c
  obtain ⟨a0, a1, a2, a3, a4⟩ := hagree c
  refine ⟨((h c).1.trans (Cert.Reference2Ideal.Read.val_main_v20_eq _ _ _ _ _)).trans ?_, (h c).2⟩
  refine Eq.trans ?_ (rows_eq m c)
  rw [← a0, ← a1, ← a2, ← a3, ← a4]

end Cert.Ffn
end
end
-- ==== Proof.InprojBody.lean ====
/-
The input projection's kernel's body: what one grid point leaves in its output block and its scratch.
-/
module
public import proofs.«01_k».proof.Proof.Gen.Kernel3Ideal.Value
public import proofs.«01_k».proof.Proof.Ld

@[expose] public section
set_option maxHeartbeats 2000000
noncomputable section
namespace Cert.Inproj
open Cert.Kernel3Ideal Cert.Kernel3Ideal.Gen Idealize.ShloMosaic Idealize.ShloMosaic.TcCoe Idealize.SL.Sem Cert.Ld
variable {F : FTy → Type} [FloatOps F]
variable (c : Dev nD) (i : grid0.Coords)
  (arg2 : Memref sig .tc .vmem S512x2048 .f32) (harg2 : arg2.IsWhole)
  (arg3 : Memref sig .tc .vmem S1x2048 .f32) (harg3 : arg3.IsWhole)
  (arg4 : Memref sig .tc .vmem S2048x1408 .bf16) (harg4 : arg4.IsWhole)
  (arg5 : Memref sig .tc .vmem S512x1408 .f32) (harg5 : arg5.IsWhole)
  (arg6 : Memref sig .tc .vmem S512x2048 .bf16) (harg6 : arg6.IsWhole)
variable (x0 : Vec F S512x2048 .f32) (x1 : Vec F S1x2048 .f32) (x2 : Vec F S2048x1408 .bf16)

/-- At a row block's first point the scratch takes the normalised rows. -/
theorem sout_A (hc0 : cond0_0 i) : sout0_A_0 c i arg2 harg2 arg3 harg3 arg4 harg4 arg5 harg5 arg6 harg6 hc0 x0 x1 x2 = k0_pay1 x0 x1 := by
  funext y
  unfold sout0_A_0
  refine View.read_writes_apply_of_pieces _ _ (k0_pay1 x0 x1) _ ?_ y
    (View.cover_of_tiledL (kernelRun0_A c i arg2 harg2 arg3 harg3 arg4 harg4 arg5 harg5 arg6 harg6 hc0 x0 x1 x2).2.1 S512x2048.size (by sl_kernel_rfl) y)
  unfold kernelRun0_A
  simp only [List.forall_mem_cons, List.not_mem_nil, false_imp_iff, implies_true, and_true]
  unfold kernelRun0_A.sl.HS0_1
  simp only [List.forall_mem_cons, List.not_mem_nil, false_imp_iff, implies_true, and_true]
  intro x
  rw [ld _ _ z2, ld _ _ z2]
  exact (emb0 z2 _ (k0_pay1 x0 x1) x).symm

/-- There the output block takes the product of those rows. -/
theorem out_A (hc0 : cond0_0 i) : out0_A_3 c i arg2 harg2 arg3 harg3 arg4 harg4 arg5 harg5 arg6 harg6 hc0 x0 x1 x2 = k0_pay2 (k0_pay1 x0 x1) x2 := by
  funext y
  unfold out0_A_3
  refine View.read_writes_apply_of_pieces _ _ (k0_pay2 (k0_pay1 x0 x1) x2) _ ?_ y
    (View.cover_of_tiledL (kernelRun0_A c i arg2 harg2 arg3 harg3 arg4 harg4 arg5 harg5 arg6 harg6 hc0 x0 x1 x2).1 S512x1408.size (by sl_kernel_rfl) y)
  unfold kernelRun0_A
  simp only [List.forall_mem_cons, List.not_mem_nil, false_imp_iff, implies_true, and_true]
  unfold kernelRun0_A.sl.v3
  unfold kernelRun0_A.sl.HS0_1
  intro x
  rw [View.readCov_unit_zero _ z2, ld _ _ z2, ld _ _ z2, ld _ _ z2]
  exact (emb0 z2 _ (k0_pay2 (k0_pay1 x0 x1) x2) x).symm

/-- At a later point the output block takes the product of the scratch's rows. -/
theorem out_B (hc0 : ¬cond0_0 i) (xs0 : Vec F S512x2048 .bf16) :
    out0_B_3 c i arg2 harg2 arg3 harg3 arg4 harg4 arg5 harg5 arg6 harg6 hc0 x0 x1 x2 xs0 = k0_pay2 xs0 x2 := by
  funext y
  unfold out0_B_3
  refine View.read_writes_apply_of_pieces _ _ (k0_pay2 xs0 x2) _ ?_ y
    (View.cover_of_tiledL (kernelRun0_B c i arg2 harg2 arg3 harg3 arg4 harg4 arg5 harg5 arg6 harg6 hc0 x0 x1 x2 xs0).1 S512x1408.size (by sl_kernel_rfl) y)
  unfold kernelRun0_B
  simp only [List.forall_mem_cons, List.not_mem_nil, false_imp_iff, implies_true, and_true]
  intro x
  rw [ld _ _ z2, ld _ _ z2]
  exact (emb0 z2 _ (k0_pay2 xs0 x2) x).symm

end Cert.Inproj
end
end
-- ==== Proof.Inproj.lean ====
/-
The input projection's output array at an index.
-/
module
public import proofs.«01_k».proof.Proof.InprojBody
public import proofs.«01_k».proof.Proof.Norm
public import Idealize.ShloMosaic.Lib.StableHlo.ReadAt
public import Idealize.ShloMosaic.Lib.StableHlo.RunClose

@[expose] public section
set_option maxRecDepth 16384
set_option maxHeartbeats 2000000
noncomputable section
namespace Cert.Inproj
open Cert.Kernel3Ideal Cert.Kernel3Ideal.Gen Cert.Kernel3Ideal.Value Idealize.ShloMosaic Idealize.ShloMosaic.TcCoe Idealize.SL.Sem Cert.Arr Cert.Norm Cert.Ld

/-- Column `j` of the output, of the projection's columns `g`: its groups of columns in the output's order, zero where it is padding. -/
def cat (g : ℕ → EReal) (j : ℕ) : EReal :=
  if j < 1024 then g j
  else if j - 1024 < 2048 then g (1024 + (j - 1024))
  else if j - 1024 - 2048 < 1024 then g (3088 + (j - 1024 - 2048))
  else if j - 1024 - 2048 - 1024 < 1024 then g (4624 + (j - 1024 - 2048 - 1024))
  else if j - 1024 - 2048 - 1024 - 1024 < 3072 then g (5728 + (j - 1024 - 2048 - 1024 - 1024))
  else if j - 1024 - 2048 - 1024 - 1024 - 3072 < 6144 then g (9088 + (j - 1024 - 2048 - 1024 - 1024 - 3072))
  else if j - 1024 - 2048 - 1024 - 1024 - 3072 - 6144 < 288 then g (5728 + (3072 + (j - 1024 - 2048 - 1024 - 1024 - 3072 - 6144)))
  else if j - 1024 - 2048 - 1024 - 1024 - 3072 - 6144 - 288 < 224 then 0
  else if j - 1024 - 2048 - 1024 - 1024 - 3072 - 6144 - 288 - 224 < 256 then g (4112 + (j - 1024 - 2048 - 1024 - 1024 - 3072 - 6144 - 288 - 224))
  else if j - 1024 - 2048 - 1024 - 1024 - 3072 - 6144 - 288 - 224 - 256 < 256 then g (4368 + (j - 1024 - 2048 - 1024 - 1024 - 3072 - 6144 - 288 - 224 - 256))
  else if j - 1024 - 2048 - 1024 - 1024 - 3072 - 6144 - 288 - 224 - 256 - 256 < 64 then g (5648 + (j - 1024 - 2048 - 1024 - 1024 - 3072 - 6144 - 288 - 224 - 256 - 256))
  else if j - 1024 - 2048 - 1024 - 1024 - 3072 - 6144 - 288 - 224 - 256 - 256 - 64 < 16 then g (3072 + (j - 1024 - 2048 - 1024 - 1024 - 3072 - 6144 - 288 - 224 - 256 - 256 - 64))
  else if j - 1024 - 2048 - 1024 - 1024 - 3072 - 6144 - 288 - 224 - 256 - 256 - 64 - 16 < 16 then g (5712 + (j - 1024 - 2048 - 1024 - 1024 - 3072 - 6144 - 288 - 224 - 256 - 256 - 64 - 16))
  else 0

/-- The groups of columns of a product are the product with the groups of columns. -/
theorem cat_sum (n : ℕ → EReal) (w : ℕ → ℕ → EReal) (j : ℕ) :
    ∑ k : Fin 2048, n k.val * cat (w k.val) j = cat (fun s => ∑ k : Fin 2048, n k.val * w k.val s) j := by
  unfold cat
  simp only [mul_ite, Finset.sum_ite_irrel, mul_zero, Finset.sum_const_zero]

/-- A choice whose branches are two values is the choice of the two. -/
theorem dcongr {α : Type} {p : Prop} [Decidable p] {A : p → α} {B : ¬p → α} {a b : α} (h : ∀ x, A x = a) (h' : ∀ x, B x = b) :
    dite p A B = ite p a b := by
  split
  · exact h _
  · exact h' _

/-- The call's arrays, read at natural numbers: rows, norm weights, projection weights. -/
structure In where
  (x : ℕ → ℕ → EReal) (g : ℕ → EReal) (w : ℕ → ℕ → EReal)

/-- The output. -/
def out (v : In) (i j : ℕ) : EReal := ∑ k : Fin 2048, nrm v.x v.g i k.val * cat (v.w k.val) j

variable (m : (ℓ : Loc nD τ sig) → Buf (Elt Ideal) ℓ) (c : Dev nD)

/-- The launch's arrays, read at natural numbers. -/
def inp : In where
  x := N2 (a := 9216) (b := 2048) (m ((c : Thread nD τ).loc main_arg0))
  g := N1 (a := 2048) (m ((c : Thread nD τ).loc main_arg1))
  w := N2 (a := 2048) (b := 15232) (m ((c : Thread nD τ).loc main_arg2))

/-- The rows' block. -/
theorem X0_at (t : Fin cfg0.N) (x : S512x2048.Idx) : iblk m c 0 t x = (inp m c).x (512 * (t.val / 11) + (x 0).val) (x 1).val := by
  have hi : win0_0.index t 0 = t.val / 11 ∧ win0_0.index t 1 = 0 := by revert t; decide +kernel
  unfold iblk
  rw [View.read_apply]
  show V m c main_arg0 _ = _
  rw [V_main_arg0]
  refine N2_at (a := 9216) (b := 2048) _ _ _ _ ?_ ?_
  · show win0_0.index t 0 * 512 + 1 * (x 0).val = _; rw [hi.1]; omega
  · show win0_0.index t 1 * 2048 + 1 * (x 1).val = _; rw [hi.2]; omega

/-- The norm's weights. -/
theorem X1_at (t : Fin cfg0.N) (x : S1x2048.Idx) : iblk m c 1 t x = (inp m c).g (x 1).val := by
  have hi : win0_1.index t 0 = 0 ∧ win0_1.index t 1 = 0 := by revert t; decide +kernel
  have h : ∀ y : S1x2048.Idx, V m c main_v0 y = (inp m c).g (y 1).val := by
    intro y
    after_reads_at
    exact N1_at (a := 2048) _ _ _ (by simp)
  unfold iblk
  rw [View.read_apply]
  refine (h _).trans (congrArg (inp m c).g ?_)
  show win0_1.index t 1 * 2048 + 1 * (x 1).val = (x 1).val; rw [hi.2]; omega

/-- The projection's weights with their groups of columns in the output's order. -/
def relay {F : FTy → Type} [FloatOps F] (w : (⟨S2048x15232, .f32⟩ : BufTy).Contents (Elt F)) : (⟨S2048x15488, .f32⟩ : BufTy).Contents (Elt F) :=
  concatenate S2048x15488 1 [⟨S2048x1024, (extractStridedSlice S2048x1024 ![0, 0] w slices_S2048x15232_S2048x1024_0_0 : (⟨S2048x1024, .f32⟩ : BufTy).Contents (Elt F))⟩,
    ⟨S2048x2048, (extractStridedSlice S2048x2048 ![0, 1024] w slices_S2048x15232_S2048x2048_0_1024 : (⟨S2048x2048, .f32⟩ : BufTy).Contents (Elt F))⟩,
    ⟨S2048x1024, (extractStridedSlice S2048x1024 ![0, 3088] w slices_S2048x15232_S2048x1024_0_3088 : (⟨S2048x1024, .f32⟩ : BufTy).Contents (Elt F))⟩,
    ⟨S2048x1024, (extractStridedSlice S2048x1024 ![0, 4624] w slices_S2048x15232_S2048x1024_0_4624 : (⟨S2048x1024, .f32⟩ : BufTy).Contents (Elt F))⟩,
    ⟨S2048x3072, (extractStridedSlice S2048x3072 ![0, 0] (extractStridedSlice S2048x3360 ![0, 5728] w slices_S2048x15232_S2048x3360_0_5728) slices_S2048x3360_S2048x3072_0_0 : (⟨S2048x3072, .f32⟩ : BufTy).Contents (Elt F))⟩,
    ⟨S2048x6144, (extractStridedSlice S2048x6144 ![0, 9088] w slices_S2048x15232_S2048x6144_0_9088 : (⟨S2048x6144, .f32⟩ : BufTy).Contents (Elt F))⟩,
    ⟨S2048x288, (extractStridedSlice S2048x288 ![0, 3072] (extractStridedSlice S2048x3360 ![0, 5728] w slices_S2048x15232_S2048x3360_0_5728) slices_S2048x3360_S2048x288_0_3072 : (⟨S2048x288, .f32⟩ : BufTy).Contents (Elt F))⟩,
    ⟨S2048x224, (broadcastInDim S2048x224 ![] bcast_S_S2048x224 (constant (F := F) S_ .f32 0x00000000#32) : (⟨S2048x224, .f32⟩ : BufTy).Contents (Elt F))⟩,
    ⟨S2048x256, (extractStridedSlice S2048x256 ![0, 4112] w slices_S2048x15232_S2048x256_0_4112 : (⟨S2048x256, .f32⟩ : BufTy).Contents (Elt F))⟩,
    ⟨S2048x256, (extractStridedSlice S2048x256 ![0, 4368] w slices_S2048x15232_S2048x256_0_4368 : (⟨S2048x256, .f32⟩ : BufTy).Contents (Elt F))⟩,
    ⟨S2048x64, (extractStridedSlice S2048x64 ![0, 5648] w slices_S2048x15232_S2048x64_0_5648 : (⟨S2048x64, .f32⟩ : BufTy).Contents (Elt F))⟩,
    ⟨S2048x16, (extractStridedSlice S2048x16 ![0, 3072] w slices_S2048x15232_S2048x16_0_3072 : (⟨S2048x16, .f32⟩ : BufTy).Contents (Elt F))⟩,
    ⟨S2048x16, (extractStridedSlice S2048x16 ![0, 5712] w slices_S2048x15232_S2048x16_0_5712 : (⟨S2048x16, .f32⟩ : BufTy).Contents (Elt F))⟩,
    ⟨S2048x32, (broadcastInDim S2048x32 ![] bcast_S_S2048x32 (constant (F := F) S_ .f32 0x00000000#32) : (⟨S2048x32, .f32⟩ : BufTy).Contents (Elt F))⟩]
    concatenates_S2048x1024_S2048x2048_S2048x1024_S2048x1024_S2048x3072_S2048x6144_S2048x288_S2048x224_S2048x256_S2048x256_S2048x64_S2048x16_S2048x16_S2048x32_S2048x15488_d1

/-- What the call's weights are when the kernel starts. -/
theorem W_eq : V m c main_v17 = truncf .bf16 (relay (m ((c : Thread nD τ).loc main_arg2))) bitsLt_bf16_f32 := by
  unfold relay
  after_results_entrywise (rounds := 1) []

/-- The projection's weights in the output's order of columns. -/
theorem W_at (k : Fin 2048) (j : Fin 15488) : V m c main_v17 (ix2 k j) = cat ((inp m c).w k.val) j.val := by
  have hj := j.isLt
  rw [W_eq]
  generalize hw : m ((c : Thread nD τ).loc main_arg2) = w
  pointwise [relay]
  have z : Ideal.ofBits .f32 0x00000000#32 = 0 := by simp [Ideal.ofBits, Ideal.ieee]
  have r : (inp m c).w = N2 w := by rw [← hw]; rfl
  rw [r]
  unfold cat
  repeat' refine dcongr (fun _ => ?_) fun _ => ?_
  all_goals first | exact z | exact N2_at (a := 2048) (b := 15232) w _ _ _ rfl rfl | rfl

/-- The weights' block. -/
theorem X2_at (t : Fin cfg0.N) (x : S2048x1408.Idx) : iblk m c 2 t x = cat ((inp m c).w (x 0).val) (1408 * (t.val % 11) + (x 1).val) := by
  have hi : win0_2.index t 0 = 0 ∧ win0_2.index t 1 = t.val % 11 := by revert t; decide +kernel
  have h : ∀ y : S2048x15488.Idx, V m c main_v17 y = cat ((inp m c).w (y 0).val) (y 1).val := by
    intro y
    rw [show y = ix2 (y 0) (y 1) from by funext a; fin_cases a <;> rfl]
    exact W_at m c (y 0) (y 1)
  unfold iblk
  rw [View.read_apply]
  refine (h _).trans (congrArg₂ (fun a b => cat ((inp m c).w a) b) ?_ ?_)
  · show win0_2.index t 0 * 2048 + 1 * (x 0).val = _; rw [hi.1]; omega
  · show win0_2.index t 1 * 1408 + 1 * (x 1).val = _; rw [hi.2]; omega

/-- The normalised rows. -/
theorem norm_at (t : Fin cfg0.N) (r : Fin 512) (k : Fin 2048) :
    k0_pay1 (iblk m c 0 t) (iblk m c 1 t) (ix2 r k) = nrm (inp m c).x (inp m c).g (512 * (t.val / 11) + r.val) k.val := by
  pointwise [k0_pay1]
  simp only [X0_at, X1_at, ix2_0, ix2_1]
  rfl

/-- One point's block of the output. -/
theorem step_at (t : Fin cfg0.N) (n : Vec Ideal S512x2048 .bf16)
    (hn : ∀ r k, n (ix2 r k) = nrm (inp m c).x (inp m c).g (512 * (t.val / 11) + r.val) k.val) (r : Fin 512) (j : Fin 1408) :
    k0_pay2 n (iblk m c 2 t) (ix2 r j) = out (inp m c) (512 * (t.val / 11) + r.val) (1408 * (t.val % 11) + j.val) := by
  pointwise [k0_pay2]
  simp only [X2_at, hn, ix2_0, ix2_1]
  rfl

/-- What the output block and the scratch hold after a point: the block's columns, and the normalised rows. -/
theorem fold_at (q r : ℕ) (hr : r < 11) (h : 11 * q + r < cfg0.N) :
    (∀ a b, (outsAt0 m c (11 * q + r) h).1 (ix2 a b) = out (inp m c) (512 * q + a.val) (1408 * r + b.val))
    ∧ ∀ a b, (outsAt0 m c (11 * q + r) h).2 (ix2 a b) = nrm (inp m c).x (inp m c).g (512 * q + a.val) b.val := by
  induction r with
  | zero =>
    have e0 : (⟨11 * q + 0, h⟩ : Fin cfg0.N).val % 11 = 0 := by show (11 * q + 0) % 11 = 0; omega
    have e1 : (⟨11 * q + 0, h⟩ : Fin cfg0.N).val / 11 = q := by show (11 * q + 0) / 11 = q; omega
    rw [outsAt0_A m c ⟨11 * q + 0, h⟩ e0]
    dsimp only
    rw [out_A, sout_A]
    have hn := norm_at m c ⟨11 * q + 0, h⟩
    rw [e1] at hn
    refine ⟨fun a b => ?_, hn⟩
    rw [step_at m c ⟨11 * q + 0, h⟩ _ (by rw [e1]; exact hn), e0, e1]
  | succ r ih =>
    have e0 : ¬(⟨11 * q + (r + 1), h⟩ : Fin cfg0.N).val % 11 = 0 := by show ¬(11 * q + (r + 1)) % 11 = 0; omega
    have e2 : (⟨11 * q + (r + 1), h⟩ : Fin cfg0.N).val % 11 = r + 1 := by show (11 * q + (r + 1)) % 11 = r + 1; omega
    have e1 : (⟨11 * q + (r + 1), h⟩ : Fin cfg0.N).val / 11 = q := by show (11 * q + (r + 1)) / 11 = q; omega
    have ih := ih (by omega) (Nat.lt_of_succ_lt h)
    rw [outsAt0_B m c ⟨11 * q + (r + 1), h⟩ e0]
    dsimp only
    rw [out_B]
    refine ⟨fun a b => ?_, ih.2⟩
    rw [step_at m c ⟨11 * q + (r + 1), h⟩ _ (by rw [e1]; exact ih.2), e1, e2]

/-- The output array at an index. -/
theorem G_at (i : Fin 9216) (j : Fin 15488) : G3 m c (ix2 i j) = out (inp m c) i.val j.val := by
  have hi := i.isLt
  have hj := j.isLt
  have hN : cfg0.N = 198 := N_0
  have hp : pt3Of (ix2 i j) = 11 * (i.val / 512) + j.val / 1408 := by
    show 11 * (i.val / 512 - 0) + 1 * (j.val / 1408 - 0) = _; omega
  have hlt : pt3Of (ix2 i j) < cfg0.N := by rw [hp, hN]; omega
  unfold G3
  rw [dif_pos hlt, ← outsAt0_sweep m c _ hlt]
  have hl : loc3Of (ix2 i j) = ix2 (⟨i.val % 512, Nat.mod_lt _ (by decide)⟩ : Fin 512) (⟨j.val % 1408, Nat.mod_lt _ (by decide)⟩ : Fin 1408) := by
    funext a
    fin_cases a <;> rfl
  have key : ∀ n (hn : n < cfg0.N), n = 11 * (i.val / 512) + j.val / 1408 → (outsAt0 m c n hn).1 (loc3Of (ix2 i j)) = out (inp m c) i.val j.val := by
    intro n hn e
    subst e
    rw [hl, (fold_at m c (i.val / 512) (j.val / 1408) (by omega) hn).1]
    have e : 512 * (i.val / 512) + i.val % 512 = i.val := by omega
    have e' : 1408 * (j.val / 1408) + j.val % 1408 = j.val := by omega
    dsimp only
    rw [e, e']
  exact key _ _ hp

end Cert.Inproj
end
end
-- ==== Proof.InprojRef.lean ====
/-
The input projection's reference at an index.
-/
module
public import proofs.«01_k».proof.Proof.Gen.Reference3Ideal.Read
public import proofs.«01_k».proof.Proof.Inproj

@[expose] public section
set_option maxRecDepth 16384
set_option maxHeartbeats 2000000
noncomputable section
namespace Cert.Inproj.Ref
open Cert.Reference3Ideal Cert.Reference3Ideal.Gen Cert.Reference3Ideal.Read Idealize.ShloMosaic Idealize.ShloMosaic.TcCoe Cert.Arr Cert.Norm

variable (x0 : (⟨S9216x2048, .f32⟩ : BufTy).Contents (Elt Ideal)) (x1 : (⟨S2048, .f32⟩ : BufTy).Contents (Elt Ideal))
  (x2 : (⟨S2048x15232, .f32⟩ : BufTy).Contents (Elt Ideal))

/-- The arguments, read at natural numbers. -/
def rin : In := ⟨N2 x0, N1 x1, N2 x2⟩

/-- The normalised rows. -/
theorem v12_at (i : Fin 9216) (k : Fin 2048) : val_main_v12 x0 x1 (ix2 i k) = nrm (rin x0 x1 x2).x (rin x0 x1 x2).g i.val k.val := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  simp only [fun y : Fin 2048 => N2_at x0 (ix2 i y) i.val y.val rfl rfl, fun y : Fin 2048 => N1_at x1 (ix1 y) y.val rfl]
  rfl
/-- The projection. -/
theorem v13_at (i : Fin 9216) (f : Fin 15232) (s : ℕ) (h : f.val = s) : val_main_v13 x0 x1 x2 (ix2 i f)
    = ∑ k : Fin 2048, nrm (rin x0 x1 x2).x (rin x0 x1 x2).g i.val k.val * (rin x0 x1 x2).w k.val s := by
  subst h
  pointwise [val_main_v13]
  simp only [v12_at x0 x1 x2, fun (y : Fin 2048) (f : Fin 15232) => N2_at x2 (ix2 y f) y.val f.val rfl rfl]
  rfl
/-- The output. -/
theorem v29_at (i : Fin 9216) (j : Fin 15488) : val_main_v29 x0 x1 x2 (ix2 i j) = out (rin x0 x1 x2) i.val j.val := by
  have hj := j.isLt
  have z : Ideal.ofBits .f32 0x00000000#32 = 0 := by simp [Ideal.ofBits, Ideal.ieee]
  unfold out
  rw [cat_sum]
  pointwise [val_main_v29, val_main_v28, val_main_v27, val_main_v26, val_main_v25, val_main_v24, val_main_v23, val_main_v22, val_main_v21, val_main_v20, val_main_v19, val_main_v18, val_main_v17, val_main_v16, val_main_v15, val_main_v14, val_main_cst_2, val_main_cst_3]
  unfold cat
  repeat' refine dcongr (fun _ => ?_) fun _ => ?_
  all_goals first | exact z | exact v13_at x0 x1 x2 _ _ _ rfl | rfl

end Cert.Inproj.Ref
end
end
-- ==== Proof.InprojClaim.lean ====
/-
The input projection's claims.
-/
module
public import proofs.«01_k».proof.Proof.InprojRef
public import proofs.«01_k».proof.Proof.Gen.Kernel3.Frame
public import proofs.«01_k».proof.Proof.Gen.Reference3Ideal.Run
public import proofs.«01_k».proof.Defs
public import Idealize.ShloMosaic.Adequacy
public import Idealize.ShloMosaic.Init

@[expose] public section
set_option maxHeartbeats 2000000
noncomputable section
namespace Cert.Inproj
open Idealize.ShloMosaic Idealize.SL.Sem Idealize.ShloMosaic.StableHlo Cert.Arr

/-- The printed call leaves its arguments and its semaphores as they were. -/
theorem frame_p : Cert.quiescent_Kernel3 := fun m ρ _ => Cert.Kernel3.Gen.frame m ρ
/-- So does its idealisation; -/
theorem frame_pi : Cert.quiescent_Kernel3Ideal := fun m ρ _ => Cert.Kernel3Ideal.Gen.frame m ρ
/-- and the reference. -/
theorem frame_ri : Cert.quiescent_Reference3Ideal := fun m ρ _ =>
  (θ_run Cert.Reference3Ideal.defs _ _).mono (fun r h => ⟨fun c => (h c).2,
    Idealize.ShloMosaic.sem_eq_zero_of_no_sems (by decide) r.2⟩) (Cert.Reference3Ideal.Value.run m ρ)

/-- The two programs' outputs are one array, entry by entry. -/
theorem rows_eq (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v29 (m ((c.tc).loc Cert.Kernel3Ideal.main_arg0)) (m ((c.tc).loc Cert.Kernel3Ideal.main_arg1))
      (m ((c.tc).loc Cert.Kernel3Ideal.main_arg2))
    = Cert.Kernel3Ideal.Value.G3 m c := by
  refine funext fun (i : Cert.Kernel3Ideal.S9216x15488.Idx) => ?_
  rw [show i = ix2 (i 0) (i 1) from by funext a; fin_cases a <;> rfl]
  exact (Ref.v29_at _ _ _ (i 0) (i 1)).trans (G_at m c (i 0) (i 1)).symm

/-- At the reals, the call computes the reference. -/
theorem algebraic : Cert.algebraic_Kernel3Ideal_Reference3Ideal := by
  intro m ρ m' ρ' _ hagree
  refine ⟨fun c => Cert.Kernel3Ideal.Value.G3 m c, Cert.Kernel3Ideal.Value.run m ρ, ?_⟩
  refine (θ_run Cert.Reference3Ideal.defs _ _).mono ?_ (Cert.Reference3Ideal.Value.run m' ρ')
  intro r h c
  obtain ⟨a0, a1, a2⟩ := hagree c
  refine ⟨((h c).1.trans (Cert.Reference3Ideal.Read.val_main_v29_eq _ _)).trans ?_, (h c).2⟩
  refine Eq.trans ?_ (rows_eq m c)
  rw [← a0, ← a1, ← a2]

end Cert.Inproj
end
end
-- ==== Proof.MergeBody.lean ====
/-
The merge kernel's body: what one grid point leaves in its output block.
-/
module
public import proofs.«01_k».proof.Proof.Gen.Kernel4Ideal.Value
public import proofs.«01_k».proof.Proof.Ld

@[expose] public section
set_option maxHeartbeats 2000000
noncomputable section
namespace Cert.Merge
open Cert.Kernel4Ideal Cert.Kernel4Ideal.Gen Idealize.ShloMosaic Idealize.ShloMosaic.TcCoe Idealize.SL.Sem Cert.Ld
variable {F : FTy → Type} [FloatOps F]
variable (c : Dev nD) (i : grid0.Coords)
  (arg2 : Memref sig .tc .vmem S512x2048 .f32) (harg2 : arg2.IsWhole)
  (arg3 : Memref sig .tc .vmem S512x1024 .bf16) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S512x512 .f32) (harg6 : arg6.IsWhole)
  (arg7 : Memref sig .tc .vmem S512x512 .f32) (harg7 : arg7.IsWhole)
  (arg8 : Memref sig .tc .vmem S512x512 .f32) (harg8 : arg8.IsWhole)
  (arg9 : Memref sig .tc .vmem S1024x512 .bf16) (harg9 : arg9.IsWhole)
  (arg10 : Memref sig .tc .vmem S1024x512 .bf16) (harg10 : arg10.IsWhole)
  (arg11 : Memref sig .tc .vmem S1024x512 .bf16) (harg11 : arg11.IsWhole)
  (arg12 : Memref sig .tc .vmem S512x2048 .bf16) (harg12 : arg12.IsWhole)
  (arg13 : Memref sig .tc .vmem S512x2048 .f32) (harg13 : arg13.IsWhole)
variable (x0 : Vec F S512x2048 .f32) (x1 : Vec F S512x1024 .bf16) (x2 : Vec F S512x1024 .bf16) (x3 : Vec F S512x1024 .bf16) (x4 : Vec F S512x512 .f32) (x5 : Vec F S512x512 .f32) (x6 : Vec F S512x512 .f32) (x7 : Vec F S1024x512 .bf16) (x8 : Vec F S1024x512 .bf16) (x9 : Vec F S1024x512 .bf16) (x10 : Vec F S512x2048 .bf16)

/-- One point's step of the output block `o`: a block of merged columns times its rows of the output weights, added. -/
def stp (o : Vec F S512x2048 .f32) : Vec F S512x2048 .f32 := k0_pay1 (k0_pay2 o) (k0_pay3 x4 x1 x7 x5 x2 x8 x6 x3 x9) x10

/-- At a row block's first point the output block takes the rows and the first block of merged columns. -/
theorem out_A (hc0 : cond0_0 i) : out0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 = stp x1 x2 x3 x4 x5 x6 x7 x8 x9 x10 x0 := by
  funext y
  unfold out0_A_11
  rw [← List.take_append_drop 1 (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10).1, View.writes_append]
  refine View.read_writes_apply_of_pieces _ _ (stp x1 x2 x3 x4 x5 x6 x7 x8 x9 x10 x0) _ ?_ y
    (View.cover_of_tiledL ((kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10).1.take 1) S512x2048.size (by sl_kernel_rfl) y)
  unfold kernelRun0_A
  simp only [List.take_succ_cons, List.take_zero, List.forall_mem_cons, List.not_mem_nil, false_imp_iff, implies_true, and_true]
  unfold kernelRun0_A.sl.r kernelRun0_A.sl.r_1 kernelRun0_A.sl.r_2
  unfold kernelRun0_A.sl.v26
  unfold kernelRun0_A.sl.H11_1
  intro x
  rw [View.readCov_unit_zero _ z2, ld _ _ z2, ld _ _ z2, ld _ _ z2, ld _ _ z2, ld _ _ z2, ld _ _ z2, ld _ _ z2, ld _ _ z2, ld _ _ z2, ld _ _ z2, ld _ _ z2]
  exact (emb0 z2 _ (stp x1 x2 x3 x4 x5 x6 x7 x8 x9 x10 x0) x).symm

/-- At a later point the output block takes one more block of merged columns. -/
theorem out_B (hc0 : ¬cond0_0 i) (xo11 : Vec F S512x2048 .f32) :
    out0_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 xo11 = stp x1 x2 x3 x4 x5 x6 x7 x8 x9 x10 xo11 := by
  funext y
  unfold out0_B_11
  refine View.read_writes_apply_of_pieces _ _ (stp x1 x2 x3 x4 x5 x6 x7 x8 x9 x10 xo11) _ ?_ y
    (View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 xo11).1 S512x2048.size (by sl_kernel_rfl) y)
  unfold kernelRun0_B
  simp only [List.forall_mem_cons, List.not_mem_nil, false_imp_iff, implies_true, and_true]
  unfold kernelRun0_B.sl.r kernelRun0_B.sl.r_1 kernelRun0_B.sl.r_2
  intro x
  rw [ld _ _ z2, ld _ _ z2, ld _ _ z2, ld _ _ z2, ld _ _ z2, ld _ _ z2, ld _ _ z2, ld _ _ z2, ld _ _ z2, ld _ _ z2, ld _ _ z2]
  exact (emb0 z2 _ (stp x1 x2 x3 x4 x5 x6 x7 x8 x9 x10 xo11) x).symm

end Cert.Merge
end
end
-- ==== Proof.Merge.lean ====
/-
The merge kernel's output array at an index.
-/
module
public import proofs.«01_k».proof.Proof.MergeBody
public import proofs.«01_k».proof.Proof.Arr
public import Idealize.ShloMosaic.Lib.StableHlo.ReadAt

@[expose] public section
set_option maxRecDepth 16384
set_option maxHeartbeats 2000000
noncomputable section
namespace Cert.Merge
open Cert.Kernel4Ideal Cert.Kernel4Ideal.Gen Cert.Kernel4Ideal.Value Idealize.ShloMosaic Idealize.ShloMosaic.TcCoe Idealize.SL.Sem Cert.Arr Cert.Ld

/-- The call's arrays, read at natural numbers: rows, projected activations, the branches' rows, their weights and the output weights. -/
structure In where
  (x p ya yb yc wa wb wc wo : ℕ → ℕ → EReal)

/-- A branch's projection. -/
def br (y w : ℕ → ℕ → EReal) (i f : ℕ) : EReal := ∑ k : Fin 1024, y i k.val * w k.val f
/-- The merged branches: each one's projection times its gate. -/
def mg (v : In) (i f : ℕ) : EReal :=
  Ideal.logistic (v.p i (8192 + f)) * br v.ya v.wa i f + Ideal.logistic (v.p i (10240 + f)) * br v.yb v.wb i f
    + Ideal.logistic (v.p i (12288 + f)) * br v.yc v.wc i f
/-- One merged column's part of the output. -/
def part (v : In) (i j f : ℕ) : EReal := mg v i f * v.wo f j
/-- The output. -/
def out (v : In) (i j : ℕ) : EReal := v.x i j + ∑ f : Fin 2048, part v i j f.val

variable (m : (ℓ : Loc nD τ sig) → Buf (Elt Ideal) ℓ) (c : Dev nD)

/-- The launch's arrays, read at natural numbers. -/
def inp : In where
  x := N2 (a := 9216) (b := 2048) (m ((c : Thread nD τ).loc main_arg0))
  p := N2 (a := 9216) (b := 15488) (m ((c : Thread nD τ).loc main_arg1))
  ya := N2 (a := 9216) (b := 1024) (m ((c : Thread nD τ).loc main_arg2))
  yb := N2 (a := 9216) (b := 1024) (m ((c : Thread nD τ).loc main_arg3))
  yc := N2 (a := 9216) (b := 1024) (m ((c : Thread nD τ).loc main_arg4))
  wa := N2 (a := 1024) (b := 2048) (m ((c : Thread nD τ).loc main_arg5))
  wb := N2 (a := 1024) (b := 2048) (m ((c : Thread nD τ).loc main_arg6))
  wc := N2 (a := 1024) (b := 2048) (m ((c : Thread nD τ).loc main_arg7))
  wo := N2 (a := 2048) (b := 2048) (m ((c : Thread nD τ).loc main_arg8))

/-- The rows' block. -/
theorem X0_at (t : Fin cfg0.N) (x : S512x2048.Idx) : iblk m c 0 t x = (inp m c).x (512 * (t.val / 4) + (x 0).val) (x 1).val := by
  have hi : win0_0.index t 0 = t.val / 4 ∧ win0_0.index t 1 = 0 := by revert t; decide +kernel
  unfold iblk
  rw [View.read_apply]
  show V m c main_arg0 _ = _
  rw [V_main_arg0]
  refine N2_at (a := 9216) (b := 2048) _ _ _ _ ?_ ?_
  · show win0_0.index t 0 * 512 + 1 * (x 0).val = _; rw [hi.1]; omega
  · show win0_0.index t 1 * 2048 + 1 * (x 1).val = _; rw [hi.2]; omega

/-- The first branch's rows. -/
theorem X1_at (t : Fin cfg0.N) (x : S512x1024.Idx) : iblk m c 1 t x = (inp m c).ya (512 * (t.val / 4) + (x 0).val) (x 1).val := by
  have hi : win0_1.index t 0 = t.val / 4 ∧ win0_1.index t 1 = 0 := by revert t; decide +kernel
  unfold iblk
  rw [View.read_apply]
  show V m c main_arg2 _ = _
  rw [V_main_arg2]
  refine N2_at (a := 9216) (b := 1024) _ _ _ _ ?_ ?_
  · show win0_1.index t 0 * 512 + 1 * (x 0).val = _; rw [hi.1]; omega
  · show win0_1.index t 1 * 1024 + 1 * (x 1).val = _; rw [hi.2]; omega

/-- The second branch's rows. -/
theorem X2_at (t : Fin cfg0.N) (x : S512x1024.Idx) : iblk m c 2 t x = (inp m c).yb (512 * (t.val / 4) + (x 0).val) (x 1).val := by
  have hi : win0_2.index t 0 = t.val / 4 ∧ win0_2.index t 1 = 0 := by revert t; decide +kernel
  unfold iblk
  rw [View.read_apply]
  show V m c main_arg3 _ = _
  rw [V_main_arg3]
  refine N2_at (a := 9216) (b := 1024) _ _ _ _ ?_ ?_
  · show win0_2.index t 0 * 512 + 1 * (x 0).val = _; rw [hi.1]; omega
  · show win0_2.index t 1 * 1024 + 1 * (x 1).val = _; rw [hi.2]; omega

/-- The third branch's rows. -/
theorem X3_at (t : Fin cfg0.N) (x : S512x1024.Idx) : iblk m c 3 t x = (inp m c).yc (512 * (t.val / 4) + (x 0).val) (x 1).val := by
  have hi : win0_3.index t 0 = t.val / 4 ∧ win0_3.index t 1 = 0 := by revert t; decide +kernel
  unfold iblk
  rw [View.read_apply]
  show V m c main_arg4 _ = _
  rw [V_main_arg4]
  refine N2_at (a := 9216) (b := 1024) _ _ _ _ ?_ ?_
  · show win0_3.index t 0 * 512 + 1 * (x 0).val = _; rw [hi.1]; omega
  · show win0_3.index t 1 * 1024 + 1 * (x 1).val = _; rw [hi.2]; omega

/-- The first gate's block. -/
theorem X4_at (t : Fin cfg0.N) (x : S512x512.Idx) : X0_4 m c t x = (inp m c).p (512 * (t.val / 4) + (x 0).val) (8192 + (512 * (t.val % 4) + (x 1).val)) := by
  have hi : win0_4.index t 0 = t.val / 4 ∧ win0_4.index t 1 = 16 + t.val % 4 := by revert t; decide +kernel
  unfold X0_4 Pipeline.Window.fill
  rw [dif_pos (moved0_4 t x)]
  unfold iblk
  rw [View.read_apply]
  show V m c main_arg1 _ = _
  rw [V_main_arg1]
  refine N2_at (a := 9216) (b := 15488) _ _ _ _ ?_ ?_
  · show win0_4.index t 0 * 512 + 1 * (x 0).val = _; rw [hi.1]; omega
  · show win0_4.index t 1 * 512 + 1 * (x 1).val = _; rw [hi.2]; omega

/-- The second gate's block. -/
theorem X5_at (t : Fin cfg0.N) (x : S512x512.Idx) : X0_5 m c t x = (inp m c).p (512 * (t.val / 4) + (x 0).val) (10240 + (512 * (t.val % 4) + (x 1).val)) := by
  have hi : win0_5.index t 0 = t.val / 4 ∧ win0_5.index t 1 = 20 + t.val % 4 := by revert t; decide +kernel
  unfold X0_5 Pipeline.Window.fill
  rw [dif_pos (moved0_5 t x)]
  unfold iblk
  rw [View.read_apply]
  show V m c main_arg1 _ = _
  rw [V_main_arg1]
  refine N2_at (a := 9216) (b := 15488) _ _ _ _ ?_ ?_
  · show win0_5.index t 0 * 512 + 1 * (x 0).val = _; rw [hi.1]; omega
  · show win0_5.index t 1 * 512 + 1 * (x 1).val = _; rw [hi.2]; omega

/-- The third gate's block. -/
theorem X6_at (t : Fin cfg0.N) (x : S512x512.Idx) : X0_6 m c t x = (inp m c).p (512 * (t.val / 4) + (x 0).val) (12288 + (512 * (t.val % 4) + (x 1).val)) := by
  have hi : win0_6.index t 0 = t.val / 4 ∧ win0_6.index t 1 = 24 + t.val % 4 := by revert t; decide +kernel
  unfold X0_6 Pipeline.Window.fill
  rw [dif_pos (moved0_6 t x)]
  unfold iblk
  rw [View.read_apply]
  show V m c main_arg1 _ = _
  rw [V_main_arg1]
  refine N2_at (a := 9216) (b := 15488) _ _ _ _ ?_ ?_
  · show win0_6.index t 0 * 512 + 1 * (x 0).val = _; rw [hi.1]; omega
  · show win0_6.index t 1 * 512 + 1 * (x 1).val = _; rw [hi.2]; omega

/-- The first branch's block of weights. -/
theorem X7_at (t : Fin cfg0.N) (x : S1024x512.Idx) : iblk m c 7 t x = (inp m c).wa (x 0).val (512 * (t.val % 4) + (x 1).val) := by
  have hi : win0_7.index t 0 = 0 ∧ win0_7.index t 1 = t.val % 4 := by revert t; decide +kernel
  have h : ∀ y : S1024x2048.Idx, V m c main_v0 y = (inp m c).wa (y 0).val (y 1).val := by
    intro y
    after_reads_at
    exact N2_at (a := 1024) (b := 2048) _ _ _ _ rfl rfl
  unfold iblk
  rw [View.read_apply]
  refine (h _).trans (congrArg₂ (inp m c).wa ?_ ?_)
  · show win0_7.index t 0 * 1024 + 1 * (x 0).val = _; rw [hi.1]; omega
  · show win0_7.index t 1 * 512 + 1 * (x 1).val = _; rw [hi.2]; omega

/-- The second branch's block of weights. -/
theorem X8_at (t : Fin cfg0.N) (x : S1024x512.Idx) : iblk m c 8 t x = (inp m c).wb (x 0).val (512 * (t.val % 4) + (x 1).val) := by
  have hi : win0_8.index t 0 = 0 ∧ win0_8.index t 1 = t.val % 4 := by revert t; decide +kernel
  have h : ∀ y : S1024x2048.Idx, V m c main_v1 y = (inp m c).wb (y 0).val (y 1).val := by
    intro y
    after_reads_at
    exact N2_at (a := 1024) (b := 2048) _ _ _ _ rfl rfl
  unfold iblk
  rw [View.read_apply]
  refine (h _).trans (congrArg₂ (inp m c).wb ?_ ?_)
  · show win0_8.index t 0 * 1024 + 1 * (x 0).val = _; rw [hi.1]; omega
  · show win0_8.index t 1 * 512 + 1 * (x 1).val = _; rw [hi.2]; omega

/-- The third branch's block of weights. -/
theorem X9_at (t : Fin cfg0.N) (x : S1024x512.Idx) : iblk m c 9 t x = (inp m c).wc (x 0).val (512 * (t.val % 4) + (x 1).val) := by
  have hi : win0_9.index t 0 = 0 ∧ win0_9.index t 1 = t.val % 4 := by revert t; decide +kernel
  have h : ∀ y : S1024x2048.Idx, V m c main_v2 y = (inp m c).wc (y 0).val (y 1).val := by
    intro y
    after_reads_at
    exact N2_at (a := 1024) (b := 2048) _ _ _ _ rfl rfl
  unfold iblk
  rw [View.read_apply]
  refine (h _).trans (congrArg₂ (inp m c).wc ?_ ?_)
  · show win0_9.index t 0 * 1024 + 1 * (x 0).val = _; rw [hi.1]; omega
  · show win0_9.index t 1 * 512 + 1 * (x 1).val = _; rw [hi.2]; omega

/-- The output weights' block of rows. -/
theorem X10_at (t : Fin cfg0.N) (x : S512x2048.Idx) : iblk m c 10 t x = (inp m c).wo (512 * (t.val % 4) + (x 0).val) (x 1).val := by
  have hi : win0_10.index t 0 = t.val % 4 ∧ win0_10.index t 1 = 0 := by revert t; decide +kernel
  have h : ∀ y : S2048x2048.Idx, V m c main_v3 y = (inp m c).wo (y 0).val (y 1).val := by
    intro y
    after_reads_at
    exact N2_at (a := 2048) (b := 2048) _ _ _ _ rfl rfl
  unfold iblk
  rw [View.read_apply]
  refine (h _).trans (congrArg₂ (inp m c).wo ?_ ?_)
  · show win0_10.index t 0 * 512 + 1 * (x 0).val = _; rw [hi.1]; omega
  · show win0_10.index t 1 * 2048 + 1 * (x 1).val = _; rw [hi.2]; omega

/-- One point's step of the output block, at an index. -/
theorem step_at (t : Fin cfg0.N) (o : Vec Ideal S512x2048 .f32) (r : Fin 512) (j : Fin 2048) :
    stp (iblk m c 1 t) (iblk m c 2 t) (iblk m c 3 t) (X0_4 m c t) (X0_5 m c t) (X0_6 m c t) (iblk m c 7 t) (iblk m c 8 t) (iblk m c 9 t) (iblk m c 10 t) o (ix2 r j)
      = o (ix2 r j) + ∑ f : Fin 512, part (inp m c) (512 * (t.val / 4) + r.val) j.val (512 * (t.val % 4) + f.val) := by
  pointwise [stp, k0_pay1, k0_pay2, k0_pay3]
  simp only [X1_at, X2_at, X3_at, X4_at, X5_at, X6_at, X7_at, X8_at, X9_at, X10_at, ix2_0, ix2_1]
  rfl

/-- What the output block holds after a point: the rows with the merged columns so far added. -/
theorem fold_at (q r : ℕ) (hr : r < 4) (h : 4 * q + r < cfg0.N) (a : Fin 512) (b : Fin 2048) :
    outsAt0 m c (4 * q + r) h (ix2 a b) = (inp m c).x (512 * q + a.val) b.val
      + ∑ f ∈ Finset.range (512 * (r + 1)), part (inp m c) (512 * q + a.val) b.val f := by
  induction r with
  | zero =>
    have e0 : (⟨4 * q + 0, h⟩ : Fin cfg0.N).val % 4 = 0 := by show (4 * q + 0) % 4 = 0; omega
    have e1 : (⟨4 * q + 0, h⟩ : Fin cfg0.N).val / 4 = q := by show (4 * q + 0) / 4 = q; omega
    rw [outsAt0_A m c ⟨4 * q + 0, h⟩ e0]
    rw [out_A, step_at m c ⟨4 * q + 0, h⟩, X0_at, e0, e1, ← block_sum _ 512 0]
    simp
  | succ r ih =>
    have e0 : ¬(⟨4 * q + (r + 1), h⟩ : Fin cfg0.N).val % 4 = 0 := by show ¬(4 * q + (r + 1)) % 4 = 0; omega
    have e2 : (⟨4 * q + (r + 1), h⟩ : Fin cfg0.N).val % 4 = r + 1 := by show (4 * q + (r + 1)) % 4 = r + 1; omega
    have e1 : (⟨4 * q + (r + 1), h⟩ : Fin cfg0.N).val / 4 = q := by show (4 * q + (r + 1)) / 4 = q; omega
    have ih := ih (by omega) (Nat.lt_of_succ_lt h)
    rw [outsAt0_B m c ⟨4 * q + (r + 1), h⟩ e0]
    rw [out_B, step_at m c ⟨4 * q + (r + 1), h⟩, e1, e2, ← block_sum _ 512 (r + 1)]
    exact (congrArg (· + _) ih).trans (add_assoc _ _ _)

/-- The output array. -/
def G : Buf (Elt Ideal) ((c : Thread nD τ).loc main_v4) := fun i => out (inp m c) (i 0).val (i 1).val

/-- What a point writes back is its block of the output array. -/
theorem flushed_eq (t : Fin cfg0.N) (hf : (cfg0.win 11).flush t = true) :
    (dats m 0 c).flushed 11 t = ((cfg0.win 11).blk t).view.read (Elt Ideal) (G m c) := by
  have hm : t.val % 4 = 3 := (flush0_11 t).mp hf
  have hi : win0_11.index t 0 = t.val / 4 ∧ win0_11.index t 1 = 0 := by revert t; decide +kernel
  rw [flushed11]
  funext y
  have hy0 : (y 0).val < 512 := (y 0).isLt
  have hy1 : (y 1).val < 2048 := (y 1).isLt
  have hx : (cfg0.win 11).xinj (grid0.coords t) y = ix2 (⟨(y 0).val, hy0⟩ : Fin 512) (⟨(y 1).val, hy1⟩ : Fin 2048) := by
    funext a
    match a with
    | ⟨0, _⟩ => rfl
    | ⟨1, _⟩ => rfl
  show outsAt0 m c t.val t.isLt ((cfg0.win 11).xinj (grid0.coords t) y) = G m c (((cfg0.win 11).blk t).view.emb y)
  rw [hx]
  have key : ∀ n (hn : n < cfg0.N), n = 4 * (t.val / 4) + 3 → outsAt0 m c n hn (ix2 (⟨(y 0).val, hy0⟩ : Fin 512) (⟨(y 1).val, hy1⟩ : Fin 2048))
      = out (inp m c) (512 * (t.val / 4) + (y 0).val) (y 1).val := by
    intro n hn e
    subst e
    rw [fold_at m c (t.val / 4) 3 (by decide) hn]
    unfold out
    rw [Finset.sum_range]
  rw [key _ _ (by omega)]
  refine congrArg₂ (out (inp m c)) ?_ ?_
  · show _ = win0_11.index t 0 * 512 + 1 * (y 0).val; rw [hi.1]; omega
  · show _ = win0_11.index t 1 * 2048 + 1 * (y 1).val; rw [hi.2]; omega

/-- The points' blocks cover the output array. -/
theorem covered (i : S9216x2048.Idx) : ∃ t : Fin cfg0.N, (cfg0.win 11).flush t = true ∧ i ∈ ((cfg0.win 11).blk t).view.set := by
  have h0 : (i 0).val < 9216 := (i 0).isLt
  have h1 : (i 1).val < 2048 := (i 1).isLt
  have hN : cfg0.N = 72 := N_0
  have ht : 4 * ((i 0).val / 512) + 3 < cfg0.N := by omega
  have hi : ∀ t : Fin cfg0.N, win0_11.index t 0 = t.val / 4 ∧ win0_11.index t 1 = 0 := by decide +kernel
  have hq := hi ⟨_, ht⟩
  have e : (⟨4 * ((i 0).val / 512) + 3, ht⟩ : Fin cfg0.N).val / 4 = (i 0).val / 512 := by show (4 * ((i 0).val / 512) + 3) / 4 = _; omega
  rw [e] at hq
  refine ⟨⟨_, ht⟩, (flush0_11 _).mpr (by show (4 * ((i 0).val / 512) + 3) % 4 = 3; omega), ?_⟩
  show i ∈ ((View.whole main_v4).slice (win0_11.rect ⟨_, ht⟩)).set
  rw [View.set_slice_whole, Rect.mem_set_unit]
  intro a
  match a with
  | ⟨0, _⟩ => show win0_11.index ⟨_, ht⟩ 0 * 512 ≤ (i 0).val ∧ (i 0).val < win0_11.index ⟨_, ht⟩ 0 * 512 + 512; rw [hq.1]; omega
  | ⟨1, _⟩ => show win0_11.index ⟨_, ht⟩ 1 * 2048 ≤ (i 1).val ∧ (i 1).val < win0_11.index ⟨_, ht⟩ 1 * 2048 + 2048; rw [hq.2]; omega

/-- The array after the run. -/
theorem final : (dats m 0 c).arrAt 11 cfg0.N = G m c :=
  (dats m 0 c).arrAt_eq_of_cover 11 _ (fun t hf => flushed_eq m c t hf) covered

end Cert.Merge
end
end
-- ==== Proof.MergeRef.lean ====
/-
The merge's reference at an index.
-/
module
public import proofs.«01_k».proof.Proof.Gen.Reference4Ideal.Read
public import proofs.«01_k».proof.Proof.Merge

@[expose] public section
set_option maxRecDepth 16384
set_option maxHeartbeats 2000000
noncomputable section
namespace Cert.Merge.Ref
open Cert.Reference4Ideal Cert.Reference4Ideal.Gen Cert.Reference4Ideal.Read Idealize.ShloMosaic Idealize.ShloMosaic.TcCoe Cert.Arr

variable (x0 : (⟨S9216x2048, .f32⟩ : BufTy).Contents (Elt Ideal)) (x1 : (⟨S9216x15488, .f32⟩ : BufTy).Contents (Elt Ideal))
  (x2 x3 x4 : (⟨S9216x1024, .bf16⟩ : BufTy).Contents (Elt Ideal)) (x5 x6 x7 : (⟨S1024x2048, .f32⟩ : BufTy).Contents (Elt Ideal))
  (x8 : (⟨S2048x2048, .f32⟩ : BufTy).Contents (Elt Ideal))

/-- The arguments, read at natural numbers. -/
def rin : In := ⟨N2 x0, N2 x1, N2 (a := 9216) (b := 1024) x2, N2 (a := 9216) (b := 1024) x3, N2 (a := 9216) (b := 1024) x4, N2 x5, N2 x6, N2 x7, N2 x8⟩

/-- The gates. -/
theorem v6_at (i : Fin 9216) (f : Fin 6144) : val_main_v6 x1 (ix2 i f) = Ideal.logistic (N2 x1 i.val (8192 + f.val)) := by
  pointwise [val_main_v6, val_main_v5, val_main_v4, val_main_v3, val_main_v2, val_main_v1, val_main_v0, val_main_cst, val_main_cst_0]
  rw [N2_at x1 _ i.val (8192 + f.val) rfl rfl]
  rfl
/-- The merged columns. -/
theorem v17_at (i : Fin 9216) (f : Fin 2048) : val_main_v17 x1 x2 x3 x4 x5 x6 x7 (ix2 i f) = mg (rin x0 x1 x2 x3 x4 x5 x6 x7 x8) i.val f.val := by
  pointwise [val_main_v17, val_main_v16, val_main_v15, val_main_v14, val_main_v13, val_main_v12, val_main_v11, val_main_v10, val_main_v9, val_main_v8, val_main_v7]
  simp only [v6_at, fun y : Fin 1024 => N2_at (a := 9216) (b := 1024) x2 (ix2 i y) i.val y.val rfl rfl, fun y : Fin 1024 => N2_at (a := 9216) (b := 1024) x3 (ix2 i y) i.val y.val rfl rfl,
    fun y : Fin 1024 => N2_at (a := 9216) (b := 1024) x4 (ix2 i y) i.val y.val rfl rfl, fun y : Fin 1024 => N2_at x5 (ix2 y f) y.val f.val rfl rfl,
    fun y : Fin 1024 => N2_at x6 (ix2 y f) y.val f.val rfl rfl, fun y : Fin 1024 => N2_at x7 (ix2 y f) y.val f.val rfl rfl]
  unfold mg br rin
  simp only [← Nat.add_assoc]
/-- The output. -/
theorem v19_at (i : Fin 9216) (j : Fin 2048) : val_main_v19 x0 x1 x2 x3 x4 x5 x6 x7 x8 (ix2 i j) = out (rin x0 x1 x2 x3 x4 x5 x6 x7 x8) i.val j.val := by
  pointwise [val_main_v19, val_main_v18]
  simp only [v17_at x0 x1 x2 x3 x4 x5 x6 x7 x8, fun y : Fin 2048 => N2_at x8 (ix2 y j) y.val j.val rfl rfl, N2_at x0 (ix2 i j) i.val j.val rfl rfl]
  rfl

end Cert.Merge.Ref
end
end
-- ==== Proof.MergeClaim.lean ====
/-
The merge's claims.
-/
module
public import proofs.«01_k».proof.Proof.MergeRef
public import proofs.«01_k».proof.Proof.Gen.Kernel4.Frame
public import proofs.«01_k».proof.Proof.Gen.Reference4Ideal.Run
public import proofs.«01_k».proof.Defs
public import Idealize.ShloMosaic.Adequacy
public import Idealize.ShloMosaic.Init

@[expose] public section
set_option maxHeartbeats 2000000
noncomputable section
namespace Cert.Merge
open Idealize.ShloMosaic Idealize.SL.Sem Idealize.ShloMosaic.StableHlo Cert.Arr

/-- The printed call leaves its arguments and its semaphores as they were. -/
theorem frame_p : Cert.quiescent_Kernel4 := fun m ρ _ => Cert.Kernel4.Gen.frame m ρ
/-- So does its idealisation; -/
theorem frame_pi : Cert.quiescent_Kernel4Ideal := fun m ρ _ => Cert.Kernel4Ideal.Gen.frame m ρ
/-- and the reference. -/
theorem frame_ri : Cert.quiescent_Reference4Ideal := fun m ρ _ =>
  (θ_run Cert.Reference4Ideal.defs _ _).mono (fun r h => ⟨fun c => (h c).2,
    Idealize.ShloMosaic.sem_eq_zero_of_no_sems (by decide) r.2⟩) (Cert.Reference4Ideal.Value.run m ρ)

/-- The kernel's run with its output array named. -/
theorem run (m : (ℓ : Loc Cert.Kernel4Ideal.nD Cert.Kernel4Ideal.τ Cert.Kernel4Ideal.sig) → Buf (Elt Ideal) ℓ) (ρ : Dev Cert.Kernel4Ideal.nD → PrngReg) :
    θ_run Cert.Kernel4Ideal.defs (onTc (τ := Cert.Kernel4Ideal.τ) (Cert.Kernel4Ideal.main (F := Ideal))) ⟨m, fun _ => 0, ρ⟩ fun r => ∀ c : Dev Cert.Kernel4Ideal.nD,
      r.2.mem ((c.tc).loc Cert.Kernel4Ideal.main_v4) = G m c
      ∧ r.2.mem ((c.tc).loc Cert.Kernel4Ideal.main_arg0) = m ((c.tc).loc Cert.Kernel4Ideal.main_arg0)
      ∧ r.2.mem ((c.tc).loc Cert.Kernel4Ideal.main_arg1) = m ((c.tc).loc Cert.Kernel4Ideal.main_arg1)
      ∧ r.2.mem ((c.tc).loc Cert.Kernel4Ideal.main_arg2) = m ((c.tc).loc Cert.Kernel4Ideal.main_arg2)
      ∧ r.2.mem ((c.tc).loc Cert.Kernel4Ideal.main_arg3) = m ((c.tc).loc Cert.Kernel4Ideal.main_arg3)
      ∧ r.2.mem ((c.tc).loc Cert.Kernel4Ideal.main_arg4) = m ((c.tc).loc Cert.Kernel4Ideal.main_arg4)
      ∧ r.2.mem ((c.tc).loc Cert.Kernel4Ideal.main_arg5) = m ((c.tc).loc Cert.Kernel4Ideal.main_arg5)
      ∧ r.2.mem ((c.tc).loc Cert.Kernel4Ideal.main_arg6) = m ((c.tc).loc Cert.Kernel4Ideal.main_arg6)
      ∧ r.2.mem ((c.tc).loc Cert.Kernel4Ideal.main_arg7) = m ((c.tc).loc Cert.Kernel4Ideal.main_arg7)
      ∧ r.2.mem ((c.tc).loc Cert.Kernel4Ideal.main_arg8) = m ((c.tc).loc Cert.Kernel4Ideal.main_arg8) :=
  (θ_run _ _ _).mono (fun _ h c => ⟨(h c).1.trans (final m c), (h c).2⟩) (Cert.Kernel4Ideal.Value.run_blocks m ρ)

/-- The two programs' outputs are one array, entry by entry. -/
theorem rows_eq (m : (ℓ : Loc Cert.Kernel4Ideal.nD Cert.Kernel4Ideal.τ Cert.Kernel4Ideal.sig) → Buf (Elt Ideal) ℓ) (c : Dev Cert.Kernel4Ideal.nD) :
    Cert.Reference4Ideal.Read.val_main_v19 (m ((c.tc).loc Cert.Kernel4Ideal.main_arg0)) (m ((c.tc).loc Cert.Kernel4Ideal.main_arg1))
      (m ((c.tc).loc Cert.Kernel4Ideal.main_arg2)) (m ((c.tc).loc Cert.Kernel4Ideal.main_arg3))
      (m ((c.tc).loc Cert.Kernel4Ideal.main_arg4)) (m ((c.tc).loc Cert.Kernel4Ideal.main_arg5))
      (m ((c.tc).loc Cert.Kernel4Ideal.main_arg6)) (m ((c.tc).loc Cert.Kernel4Ideal.main_arg7))
      (m ((c.tc).loc Cert.Kernel4Ideal.main_arg8)) = G m c := by
  refine funext fun (i : Cert.Kernel4Ideal.S9216x2048.Idx) => ?_
  rw [show i = ix2 (i 0) (i 1) from by funext a; fin_cases a <;> rfl]
  exact (Ref.v19_at _ _ _ _ _ _ _ _ _ (i 0) (i 1)).trans rfl

/-- At the reals, the call computes the reference. -/
theorem algebraic : Cert.algebraic_Kernel4Ideal_Reference4Ideal := by
  intro m ρ m' ρ' _ hagree
  refine ⟨fun c => G m c, run m ρ, ?_⟩
  refine (θ_run Cert.Reference4Ideal.defs _ _).mono ?_ (Cert.Reference4Ideal.Value.run m' ρ')
  intro r h c
  obtain ⟨a0, a1, a2, a3, a4, a5, a6, a7, a8⟩ := hagree c
  refine ⟨((h c).1.trans (Cert.Reference4Ideal.Read.val_main_v19_eq _ _ _ _ _ _ _ _ _)).trans ?_, (h c).2⟩
  refine Eq.trans ?_ (rows_eq m c)
  rw [← a0, ← a1, ← a2, ← a3, ← a4, ← a5, ← a6, ← a7, ← a8]

end Cert.Merge
end
end
-- ==== Proof.Final.lean ====
/-
The final normalisation's output array at an index.
-/
module
public import proofs.«01_k».proof.Proof.Gen.Kernel5Ideal.Value
public import proofs.«01_k».proof.Proof.Norm
public import proofs.«01_k».proof.Proof.Ld
public import Idealize.ShloMosaic.Lib.StableHlo.ReadAt

@[expose] public section
set_option maxRecDepth 16384
set_option maxHeartbeats 2000000
noncomputable section
namespace Cert.Final
open Cert.Kernel5Ideal Cert.Kernel5Ideal.Gen Idealize.ShloMosaic Idealize.ShloMosaic.TcCoe Idealize.SL.Sem Cert.Arr Cert.Norm Cert.Ld

/-- The call's arrays, read at natural numbers: rows and norm weights. -/
structure In where
  (x : ℕ → ℕ → EReal) (g : ℕ → EReal)

/-- The output. -/
def out (v : In) (i j : ℕ) : EReal := nrm v.x v.g i j

variable (m : (ℓ : Loc nD τ sig) → Buf (Elt Ideal) ℓ) (c : Dev nD)

/-- The launch's arrays, read at natural numbers. -/
def inp : In where
  x := N2 (a := 9216) (b := 2048) (m ((c : Thread nD τ).loc main_arg0))
  g := N1 (a := 2048) (m ((c : Thread nD τ).loc main_arg1))

/-- The rows' block. -/
theorem X0_at (t : Fin cfg0.N) (x : S512x2048.Idx) : iblk m c 0 t x = (inp m c).x (512 * t.val + (x 0).val) (x 1).val := by
  have hi : win0_0.index t 0 = t.val ∧ win0_0.index t 1 = 0 := by revert t; decide +kernel
  unfold iblk
  rw [View.read_apply]
  show V m c main_arg0 _ = _
  rw [V_main_arg0]
  refine N2_at (a := 9216) (b := 2048) _ _ _ _ ?_ ?_
  · show win0_0.index t 0 * 512 + 1 * (x 0).val = _; rw [hi.1]; omega
  · show win0_0.index t 1 * 2048 + 1 * (x 1).val = _; rw [hi.2]; omega

/-- The norm's weights. -/
theorem X1_at (t : Fin cfg0.N) (x : S1x2048.Idx) : iblk m c 1 t x = (inp m c).g (x 1).val := by
  have hi : win0_1.index t 0 = 0 ∧ win0_1.index t 1 = 0 := by revert t; decide +kernel
  have h : ∀ y : S1x2048.Idx, V m c main_v0 y = (inp m c).g (y 1).val := by
    intro y
    after_reads_at
    exact N1_at (a := 2048) _ _ _ (by simp)
  unfold iblk
  rw [View.read_apply]
  refine (h _).trans (congrArg (inp m c).g ?_)
  show win0_1.index t 1 * 2048 + 1 * (x 1).val = (x 1).val; rw [hi.2]; omega

/-- A point's output block at an index. -/
theorem step_at (t : Fin cfg0.N) (r : Fin 512) (j : Fin 2048) :
    out0_2 (iblk m c 0 t) (iblk m c 1 t) (ix2 r j) = out (inp m c) (512 * t.val + r.val) j.val := by
  unfold out0_2
  rw [View.canon_unit_zero z2, View.ld_unit_zero z2, View.ld_unit_zero z2]
  pointwise [k0_pay1]
  simp only [X0_at, X1_at, ix2_0, ix2_1]
  rfl

/-- The output array. -/
def G : Buf (Elt Ideal) ((c : Thread nD τ).loc main_v1) := fun i => out (inp m c) (i 0).val (i 1).val

/-- What a point writes back is its block of the output array. -/
theorem flushed_eq (t : Fin cfg0.N) : (dats m 0 c).flushed 2 t = ((cfg0.win 2).blk t).view.read (Elt Ideal) (G m c) := by
  have hi : win0_2.index t 0 = t.val ∧ win0_2.index t 1 = 0 := by revert t; decide +kernel
  rw [Value.flushed2]
  funext y
  have hy0 : (y 0).val < 512 := (y 0).isLt
  have hy1 : (y 1).val < 2048 := (y 1).isLt
  have hx : (cfg0.win 2).xinj (grid0.coords t) y = ix2 (⟨(y 0).val, hy0⟩ : Fin 512) (⟨(y 1).val, hy1⟩ : Fin 2048) := by
    funext a
    match a with
    | ⟨0, _⟩ => rfl
    | ⟨1, _⟩ => rfl
  show out0_2 (iblk m c 0 t) (iblk m c 1 t) ((cfg0.win 2).xinj (grid0.coords t) y) = G m c (((cfg0.win 2).blk t).view.emb y)
  rw [hx, step_at]
  refine congrArg₂ (out (inp m c)) ?_ ?_
  · show 512 * t.val + (y 0).val = win0_2.index t 0 * 512 + 1 * (y 0).val; rw [hi.1]; omega
  · show (y 1).val = win0_2.index t 1 * 2048 + 1 * (y 1).val; rw [hi.2]; omega

/-- The points' blocks cover the output array. -/
theorem covered (i : S9216x2048.Idx) : ∃ t : Fin cfg0.N, (cfg0.win 2).flush t = true ∧ i ∈ ((cfg0.win 2).blk t).view.set := by
  have h0 : (i 0).val < 9216 := (i 0).isLt
  have h1 : (i 1).val < 2048 := (i 1).isLt
  have hN : cfg0.N = 18 := N_0
  have ht : (i 0).val / 512 < cfg0.N := by omega
  have hi : ∀ t : Fin cfg0.N, win0_2.index t 0 = t.val ∧ win0_2.index t 1 = 0 := by decide +kernel
  have hq := hi ⟨_, ht⟩
  dsimp only at hq
  refine ⟨⟨_, ht⟩, flush0_2 _, ?_⟩
  show i ∈ ((View.whole main_v1).slice (win0_2.rect ⟨_, ht⟩)).set
  rw [View.set_slice_whole, Rect.mem_set_unit]
  intro a
  match a with
  | ⟨0, _⟩ => show win0_2.index ⟨_, ht⟩ 0 * 512 ≤ (i 0).val ∧ (i 0).val < win0_2.index ⟨_, ht⟩ 0 * 512 + 512; rw [hq.1]; omega
  | ⟨1, _⟩ => show win0_2.index ⟨_, ht⟩ 1 * 2048 ≤ (i 1).val ∧ (i 1).val < win0_2.index ⟨_, ht⟩ 1 * 2048 + 2048; rw [hq.2]; omega

/-- The array after the run. -/
theorem final : (dats m 0 c).arrAt 2 cfg0.N = G m c :=
  (dats m 0 c).arrAt_eq_of_cover 2 _ (fun t _ => flushed_eq m c t) covered

end Cert.Final
end
end
-- ==== Proof.FinalRef.lean ====
/-
The final normalisation's reference at an index.
-/
module
public import proofs.«01_k».proof.Proof.Gen.Reference5Ideal.Read
public import proofs.«01_k».proof.Proof.Final

@[expose] public section
set_option maxRecDepth 16384
set_option maxHeartbeats 2000000
noncomputable section
namespace Cert.Final.Ref
open Cert.Reference5Ideal Cert.Reference5Ideal.Gen Cert.Reference5Ideal.Read Idealize.ShloMosaic Idealize.ShloMosaic.TcCoe Cert.Arr Cert.Norm

variable (x0 : (⟨S9216x2048, .f32⟩ : BufTy).Contents (Elt Ideal)) (x1 : (⟨S2048, .f32⟩ : BufTy).Contents (Elt Ideal))

/-- The arguments, read at natural numbers. -/
def rin : In := ⟨N2 x0, N1 x1⟩

/-- The output. -/
theorem v12_at (i : Fin 9216) (k : Fin 2048) : val_main_v12 x0 x1 (ix2 i k) = out (rin x0 x1) i.val k.val := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  simp only [fun y : Fin 2048 => N2_at x0 (ix2 i y) i.val y.val rfl rfl, fun y : Fin 2048 => N1_at x1 (ix1 y) y.val rfl]
  rfl

end Cert.Final.Ref
end
end
-- ==== Proof.FinalClaim.lean ====
/-
The final normalisation's claims.
-/
module
public import proofs.«01_k».proof.Proof.FinalRef
public import proofs.«01_k».proof.Proof.Gen.Kernel5.Frame
public import proofs.«01_k».proof.Proof.Gen.Reference5Ideal.Run
public import proofs.«01_k».proof.Defs
public import Idealize.ShloMosaic.Adequacy
public import Idealize.ShloMosaic.Init

@[expose] public section
set_option maxHeartbeats 2000000
noncomputable section
namespace Cert.Final
open Idealize.ShloMosaic Idealize.SL.Sem Idealize.ShloMosaic.StableHlo Cert.Arr

/-- The printed call leaves its arguments and its semaphores as they were. -/
theorem frame_p : Cert.quiescent_Kernel5 := fun m ρ _ => Cert.Kernel5.Gen.frame m ρ
/-- So does its idealisation; -/
theorem frame_pi : Cert.quiescent_Kernel5Ideal := fun m ρ _ => Cert.Kernel5Ideal.Gen.frame m ρ
/-- and the reference. -/
theorem frame_ri : Cert.quiescent_Reference5Ideal := fun m ρ _ =>
  (θ_run Cert.Reference5Ideal.defs _ _).mono (fun r h => ⟨fun c => (h c).2,
    Idealize.ShloMosaic.sem_eq_zero_of_no_sems (by decide) r.2⟩) (Cert.Reference5Ideal.Value.run m ρ)

/-- The kernel's run with its output array named. -/
theorem run (m : (ℓ : Loc Cert.Kernel5Ideal.nD Cert.Kernel5Ideal.τ Cert.Kernel5Ideal.sig) → Buf (Elt Ideal) ℓ) (ρ : Dev Cert.Kernel5Ideal.nD → PrngReg) :
    θ_run Cert.Kernel5Ideal.defs (onTc (τ := Cert.Kernel5Ideal.τ) (Cert.Kernel5Ideal.main (F := Ideal))) ⟨m, fun _ => 0, ρ⟩ fun r => ∀ c : Dev Cert.Kernel5Ideal.nD,
      r.2.mem ((c.tc).loc Cert.Kernel5Ideal.main_v1) = G m c
      ∧ r.2.mem ((c.tc).loc Cert.Kernel5Ideal.main_arg0) = m ((c.tc).loc Cert.Kernel5Ideal.main_arg0)
      ∧ r.2.mem ((c.tc).loc Cert.Kernel5Ideal.main_arg1) = m ((c.tc).loc Cert.Kernel5Ideal.main_arg1) :=
  (θ_run _ _ _).mono (fun _ h c => ⟨(h c).1.trans (final m c), (h c).2⟩) (Cert.Kernel5Ideal.Value.run_blocks m ρ)

/-- The two programs' outputs are one array, entry by entry. -/
theorem rows_eq (m : (ℓ : Loc Cert.Kernel5Ideal.nD Cert.Kernel5Ideal.τ Cert.Kernel5Ideal.sig) → Buf (Elt Ideal) ℓ) (c : Dev Cert.Kernel5Ideal.nD) :
    Cert.Reference5Ideal.Read.val_main_v12 (m ((c.tc).loc Cert.Kernel5Ideal.main_arg0)) (m ((c.tc).loc Cert.Kernel5Ideal.main_arg1)) = G m c := by
  refine funext fun (i : Cert.Kernel5Ideal.S9216x2048.Idx) => ?_
  rw [show i = ix2 (i 0) (i 1) from by funext a; fin_cases a <;> rfl]
  exact (Ref.v12_at _ _ (i 0) (i 1)).trans rfl

/-- At the reals, the call computes the reference. -/
theorem algebraic : Cert.algebraic_Kernel5Ideal_Reference5Ideal := by
  intro m ρ m' ρ' _ hagree
  refine ⟨fun c => G m c, run m ρ, ?_⟩
  refine (θ_run Cert.Reference5Ideal.defs _ _).mono ?_ (Cert.Reference5Ideal.Value.run m' ρ')
  intro r h c
  obtain ⟨a0, a1⟩ := hagree c
  refine ⟨((h c).1.trans (Cert.Reference5Ideal.Read.val_main_v12_eq _ _)).trans ?_, (h c).2⟩
  refine Eq.trans ?_ (rows_eq m c)
  rw [← a0, ← a1]

end Cert.Final
end
end
-- ==== Proof.Kidx.lean ====
/-
The indexer keys' normalisation: its output array at an index.
-/
module
public import proofs.«01_k».proof.Proof.Gen.Kernel6Ideal.Value
public import proofs.«01_k».proof.Proof.Norm
public import proofs.«01_k».proof.Proof.Ld
public import Idealize.ShloMosaic.Lib.StableHlo.ReadAt

@[expose] public section
set_option maxRecDepth 16384
set_option maxHeartbeats 2000000
noncomputable section
namespace Cert.Kidx
open Cert.Kernel6Ideal Cert.Kernel6Ideal.Gen Idealize.ShloMosaic Idealize.ShloMosaic.TcCoe Idealize.SL.Sem Cert.Arr Cert.Norm Cert.Ld

/-- The call's arrays, read at natural numbers: projected activations, weights and offsets. -/
structure In where
  (p : ℕ → ℕ → EReal) (g b : ℕ → EReal)

/-- The mean of a row's 64 columns from 15360. -/
def mean (v : In) (i : ℕ) : EReal := Ideal.div (∑ k : Fin 64, v.p i (15360 + k.val)) (Ideal.ofBits .f32 0x42800000#32)
/-- A column less the mean. -/
def dev (v : In) (i j : ℕ) : EReal := v.p i (15360 + j) - mean v i
/-- The output: the columns less their mean over their deviation, times the weights, plus the offsets. -/
def out (v : In) (i j : ℕ) : EReal :=
  dev v i j * Ideal.rsqrt (Ideal.div (∑ k : Fin 64, dev v i k.val * dev v i k.val) (Ideal.ofBits .f32 0x42800000#32)
    + Ideal.ofBits .f32 0x358637BD#32) * v.g j + v.b j

variable (m : (ℓ : Loc nD τ sig) → Buf (Elt Ideal) ℓ) (c : Dev nD)

/-- The launch's arrays, read at natural numbers. -/
def inp : In where
  p := N2 (a := 9216) (b := 15488) (m ((c : Thread nD τ).loc main_arg0))
  g := N1 (a := 64) (m ((c : Thread nD τ).loc main_arg1))
  b := N1 (a := 64) (m ((c : Thread nD τ).loc main_arg2))

/-- The projected activations' block. -/
theorem X0_at (t : Fin cfg0.N) (x : S512x128.Idx) :
    iblk m c 0 t x = (inp m c).p (512 * t.val + (x 0).val) (15360 + (x 1).val) := by
  have hi : win0_0.index t 0 = t.val ∧ win0_0.index t 1 = 120 := by revert t; decide +kernel
  unfold iblk
  rw [View.read_apply]
  show V m c main_arg0 _ = _
  rw [V_main_arg0]
  refine N2_at (a := 9216) (b := 15488) _ _ _ _ ?_ ?_
  · show win0_0.index t 0 * 512 + 1 * (x 0).val = _; rw [hi.1]; omega
  · show win0_0.index t 1 * 128 + 1 * (x 1).val = _; rw [hi.2]; omega

/-- The weights. -/
theorem X1_at (t : Fin cfg0.N) (x : S1x64.Idx) : iblk m c 1 t x = (inp m c).g (x 1).val := by
  have hi : win0_1.index t 0 = 0 ∧ win0_1.index t 1 = 0 := by revert t; decide +kernel
  have h : ∀ y : S1x64.Idx, V m c main_v0 y = (inp m c).g (y 1).val := by
    intro y
    after_reads_at
    exact N1_at (a := 64) _ _ _ (by simp)
  unfold iblk
  rw [View.read_apply]
  refine (h _).trans (congrArg (inp m c).g ?_)
  show win0_1.index t 1 * 64 + 1 * (x 1).val = (x 1).val; rw [hi.2]; omega

/-- The offsets. -/
theorem X2_at (t : Fin cfg0.N) (x : S1x64.Idx) : iblk m c 2 t x = (inp m c).b (x 1).val := by
  have hi : win0_2.index t 0 = 0 ∧ win0_2.index t 1 = 0 := by revert t; decide +kernel
  have h : ∀ y : S1x64.Idx, V m c main_v1 y = (inp m c).b (y 1).val := by
    intro y
    after_reads_at
    exact N1_at (a := 64) _ _ _ (by simp)
  unfold iblk
  rw [View.read_apply]
  refine (h _).trans (congrArg (inp m c).b ?_)
  show win0_2.index t 1 * 64 + 1 * (x 1).val = (x 1).val; rw [hi.2]; omega

/-- A point's output block at an index. -/
theorem step_at (t : Fin cfg0.N) (r : Fin 512) (j : Fin 64) :
    out0_3 (iblk m c 0 t) (iblk m c 1 t) (iblk m c 2 t) (ix2 r j) = out (inp m c) (512 * t.val + r.val) j.val := by
  unfold out0_3
  rw [View.canon_unit_zero z2, View.ld_unit_zero z2, View.ld_unit_zero z2]
  pointwise [k0_pay1]
  simp only [X0_at, X1_at, X2_at, ix2_0, ix2_1]
  rfl

/-- The output array. -/
def G : Buf (Elt Ideal) ((c : Thread nD τ).loc main_v2) := fun i => out (inp m c) (i 0).val (i 1).val

/-- What a point writes back is its block of the output array. -/
theorem flushed_eq (t : Fin cfg0.N) : (dats m 0 c).flushed 3 t = ((cfg0.win 3).blk t).view.read (Elt Ideal) (G m c) := by
  have hi : win0_3.index t 0 = t.val ∧ win0_3.index t 1 = 0 := by revert t; decide +kernel
  rw [Value.flushed3]
  funext y
  have hy0 : (y 0).val < 512 := (y 0).isLt
  have hy1 : (y 1).val < 64 := (y 1).isLt
  have hx : (cfg0.win 3).xinj (grid0.coords t) y = ix2 (⟨(y 0).val, hy0⟩ : Fin 512) (⟨(y 1).val, hy1⟩ : Fin 64) := by
    funext a
    match a with
    | ⟨0, _⟩ => rfl
    | ⟨1, _⟩ => rfl
  show out0_3 (iblk m c 0 t) (iblk m c 1 t) (iblk m c 2 t) ((cfg0.win 3).xinj (grid0.coords t) y) = G m c (((cfg0.win 3).blk t).view.emb y)
  rw [hx, step_at]
  refine congrArg₂ (out (inp m c)) ?_ ?_
  · show 512 * t.val + (y 0).val = win0_3.index t 0 * 512 + 1 * (y 0).val; rw [hi.1]; omega
  · show (y 1).val = win0_3.index t 1 * 64 + 1 * (y 1).val; rw [hi.2]; omega

/-- The points' blocks cover the output array. -/
theorem covered (i : S9216x64.Idx) : ∃ t : Fin cfg0.N, (cfg0.win 3).flush t = true ∧ i ∈ ((cfg0.win 3).blk t).view.set := by
  have h0 : (i 0).val < 9216 := (i 0).isLt
  have h1 : (i 1).val < 64 := (i 1).isLt
  have hN : cfg0.N = 18 := N_0
  have ht : (i 0).val / 512 < cfg0.N := by omega
  have hi : ∀ t : Fin cfg0.N, win0_3.index t 0 = t.val ∧ win0_3.index t 1 = 0 := by decide +kernel
  have hq := hi ⟨_, ht⟩
  dsimp only at hq
  refine ⟨⟨_, ht⟩, flush0_3 _, ?_⟩
  show i ∈ ((View.whole main_v2).slice (win0_3.rect ⟨_, ht⟩)).set
  rw [View.set_slice_whole, Rect.mem_set_unit]
  intro a
  match a with
  | ⟨0, _⟩ => show win0_3.index ⟨_, ht⟩ 0 * 512 ≤ (i 0).val ∧ (i 0).val < win0_3.index ⟨_, ht⟩ 0 * 512 + 512; rw [hq.1]; omega
  | ⟨1, _⟩ => show win0_3.index ⟨_, ht⟩ 1 * 64 ≤ (i 1).val ∧ (i 1).val < win0_3.index ⟨_, ht⟩ 1 * 64 + 64; rw [hq.2]; omega

/-- The array after the run. -/
theorem final : (dats m 0 c).arrAt 3 cfg0.N = G m c :=
  (dats m 0 c).arrAt_eq_of_cover 3 _ (fun t _ => flushed_eq m c t) covered

end Cert.Kidx
end
end
-- ==== Proof.KidxRef.lean ====
/-
The reference of the indexer keys' normalisation at an index.
-/
module
public import proofs.«01_k».proof.Proof.Gen.Reference6Ideal.Read
public import proofs.«01_k».proof.Proof.Kidx

@[expose] public section
set_option maxRecDepth 16384
set_option maxHeartbeats 2000000
noncomputable section
namespace Cert.Kidx.Ref
open Cert.Reference6Ideal Cert.Reference6Ideal.Gen Cert.Reference6Ideal.Read Idealize.ShloMosaic Idealize.ShloMosaic.TcCoe Cert.Arr Cert.Norm

variable (x0 : (⟨S9216x15488, .f32⟩ : BufTy).Contents (Elt Ideal)) (x1 x2 : (⟨S64, .f32⟩ : BufTy).Contents (Elt Ideal))

/-- The arguments, read at natural numbers. -/
def rin : In := ⟨N2 x0, N1 x1, N1 x2⟩

/-- The columns. -/
theorem v0_at (i : Fin 9216) (k : Fin 64) : val_main_v0 x0 (ix2 i k) = (rin x0 x1 x2).p i.val (15360 + k.val) := by
  pointwise [val_main_v0]
  exact N2_at x0 _ i.val (15360 + k.val) rfl rfl
/-- The mean. -/
theorem v4_at (i : Fin 9216) (z : Fin 1) : val_main_v4 x0 (ix2 i z) = mean (rin x0 x1 x2) i.val := by
  pointwise [val_main_v4, val_main_v3, val_main_v2, val_main_v1, val_main_cst, val_main_cst_0]
  simp only [v0_at x0 x1 x2]
  rfl
/-- The output. -/
theorem v24_at (i : Fin 9216) (k : Fin 64) : val_main_v24 x0 x1 x2 (ix2 i k) = out (rin x0 x1 x2) i.val k.val := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_cst_1, val_main_cst_2, val_main_cst_3]
  simp only [v0_at x0 x1 x2, v4_at x0 x1 x2, fun y : Fin 64 => N1_at x1 (ix1 y) y.val rfl, fun y : Fin 64 => N1_at x2 (ix1 y) y.val rfl]
  rfl

end Cert.Kidx.Ref
end
end
-- ==== Proof.KidxClaim.lean ====
/-
The indexer keys' normalisation's claims.
-/
module
public import proofs.«01_k».proof.Proof.KidxRef
public import proofs.«01_k».proof.Proof.Gen.Kernel6.Frame
public import proofs.«01_k».proof.Proof.Gen.Reference6Ideal.Run
public import proofs.«01_k».proof.Defs
public import Idealize.ShloMosaic.Adequacy
public import Idealize.ShloMosaic.Init

@[expose] public section
set_option maxHeartbeats 2000000
noncomputable section
namespace Cert.Kidx
open Idealize.ShloMosaic Idealize.SL.Sem Idealize.ShloMosaic.StableHlo Cert.Arr

/-- The printed call leaves its arguments and its semaphores as they were. -/
theorem frame_p : Cert.quiescent_Kernel6 := fun m ρ _ => Cert.Kernel6.Gen.frame m ρ
/-- So does its idealisation; -/
theorem frame_pi : Cert.quiescent_Kernel6Ideal := fun m ρ _ => Cert.Kernel6Ideal.Gen.frame m ρ
/-- and the reference. -/
theorem frame_ri : Cert.quiescent_Reference6Ideal := fun m ρ _ =>
  (θ_run Cert.Reference6Ideal.defs _ _).mono (fun r h => ⟨fun c => (h c).2,
    Idealize.ShloMosaic.sem_eq_zero_of_no_sems (by decide) r.2⟩) (Cert.Reference6Ideal.Value.run m ρ)

/-- The kernel's run with its output array named. -/
theorem run (m : (ℓ : Loc Cert.Kernel6Ideal.nD Cert.Kernel6Ideal.τ Cert.Kernel6Ideal.sig) → Buf (Elt Ideal) ℓ) (ρ : Dev Cert.Kernel6Ideal.nD → PrngReg) :
    θ_run Cert.Kernel6Ideal.defs (onTc (τ := Cert.Kernel6Ideal.τ) (Cert.Kernel6Ideal.main (F := Ideal))) ⟨m, fun _ => 0, ρ⟩ fun r => ∀ c : Dev Cert.Kernel6Ideal.nD,
      r.2.mem ((c.tc).loc Cert.Kernel6Ideal.main_v2) = G m c
      ∧ r.2.mem ((c.tc).loc Cert.Kernel6Ideal.main_arg0) = m ((c.tc).loc Cert.Kernel6Ideal.main_arg0)
      ∧ r.2.mem ((c.tc).loc Cert.Kernel6Ideal.main_arg1) = m ((c.tc).loc Cert.Kernel6Ideal.main_arg1)
      ∧ r.2.mem ((c.tc).loc Cert.Kernel6Ideal.main_arg2) = m ((c.tc).loc Cert.Kernel6Ideal.main_arg2) :=
  (θ_run _ _ _).mono (fun _ h c => ⟨(h c).1.trans (final m c), (h c).2⟩) (Cert.Kernel6Ideal.Value.run_blocks m ρ)

/-- The two programs' outputs are one array, entry by entry. -/
theorem rows_eq (m : (ℓ : Loc Cert.Kernel6Ideal.nD Cert.Kernel6Ideal.τ Cert.Kernel6Ideal.sig) → Buf (Elt Ideal) ℓ) (c : Dev Cert.Kernel6Ideal.nD) :
    Cert.Reference6Ideal.Read.val_main_v24 (m ((c.tc).loc Cert.Kernel6Ideal.main_arg0)) (m ((c.tc).loc Cert.Kernel6Ideal.main_arg1))
      (m ((c.tc).loc Cert.Kernel6Ideal.main_arg2)) = G m c := by
  refine funext fun (i : Cert.Kernel6Ideal.S9216x64.Idx) => ?_
  rw [show i = ix2 (i 0) (i 1) from by funext a; fin_cases a <;> rfl]
  exact (Ref.v24_at _ _ _ (i 0) (i 1)).trans rfl

/-- At the reals, the call computes the reference. -/
theorem algebraic : Cert.algebraic_Kernel6Ideal_Reference6Ideal := by
  intro m ρ m' ρ' _ hagree
  refine ⟨fun c => G m c, run m ρ, ?_⟩
  refine (θ_run Cert.Reference6Ideal.defs _ _).mono ?_ (Cert.Reference6Ideal.Value.run m' ρ')
  intro r h c
  obtain ⟨a0, a1, a2⟩ := hagree c
  refine ⟨((h c).1.trans (Cert.Reference6Ideal.Read.val_main_v24_eq _ _ _)).trans ?_, (h c).2⟩
  refine Eq.trans ?_ (rows_eq m c)
  rw [← a0, ← a1, ← a2]

end Cert.Kidx
end
end
-- ==== Proof.SampBody.lean ====
/-
The state-space recurrence's call on the sample batch: the printed body's state, head by head, as one function of the
values the body loads.
-/
module
public import proofs.«01_k».proof.Proof.Gen.Kernel7Ideal.Value
public import proofs.«01_k».proof.Proof.CaseA

@[expose] public section
set_option maxHeartbeats 8000000
noncomputable section
namespace Cert.Samp
open Cert.Kernel7Ideal Cert.Kernel7Ideal.Gen Idealize.ShloMosaic Idealize.ShloMosaic.TcCoe Idealize.SL.Sem
open Cert.KernelIdeal.Step (ldw ldp hz2 hz3 hz4 skip bottom inbSt)
variable {F : FTy → Type} [FloatOps F]

/-- A head's last entry of a 16 by 8 array lies in it. -/
theorem sliceLast (h : Fin 16) : S16x8.Slices ![h.val, 7] S1x1 := by
  fin_cases h <;> decide
/-- A head's 64 columns lie in the 1024. -/
theorem sliceHead (h : Fin 16) : S8x1024.Slices ![0, 64 * h.val] S8x64 := by
  fin_cases h <;> decide
/-- The 128 columns of B of a head's group lie in the 1024. -/
theorem sliceB (h : Fin 16) : S8x1024.Slices ![0, 128 * (h.val / 4)] S8x128 := by
  fin_cases h <;> decide

/-- The B rows of head `h`'s group. -/
def headB (bcb : FVec F S8x1024 .bf16) (h : Fin 16) : FVec F S8x128 .bf16 :=
  extractStridedSlice S8x128 ![0, 128 * (h.val / 4)] bcb (sliceB h)
/-- Head `h`'s state after the rows. -/
def headS (cst : FVec F S16x8 .f32) (xdw bcb : FVec F S8x1024 .bf16) (h : Fin 16) (st : Vec F S1x64x128 .f32) :
    FVec F S1x64x128 .f32 :=
  shapeCast S1x64x128 (addf (mulf (shapeCast S64x128 st shapeCasts_S1x64x128_S64x128)
      (broadcastTo S64x128 (exp (extractStridedSlice S1x1 ![h.val, 7] cst (sliceLast h))) broadcasts_S1x1_S64x128))
    (matmul dot_S8x64_S8x128_S64x128_0_0_1_1_n_n none (extractStridedSlice S8x64 ![0, 64 * h.val] xdw (sliceHead h))
      (headB bcb h) (constant S64x128 .f32 0x00000000#32))) shapeCasts_S64x128_S1x64x128

/-- The row number down a column. -/
abbrev iotaR : IVec S8x1 32 := iota .tc S8x1 32 [0] iota_S8x1_d0_w32

/-- The values the state is made from: the raw rows of x and of B and C, the raw time steps, the convolution's weights
    and bias (two halves), the time-step bias, the decay logarithm, the head expansion, the three rows before, the
    state per head. -/
structure Loads (F : FTy → Type) [FloatOps F] where
  xr : Vec F S8x1024 .f32
  br : Vec F S8x1024 .f32
  dr : Vec F S8x16 .f32
  cw : Vec F S4x2048 .f32
  cl : Vec F S1x1024 .f32
  ch : Vec F S1x1024 .f32
  db : Vec F S1x16 .f32
  al : Vec F S1x16 .f32
  e : Vec F S16x1024 .f32
  pv : Vec F S3x2048 .f32
  st : Fin 16 → Vec F S1x64x128 .f32

section
variable (L : Loads F)
/-- The rows of x after the convolution and the silu. -/
def XS : FVec F S8x1024 .f32 :=
  k0_pay9 iotaR L.cw L.xr (k0_pay5 L.pv) (k0_pay6 L.cw L.pv L.xr L.cl) (k0_pay7 L.pv L.xr) k0_pay8
/-- The rows of B and C after the convolution and the silu. -/
def BC : FVec F S8x1024 .f32 :=
  k0_pay18 L.cw (k0_pay14 iotaR L.cw L.br (k0_pay10 L.pv) (k0_pay11 L.cw L.br L.ch) (k0_pay12 L.br) (k0_pay13 iotaR))
    (k0_pay15 iotaR L.br (k0_pay10 L.pv)) (k0_pay16 (k0_pay10 L.pv)) (k0_pay17 iotaR)
/-- The time steps, zero past the fourth row. -/
def DT : FVec F S8x16 .f32 := k0_pay21 iotaR L.dr L.db
/-- The logarithms of the decays. -/
def AD : FVec F S8x16 .f32 := k0_pay23 (DT L) (k0_pay22 L.al)
/-- Their cumulative sums. -/
def CS : FVec F S8x16 .f32 := k0_pay25 (DT L) (k0_pay22 L.al)
/-- Their cumulative sums, transposed. -/
def CST : FVec F S16x8 .f32 := k0_pay26 (DT L) (k0_pay22 L.al)
/-- x times the time step times the decay to the last row. -/
def XDW : FVec F S8x1024 .bf16 := k0_pay30 (XS L) (DT L) (k0_pay22 L.al) L.e
/-- B and C, rounded. -/
def BCB : FVec F S8x1024 .bf16 := k0_pay32 (BC L)
/-- The state of head `h` after the rows. -/
def SH (h : Fin 16) : FVec F S1x64x128 .f32 := headS (CST L) (XDW L) (BCB L) h (L.st h)
/-- The states of all heads. -/
def ST : Vec F S16x64x128 .f32 := fun y => SH L (y 0) (ix3 0 (y 1) (y 2))

/-- The states, read at one head. -/
theorem ST_at {o : Nat} (h : Fin 16) (ho : o = h.val) (inb : ∀ a, (![o, 0, 0] : Fin 3 → Nat) a + S1x64x128.size a ≤ S16x64x128.size a)
    (x : S1x64x128.Idx) : ST L ((Rect.unit (s := S16x64x128) ![o, 0, 0] S1x64x128.size inb).emb x) = SH L h x := by
  subst ho
  have h0 : (x 0).val = 0 := by have := (x 0).isLt; simp at this; omega
  have e : (Rect.unit (s := S16x64x128) ![h.val, 0, 0] S1x64x128.size inb).emb x 0 = h := by
    apply Fin.ext; show h.val + 1 * (x 0).val = h.val; omega
  unfold ST; rw [e]; congr 1
  funext a; fin_cases a
  · apply Fin.ext; show 0 = (x 0).val; omega
  · apply Fin.ext; show 0 + 1 * (x 1).val = (x 1).val; omega
  · apply Fin.ext; show 0 + 1 * (x 2).val = (x 2).val; omega
end

/-- The values the body loads, from its blocks. -/
def blk (x1 x2 : Vec F S8x1024 .f32) (x3 : Vec F S8x128 .f32) (x4 : Vec F S1x3x2048 .f32) (x5 : Vec F S1x16x64x128 .f32)
    (x6 : Vec F S4x2048 .f32) (x7 : Vec F S1x2048 .f32) (x8 x9 : Vec F S1x16 .f32) (x12 : Vec F S16x1024 .f32) : Loads F where
  xr := x1
  br := x2
  dr := View.ld x3 (Rect.unit (s := S8x128) ![0, 64] S8x16.size inb_S8x128_S8x16_0_64)
  cw := x6
  cl := View.ld x7 (Rect.unit (s := S1x2048) ![0, 0] S1x1024.size inb_S1x2048_S1x1024_0_0)
  ch := View.ld x7 (Rect.unit (s := S1x2048) ![0, 1024] S1x1024.size inb_S1x2048_S1x1024_0_1024)
  db := x8
  al := x9
  e := x12
  pv := k0_pay3 x4
  st := fun h => View.ld (k0_pay4 x5) (Rect.unit (s := S16x64x128) ![h.val, 0, 0] S1x64x128.size (inbSt h))

/-- What earlier writes left does not matter where later ones cover. -/
theorem canon_app {Val : EltTy → Type} [∀ e, Nonempty (Val e)] {s : Shape} {e : EltTy} (L L' : List (View.Piece Val s e)) (y : s.Idx)
    (h : ∃ p ∈ L, y ∈ p.1.set) : View.canon (L ++ L') y = View.canon L y := by
  induction L with
  | nil => obtain ⟨p, hp, _⟩ := h; exact absurd hp List.not_mem_nil
  | cons p L ih =>
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem _ _ hm, View.canon_cons_of_not_mem _ _ hm]
      obtain ⟨q, hq, hy⟩ := h
      rcases List.mem_cons.mp hq with rfl | hq
      · exact absurd hy hm
      · exact ih ⟨q, hq, hy⟩

variable (c : Dev nD) (i : grid0.Coords)
  (arg2 : Memref sig .tc .vmem S8x1024 .f32) (harg2 : arg2.IsWhole)
  (arg3 : Memref sig .tc .vmem S8x1024 .f32) (harg3 : arg3.IsWhole)
  (arg4 : Memref sig .tc .vmem S8x1024 .f32) (harg4 : arg4.IsWhole)
  (arg5 : Memref sig .tc .vmem S8x128 .f32) (harg5 : arg5.IsWhole)
  (arg6 : Memref sig .tc .vmem S1x3x2048 .f32) (harg6 : arg6.IsWhole)
  (arg7 : Memref sig .tc .vmem S1x16x64x128 .f32) (harg7 : arg7.IsWhole)
  (arg8 : Memref sig .tc .vmem S4x2048 .f32) (harg8 : arg8.IsWhole)
  (arg9 : Memref sig .tc .vmem S1x2048 .f32) (harg9 : arg9.IsWhole)
  (arg10 : Memref sig .tc .vmem S1x16 .f32) (harg10 : arg10.IsWhole)
  (arg11 : Memref sig .tc .vmem S1x16 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S16x1024 .f32) (harg14 : arg14.IsWhole)
  (arg15 : Memref sig .tc .vmem S8x1024 .bf16) (harg15 : arg15.IsWhole)
  (arg16 : Memref sig .tc .vmem S1x16x64x128 .f32) (harg16 : arg16.IsWhole)
  (arg17 : Memref sig .tc .vmem S3x2048 .f32) (harg17 : arg17.IsWhole)
  (arg18 : Memref sig .tc .vmem S16x64x128 .f32) (harg18 : arg18.IsWhole)
  (arg19 : Memref sig .tc .vmem S8x1024 .f32) (harg19 : arg19.IsWhole)
variable (x0 : Vec F S8x1024 .f32) (x1 : Vec F S8x1024 .f32) (x2 : Vec F S8x1024 .f32) (x3 : Vec F S8x128 .f32) (x4 : Vec F S1x3x2048 .f32) (x5 : Vec F S1x16x64x128 .f32) (x6 : Vec F S4x2048 .f32) (x7 : Vec F S1x2048 .f32) (x8 : Vec F S1x16 .f32) (x9 : Vec F S1x16 .f32) (x10 : Vec F S1x1024 .f32) (x11 : Vec F S1x1024 .f32) (x12 : Vec F S16x1024 .f32)

/-- The values the printed body loads. -/
def load : Loads F where
  xr := View.readAt (Elt F) arg3.view (Rect.unit (s := S8x1024) ![0, 0] S8x1024.size inb_S8x1024_S8x1024_0_0).toLoadRect (harg3.unread x1)
  br := View.readAt (Elt F) arg4.view (Rect.unit (s := S8x1024) ![0, 0] S8x1024.size inb_S8x1024_S8x1024_0_0).toLoadRect (harg4.unread x2)
  dr := View.readAt (Elt F) arg5.view (Rect.unit (s := S8x128) ![0, 64] S8x16.size inb_S8x128_S8x16_0_64).toLoadRect (harg5.unread x3)
  cw := View.readAt (Elt F) arg8.view (Rect.unit (s := S4x2048) ![0, 0] S4x2048.size inb_S4x2048_S4x2048_0_0).toLoadRect (harg8.unread x6)
  cl := View.readAt (Elt F) arg9.view (Rect.unit (s := S1x2048) ![0, 0] S1x1024.size inb_S1x2048_S1x1024_0_0).toLoadRect (harg9.unread x7)
  ch := View.readAt (Elt F) arg9.view (Rect.unit (s := S1x2048) ![0, 1024] S1x1024.size inb_S1x2048_S1x1024_0_1024).toLoadRect (harg9.unread x7)
  db := View.readAt (Elt F) arg10.view (Rect.unit (s := S1x16) ![0, 0] S1x16.size inb_S1x16_S1x16_0_0).toLoadRect (harg10.unread x8)
  al := View.readAt (Elt F) arg11.view (Rect.unit (s := S1x16) ![0, 0] S1x16.size inb_S1x16_S1x16_0_0).toLoadRect (harg11.unread x9)
  e := View.readAt (Elt F) arg14.view (Rect.unit (s := S16x1024) ![0, 0] S16x1024.size inb_S16x1024_S16x1024_0_0).toLoadRect (harg14.unread x12)
  pv := kernelRun0_A.sl.v5 c arg6 harg6 arg17 x4
  st := ![kernelRun0_A.sl.v240 c arg7 harg7 arg18 x5, kernelRun0_A.sl.v272 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v304 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v336 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v371 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v403 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v435 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v467 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v502 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v534 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v566 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v598 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v633 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v665 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v697 c arg3 harg3 arg4 harg4 arg5 harg5 arg6 harg6 arg7 harg7 arg8 harg8 arg9 harg9 arg10 harg10 arg11 harg11 arg14 harg14 arg17 arg18 x1 x2 x3 x4 x5 x6 x7 x8 x9 x12, kernelRun0_A.sl.v729 c arg3 harg3 arg4 harg4 arg5 harg5 arg6 harg6 arg7 harg7 arg8 harg8 arg9 harg9 arg10 harg10 arg11 harg11 arg14 harg14 arg17 arg18 x1 x2 x3 x4 x5 x6 x7 x8 x9 x12]

/-- They are the values of its blocks. -/
theorem load_eq : load c arg3 harg3 arg4 harg4 arg5 harg5 arg6 harg6 arg7 harg7 arg8 harg8 arg9 harg9 arg10 harg10 arg11 harg11 arg14 harg14 arg17 arg18 x1 x2 x3 x4 x5 x6 x7 x8 x9 x12 = blk x1 x2 x3 x4 x5 x6 x7 x8 x9 x12 := by
  unfold load blk
  simp only [Loads.mk.injEq]
  refine ⟨ldw _ _ hz2 _ _, ldw _ _ hz2 _ _, ldp _ _ _ _, ldw _ _ hz2 _ _, ldp _ _ _ _, ldp _ _ _ _,
    ldw _ _ hz2 _ _, ldw _ _ hz2 _ _, ldw _ _ hz2 _ _, ?_, ?_⟩
  · unfold kernelRun0_A.sl.v5 kernelRun0_A.sl.HS0_1
    rw [View.readCov_unit_zero _ hz2, ldw _ _ hz3]
  · funext h
    fin_cases h
    · change kernelRun0_A.sl.v240 c arg7 harg7 arg18 x5 = _
      unfold kernelRun0_A.sl.v240 kernelRun0_A.sl.HS1_1
      exact (bottom ..).trans (by rw [ldw _ _ hz4])
    · change kernelRun0_A.sl.v272 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v272 kernelRun0_A.sl.HS1_2 kernelRun0_A.sl.HS1_1
      rw [skip _ (by decide)]; exact (bottom ..).trans (by rw [ldw _ _ hz4])
    · change kernelRun0_A.sl.v304 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v304 kernelRun0_A.sl.HS1_3 kernelRun0_A.sl.HS1_2 kernelRun0_A.sl.HS1_1
      rw [skip _ (by decide), skip _ (by decide)]; exact (bottom ..).trans (by rw [ldw _ _ hz4])
    · change kernelRun0_A.sl.v336 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v336 kernelRun0_A.sl.HS1_4 kernelRun0_A.sl.HS1_3 kernelRun0_A.sl.HS1_2 kernelRun0_A.sl.HS1_1
      rw [skip _ (by decide), skip _ (by decide), skip _ (by decide)]; exact (bottom ..).trans (by rw [ldw _ _ hz4])
    · change kernelRun0_A.sl.v371 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v371 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide)]; exact (bottom ..).trans (by rw [ldw _ _ hz4])
    · change kernelRun0_A.sl.v403 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v403 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide)]; exact (bottom ..).trans (by rw [ldw _ _ hz4])
    · change kernelRun0_A.sl.v435 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v435 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide), skip _ (by decide)]; exact (bottom ..).trans (by rw [ldw _ _ hz4])
    · change kernelRun0_A.sl.v467 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v467 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide), skip _ (by decide), skip _ (by decide)]; exact (bottom ..).trans (by rw [ldw _ _ hz4])
    · change kernelRun0_A.sl.v502 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v502 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide), skip _ (by decide), skip _ (by decide), skip _ (by decide)]; exact (bottom ..).trans (by rw [ldw _ _ hz4])
    · change kernelRun0_A.sl.v534 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v534 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide), skip _ (by decide), skip _ (by decide), skip _ (by decide), skip _ (by decide)]; exact (bottom ..).trans (by rw [ldw _ _ hz4])
    · change kernelRun0_A.sl.v566 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v566 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide), skip _ (by decide), skip _ (by decide), skip _ (by decide), skip _ (by decide), skip _ (by decide)]; exact (bottom ..).trans (by rw [ldw _ _ hz4])
    · change kernelRun0_A.sl.v598 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v598 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide), skip _ (by decide), skip _ (by decide), skip _ (by decide), skip _ (by decide), skip _ (by decide), skip _ (by decide)]; exact (bottom ..).trans (by rw [ldw _ _ hz4])
    · change kernelRun0_A.sl.v633 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v633 kernelRun0_A.sl.HS1_13 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide), skip _ (by decide), skip _ (by decide), skip _ (by decide), skip _ (by decide), skip _ (by decide), skip _ (by decide), skip _ (by decide)]; exact (bottom ..).trans (by rw [ldw _ _ hz4])
    · change kernelRun0_A.sl.v665 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v665 kernelRun0_A.sl.HS1_14 kernelRun0_A.sl.HS1_13 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide), skip _ (by decide), skip _ (by decide), skip _ (by decide), skip _ (by decide), skip _ (by decide), skip _ (by decide), skip _ (by decide), skip _ (by decide)]; exact (bottom ..).trans (by rw [ldw _ _ hz4])
    · change kernelRun0_A.sl.v697 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v697 kernelRun0_A.sl.HS1_15 kernelRun0_A.sl.HS1_14 kernelRun0_A.sl.HS1_13 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide), skip _ (by decide), skip _ (by decide), skip _ (by decide), skip _ (by decide), skip _ (by decide), skip _ (by decide), skip _ (by decide), skip _ (by decide), skip _ (by decide)]; exact (bottom ..).trans (by rw [ldw _ _ hz4])
    · change kernelRun0_A.sl.v729 c arg3 harg3 arg4 harg4 arg5 harg5 arg6 harg6 arg7 harg7 arg8 harg8 arg9 harg9 arg10 harg10 arg11 harg11 arg14 harg14 arg17 arg18 x1 x2 x3 x4 x5 x6 x7 x8 x9 x12 = _
      unfold kernelRun0_A.sl.v729 kernelRun0_A.sl.HS1_16 kernelRun0_A.sl.HS1_15 kernelRun0_A.sl.HS1_14 kernelRun0_A.sl.HS1_13 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ (by decide), skip _ (by decide), skip _ (by decide), skip _ (by decide), skip _ (by decide), skip _ (by decide), skip _ (by decide), skip _ (by decide), skip _ (by decide), skip _ (by decide), skip _ (by decide), skip _ (by decide), skip _ (by decide), skip _ (by decide), skip _ (by decide)]; exact (bottom ..).trans (by rw [ldw _ _ hz4])

/-- The state the body writes. -/
theorem out14_A (hc0 : cond0_0 i) (hc1 : cond0_1 i) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12
    = k0_pay2 (ST (blk x1 x2 x3 x4 x5 x6 x7 x8 x9 x12)) := by
  rw [← load_eq c arg3 harg3 arg4 harg4 arg5 harg5 arg6 harg6 arg7 harg7 arg8 harg8 arg9 harg9 arg10 harg10 arg11 harg11 arg14 harg14 arg17 arg18 x1 x2 x3 x4 x5 x6 x7 x8 x9 x12]
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12)]
  unfold kernelRun0_A
  dsimp only
  rw [View.canon_unit_zero hz4]
  congr 1
  unfold kernelRun0_A.sl.v830
  rw [View.readCov_eq_canon']
  funext y
  have hy : (Rect.unit (s := S16x64x128) ![0, 0, 0] S16x64x128.size inb_S16x64x128_S16x64x128_0_0_0).toLoadRect.idx y = y := by
    funext a
    fin_cases a <;> exact Fin.ext (show 0 + 1 * _ = _ by omega)
  refine (congrArg (View.canon _) hy).trans ?_
  rw [← List.take_append_drop 16 (kernelRun0_A.sl.HS1_17 c arg3 harg3 arg4 harg4 arg5 harg5 arg6 harg6 arg7 harg7 arg8 harg8 arg9 harg9 arg10 harg10 arg11 harg11 arg14 harg14 arg17 arg18 x1 x2 x3 x4 x5 x6 x7 x8 x9 x12)]
  have hcov := View.cover_of_tiledL ((kernelRun0_A.sl.HS1_17 c arg3 harg3 arg4 harg4 arg5 harg5 arg6 harg6 arg7 harg7 arg8 harg8 arg9 harg9 arg10 harg10 arg11 harg11 arg14 harg14 arg17 arg18 x1 x2 x3 x4 x5 x6 x7 x8 x9 x12).take 16) S1x64x128.size (by sl_kernel_rfl)
  rw [canon_app _ _ _ (hcov y)]
  refine View.canon_apply_of_pieces (ST (load c arg3 harg3 arg4 harg4 arg5 harg5 arg6 harg6 arg7 harg7 arg8 harg8 arg9 harg9 arg10 harg10 arg11 harg11 arg14 harg14 arg17 arg18 x1 x2 x3 x4 x5 x6 x7 x8 x9 x12)) _ ?_ y (hcov y)
  unfold kernelRun0_A.sl.HS1_17 kernelRun0_A.sl.HS1_16 kernelRun0_A.sl.HS1_15 kernelRun0_A.sl.HS1_14 kernelRun0_A.sl.HS1_13 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  simp only [List.take_succ_cons, List.take_zero, List.forall_mem_cons, List.not_mem_nil, false_imp_iff, implies_true, and_true]
  refine ⟨?_, ?_, ?_, ?_, ?_, ?_, ?_, ?_, ?_, ?_, ?_, ?_, ?_, ?_, ?_, ?_⟩
  · exact fun x => Eq.trans (b := SH (load c arg3 harg3 arg4 harg4 arg5 harg5 arg6 harg6 arg7 harg7 arg8 harg8 arg9 harg9 arg10 harg10 arg11 harg11 arg14 harg14 arg17 arg18 x1 x2 x3 x4 x5 x6 x7 x8 x9 x12) 15 x) (by sl_kernel_rfl) (ST_at _ 15 rfl _ x).symm
  · exact fun x => Eq.trans (b := SH (load c arg3 harg3 arg4 harg4 arg5 harg5 arg6 harg6 arg7 harg7 arg8 harg8 arg9 harg9 arg10 harg10 arg11 harg11 arg14 harg14 arg17 arg18 x1 x2 x3 x4 x5 x6 x7 x8 x9 x12) 14 x) (by sl_kernel_rfl) (ST_at _ 14 rfl _ x).symm
  · exact fun x => Eq.trans (b := SH (load c arg3 harg3 arg4 harg4 arg5 harg5 arg6 harg6 arg7 harg7 arg8 harg8 arg9 harg9 arg10 harg10 arg11 harg11 arg14 harg14 arg17 arg18 x1 x2 x3 x4 x5 x6 x7 x8 x9 x12) 13 x) (by sl_kernel_rfl) (ST_at _ 13 rfl _ x).symm
  · exact fun x => Eq.trans (b := SH (load c arg3 harg3 arg4 harg4 arg5 harg5 arg6 harg6 arg7 harg7 arg8 harg8 arg9 harg9 arg10 harg10 arg11 harg11 arg14 harg14 arg17 arg18 x1 x2 x3 x4 x5 x6 x7 x8 x9 x12) 12 x) (by sl_kernel_rfl) (ST_at _ 12 rfl _ x).symm
  · exact fun x => Eq.trans (b := SH (load c arg3 harg3 arg4 harg4 arg5 harg5 arg6 harg6 arg7 harg7 arg8 harg8 arg9 harg9 arg10 harg10 arg11 harg11 arg14 harg14 arg17 arg18 x1 x2 x3 x4 x5 x6 x7 x8 x9 x12) 11 x) (by sl_kernel_rfl) (ST_at _ 11 rfl _ x).symm
  · exact fun x => Eq.trans (b := SH (load c arg3 harg3 arg4 harg4 arg5 harg5 arg6 harg6 arg7 harg7 arg8 harg8 arg9 harg9 arg10 harg10 arg11 harg11 arg14 harg14 arg17 arg18 x1 x2 x3 x4 x5 x6 x7 x8 x9 x12) 10 x) (by sl_kernel_rfl) (ST_at _ 10 rfl _ x).symm
  · exact fun x => Eq.trans (b := SH (load c arg3 harg3 arg4 harg4 arg5 harg5 arg6 harg6 arg7 harg7 arg8 harg8 arg9 harg9 arg10 harg10 arg11 harg11 arg14 harg14 arg17 arg18 x1 x2 x3 x4 x5 x6 x7 x8 x9 x12) 9 x) (by sl_kernel_rfl) (ST_at _ 9 rfl _ x).symm
  · exact fun x => Eq.trans (b := SH (load c arg3 harg3 arg4 harg4 arg5 harg5 arg6 harg6 arg7 harg7 arg8 harg8 arg9 harg9 arg10 harg10 arg11 harg11 arg14 harg14 arg17 arg18 x1 x2 x3 x4 x5 x6 x7 x8 x9 x12) 8 x) (by sl_kernel_rfl) (ST_at _ 8 rfl _ x).symm
  · exact fun x => Eq.trans (b := SH (load c arg3 harg3 arg4 harg4 arg5 harg5 arg6 harg6 arg7 harg7 arg8 harg8 arg9 harg9 arg10 harg10 arg11 harg11 arg14 harg14 arg17 arg18 x1 x2 x3 x4 x5 x6 x7 x8 x9 x12) 7 x) (by sl_kernel_rfl) (ST_at _ 7 rfl _ x).symm
  · exact fun x => Eq.trans (b := SH (load c arg3 harg3 arg4 harg4 arg5 harg5 arg6 harg6 arg7 harg7 arg8 harg8 arg9 harg9 arg10 harg10 arg11 harg11 arg14 harg14 arg17 arg18 x1 x2 x3 x4 x5 x6 x7 x8 x9 x12) 6 x) (by sl_kernel_rfl) (ST_at _ 6 rfl _ x).symm
  · exact fun x => Eq.trans (b := SH (load c arg3 harg3 arg4 harg4 arg5 harg5 arg6 harg6 arg7 harg7 arg8 harg8 arg9 harg9 arg10 harg10 arg11 harg11 arg14 harg14 arg17 arg18 x1 x2 x3 x4 x5 x6 x7 x8 x9 x12) 5 x) (by sl_kernel_rfl) (ST_at _ 5 rfl _ x).symm
  · exact fun x => Eq.trans (b := SH (load c arg3 harg3 arg4 harg4 arg5 harg5 arg6 harg6 arg7 harg7 arg8 harg8 arg9 harg9 arg10 harg10 arg11 harg11 arg14 harg14 arg17 arg18 x1 x2 x3 x4 x5 x6 x7 x8 x9 x12) 4 x) (by sl_kernel_rfl) (ST_at _ 4 rfl _ x).symm
  · exact fun x => Eq.trans (b := SH (load c arg3 harg3 arg4 harg4 arg5 harg5 arg6 harg6 arg7 harg7 arg8 harg8 arg9 harg9 arg10 harg10 arg11 harg11 arg14 harg14 arg17 arg18 x1 x2 x3 x4 x5 x6 x7 x8 x9 x12) 3 x) (by sl_kernel_rfl) (ST_at _ 3 rfl _ x).symm
  · exact fun x => Eq.trans (b := SH (load c arg3 harg3 arg4 harg4 arg5 harg5 arg6 harg6 arg7 harg7 arg8 harg8 arg9 harg9 arg10 harg10 arg11 harg11 arg14 harg14 arg17 arg18 x1 x2 x3 x4 x5 x6 x7 x8 x9 x12) 2 x) (by sl_kernel_rfl) (ST_at _ 2 rfl _ x).symm
  · exact fun x => Eq.trans (b := SH (load c arg3 harg3 arg4 harg4 arg5 harg5 arg6 harg6 arg7 harg7 arg8 harg8 arg9 harg9 arg10 harg10 arg11 harg11 arg14 harg14 arg17 arg18 x1 x2 x3 x4 x5 x6 x7 x8 x9 x12) 1 x) (by sl_kernel_rfl) (ST_at _ 1 rfl _ x).symm
  · exact fun x => Eq.trans (b := SH (load c arg3 harg3 arg4 harg4 arg5 harg5 arg6 harg6 arg7 harg7 arg8 harg8 arg9 harg9 arg10 harg10 arg11 harg11 arg14 harg14 arg17 arg18 x1 x2 x3 x4 x5 x6 x7 x8 x9 x12) 0 x) (by sl_kernel_rfl) (ST_at _ 0 rfl _ x).symm

end Cert.Samp
end
end
-- ==== Proof.Samp.lean ====
/-
The state-space recurrence's call on the sample batch: the state it writes, at an index, over the launch's arrays.
-/
module
public import proofs.«01_k».proof.Proof.SampBody
public import proofs.«01_k».proof.Proof.Arr
public import proofs.«01_k».proof.Proof.Words
public import Idealize.ShloMosaic.Lib.StableHlo.ReadAt

@[expose] public section
set_option maxRecDepth 16384
set_option maxHeartbeats 2000000
noncomputable section
namespace Cert.Samp
open Cert.Kernel7Ideal Cert.Kernel7Ideal.Gen Idealize.ShloMosaic Idealize.ShloMosaic.TcCoe Idealize.SL.Sem
open Cert.Arr (N1 N2 N1_at N2_at sp sge_iff sle_iff eq_iff sel_bit sel_eq bit01 sum_eye)

/-- An array of rank three read at natural numbers, zero past its ends. -/
def N3 {a b d : Nat} (f : (⟨3, ![a, b, d]⟩ : Shape).Idx → EReal) (i j k : Nat) : EReal :=
  if h : i < a ∧ j < b ∧ k < d then f (ix3 ⟨i, h.1⟩ ⟨j, h.2.1⟩ ⟨k, h.2.2⟩) else 0
/-- It is its reading at an index. -/
theorem N3_at {a b d : Nat} (f : (⟨3, ![a, b, d]⟩ : Shape).Idx → EReal) (x : (⟨3, ![a, b, d]⟩ : Shape).Idx) (i j k : Nat)
    (h0 : (x 0).val = i) (h1 : (x 1).val = j) (h2 : (x 2).val = k) : f x = N3 f i j k := by
  subst h0 h1 h2
  unfold N3; rw [dif_pos ⟨(x 0).isLt, (x 1).isLt, (x 2).isLt⟩]; congr 1
  funext q; match q with | ⟨0, _⟩ => rfl | ⟨1, _⟩ => rfl | ⟨2, _⟩ => rfl
/-- An array of rank four read at natural numbers, zero past its ends. -/
def N4 {a b d e : Nat} (f : (⟨4, ![a, b, d, e]⟩ : Shape).Idx → EReal) (i j k l : Nat) : EReal :=
  if h : i < a ∧ j < b ∧ k < d ∧ l < e then f (ix4 ⟨i, h.1⟩ ⟨j, h.2.1⟩ ⟨k, h.2.2.1⟩ ⟨l, h.2.2.2⟩) else 0
/-- It is its reading at an index. -/
theorem N4_at {a b d e : Nat} (f : (⟨4, ![a, b, d, e]⟩ : Shape).Idx → EReal) (x : (⟨4, ![a, b, d, e]⟩ : Shape).Idx) (i j k l : Nat)
    (h0 : (x 0).val = i) (h1 : (x 1).val = j) (h2 : (x 2).val = k) (h3 : (x 3).val = l) : f x = N4 f i j k l := by
  subst h0 h1 h2 h3
  unfold N4; rw [dif_pos ⟨(x 0).isLt, (x 1).isLt, (x 2).isLt, (x 3).isLt⟩]; congr 1
  funext q; match q with | ⟨0, _⟩ => rfl | ⟨1, _⟩ => rfl | ⟨2, _⟩ => rfl | ⟨3, _⟩ => rfl

/-- What the call is given: the projected rows, each sequence's three rows and state before, the convolution's weights
    and bias, the time steps' bias, the decays' logarithms. -/
structure In where
  (p : Nat → Nat → EReal) (v : Nat → Nat → Nat → EReal) (s : Nat → Nat → Nat → Nat → EReal)
  (cw : Nat → Nat → EReal) (cb db al : Nat → EReal)

section
variable (I : In)
/-- The rows of sequence `b` before the convolution, the three before them in front. -/
def xp (b r j : Nat) : EReal := if r < 3 then I.v b r j else I.p (8192 + 8 * b + (r - 3)) (1024 + j)
/-- The convolution at row `r`. -/
def cu (b r j : Nat) : EReal :=
  I.cb j + xp I b (r + 3) j * I.cw 3 j + xp I b (r + 2) j * I.cw 2 j + xp I b (r + 1) j * I.cw 1 j + xp I b r j * I.cw 0 j
/-- The convolution after the silu. -/
def cv (b r j : Nat) : EReal := cu I b r j * Ideal.logistic (cu I b r j)
/-- Head `h`'s time step at row `r`, zero past the fourth. -/
def dt (b r h : Nat) : EReal := if r < 4 then sp (I.p (8192 + 8 * b + r) (15424 + h) + I.db h) else 0
/-- The logarithm of the decay. -/
def ad (b r h : Nat) : EReal := dt I b r h * (0 - Ideal.exp (I.al h))
/-- The sum of the logarithms of the first `l + 1` rows. -/
def cs (b l h : Nat) : EReal := ∑ i ∈ Finset.range (l + 1), ad I b i h
/-- x times the time step. -/
def xd (b r k : Nat) : EReal := cv I b r k * dt I b r (k / 64)
/-- B of head `h`'s group. -/
def bm (b r h j : Nat) : EReal := cv I b r (1024 + (128 * (h / 4) + j))
/-- The state after the rows. -/
def out (b h k j : Nat) : EReal := I.s b h k j * Ideal.exp (cs I b 7 h)
  + ∑ r : Fin 8, xd I b r.val (64 * h + k) * Ideal.exp (cs I b 7 h - cs I b r.val h) * bm I b r.val h j
end

variable (m : (ℓ : Loc nD τ sig) → Buf (Elt Ideal) ℓ) (c : Dev nD)
/-- The launch's arrays, read at natural numbers. -/
def inp : In where
  p := N2 (a := 9216) (b := 15488) (m ((c : Thread nD τ).loc main_arg0))
  v := N3 (a := 128) (b := 3) (d := 2048) (m ((c : Thread nD τ).loc main_arg1))
  s := N4 (a := 128) (b := 16) (d := 64) (e := 128) (m ((c : Thread nD τ).loc main_arg2))
  cw := N2 (a := 4) (b := 2048) (m ((c : Thread nD τ).loc main_arg3))
  cb := N1 (a := 2048) (m ((c : Thread nD τ).loc main_arg4))
  db := N1 (a := 16) (m ((c : Thread nD τ).loc main_arg5))
  al := N1 (a := 16) (m ((c : Thread nD τ).loc main_arg6))

/-- Point `t`'s rows of x before the convolution. -/
theorem X1_at (t : Fin cfg0.N) (x : S8x1024.Idx) : X0_1 m c t x = (inp m c).p (8192 + 8 * t.val + (x 0).val) (1024 + (x 1).val) := by
  have hi : win0_1.index t 0 = 1024 + t.val ∧ win0_1.index t 1 = 1 := by revert t; decide +kernel
  unfold X0_1 Pipeline.Window.fill
  rw [dif_pos (moved0_1 t x)]
  unfold iblk
  rw [View.read_apply]
  show V m c main_arg0 _ = _
  rw [V_main_arg0]
  refine N2_at (a := 9216) (b := 15488) _ _ _ _ ?_ ?_
  · show win0_1.index t 0 * 8 + 1 * (x 0).val = _; rw [hi.1]; omega
  · show win0_1.index t 1 * 1024 + 1 * (x 1).val = _; rw [hi.2]; omega
/-- Point `t`'s rows of B and C before the convolution. -/
theorem X2_at (t : Fin cfg0.N) (x : S8x1024.Idx) : X0_2 m c t x = (inp m c).p (8192 + 8 * t.val + (x 0).val) (2048 + (x 1).val) := by
  have hi : win0_2.index t 0 = 1024 + t.val ∧ win0_2.index t 1 = 2 := by revert t; decide +kernel
  unfold X0_2 Pipeline.Window.fill
  rw [dif_pos (moved0_2 t x)]
  unfold iblk
  rw [View.read_apply]
  show V m c main_arg0 _ = _
  rw [V_main_arg0]
  refine N2_at (a := 9216) (b := 15488) _ _ _ _ ?_ ?_
  · show win0_2.index t 0 * 8 + 1 * (x 0).val = _; rw [hi.1]; omega
  · show win0_2.index t 1 * 1024 + 1 * (x 1).val = _; rw [hi.2]; omega
/-- Point `t`'s rows of the projection's last 128 columns. -/
theorem X3_at (t : Fin cfg0.N) (x : S8x128.Idx) : iblk m c 3 t x = (inp m c).p (8192 + 8 * t.val + (x 0).val) (15360 + (x 1).val) := by
  have hi : win0_3.index t 0 = 1024 + t.val ∧ win0_3.index t 1 = 120 := by revert t; decide +kernel
  unfold iblk
  rw [View.read_apply]
  show V m c main_arg0 _ = _
  rw [V_main_arg0]
  refine N2_at (a := 9216) (b := 15488) _ _ _ _ ?_ ?_
  · show win0_3.index t 0 * 8 + 1 * (x 0).val = _; rw [hi.1]; omega
  · show win0_3.index t 1 * 128 + 1 * (x 1).val = _; rw [hi.2]; omega
/-- Sequence `t`'s three rows before. -/
theorem X4_at (t : Fin cfg0.N) (x : S1x3x2048.Idx) : iblk m c 4 t x = (inp m c).v t.val (x 1).val (x 2).val := by
  have hi : win0_4.index t 0 = t.val ∧ win0_4.index t 1 = 0 ∧ win0_4.index t 2 = 0 := by revert t; decide +kernel
  have h0 : (x 0).val = 0 := by have := (x 0).isLt; simp at this; omega
  unfold iblk
  rw [View.read_apply]
  show V m c main_arg1 _ = _
  rw [V_main_arg1]
  refine N3_at (a := 128) (b := 3) (d := 2048) _ _ _ _ _ ?_ ?_ ?_
  · show win0_4.index t 0 * 1 + 1 * (x 0).val = _; rw [hi.1]; omega
  · show win0_4.index t 1 * 3 + 1 * (x 1).val = _; rw [hi.2.1]; omega
  · show win0_4.index t 2 * 2048 + 1 * (x 2).val = _; rw [hi.2.2]; omega
/-- Sequence `t`'s state before. -/
theorem X5_at (t : Fin cfg0.N) (x : S1x16x64x128.Idx) : iblk m c 5 t x = (inp m c).s t.val (x 1).val (x 2).val (x 3).val := by
  have hi : win0_5.index t 0 = t.val ∧ win0_5.index t 1 = 0 ∧ win0_5.index t 2 = 0 ∧ win0_5.index t 3 = 0 := by revert t; decide +kernel
  have h0 : (x 0).val = 0 := by have := (x 0).isLt; simp at this; omega
  unfold iblk
  rw [View.read_apply]
  show V m c main_arg2 _ = _
  rw [V_main_arg2]
  refine N4_at (a := 128) (b := 16) (d := 64) (e := 128) _ _ _ _ _ _ ?_ ?_ ?_ ?_
  · show win0_5.index t 0 * 1 + 1 * (x 0).val = _; rw [hi.1]; omega
  · show win0_5.index t 1 * 16 + 1 * (x 1).val = _; rw [hi.2.1]; omega
  · show win0_5.index t 2 * 64 + 1 * (x 2).val = _; rw [hi.2.2.1]; omega
  · show win0_5.index t 3 * 128 + 1 * (x 3).val = _; rw [hi.2.2.2]; omega
/-- The convolution's weights. -/
theorem X6_at (t : Fin cfg0.N) (x : S4x2048.Idx) : iblk m c 6 t x = (inp m c).cw (x 0).val (x 1).val := by
  have hi : win0_6.index t 0 = 0 ∧ win0_6.index t 1 = 0 := by revert t; decide +kernel
  unfold iblk
  rw [View.read_apply]
  show V m c main_arg3 _ = _
  rw [V_main_arg3]
  refine N2_at (a := 4) (b := 2048) _ _ _ _ ?_ ?_
  · show win0_6.index t 0 * 4 + 1 * (x 0).val = _; rw [hi.1]; omega
  · show win0_6.index t 1 * 2048 + 1 * (x 1).val = _; rw [hi.2]; omega
/-- The convolution's bias. -/
theorem X7_at (t : Fin cfg0.N) (x : S1x2048.Idx) : iblk m c 7 t x = (inp m c).cb (x 1).val := by
  have hi : win0_7.index t 0 = 0 ∧ win0_7.index t 1 = 0 := by revert t; decide +kernel
  have h : ∀ y : S1x2048.Idx, V m c main_v8 y = (inp m c).cb (y 1).val := by
    intro y
    after_reads_at
    exact N1_at (a := 2048) _ _ _ (by simp)
  unfold iblk
  rw [View.read_apply]
  refine (h _).trans (congrArg (inp m c).cb ?_)
  show win0_7.index t 1 * 2048 + 1 * (x 1).val = (x 1).val; rw [hi.2]; omega
/-- The time steps' bias. -/
theorem X8_at (t : Fin cfg0.N) (x : S1x16.Idx) : iblk m c 8 t x = (inp m c).db (x 1).val := by
  have hi : win0_8.index t 0 = 0 ∧ win0_8.index t 1 = 0 := by revert t; decide +kernel
  have h : ∀ y : S1x16.Idx, V m c main_v9 y = (inp m c).db (y 1).val := by
    intro y
    after_reads_at
    exact N1_at (a := 16) _ _ _ (by simp)
  unfold iblk
  rw [View.read_apply]
  refine (h _).trans (congrArg (inp m c).db ?_)
  show win0_8.index t 1 * 16 + 1 * (x 1).val = (x 1).val; rw [hi.2]; omega
/-- The decays' logarithms. -/
theorem X9_at (t : Fin cfg0.N) (x : S1x16.Idx) : iblk m c 9 t x = (inp m c).al (x 1).val := by
  have hi : win0_9.index t 0 = 0 ∧ win0_9.index t 1 = 0 := by revert t; decide +kernel
  have h : ∀ y : S1x16.Idx, V m c main_v10 y = (inp m c).al (y 1).val := by
    intro y
    after_reads_at
    exact N1_at (a := 16) _ _ _ (by simp)
  unfold iblk
  rw [View.read_apply]
  refine (h _).trans (congrArg (inp m c).al ?_)
  show win0_9.index t 1 * 16 + 1 * (x 1).val = (x 1).val; rw [hi.2]; omega
/-- The identity, each column repeated 64 times. -/
theorem X12_at (t : Fin cfg0.N) (x : S16x1024.Idx) : iblk m c 12 t x = if (x 0).val = (x 1).val / 64 then (1 : EReal) else 0 := by
  have hi : win0_12.index t 0 = 0 ∧ win0_12.index t 1 = 0 := by revert t; decide +kernel
  have h : V m c main_v7 x = if (x 0).val = (x 1).val / 64 then (1 : EReal) else 0 := by
    have h0 : (x 0).val < 16 := (x 0).isLt
    have h1 : (x 1).val < 1024 := (x 1).isLt
    have e := eq_iff (x 0).val ((x 1).val / 64) (by omega) (by omega)
    after_reads_at
    simp only [IntOp.addi, BitVec.add_zero]
    refine (congrArg (FloatOps.uitofp (F := Ideal) .f32) e).trans ?_
    split_ifs <;> simp [FloatOps.uitofp]
  unfold iblk
  rw [View.read_apply]
  show V m c main_v7 _ = _
  rw [← h]; congr 1
  funext a
  fin_cases a
  · apply Fin.ext; show win0_12.index t 0 * 16 + 1 * (x 0).val = (x 0).val; rw [hi.1]; omega
  · apply Fin.ext; show win0_12.index t 1 * 1024 + 1 * (x 1).val = (x 1).val; rw [hi.2]; omega

variable (t : Fin cfg0.N)
/-- What point `t` loads. -/
def ldAt : Loads Ideal := blk (X0_1 m c t) (X0_2 m c t) (iblk m c 3 t) (iblk m c 4 t) (iblk m c 5 t) (iblk m c 6 t) (iblk m c 7 t)
  (iblk m c 8 t) (iblk m c 9 t) (iblk m c 12 t)

/-- The rows of x before the convolution. -/
theorem xr_at (x) : (ldAt m c t).xr x = xp (inp m c) t.val ((x 0).val + 3) (x 1).val := by
  unfold xp; rw [if_neg (by omega)]; exact X1_at m c t x
/-- The rows of B and C before the convolution. -/
theorem br_at (x) : (ldAt m c t).br x = xp (inp m c) t.val ((x 0).val + 3) (1024 + (x 1).val) := by
  unfold xp; rw [if_neg (by omega)]
  refine (X2_at m c t x).trans ?_
  congr 1; omega
/-- The time steps before their bias. -/
theorem dr_at (x) : (ldAt m c t).dr x = (inp m c).p (8192 + 8 * t.val + (x 0).val) (15424 + (x 1).val) := by
  refine (X3_at m c t _).trans ?_
  show (inp m c).p (8192 + 8 * t.val + (0 + 1 * (x 0).val)) (15360 + (64 + 1 * (x 1).val)) = _
  congr 1 <;> omega
/-- The convolution's weights. -/
theorem cw_at (x) : (ldAt m c t).cw x = (inp m c).cw (x 0).val (x 1).val := X6_at m c t x
/-- Its bias on x; -/
theorem cl_at (x) : (ldAt m c t).cl x = (inp m c).cb (x 1).val := by
  refine (X7_at m c t _).trans ?_
  show (inp m c).cb (0 + 1 * (x 1).val) = _
  congr 1; omega
/-- on B and C. -/
theorem ch_at (x) : (ldAt m c t).ch x = (inp m c).cb (1024 + (x 1).val) := by
  refine (X7_at m c t _).trans ?_
  show (inp m c).cb (1024 + 1 * (x 1).val) = _
  congr 1; omega
/-- The time steps' bias. -/
theorem db_at (x) : (ldAt m c t).db x = (inp m c).db (x 1).val := X8_at m c t x
/-- The decays' logarithms. -/
theorem al_at (x) : (ldAt m c t).al x = (inp m c).al (x 1).val := X9_at m c t x
/-- The repeated identity. -/
theorem e_at (x) : (ldAt m c t).e x = if (x 0).val = (x 1).val / 64 then (1 : EReal) else 0 := X12_at m c t x
/-- The three rows before. -/
theorem pv_at (x : S3x2048.Idx) : (ldAt m c t).pv x = xp (inp m c) t.val (x 0).val (x 1).val := by
  have h0 : (x 0).val < 3 := (x 0).isLt
  unfold xp; rw [if_pos h0]
  show k0_pay3 (iblk m c 4 t) x = _
  idx_vars x
  pointwise [k0_pay3]
  exact X4_at m c t _
/-- The state before. -/
theorem st_at (h : Fin 16) (x : S1x64x128.Idx) : (ldAt m c t).st h x = (inp m c).s t.val h.val (x 1).val (x 2).val := by
  have e : (ldAt m c t).st h x = k0_pay4 (iblk m c 5 t) (ix3 h (x 1) (x 2)) := by
    show k0_pay4 (iblk m c 5 t) _ = _
    congr 1
    funext d
    have h0 : (x 0).val = 0 := by have := (x 0).isLt; simp at this; omega
    fin_cases d
    · apply Fin.ext; show h.val + 1 * (x 0).val = h.val; omega
    · apply Fin.ext; show 0 + 1 * (x 1).val = (x 1).val; omega
    · apply Fin.ext; show 0 + 1 * (x 2).val = (x 2).val; omega
  rw [e]
  pointwise [k0_pay4]
  exact X5_at m c t _

/-- Rows rolled by one, the first from the rows before: the rows one earlier; -/
theorem roll1 (f : Nat → EReal) (r : Nat) (hr : r < 8) : (if r = 0 then f 2 else f ((r + 8 - 1) % 8 + 3)) = f (r + 2) := by
  split_ifs <;> congr 1 <;> omega
/-- by two; -/
theorem roll2 (f : Nat → EReal) (r : Nat) (hr : r < 8) :
    (if r = 1 then f 2 else if r = 0 then f 1 else f ((r + 8 - 2) % 8 + 3)) = f (r + 1) := by
  split_ifs <;> congr 1 <;> omega
/-- by three. -/
theorem roll3 (f : Nat → EReal) (r : Nat) (hr : r < 8) :
    (if r = 2 then f 2 else if r = 1 then f 1 else if r = 0 then f 0 else f ((r + 8 - 3) % 8 + 3)) = f r := by
  split_ifs <;> congr 1 <;> omega
/-- The rows of x after the convolution and the silu. -/
theorem XS_at (r : Fin 8) (k : Fin 1024) : XS (ldAt m c t) (ix2 r k) = cv (inp m c) t.val r.val (k.val) := by
  have hr := r.isLt
  unfold XS cv cu
  pointwise [k0_pay9, k0_pay5, k0_pay6, k0_pay7, k0_pay8, iotaR, sel_eq _ _ (lt_trans hr (by decide)) (show 0 < 2 ^ 31 by decide),
    sel_eq _ _ (lt_trans hr (by decide)) (show 1 < 2 ^ 31 by decide), sel_eq _ _ (lt_trans hr (by decide)) (show 2 < 2 ^ 31 by decide)]
  simp only [pv_at, xr_at, cl_at, cw_at, ix2_0, ix2_1, show ((2 : Fin 3).val) = 2 from rfl, show ((1 : Fin 3).val) = 1 from rfl,
    show ((0 : Fin 3).val) = 0 from rfl, show ((0 : Fin 4).val) = 0 from rfl, show ((1 : Fin 4).val) = 1 from rfl,
    show ((2 : Fin 4).val) = 2 from rfl, show ((3 : Fin 4).val) = 3 from rfl]
  rw [roll1 (fun x => xp (inp m c) t.val x (k.val)) _ hr, roll2 (fun x => xp (inp m c) t.val x (k.val)) _ hr,
    roll3 (fun x => xp (inp m c) t.val x (k.val)) _ hr]
/-- The rows of B and C after the convolution and the silu. -/
theorem BC_at (r : Fin 8) (k : Fin 1024) : BC (ldAt m c t) (ix2 r k) = cv (inp m c) t.val r.val (1024 + k.val) := by
  have hr := r.isLt
  unfold BC cv cu
  pointwise [k0_pay18, k0_pay14, k0_pay15, k0_pay16, k0_pay17, k0_pay10, k0_pay11, k0_pay12, k0_pay13, iotaR, sel_eq _ _ (lt_trans hr (by decide)) (show 0 < 2 ^ 31 by decide),
    sel_eq _ _ (lt_trans hr (by decide)) (show 1 < 2 ^ 31 by decide), sel_eq _ _ (lt_trans hr (by decide)) (show 2 < 2 ^ 31 by decide)]
  simp only [pv_at, br_at, ch_at, cw_at, ix2_0, ix2_1, show ((2 : Fin 3).val) = 2 from rfl, show ((1 : Fin 3).val) = 1 from rfl,
    show ((0 : Fin 3).val) = 0 from rfl, show ((0 : Fin 4).val) = 0 from rfl, show ((1 : Fin 4).val) = 1 from rfl,
    show ((2 : Fin 4).val) = 2 from rfl, show ((3 : Fin 4).val) = 3 from rfl]
  rw [roll1 (fun x => xp (inp m c) t.val x (1024 + k.val)) _ hr, roll2 (fun x => xp (inp m c) t.val x (1024 + k.val)) _ hr,
    roll3 (fun x => xp (inp m c) t.val x (1024 + k.val)) _ hr]
/-- A row number below four, as words. -/
theorem slt4 (r : Fin 8) : IntOp.cmpi .slt (BitVec.ofNat 32 r.val) 4#32 = if r.val < 4 then 1#1 else 0#1 := by
  revert r; decide
/-- The time steps. -/
theorem DT_at (r : Fin 8) (h : Fin 16) : DT (ldAt m c t) (ix2 r h) = dt (inp m c) t.val r.val h.val := by
  unfold DT dt sp
  pointwise [k0_pay21, iotaR]
  rw [slt4, sel_bit, if_neg (not_not.mpr rfl)]
  simp only [dr_at, db_at, ix2_0, ix2_1, Ideal.absf_def]
/-- The logarithms of the decays. -/
theorem AD_at (r : Fin 8) (h : Fin 16) : AD (ldAt m c t) (ix2 r h) = ad (inp m c) t.val r.val h.val := by
  unfold ad
  rw [← DT_at m c t]
  unfold AD
  pointwise [k0_pay23, k0_pay22]
  simp only [al_at, ix2_1]
/-- A sum over the rows up to one. -/
theorem sum_le8 (f : Nat → EReal) (l : Nat) (hl : l < 8) :
    (∑ x : Fin 8, if x.val ≤ l then f x.val else 0) = ∑ i ∈ Finset.range (l + 1), f i := by
  rw [Fin.sum_univ_eq_sum_range (fun x => if x ≤ l then f x else 0) 8, ← Finset.sum_filter]
  congr 1
  ext x; simp only [Finset.mem_filter, Finset.mem_range]; omega
/-- Their cumulative sums. -/
theorem CS_at (r : Fin 8) (h : Fin 16) : CS (ldAt m c t) (ix2 r h) = cs (inp m c) t.val r.val h.val := by
  have hr := r.isLt
  unfold cs
  rw [← sum_le8 (fun i => ad (inp m c) t.val i h.val) r.val hr]
  have e : CS (ldAt m c t) (ix2 r h) = ∑ x : Fin 8, FloatOps.sitofp (F := Ideal) .f32 (BitVec.setWidth 32
      (IntOp.cmpi .sge (BitVec.ofNat 32 r.val) (BitVec.ofNat 32 x.val))) * AD (ldAt m c t) (ix2 x h) := by
    unfold CS AD
    pointwise [k0_pay25, k0_pay24]
  rw [e]
  refine Finset.sum_congr rfl fun x _ => ?_
  rw [sge_iff _ _ (lt_trans hr (by decide)) (lt_trans x.isLt (by decide)), bit01, AD_at]
  split_ifs <;> simp
/-- Their cumulative sums, transposed. -/
theorem CST_at (h : Fin 16) (r : Fin 8) : CST (ldAt m c t) (ix2 h r) = cs (inp m c) t.val r.val h.val := by
  have hr := r.isLt
  unfold cs
  rw [← sum_le8 (fun i => ad (inp m c) t.val i h.val) r.val hr]
  have e : CST (ldAt m c t) (ix2 h r) = ∑ x : Fin 8, (∑ y : Fin 16, FloatOps.sitofp (F := Ideal) .f32 (BitVec.setWidth 32
      (IntOp.cmpi .eq (BitVec.ofNat 32 h.val) (BitVec.ofNat 32 y.val))) * AD (ldAt m c t) (ix2 x y))
      * FloatOps.sitofp (F := Ideal) .f32 (BitVec.setWidth 32 (IntOp.cmpi .sle (BitVec.ofNat 32 x.val) (BitVec.ofNat 32 r.val))) := by
    unfold CST AD
    pointwise [k0_pay26]
  rw [e]
  refine Finset.sum_congr rfl fun x _ => ?_
  rw [sle_iff _ _ (lt_trans x.isLt (by decide)) (lt_trans hr (by decide)), bit01]
  have e : (∑ y : Fin 16, FloatOps.sitofp (F := Ideal) .f32 (BitVec.setWidth 32 (IntOp.cmpi .eq (BitVec.ofNat 32 h.val) (BitVec.ofNat 32 y.val)))
      * AD (ldAt m c t) (ix2 x y)) = ad (inp m c) t.val x.val h.val := by
    rw [← AD_at m c t, ← sum_eye (fun y => AD (ldAt m c t) (ix2 x y)) h.val h.isLt]
    refine Finset.sum_congr rfl fun y _ => ?_
    rw [eq_iff _ _ (lt_trans h.isLt (by decide)) (lt_trans y.isLt (by decide)), bit01, mul_comm]
    simp only [eq_comm]
  rw [e]
  split_ifs <;> simp
/-- A column's head. -/
def hd (k : Fin 1024) : Fin 16 := ⟨k.val / 64, by omega⟩
/-- A product with the repeated identity reads the head's column. -/
theorem sumE (f : Fin 16 → EReal) (k : Fin 1024) : (∑ x : Fin 16, f x * (ldAt m c t).e (ix2 x k)) = f (hd k) := by
  simp only [e_at, ix2_0, ix2_1]
  exact sum_eye f (k.val / 64) (hd k).isLt
/-- x times the time step and the decay to the last row. -/
theorem XDW_at (r : Fin 8) (k : Fin 1024) : XDW (ldAt m c t) (ix2 r k) = xd (inp m c) t.val r.val k.val
    * Ideal.exp (cs (inp m c) t.val 7 (k.val / 64) - cs (inp m c) t.val r.val (k.val / 64)) := by
  have e : XDW (ldAt m c t) (ix2 r k) = XS (ldAt m c t) (ix2 r k) * (∑ x : Fin 16, DT (ldAt m c t) (ix2 r x) * (ldAt m c t).e (ix2 x k))
      * ∑ x : Fin 16, Ideal.exp (CS (ldAt m c t) (ix2 7 x) - CS (ldAt m c t) (ix2 r x)) * (ldAt m c t).e (ix2 x k) := by
    unfold XDW CS
    pointwise [k0_pay30, k0_pay29, k0_pay27]
  unfold xd
  rw [e, sumE m c t _ k, sumE m c t (fun x => Ideal.exp (CS (ldAt m c t) (ix2 7 x) - CS (ldAt m c t) (ix2 r x))) k, XS_at, DT_at, CS_at, CS_at]
  rfl
/-- The state of a head after the rows. -/
theorem SH_at (h : Fin 16) (k : Fin 64) (j : Fin 128) : SH (ldAt m c t) h (ix3 0 k j) = out (inp m c) t.val h.val k.val j.val := by
  have hk := k.isLt
  have hh : (64 * h.val + k.val) / 64 = h.val := by omega
  unfold SH out bm
  pointwise [headS, headB, k0_pay32, BCB]
  simp only [BC_at, XDW_at, CST_at, st_at, ix3_0, ix3_1, ix3_2, hh]
  rfl

/-- The output array. -/
def G : Buf (Elt Ideal) ((c : Thread nD τ).loc main_v15_1) := fun i => out (inp m c) (i 0).val (i 1).val (i 2).val (i 3).val

/-- What a point writes back is its block of the output array. -/
theorem flushed_eq (t : Fin cfg0.N) : (dats m 0 c).flushed 14 t = ((cfg0.win 14).blk t).view.read (Elt Ideal) (G m c) := by
  have hi : win0_14.index t 0 = t.val ∧ win0_14.index t 1 = 0 ∧ win0_14.index t 2 = 0 ∧ win0_14.index t 3 = 0 := by
    revert t; decide +kernel
  rw [Value.flushed14_A, out14_A]
  funext y
  have hy0 : (y 0).val < 1 := (y 0).isLt
  have hy1 : (y 1).val < 16 := (y 1).isLt
  have hy2 : (y 2).val < 64 := (y 2).isLt
  have hy3 : (y 3).val < 128 := (y 3).isLt
  have hx : (cfg0.win 14).xinj (grid0.coords t) y = ix4 (⟨(y 0).val, hy0⟩ : Fin 1) (⟨(y 1).val, hy1⟩ : Fin 16) (⟨(y 2).val, hy2⟩ : Fin 64) (⟨(y 3).val, hy3⟩ : Fin 128) := by
    funext a
    match a with
    | ⟨0, _⟩ => rfl
    | ⟨1, _⟩ => rfl
    | ⟨2, _⟩ => rfl
    | ⟨3, _⟩ => rfl
  show k0_pay2 (ST (ldAt m c t)) ((cfg0.win 14).xinj (grid0.coords t) y) = G m c (((cfg0.win 14).blk t).view.emb y)
  rw [hx]
  have e : ∀ (a : Fin 1) (h : Fin 16) (k : Fin 64) (j : Fin 128), k0_pay2 (ST (ldAt m c t)) (ix4 a h k j) = SH (ldAt m c t) h (ix3 0 k j) := by
    intro a h k j
    pointwise [k0_pay2]
    rfl
  rw [e, SH_at]
  have q0 : t.val = win0_14.index t 0 * 1 + 1 * (y 0).val := by rw [hi.1]; omega
  have q1 : (y 1).val = win0_14.index t 1 * 16 + 1 * (y 1).val := by rw [hi.2.1]; omega
  have q2 : (y 2).val = win0_14.index t 2 * 64 + 1 * (y 2).val := by rw [hi.2.2.1]; omega
  have q3 : (y 3).val = win0_14.index t 3 * 128 + 1 * (y 3).val := by rw [hi.2.2.2]; omega
  exact (congr (congr (congrArg₂ (out (inp m c)) q0 q1) q2) q3)

/-- The points' blocks cover the output array. -/
theorem covered (i : S128x16x64x128.Idx) : ∃ t : Fin cfg0.N, (cfg0.win 14).flush t = true ∧ i ∈ ((cfg0.win 14).blk t).view.set := by
  have h0 : (i 0).val < 128 := (i 0).isLt
  have h1 : (i 1).val < 16 := (i 1).isLt
  have h2 : (i 2).val < 64 := (i 2).isLt
  have h3 : (i 3).val < 128 := (i 3).isLt
  have hN : cfg0.N = 128 := N_0
  have ht : (i 0).val < cfg0.N := by omega
  have hi : ∀ t : Fin cfg0.N, win0_14.index t 0 = t.val ∧ win0_14.index t 1 = 0 ∧ win0_14.index t 2 = 0 ∧ win0_14.index t 3 = 0 := by
    decide +kernel
  have hq := hi ⟨_, ht⟩
  dsimp only at hq
  refine ⟨⟨_, ht⟩, flush0_14 _, ?_⟩
  show i ∈ ((View.whole main_v15_1).slice (win0_14.rect ⟨_, ht⟩)).set
  rw [View.set_slice_whole, Rect.mem_set_unit]
  intro a
  match a with
  | ⟨0, _⟩ => show win0_14.index ⟨_, ht⟩ 0 * 1 ≤ (i 0).val ∧ (i 0).val < win0_14.index ⟨_, ht⟩ 0 * 1 + 1; rw [hq.1]; omega
  | ⟨1, _⟩ => show win0_14.index ⟨_, ht⟩ 1 * 16 ≤ (i 1).val ∧ (i 1).val < win0_14.index ⟨_, ht⟩ 1 * 16 + 16; rw [hq.2.1]; omega
  | ⟨2, _⟩ => show win0_14.index ⟨_, ht⟩ 2 * 64 ≤ (i 2).val ∧ (i 2).val < win0_14.index ⟨_, ht⟩ 2 * 64 + 64; rw [hq.2.2.1]; omega
  | ⟨3, _⟩ => show win0_14.index ⟨_, ht⟩ 3 * 128 ≤ (i 3).val ∧ (i 3).val < win0_14.index ⟨_, ht⟩ 3 * 128 + 128; rw [hq.2.2.2]; omega

/-- The array after the run. -/
theorem final : (dats m 0 c).arrAt 14 cfg0.N = G m c :=
  (dats m 0 c).arrAt_eq_of_cover 14 _ (fun t _ => flushed_eq m c t) covered

end Cert.Samp
end
end
-- ==== Proof.SampRef.lean ====
/-
The plain reading of the sample batch's recurrence, stage by stage, at an index.
-/
module
public import proofs.«01_k».proof.Proof.Gen.Reference7Ideal.Read
public import proofs.«01_k».proof.Proof.Samp
public import proofs.«01_k».proof.Proof.Cumsum

@[expose] public section
set_option maxRecDepth 16384
set_option maxHeartbeats 2000000
noncomputable section
namespace Cert.Samp.Ref
open Cert.Reference7Ideal Cert.Reference7Ideal.Gen Cert.Reference7Ideal.Read Idealize.ShloMosaic Idealize.ShloMosaic.TcCoe
open Cert.Arr (N1 N2 N1_at N2_at sp sel_bit sgt_iff sge0_iff neg_inf)
open Cert.Recur (cumsum3 cumsum4 seg wt wt_self)

variable (x0 : (⟨S9216x15488, .f32⟩ : BufTy).Contents (Elt Ideal)) (x1 : (⟨S128x3x2048, .f32⟩ : BufTy).Contents (Elt Ideal)) (x2 : (⟨S128x16x64x128, .f32⟩ : BufTy).Contents (Elt Ideal)) (x3 : (⟨S4x2048, .f32⟩ : BufTy).Contents (Elt Ideal)) (x4 : (⟨S2048, .f32⟩ : BufTy).Contents (Elt Ideal)) (x5 x6 : (⟨S16, .f32⟩ : BufTy).Contents (Elt Ideal))

/-- The arguments, read at natural numbers. -/
def rin : In := ⟨N2 x0, N3 x1, N4 x2, N2 x3, N1 x4, N1 x5, N1 x6⟩

/-- The rows, the three before them in front. -/
theorem v5_at (b : Fin 128) (r : Fin 7) (j : Fin 2048) : val_main_v5 x0 x1 (ix3 b r j) = xp (rin x0 x1 x2 x3 x4 x5 x6) b.val r.val j.val := by
  pointwise [val_main_v5, val_main_v3, val_main_v2, val_main_v1, val_main_v0]
  unfold xp
  split
  · exact N3_at x1 _ _ _ _ rfl rfl rfl
  · exact N2_at x0 _ _ _ (by simp; omega) rfl
/-- The convolution's sum. -/
theorem v37_at (b : Fin 128) (r : Fin 4) (j : Fin 2048) : val_main_v37 x0 x1 x3 x4 (ix3 b r j) = cu (rin x0 x1 x2 x3 x4 x5 x6) b.val r.val j.val := by
  pointwise [val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst]
  simp only [v5_at x0 x1 x2 x3 x4 x5 x6]
  rw [N1_at x4 _ j.val rfl, N2_at x3 _ 0 j.val rfl rfl, N2_at x3 _ 1 j.val rfl rfl, N2_at x3 _ 2 j.val rfl rfl, N2_at x3 _ 3 j.val rfl rfl,
    Nat.add_comm 1, Nat.add_comm 2, Nat.add_comm 3]
  unfold cu
  simp only [rin]
  ac_rfl
/-- The convolution. -/
theorem v38_at (b : Fin 128) (r : Fin 4) (j : Fin 2048) : val_main_v38 x0 x1 x3 x4 (ix3 b r j) = cv (rin x0 x1 x2 x3 x4 x5 x6) b.val r.val j.val := by
  pointwise [val_main_v38, val_main_call0_v0, val_main_call0_v1, val_main_call0_cst, val_main_call0_v2, val_main_call0_v3, val_main_call0_cst_0, val_main_call0_v4, val_main_call0_v5]
  simp only [v37_at x0 x1 x2 x3 x4 x5 x6]
  rfl
/-- The step sizes. -/
theorem v48_at (b : Fin 128) (r : Fin 4) (h : Fin 16) : val_main_v48 x0 x5 (ix3 b r h) = dt (rin x0 x1 x2 x3 x4 x5 x6) b.val r.val h.val := by
  pointwise [val_main_v48, val_main_call1_cst, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_v47, val_main_v46, val_main_v45, val_main_v4, val_main_v2, val_main_v1, val_main_v0]
  rw [if_neg (by simp), N1_at x5 _ h.val rfl, N2_at x0 _ (8192 + 8 * b.val + r.val) (15424 + h.val) (by simp; omega) rfl]
  unfold dt sp
  rw [if_pos r.isLt, zero_sub]
  rfl
/-- The log-decays. -/
theorem v57_at (b : Fin 128) (h : Fin 16) (r : Fin 4) : val_main_v57 x0 x5 x6 (ix3 b h r) = ad (rin x0 x1 x2 x3 x4 x5 x6) b.val r.val h.val := by
  pointwise [val_main_v57, val_main_v56, val_main_v55, val_main_v54, val_main_v50, val_main_v49]
  simp only [v48_at x0 x1 x2 x3 x4 x5 x6]
  rw [N1_at x6 _ h.val rfl]
  unfold ad
  rw [zero_sub]
  rfl
/-- The running sums of the log-decays. -/
theorem v58_at (b : Fin 128) (h : Fin 16) (r : Fin 4) : val_main_v58 x0 x5 x6 (ix3 b h r) = cs (rin x0 x1 x2 x3 x4 x5 x6) b.val r.val h.val := by
  have z : (val_main_call2_call0_v0 (F := Ideal)) (Shape.Idx.first h_S_) = (0 : EReal) := by
    pointwise [val_main_call2_call0_v0, val_main_call2_call0_cst]
  refine Eq.trans ?_ (cumsum3 (by decide) reduceWindows_S128x16x4_S128x16x4_w1s1p0_0_w1s1p0_0_w4s1p3_0 (val_main_v57 x0 x5 x6) b h r
    (fun i => ad (rin x0 x1 x2 x3 x4 x5 x6) b.val i h.val) fun k => v57_at x0 x1 x2 x3 x4 x5 x6 b h k)
  unfold val_main_v58 Host.reduceWindowAdd
  rw [z]; rfl
/-- The input times its step size. -/
theorem v53_at (b : Fin 128) (r : Fin 4) (h : Fin 16) (p : Fin 64) : val_main_v53 x0 x1 x3 x4 x5 (ix4 b r h p) = xd (rin x0 x1 x2 x3 x4 x5 x6) b.val r.val (64 * h.val + p.val) := by
  pointwise [val_main_v53, val_main_v52, val_main_v51, val_main_v40, val_main_v39]
  simp only [v48_at x0 x1 x2 x3 x4 x5 x6, v38_at x0 x1 x2 x3 x4 x5 x6]
  unfold xd
  rw [Nat.mul_comm h.val, show (64 * h.val + p.val) / 64 = h.val by omega]
/-- The input projection of the recurrence. -/
theorem v44_at (b : Fin 128) (r : Fin 4) (h : Fin 16) (j : Fin 128) : val_main_v44 x0 x1 x3 x4 (ix4 b r h j) = bm (rin x0 x1 x2 x3 x4 x5 x6) b.val r.val h.val j.val := by
  pointwise [val_main_v44, val_main_v43, val_main_v42, val_main_v41]
  simp only [v38_at x0 x1 x2 x3 x4 x5 x6]
  unfold bm
  rw [Nat.mul_comm (h.val / 4)]
/-- What the rows add to the state. -/
theorem v67_at (b : Fin 128) (h : Fin 16) (p : Fin 64) (j : Fin 128) : val_main_v67 x0 x1 x3 x4 x5 x6 (ix4 b h p j)
    = ∑ r : Fin 4, xd (rin x0 x1 x2 x3 x4 x5 x6) b.val r.val (64 * h.val + p.val)
      * Ideal.exp (cs (rin x0 x1 x2 x3 x4 x5 x6) b.val 3 h.val - cs (rin x0 x1 x2 x3 x4 x5 x6) b.val r.val h.val) * bm (rin x0 x1 x2 x3 x4 x5 x6) b.val r.val h.val j.val := by
  pointwise [val_main_v67, val_main_v66, val_main_v65, val_main_v64, val_main_v63, val_main_v62, val_main_v61, val_main_v60, val_main_v59]
  simp only [v58_at x0 x1 x2 x3 x4 x5 x6, v44_at x0 x1 x2 x3 x4 x5 x6, v53_at x0 x1 x2 x3 x4 x5 x6]
  refine Finset.sum_congr rfl fun r _ => ?_
  congr 1
  exact mul_comm _ _
/-- The whole log-decay, behind a zero. -/
theorem v72_at (b : Fin 128) (h : Fin 16) : val_main_v72 x0 x5 x6 (ix3 b h (1 : Fin 2)) = cs (rin x0 x1 x2 x3 x4 x5 x6) b.val 3 h.val := by
  have e : val_main_v71 x0 x5 x6 (ix3 b h (0 : Fin 1)) = cs (rin x0 x1 x2 x3 x4 x5 x6) b.val 3 h.val := by
    pointwise [val_main_v71]
    exact v58_at x0 x1 x2 x3 x4 x5 x6 b h 3
  rw [← e]
  unfold val_main_v72
  refine (dif_pos ?_).trans ?_
  · intro a
    match a with
    | ⟨0, _⟩ => show 0 ≤ b.val ∧ (b.val - 0) % (0 + 1) = 0 ∧ (b.val - 0) / (0 + 1) < 128; omega
    | ⟨1, _⟩ => show 0 ≤ h.val ∧ (h.val - 0) % (0 + 1) = 0 ∧ (h.val - 0) / (0 + 1) < 16; omega
    | ⟨2, _⟩ => show 1 ≤ 1 ∧ (1 - 1) % (0 + 1) = 0 ∧ (1 - 1) / (0 + 1) < 1; omega
  · congr 1
    funext a
    match a with
    | ⟨0, _⟩ => exact Fin.ext (by show (b.val - 0) / (0 + 1) = b.val; omega)
    | ⟨1, _⟩ => exact Fin.ext (by show (h.val - 0) / (0 + 1) = h.val; omega)
    | ⟨2, _⟩ => exact Fin.ext (by show (1 - 1) / (0 + 1) = 0; omega)
/-- The whole log-decay, kept below the diagonal. -/
theorem v77_at (b : Fin 128) (h : Fin 16) (i z : Fin 2) : val_main_v77 x0 x5 x6 (ix4 b h i z)
    = if z.val < i.val then cs (rin x0 x1 x2 x3 x4 x5 x6) b.val 3 h.val else 0 := by
  pointwise [val_main_v77, val_main_call5_v0, val_main_call5_v1, val_main_call5_v2, val_main_cst_1, val_main_v76, val_main_call4_v0, val_main_call4_c, val_main_call4_v1, val_main_call4_v2, val_main_call4_v3, val_main_call4_v4, val_main_call4_c_0, val_main_call4_v5, val_main_v75, val_main_c_0, val_main_v74, val_main_v73]
  rw [sgt_iff _ _ (by omega) (by omega), sel_bit, sel_bit]
  have z0 : (constant (F := Ideal) S_ .f32 0#32) ix0 = (0 : EReal) := by
    show Ideal.ofBits .f32 0#32 = 0
    simp [Ideal.ofBits, Ideal.ieee]
  split
  · have : i = 1 := by omega
    subst this
    exact v72_at x0 x1 x2 x3 x4 x5 x6 b h
  · exact z0
/-- The log-decay between two positions, as a weight. -/
theorem v82_at (b : Fin 128) (h : Fin 16) (i z : Fin 2) : val_main_v82 x0 x5 x6 (ix4 b h i z)
    = Ideal.exp (if z.val ≤ i.val then seg (fun _ => cs (rin x0 x1 x2 x3 x4 x5 x6) b.val 3 h.val) i.val z.val else ⊥) := by
  have e : val_main_v78 x0 x5 x6 (ix4 b h i z) = seg (fun _ => cs (rin x0 x1 x2 x3 x4 x5 x6) b.val 3 h.val) i.val z.val := by
    have z0 : (val_main_call6_call0_v0 (F := Ideal)) (Shape.Idx.first h_S_) = (0 : EReal) := by
      pointwise [val_main_call6_call0_v0, val_main_call6_call0_cst]
    refine Eq.trans ?_ (cumsum4 (by decide) reduceWindows_S128x16x2x2_S128x16x2x2_w1s1p0_0_w1s1p0_0_w2s1p1_0_w1s1p0_0 (val_main_v77 x0 x5 x6) b h z i
      (fun i => if z.val < i then cs (rin x0 x1 x2 x3 x4 x5 x6) b.val 3 h.val else 0) fun k => v77_at x0 x1 x2 x3 x4 x5 x6 b h k z)
    unfold val_main_v78 Host.reduceWindowAdd
    rw [z0]; rfl
  pointwise [val_main_v82, val_main_v81, val_main_call8_v0, val_main_call8_v1, val_main_call8_v2, val_main_cst_3, val_main_v80, val_main_call7_v0, val_main_call7_c, val_main_call7_v1, val_main_call7_v2, val_main_call7_v3, val_main_call7_v4, val_main_call7_c_0, val_main_call7_v5, val_main_v79, val_main_c_2]
  rw [e, sge0_iff _ _ (by omega) (by omega), sel_bit, sel_bit]
  have z0 : (constant (F := Ideal) S_ .f32 4286578688#32) ix0 = (⊥ : EReal) := neg_inf
  split
  · rfl
  · exact congrArg Ideal.exp z0
/-- The result. -/
theorem v86_at (b : Fin 128) (h : Fin 16) (p : Fin 64) (j : Fin 128) : val_main_v86 x0 x1 x2 x3 x4 x5 x6 (ix4 b h p j)
    = N4 x2 b.val h.val p.val j.val * Ideal.exp (cs (rin x0 x1 x2 x3 x4 x5 x6) b.val 3 h.val)
      + ∑ r : Fin 4, xd (rin x0 x1 x2 x3 x4 x5 x6) b.val r.val (64 * h.val + p.val)
      * Ideal.exp (cs (rin x0 x1 x2 x3 x4 x5 x6) b.val 3 h.val - cs (rin x0 x1 x2 x3 x4 x5 x6) b.val r.val h.val) * bm (rin x0 x1 x2 x3 x4 x5 x6) b.val r.val h.val j.val := by
  rw [← v67_at x0 x1 x2 x3 x4 x5 x6, ← N4_at x2 (ix4 b h p j) b.val h.val p.val j.val rfl rfl rfl rfl]
  pointwise [val_main_v86, val_main_v85, val_main_v84, val_main_v83]
  rw [Fin.sum_univ_two]
  simp only [v82_at x0 x1 x2 x3 x4 x5 x6]
  have e0 : val_main_v70 x0 x1 x2 x3 x4 x5 x6 (ix5 b (0 : Fin 2) h p j) = x2 (ix4 b h p j) := by
    pointwise [val_main_v70, val_main_v68]
  have e1 : val_main_v70 x0 x1 x2 x3 x4 x5 x6 (ix5 b (1 : Fin 2) h p j) = val_main_v67 x0 x1 x3 x4 x5 x6 (ix4 b h p j) := by
    pointwise [val_main_v70, val_main_v69]
  have s0 : seg (fun _ => cs (rin x0 x1 x2 x3 x4 x5 x6) b.val 3 h.val) 1 0 = cs (rin x0 x1 x2 x3 x4 x5 x6) b.val 3 h.val := by
    simp [seg, Finset.sum_range_succ]
  have s1 := wt_self (fun _ => cs (rin x0 x1 x2 x3 x4 x5 x6) b.val 3 h.val) 1
  unfold wt at s1
  have w0 : ((0 : Fin 2).val) = 0 := rfl
  have w1 : ((1 : Fin 2).val) = 1 := rfl
  rw [e0, e1, w0, w1, s1, if_pos (by decide), s0, mul_one]

/-- The result is the call's: its rows past the fourth add nothing. -/
theorem result (b : Fin 128) (h : Fin 16) (p : Fin 64) (j : Fin 128) : val_main_v86 x0 x1 x2 x3 x4 x5 x6 (ix4 b h p j)
    = out (rin x0 x1 x2 x3 x4 x5 x6) b.val h.val p.val j.val := by
  have hp := p.isLt
  have d : ∀ r k, ¬ r < 4 → dt (rin x0 x1 x2 x3 x4 x5 x6) b.val r k = 0 := fun r k hr => if_neg hr
  have ha : ∀ r k, ¬ r < 4 → ad (rin x0 x1 x2 x3 x4 x5 x6) b.val r k = 0 := fun r k hr => by
    unfold ad; rw [d r k hr, zero_mul]
  have hx : ∀ r k, ¬ r < 4 → xd (rin x0 x1 x2 x3 x4 x5 x6) b.val r k = 0 := fun r k hr => by
    unfold xd; rw [d r _ hr, mul_zero]
  have hc : cs (rin x0 x1 x2 x3 x4 x5 x6) b.val 7 h.val = cs (rin x0 x1 x2 x3 x4 x5 x6) b.val 3 h.val := by
    unfold cs
    exact (Finset.sum_subset (Finset.range_mono (by decide)) fun r _ hr => ha r _ (by simpa using hr)).symm
  rw [v86_at]
  unfold out
  rw [hc]
  congr 1
  rw [Fin.sum_univ_four, Fin.sum_univ_eight]
  have z : ∀ r : Fin 8, ¬ r.val < 4 → xd (rin x0 x1 x2 x3 x4 x5 x6) b.val r.val (64 * h.val + p.val)
      * Ideal.exp (cs (rin x0 x1 x2 x3 x4 x5 x6) b.val 3 h.val - cs (rin x0 x1 x2 x3 x4 x5 x6) b.val r.val h.val)
      * bm (rin x0 x1 x2 x3 x4 x5 x6) b.val r.val h.val j.val = 0 := fun r hr => by rw [hx _ _ hr, zero_mul, zero_mul]
  rw [z 4 (by decide), z 5 (by decide), z 6 (by decide), z 7 (by decide), add_zero, add_zero, add_zero, add_zero]
  rfl

end Cert.Samp.Ref
end
end
-- ==== Proof.SampClaim.lean ====
/-
The claims on the state-space recurrence's call on the sample batch.
-/
module
public import proofs.«01_k».proof.Proof.SampRef
public import proofs.«01_k».proof.Proof.Gen.Kernel7.Frame
public import proofs.«01_k».proof.Proof.Gen.Reference7Ideal.Run
public import proofs.«01_k».proof.Defs
public import Idealize.ShloMosaic.Adequacy
public import Idealize.ShloMosaic.Init

@[expose] public section
set_option maxHeartbeats 2000000
noncomputable section
namespace Cert.Samp
open Idealize.ShloMosaic Idealize.SL.Sem Idealize.ShloMosaic.StableHlo Cert.Arr

/-- The printed call leaves its arguments and its semaphores as they were. -/
theorem frame_p : Cert.quiescent_Kernel7 := fun m ρ _ => Cert.Kernel7.Gen.frame m ρ
/-- So does its idealisation; -/
theorem frame_pi : Cert.quiescent_Kernel7Ideal := fun m ρ _ => Cert.Kernel7Ideal.Gen.frame m ρ
/-- and the reference. -/
theorem frame_ri : Cert.quiescent_Reference7Ideal := fun m ρ _ =>
  (θ_run Cert.Reference7Ideal.defs _ _).mono (fun r h => ⟨fun c => (h c).2,
    Idealize.ShloMosaic.sem_eq_zero_of_no_sems (by decide) r.2⟩) (Cert.Reference7Ideal.Value.run m ρ)

/-- The kernel's run with its output array named. -/
theorem run (m : (ℓ : Loc Cert.Kernel7Ideal.nD Cert.Kernel7Ideal.τ Cert.Kernel7Ideal.sig) → Buf (Elt Ideal) ℓ) (ρ : Dev Cert.Kernel7Ideal.nD → PrngReg) :
    θ_run Cert.Kernel7Ideal.defs (onTc (τ := Cert.Kernel7Ideal.τ) (Cert.Kernel7Ideal.main (F := Ideal))) ⟨m, fun _ => 0, ρ⟩ fun r => ∀ c : Dev Cert.Kernel7Ideal.nD,
      r.2.mem ((c.tc).loc Cert.Kernel7Ideal.main_v15_1) = G m c
      ∧ r.2.mem ((c.tc).loc Cert.Kernel7Ideal.main_arg0) = m ((c.tc).loc Cert.Kernel7Ideal.main_arg0)
      ∧ r.2.mem ((c.tc).loc Cert.Kernel7Ideal.main_arg1) = m ((c.tc).loc Cert.Kernel7Ideal.main_arg1)
      ∧ r.2.mem ((c.tc).loc Cert.Kernel7Ideal.main_arg2) = m ((c.tc).loc Cert.Kernel7Ideal.main_arg2)
      ∧ r.2.mem ((c.tc).loc Cert.Kernel7Ideal.main_arg3) = m ((c.tc).loc Cert.Kernel7Ideal.main_arg3)
      ∧ r.2.mem ((c.tc).loc Cert.Kernel7Ideal.main_arg4) = m ((c.tc).loc Cert.Kernel7Ideal.main_arg4)
      ∧ r.2.mem ((c.tc).loc Cert.Kernel7Ideal.main_arg5) = m ((c.tc).loc Cert.Kernel7Ideal.main_arg5)
      ∧ r.2.mem ((c.tc).loc Cert.Kernel7Ideal.main_arg6) = m ((c.tc).loc Cert.Kernel7Ideal.main_arg6)
      ∧ r.2.mem ((c.tc).loc Cert.Kernel7Ideal.main_arg7) = m ((c.tc).loc Cert.Kernel7Ideal.main_arg7)
      ∧ r.2.mem ((c.tc).loc Cert.Kernel7Ideal.main_arg8) = m ((c.tc).loc Cert.Kernel7Ideal.main_arg8) :=
  (θ_run _ _ _).mono (fun _ h c => ⟨(h c).2.1.trans (final m c), (h c).2.2⟩) (Cert.Kernel7Ideal.Value.run_blocks m ρ)

/-- The two programs' outputs are one array, entry by entry. -/
theorem rows_eq (m : (ℓ : Loc Cert.Kernel7Ideal.nD Cert.Kernel7Ideal.τ Cert.Kernel7Ideal.sig) → Buf (Elt Ideal) ℓ) (c : Dev Cert.Kernel7Ideal.nD) :
    Cert.Reference7Ideal.Read.val_main_v86 (m ((c.tc).loc Cert.Kernel7Ideal.main_arg0)) (m ((c.tc).loc Cert.Kernel7Ideal.main_arg1)) (m ((c.tc).loc Cert.Kernel7Ideal.main_arg2)) (m ((c.tc).loc Cert.Kernel7Ideal.main_arg3))
      (m ((c.tc).loc Cert.Kernel7Ideal.main_arg4)) (m ((c.tc).loc Cert.Kernel7Ideal.main_arg5)) (m ((c.tc).loc Cert.Kernel7Ideal.main_arg6)) = G m c := by
  refine funext fun (i : Cert.Kernel7Ideal.S128x16x64x128.Idx) => ?_
  rw [show i = ix4 (i 0) (i 1) (i 2) (i 3) from by funext a; fin_cases a <;> rfl]
  exact (Ref.result _ _ _ _ _ _ _ (i 0) (i 1) (i 2) (i 3)).trans rfl

/-- At the reals, the call computes the reference. -/
theorem algebraic : Cert.algebraic_Kernel7Ideal_Reference7Ideal := by
  intro m ρ m' ρ' _ hagree
  refine ⟨fun c => G m c, run m ρ, ?_⟩
  refine (θ_run Cert.Reference7Ideal.defs _ _).mono ?_ (Cert.Reference7Ideal.Value.run m' ρ')
  intro r h c
  obtain ⟨a0, a1, a2, a3, a4, a5, a6, _, _⟩ := hagree c
  refine ⟨((h c).1.trans (Cert.Reference7Ideal.Read.val_main_v86_eq _ _)).trans ?_, (h c).2⟩
  refine Eq.trans ?_ (rows_eq m c)
  rw [← a0, ← a1, ← a2, ← a3, ← a4, ← a5, ← a6]

end Cert.Samp
end
end
-- ==== Proof.RwkvBody.lean ====
/-
The recurrence with the delta rule on the sample batch: the printed body's state, head by head, as one function of the
values the body loads.
-/
module
public import proofs.«01_k».proof.Proof.Gen.Kernel8Ideal.Value
public import proofs.«01_k».proof.Proof.CaseA

@[expose] public section
set_option maxHeartbeats 8000000
noncomputable section
namespace Cert.Rwkv
open Cert.Kernel8Ideal Cert.Kernel8Ideal.Gen Idealize.ShloMosaic Idealize.ShloMosaic.TcCoe Idealize.SL.Sem
open Cert.KernelIdeal.Step (ldw ldp hz2 hz3 hz4)
variable {F : FTy → Type} [FloatOps F]

/-- A head's 64 columns lie in the 1024; -/
theorem sliceHead (h : Fin 16) : S8x1024.Slices ![0, 64 * h.val] S8x64 := by
  fin_cases h <;> decide
/-- so do those of its last row. -/
theorem sliceLast (h : Fin 16) : S8x1024.Slices ![7, 64 * h.val] S1x64 := by
  fin_cases h <;> decide
/-- A head's state lies in the 16. -/
theorem inbSt (h : Fin 16) : ∀ a, (![h.val, 0, 0] : Fin 3 → Nat) a + S1x64x64.size a ≤ S16x64x64.size a := by
  fin_cases h <;> decide

/-- A load passes over a store it shares no entry with. -/
theorem skip {sig : RefSig} {κ : Kind} {sp : Space} {s : Shape} (v : View sig κ sp s .f32) {off off' sz sz' : Fin s.rank → Nat}
    {inb : ∀ a, off a + sz a ≤ s.size a} {inb' : ∀ a, off' a + sz' a ≤ s.size a} {w : (Rect.unit off sz inb).shape.Idx → Elt F .f32}
    {L : List (View.Piece (Elt F) s .f32)} (a : Fin s.rank) (h : off a + sz a ≤ off' a ∨ off' a + sz' a ≤ off a) :
    v.readCov ((⟨Rect.unit off sz inb, w⟩ : View.Piece (Elt F) s .f32) :: L) (Rect.unit off' sz' inb').toLoadRect
      = v.readCov L (Rect.unit off' sz' inb').toLoadRect := by
  rw [View.readCov_eq_canon', View.readCov_eq_canon']
  funext j
  refine View.canon_cons_of_not_mem _ _ ?_
  rw [Rect.mem_set_unit]
  intro hm
  have h0 := hm a
  have hj : ((Rect.unit off' sz' inb').toLoadRect.idx j a).val = off' a + 1 * (j a).val := rfl
  have hj0 : (j a).val < sz' a := (j a).isLt
  omega
/-- A load of a part off a store of the whole reads the part. -/
theorem bottom {sig : RefSig} {κ : Kind} {sp : Space} {s : Shape} (v : View sig κ sp s .f32) {off : Fin s.rank → Nat} (hz : off = fun _ => 0)
    (inb : ∀ a, off a + s.size a ≤ s.size a) (w : s.Idx → Elt F .f32) (r : Rect s) :
    v.readCov [(⟨Rect.unit off s.size inb, w⟩ : View.Piece (Elt F) s .f32)] r.toLoadRect = View.ld w r := by
  rw [View.readCov_eq_canon']
  funext j
  rw [View.canon_cons_unit_zero hz]

/-- The row number down a column; -/
abbrev iotaR : IVec S8x1 32 := iota .tc S8x1 32 [0] iota_S8x1_d0_w32
/-- of a square's entries; -/
abbrev i0 : IVec S8x8 32 := iota .tc S8x8 32 [0] iota_S8x8_d0_w32
/-- their column numbers. -/
abbrev i1 : IVec S8x8 32 := iota .tc S8x8 32 [1] iota_S8x8_d1_w32

/-- The values the state is made from: the raw rows, the row before each sequence's first, the mixing weights, the
    loras' weights and biases, the two key weights, the state per head. -/
structure Loads (F : FTy → Type) [FloatOps F] where
  xr : Vec F S8x1024 .f32
  kr : Vec F S8x1024 .f32
  vr : Vec F S8x1024 .f32
  lr : Vec F S8x512 .f32
  p0 : Vec F S1x1024 .f32
  p1 : Vec F S1x1024 .f32
  p2 : Vec F S1x1024 .f32
  p3 : Vec F S1x512 .f32
  m0 : Vec F S1x1024 .f32
  m1 : Vec F S1x1024 .f32
  m2 : Vec F S1x1024 .f32
  m3 : Vec F S1x512 .f32
  w0 : Vec F S1x1024 .f32
  w2 : Vec F S64x1024 .f32
  a0 : Vec F S1x1024 .f32
  a2 : Vec F S64x1024 .f32
  kk : Vec F S1x1024 .f32
  ka : Vec F S1x1024 .f32
  st : Fin 16 → Vec F S1x64x64 .f32

section
variable (L : Loads F) (h : Fin 16)
/-- The mixed receptance rows. -/
def RR : FVec F S8x1024 .f32 := k0_pay7 L.xr L.p0 L.m0
/-- The mixed key rows. -/
def KR : FVec F S8x1024 .f32 := k0_pay11 L.kr (k0_pay8 L.kr L.p1) L.m1
/-- The mixed value rows. -/
def VR : FVec F S8x1024 .f32 := k0_pay13 iotaR L.vr L.p2 L.m2
/-- The rows before those of the loras. -/
def PL : FVec F S8x512 .f32 := k0_pay14 iotaR L.lr L.p3
/-- The mixed rows of the learning rates' lora. -/
def XA : FVec F S8x64 .f32 := k0_pay18 L.lr (PL L) L.m3
/-- The decays' logarithms, -/
def LR : FVec F S8x1024 .f32 := k0_pay20 L.lr (PL L) L.m3 L.w0 L.w2
/-- zero past the fourth row. -/
def LD : FVec F S8x1024 .f32 := k0_pay24 iotaR (LR L)
/-- The learning rates. -/
def AA : FVec F S8x1024 .f32 := k0_pay21 (XA L) L.a0 L.a2
/-- The keys to be removed, zero past the fourth row. -/
def KK : FVec F S8x1024 .f32 := k0_pay25 iotaR (KR L) L.kk
/-- The keys to be written, zero past the fourth row. -/
def KM : FVec F S8x1024 .f32 := k0_pay26 iotaR (KR L) (XA L) L.a0 L.a2 L.ka
/-- The values, zero past the fourth row. -/
def VM : FVec F S8x1024 .f32 := k0_pay27 iotaR (VR L)
/-- A head's 64 columns. -/
def hsl (x : FVec F S8x1024 .f32) : FVec F S8x64 .f32 := extractStridedSlice S8x64 ![0, 64 * h.val] x (sliceHead h)
/-- The keys to be removed, of length one. -/
def KN : FVec F S8x64 .f32 := divf (hsl h (KK L)) (broadcastTo S8x64 (maximumf (sqrt (shapeCast S8x1
  (multiReduction .add [1] S8 (mulf (hsl h (KK L)) (hsl h (KK L))) 0x00000000#32 reduces_S8x64_S8 (.inl rfl) rfl) shapeCasts_S8_S8x1))
  (broadcast S8x1 (Scalar.ofBits .f32 0x2B8CBCCC#32))) broadcasts_S8x1_S8x64)
/-- They times the learning rates. -/
def BH : FVec F S8x64 .f32 := mulf (KN L h) (hsl h (AA L))
/-- The removed keys and the receptances, times the decays so far. -/
def Q2 : FVec F S16x64 .f32 := concatenate S16x64 0 [⟨S8x64, mulf (KN L h) (hsl h (k0_pay32 (LD L) i0 i1))⟩,
  ⟨S8x64, mulf (hsl h (RR L)) (hsl h (k0_pay31 (LD L) i0 i1))⟩] concatenates_S8x64_S8x64_S16x64_d0
/-- The written keys and the removed ones' rates, over the decays so far. -/
def K2 : FVec F S16x64 .f32 := concatenate S16x64 0 [⟨S8x64, mulf (hsl h (KM L)) (hsl h (k0_pay33 (LD L) i0 i1))⟩,
  ⟨S8x64, mulf (BH L h) (hsl h (k0_pay33 (LD L) i0 i1))⟩] concatenates_S8x64_S8x64_S16x64_d0
/-- Their products. -/
def GM : FVec F S16x16 .f32 := matmul dot_S16x64_S16x64_S16x16_1_1_0_0_n_n (some .fp32) (Q2 L h) (K2 L h) (constant S16x16 .f32 0x00000000#32)
/-- What each row adds to the state along the removed keys. -/
def UU : FVec F S8x64 .f32 := k0_pay47 (k0_pay29 i0 i1) (hsl h (VM L)) (Q2 L h) (GM L h) (L.st h)
/-- The state of head `h` after the rows. -/
def SH : FVec F S1x64x64 .f32 := shapeCast S1x64x64 (addf (addf (mulf (shapeCast S64x64 (L.st h) shapeCasts_S1x64x64_S64x64)
      (broadcastTo S64x64 (extractStridedSlice S1x64 ![7, 64 * h.val] (k0_pay31 (LD L) i0 i1) (sliceLast h)) broadcasts_S1x64_S64x64))
    (matmul dot_S8x64_S8x64_S64x64_0_0_1_1_n_n (some .fp32) (hsl h (VM L)) (mulf (hsl h (KM L)) (hsl h (k0_pay34 (LD L) i0 i1)))
      (constant S64x64 .f32 0x00000000#32)))
    (matmul dot_S8x64_S8x64_S64x64_0_0_1_1_n_n (some .fp32) (UU L h) (mulf (BH L h) (hsl h (k0_pay34 (LD L) i0 i1)))
      (constant S64x64 .f32 0x00000000#32))) shapeCasts_S64x64_S1x64x64
/-- The states of all heads. -/
def ST : Vec F S16x64x64 .f32 := fun y => SH L (y 0) (ix3 0 (y 1) (y 2))

/-- The states, read at one head. -/
theorem ST_at {o : Nat} (h : Fin 16) (ho : o = h.val) (inb : ∀ a, (![o, 0, 0] : Fin 3 → Nat) a + S1x64x64.size a ≤ S16x64x64.size a)
    (x : S1x64x64.Idx) : ST L ((Rect.unit (s := S16x64x64) ![o, 0, 0] S1x64x64.size inb).emb x) = SH L h x := by
  subst ho
  have h0 : (x 0).val = 0 := by have := (x 0).isLt; simp at this; omega
  have e : (Rect.unit (s := S16x64x64) ![h.val, 0, 0] S1x64x64.size inb).emb x 0 = h := by
    apply Fin.ext; show h.val + 1 * (x 0).val = h.val; omega
  unfold ST; rw [e]; congr 1
  funext a; fin_cases a
  · apply Fin.ext; show 0 = (x 0).val; omega
  · apply Fin.ext; show 0 + 1 * (x 1).val = (x 1).val; omega
  · apply Fin.ext; show 0 + 1 * (x 2).val = (x 2).val; omega
end

/-- The values the body loads, from its blocks. -/
def blk (x0 x1 x2 : Vec F S8x1024 .f32) (x3 : Vec F S8x512 .f32) (x4 : Vec F S1x1x3584 .f32) (x5 : Vec F S1x16x64x64 .f32)
    (x6 : Vec F S1x3584 .f32) (x7 : Vec F S1x1024 .f32) (x8 : Vec F S64x1024 .f32) (x9 : Vec F S1x1024 .f32) (x10 : Vec F S64x1024 .f32)
    (x12 x13 : Vec F S1x1024 .f32) : Loads F where
  xr := x0
  kr := x1
  vr := x2
  lr := x3
  p0 := View.ld (k0_pay4 x4) (Rect.unit (s := S1x3584) ![0, 0] S1x1024.size inb_S1x3584_S1x1024_0_0)
  p1 := View.ld (k0_pay4 x4) (Rect.unit (s := S1x3584) ![0, 1024] S1x1024.size inb_S1x3584_S1x1024_0_1024)
  p2 := View.ld (k0_pay4 x4) (Rect.unit (s := S1x3584) ![0, 2048] S1x1024.size inb_S1x3584_S1x1024_0_2048)
  p3 := View.ld (k0_pay4 x4) (Rect.unit (s := S1x3584) ![0, 3072] S1x512.size inb_S1x3584_S1x512_0_3072)
  m0 := View.ld x6 (Rect.unit (s := S1x3584) ![0, 0] S1x1024.size inb_S1x3584_S1x1024_0_0)
  m1 := View.ld x6 (Rect.unit (s := S1x3584) ![0, 1024] S1x1024.size inb_S1x3584_S1x1024_0_1024)
  m2 := View.ld x6 (Rect.unit (s := S1x3584) ![0, 2048] S1x1024.size inb_S1x3584_S1x1024_0_2048)
  m3 := View.ld x6 (Rect.unit (s := S1x3584) ![0, 3072] S1x512.size inb_S1x3584_S1x512_0_3072)
  w0 := x7
  w2 := x8
  a0 := x9
  a2 := x10
  kk := x12
  ka := x13
  st := fun h => View.ld (k0_pay5 x5) (Rect.unit (s := S16x64x64) ![h.val, 0, 0] S1x64x64.size (inbSt h))

/-- What earlier writes left does not matter where later ones cover. -/
theorem canon_app {Val : EltTy → Type} [∀ e, Nonempty (Val e)] {s : Shape} {e : EltTy} (L L' : List (View.Piece Val s e)) (y : s.Idx)
    (h : ∃ p ∈ L, y ∈ p.1.set) : View.canon (L ++ L') y = View.canon L y := by
  induction L with
  | nil => obtain ⟨p, hp, _⟩ := h; exact absurd hp List.not_mem_nil
  | cons p L ih =>
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem _ _ hm, View.canon_cons_of_not_mem _ _ hm]
      obtain ⟨q, hq, hy⟩ := h
      rcases List.mem_cons.mp hq with rfl | hq
      · exact absurd hy hm
      · exact ih ⟨q, hq, hy⟩

variable (c : Dev nD) (i : grid0.Coords)
  (arg2 : Memref sig .tc .vmem S8x1024 .f32) (harg2 : arg2.IsWhole)
  (arg3 : Memref sig .tc .vmem S8x1024 .f32) (harg3 : arg3.IsWhole)
  (arg4 : Memref sig .tc .vmem S8x1024 .f32) (harg4 : arg4.IsWhole)
  (arg5 : Memref sig .tc .vmem S8x512 .f32) (harg5 : arg5.IsWhole)
  (arg6 : Memref sig .tc .vmem S1x1x3584 .f32) (harg6 : arg6.IsWhole)
  (arg7 : Memref sig .tc .vmem S1x16x64x64 .f32) (harg7 : arg7.IsWhole)
  (arg8 : Memref sig .tc .vmem S1x3584 .f32) (harg8 : arg8.IsWhole)
  (arg9 : Memref sig .tc .vmem S1x1024 .f32) (harg9 : arg9.IsWhole)
  (arg10 : Memref sig .tc .vmem S64x1024 .f32) (harg10 : arg10.IsWhole)
  (arg11 : Memref sig .tc .vmem S1x1024 .f32) (harg11 : arg11.IsWhole)
  (arg12 : Memref sig .tc .vmem S64x1024 .f32) (harg12 : arg12.IsWhole)
  (arg13 : Memref sig .tc .vmem S384x1024 .f32) (harg13 : arg13.IsWhole)
  (arg14 : Memref sig .tc .vmem S1x1024 .f32) (harg14 : arg14.IsWhole)
  (arg15 : Memref sig .tc .vmem S1x1024 .f32) (harg15 : arg15.IsWhole)
  (arg16 : Memref sig .tc .vmem S1x1024 .f32) (harg16 : arg16.IsWhole)
  (arg17 : Memref sig .tc .vmem S1x1024 .f32) (harg17 : arg17.IsWhole)
  (arg18 : Memref sig .tc .vmem S1x1024 .f32) (harg18 : arg18.IsWhole)
  (arg19 : Memref sig .tc .vmem S8x1024 .bf16) (harg19 : arg19.IsWhole)
  (arg20 : Memref sig .tc .vmem S1x16x64x64 .f32) (harg20 : arg20.IsWhole)
  (arg21 : Memref sig .tc .vmem S1x3584 .f32) (harg21 : arg21.IsWhole)
  (arg22 : Memref sig .tc .vmem S16x64x64 .f32) (harg22 : arg22.IsWhole)
  (arg23 : Memref sig .tc .vmem S8x1024 .f32) (harg23 : arg23.IsWhole)
variable (x0 : Vec F S8x1024 .f32) (x1 : Vec F S8x1024 .f32) (x2 : Vec F S8x1024 .f32) (x3 : Vec F S8x512 .f32) (x4 : Vec F S1x1x3584 .f32) (x5 : Vec F S1x16x64x64 .f32) (x6 : Vec F S1x3584 .f32) (x7 : Vec F S1x1024 .f32) (x8 : Vec F S64x1024 .f32) (x9 : Vec F S1x1024 .f32) (x10 : Vec F S64x1024 .f32) (x11 : Vec F S384x1024 .f32) (x12 : Vec F S1x1024 .f32) (x13 : Vec F S1x1024 .f32) (x14 : Vec F S1x1024 .f32) (x15 : Vec F S1x1024 .f32) (x16 : Vec F S1x1024 .f32)

/-- The values the printed body loads. -/
def load : Loads F where
  xr := View.readAt (Elt F) arg2.view (Rect.unit (s := S8x1024) ![0, 0] S8x1024.size inb_S8x1024_S8x1024_0_0).toLoadRect (harg2.unread x0)
  kr := View.readAt (Elt F) arg3.view (Rect.unit (s := S8x1024) ![0, 0] S8x1024.size inb_S8x1024_S8x1024_0_0).toLoadRect (harg3.unread x1)
  vr := View.readAt (Elt F) arg4.view (Rect.unit (s := S8x1024) ![0, 0] S8x1024.size inb_S8x1024_S8x1024_0_0).toLoadRect (harg4.unread x2)
  lr := View.readAt (Elt F) arg5.view (Rect.unit (s := S8x512) ![0, 0] S8x512.size inb_S8x512_S8x512_0_0).toLoadRect (harg5.unread x3)
  p0 := kernelRun0_A.sl.v7 c arg6 harg6 arg21 x4
  p1 := kernelRun0_A.sl.v27 c arg2 harg2 arg6 harg6 arg21 x0 x4
  p2 := kernelRun0_A.sl.v47 c arg2 harg2 arg3 harg3 arg6 harg6 arg21 x0 x1 x4
  p3 := kernelRun0_A.sl.v67 c arg2 harg2 arg3 harg3 arg4 harg4 arg6 harg6 arg21 x0 x1 x2 x4
  m0 := View.readAt (Elt F) arg8.view (Rect.unit (s := S1x3584) ![0, 0] S1x1024.size inb_S1x3584_S1x1024_0_0).toLoadRect (harg8.unread x6)
  m1 := View.readAt (Elt F) arg8.view (Rect.unit (s := S1x3584) ![0, 1024] S1x1024.size inb_S1x3584_S1x1024_0_1024).toLoadRect (harg8.unread x6)
  m2 := View.readAt (Elt F) arg8.view (Rect.unit (s := S1x3584) ![0, 2048] S1x1024.size inb_S1x3584_S1x1024_0_2048).toLoadRect (harg8.unread x6)
  m3 := View.readAt (Elt F) arg8.view (Rect.unit (s := S1x3584) ![0, 3072] S1x512.size inb_S1x3584_S1x512_0_3072).toLoadRect (harg8.unread x6)
  w0 := View.readAt (Elt F) arg9.view (Rect.unit (s := S1x1024) ![0, 0] S1x1024.size inb_S1x1024_S1x1024_0_0).toLoadRect (harg9.unread x7)
  w2 := View.readAt (Elt F) arg10.view (Rect.unit (s := S64x1024) ![0, 0] S64x1024.size inb_S64x1024_S64x1024_0_0).toLoadRect (harg10.unread x8)
  a0 := View.readAt (Elt F) arg11.view (Rect.unit (s := S1x1024) ![0, 0] S1x1024.size inb_S1x1024_S1x1024_0_0).toLoadRect (harg11.unread x9)
  a2 := View.readAt (Elt F) arg12.view (Rect.unit (s := S64x1024) ![0, 0] S64x1024.size inb_S64x1024_S64x1024_0_0).toLoadRect (harg12.unread x10)
  kk := View.readAt (Elt F) arg14.view (Rect.unit (s := S1x1024) ![0, 0] S1x1024.size inb_S1x1024_S1x1024_0_0).toLoadRect (harg14.unread x12)
  ka := View.readAt (Elt F) arg15.view (Rect.unit (s := S1x1024) ![0, 0] S1x1024.size inb_S1x1024_S1x1024_0_0).toLoadRect (harg15.unread x13)
  st := ![kernelRun0_A.sl.v207 c arg7 harg7 arg22 x5, kernelRun0_A.sl.v314 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13, kernelRun0_A.sl.v421 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13, kernelRun0_A.sl.v528 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13, kernelRun0_A.sl.v635 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13, kernelRun0_A.sl.v742 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13, kernelRun0_A.sl.v849 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13, kernelRun0_A.sl.v956 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13, kernelRun0_A.sl.v1063 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13, kernelRun0_A.sl.v1170 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13, kernelRun0_A.sl.v1277 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13, kernelRun0_A.sl.v1384 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13, kernelRun0_A.sl.v1491 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13, kernelRun0_A.sl.v1598 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13, kernelRun0_A.sl.v1705 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13, kernelRun0_A.sl.v1812 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13]

/-- They are the values of its blocks. -/
theorem load_eq : load c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13 = blk x0 x1 x2 x3 x4 x5 x6 x7 x8 x9 x10 x12 x13 := by
  unfold load blk
  simp only [Loads.mk.injEq]
  refine ⟨ldw _ _ hz2 _ _, ldw _ _ hz2 _ _, ldw _ _ hz2 _ _, ldw _ _ hz2 _ _, ?_, ?_, ?_, ?_, ldp _ _ _ _, ldp _ _ _ _, ldp _ _ _ _, ldp _ _ _ _,
    ldw _ _ hz2 _ _, ldw _ _ hz2 _ _, ldw _ _ hz2 _ _, ldw _ _ hz2 _ _, ldw _ _ hz2 _ _, ldw _ _ hz2 _ _, ?_⟩
  · unfold kernelRun0_A.sl.v7 kernelRun0_A.sl.HS0_1
    exact (bottom _ hz2 ..).trans (by rw [ldw _ _ hz3])
  · unfold kernelRun0_A.sl.v27 kernelRun0_A.sl.HS0_2 kernelRun0_A.sl.HS0_1
    rw [skip _ 1 (by decide)]; exact (bottom _ hz2 ..).trans (by rw [ldw _ _ hz3])
  · unfold kernelRun0_A.sl.v47 kernelRun0_A.sl.HS0_3 kernelRun0_A.sl.HS0_2 kernelRun0_A.sl.HS0_1
    rw [skip _ 1 (by decide), skip _ 1 (by decide)]; exact (bottom _ hz2 ..).trans (by rw [ldw _ _ hz3])
  · unfold kernelRun0_A.sl.v67 kernelRun0_A.sl.HS0_4 kernelRun0_A.sl.HS0_3 kernelRun0_A.sl.HS0_2 kernelRun0_A.sl.HS0_1
    rw [skip _ 1 (by decide), skip _ 1 (by decide), skip _ 1 (by decide)]; exact (bottom _ hz2 ..).trans (by rw [ldw _ _ hz3])
  · funext h
    fin_cases h
    · change kernelRun0_A.sl.v207 c arg7 harg7 arg22 x5 = _
      unfold kernelRun0_A.sl.v207 kernelRun0_A.sl.HS1_1
      exact (bottom _ hz3 ..).trans (by rw [ldw _ _ hz4])
    · change kernelRun0_A.sl.v314 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13 = _
      unfold kernelRun0_A.sl.v314 kernelRun0_A.sl.HS1_2 kernelRun0_A.sl.HS1_1
      rw [skip _ 0 (by decide)]; exact (bottom _ hz3 ..).trans (by rw [ldw _ _ hz4])
    · change kernelRun0_A.sl.v421 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13 = _
      unfold kernelRun0_A.sl.v421 kernelRun0_A.sl.HS1_3 kernelRun0_A.sl.HS1_2 kernelRun0_A.sl.HS1_1
      rw [skip _ 0 (by decide), skip _ 0 (by decide)]; exact (bottom _ hz3 ..).trans (by rw [ldw _ _ hz4])
    · change kernelRun0_A.sl.v528 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13 = _
      unfold kernelRun0_A.sl.v528 kernelRun0_A.sl.HS1_4 kernelRun0_A.sl.HS1_3 kernelRun0_A.sl.HS1_2 kernelRun0_A.sl.HS1_1
      rw [skip _ 0 (by decide), skip _ 0 (by decide), skip _ 0 (by decide)]; exact (bottom _ hz3 ..).trans (by rw [ldw _ _ hz4])
    · change kernelRun0_A.sl.v635 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13 = _
      unfold kernelRun0_A.sl.v635 kernelRun0_A.sl.HS1_5 kernelRun0_A.sl.HS1_4 kernelRun0_A.sl.HS1_3 kernelRun0_A.sl.HS1_2 kernelRun0_A.sl.HS1_1
      rw [skip _ 0 (by decide), skip _ 0 (by decide), skip _ 0 (by decide), skip _ 0 (by decide)]; exact (bottom _ hz3 ..).trans (by rw [ldw _ _ hz4])
    · change kernelRun0_A.sl.v742 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13 = _
      unfold kernelRun0_A.sl.v742 kernelRun0_A.sl.HS1_6 kernelRun0_A.sl.HS1_5 kernelRun0_A.sl.HS1_4 kernelRun0_A.sl.HS1_3 kernelRun0_A.sl.HS1_2 kernelRun0_A.sl.HS1_1
      rw [skip _ 0 (by decide), skip _ 0 (by decide), skip _ 0 (by decide), skip _ 0 (by decide), skip _ 0 (by decide)]; exact (bottom _ hz3 ..).trans (by rw [ldw _ _ hz4])
    · change kernelRun0_A.sl.v849 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13 = _
      unfold kernelRun0_A.sl.v849 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ 0 (by decide), skip _ 0 (by decide), skip _ 0 (by decide), skip _ 0 (by decide), skip _ 0 (by decide), skip _ 0 (by decide)]; exact (bottom _ hz3 ..).trans (by rw [ldw _ _ hz4])
    · change kernelRun0_A.sl.v956 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13 = _
      unfold kernelRun0_A.sl.v956 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ 0 (by decide), skip _ 0 (by decide), skip _ 0 (by decide), skip _ 0 (by decide), skip _ 0 (by decide), skip _ 0 (by decide), skip _ 0 (by decide)]; exact (bottom _ hz3 ..).trans (by rw [ldw _ _ hz4])
    · change kernelRun0_A.sl.v1063 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13 = _
      unfold kernelRun0_A.sl.v1063 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ 0 (by decide), skip _ 0 (by decide), skip _ 0 (by decide), skip _ 0 (by decide), skip _ 0 (by decide), skip _ 0 (by decide), skip _ 0 (by decide), skip _ 0 (by decide)]; exact (bottom _ hz3 ..).trans (by rw [ldw _ _ hz4])
    · change kernelRun0_A.sl.v1170 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13 = _
      unfold kernelRun0_A.sl.v1170 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ 0 (by decide), skip _ 0 (by decide), skip _ 0 (by decide), skip _ 0 (by decide), skip _ 0 (by decide), skip _ 0 (by decide), skip _ 0 (by decide), skip _ 0 (by decide), skip _ 0 (by decide)]; exact (bottom _ hz3 ..).trans (by rw [ldw _ _ hz4])
    · change kernelRun0_A.sl.v1277 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13 = _
      unfold kernelRun0_A.sl.v1277 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ 0 (by decide), skip _ 0 (by decide), skip _ 0 (by decide), skip _ 0 (by decide), skip _ 0 (by decide), skip _ 0 (by decide), skip _ 0 (by decide), skip _ 0 (by decide), skip _ 0 (by decide), skip _ 0 (by decide)]; exact (bottom _ hz3 ..).trans (by rw [ldw _ _ hz4])
    · change kernelRun0_A.sl.v1384 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13 = _
      unfold kernelRun0_A.sl.v1384 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ 0 (by decide), skip _ 0 (by decide), skip _ 0 (by decide), skip _ 0 (by decide), skip _ 0 (by decide), skip _ 0 (by decide), skip _ 0 (by decide), skip _ 0 (by decide), skip _ 0 (by decide), skip _ 0 (by decide), skip _ 0 (by decide)]; exact (bottom _ hz3 ..).trans (by rw [ldw _ _ hz4])
    · change kernelRun0_A.sl.v1491 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13 = _
      unfold kernelRun0_A.sl.v1491 kernelRun0_A.sl.HS1_13 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ 0 (by decide), skip _ 0 (by decide), skip _ 0 (by decide), skip _ 0 (by decide), skip _ 0 (by decide), skip _ 0 (by decide), skip _ 0 (by decide), skip _ 0 (by decide), skip _ 0 (by decide), skip _ 0 (by decide), skip _ 0 (by decide), skip _ 0 (by decide)]; exact (bottom _ hz3 ..).trans (by rw [ldw _ _ hz4])
    · change kernelRun0_A.sl.v1598 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13 = _
      unfold kernelRun0_A.sl.v1598 kernelRun0_A.sl.HS1_14 kernelRun0_A.sl.HS1_13 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ 0 (by decide), skip _ 0 (by decide), skip _ 0 (by decide), skip _ 0 (by decide), skip _ 0 (by decide), skip _ 0 (by decide), skip _ 0 (by decide), skip _ 0 (by decide), skip _ 0 (by decide), skip _ 0 (by decide), skip _ 0 (by decide), skip _ 0 (by decide), skip _ 0 (by decide)]; exact (bottom _ hz3 ..).trans (by rw [ldw _ _ hz4])
    · change kernelRun0_A.sl.v1705 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13 = _
      unfold kernelRun0_A.sl.v1705 kernelRun0_A.sl.HS1_15 kernelRun0_A.sl.HS1_14 kernelRun0_A.sl.HS1_13 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ 0 (by decide), skip _ 0 (by decide), skip _ 0 (by decide), skip _ 0 (by decide), skip _ 0 (by decide), skip _ 0 (by decide), skip _ 0 (by decide), skip _ 0 (by decide), skip _ 0 (by decide), skip _ 0 (by decide), skip _ 0 (by decide), skip _ 0 (by decide), skip _ 0 (by decide), skip _ 0 (by decide)]; exact (bottom _ hz3 ..).trans (by rw [ldw _ _ hz4])
    · change kernelRun0_A.sl.v1812 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13 = _
      unfold kernelRun0_A.sl.v1812 kernelRun0_A.sl.HS1_16 kernelRun0_A.sl.HS1_15 kernelRun0_A.sl.HS1_14 kernelRun0_A.sl.HS1_13 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
      rw [skip _ 0 (by decide), skip _ 0 (by decide), skip _ 0 (by decide), skip _ 0 (by decide), skip _ 0 (by decide), skip _ 0 (by decide), skip _ 0 (by decide), skip _ 0 (by decide), skip _ 0 (by decide), skip _ 0 (by decide), skip _ 0 (by decide), skip _ 0 (by decide), skip _ 0 (by decide), skip _ 0 (by decide), skip _ 0 (by decide)]; exact (bottom _ hz3 ..).trans (by rw [ldw _ _ hz4])

/-- The state the body writes. -/
theorem out18_A (hc0 : cond0_0 i) (hc1 : cond0_1 i) : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16
    = k0_pay3 (ST (blk x0 x1 x2 x3 x4 x5 x6 x7 x8 x9 x10 x12 x13)) := by
  rw [← load_eq c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13]
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16)]
  unfold kernelRun0_A
  dsimp only
  rw [View.canon_unit_zero hz4]
  congr 1
  unfold kernelRun0_A.sl.v1901
  rw [View.readCov_eq_canon']
  funext y
  have hy : (Rect.unit (s := S16x64x64) ![0, 0, 0] S16x64x64.size inb_S16x64x64_S16x64x64_0_0_0).toLoadRect.idx y = y := by
    funext a
    fin_cases a <;> exact Fin.ext (show 0 + 1 * _ = _ by omega)
  refine (congrArg (View.canon _) hy).trans ?_
  rw [← List.take_append_drop 16 (kernelRun0_A.sl.HS1_17 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13)]
  have hcov := View.cover_of_tiledL ((kernelRun0_A.sl.HS1_17 c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13).take 16) S1x64x64.size (by sl_kernel_rfl)
  rw [canon_app _ _ _ (hcov y)]
  refine View.canon_apply_of_pieces (ST (load c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13)) _ ?_ y (hcov y)
  unfold kernelRun0_A.sl.HS1_17 kernelRun0_A.sl.HS1_16 kernelRun0_A.sl.HS1_15 kernelRun0_A.sl.HS1_14 kernelRun0_A.sl.HS1_13 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  simp only [List.take_succ_cons, List.take_zero, List.forall_mem_cons, List.not_mem_nil, false_imp_iff, implies_true, and_true]
  refine ⟨?_, ?_, ?_, ?_, ?_, ?_, ?_, ?_, ?_, ?_, ?_, ?_, ?_, ?_, ?_, ?_⟩
  · exact fun x => Eq.trans (b := SH (load c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13) 15 x) (by sl_kernel_rfl) (ST_at _ 15 rfl _ x).symm
  · exact fun x => Eq.trans (b := SH (load c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13) 14 x) (by sl_kernel_rfl) (ST_at _ 14 rfl _ x).symm
  · exact fun x => Eq.trans (b := SH (load c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13) 13 x) (by sl_kernel_rfl) (ST_at _ 13 rfl _ x).symm
  · exact fun x => Eq.trans (b := SH (load c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13) 12 x) (by sl_kernel_rfl) (ST_at _ 12 rfl _ x).symm
  · exact fun x => Eq.trans (b := SH (load c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13) 11 x) (by sl_kernel_rfl) (ST_at _ 11 rfl _ x).symm
  · exact fun x => Eq.trans (b := SH (load c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13) 10 x) (by sl_kernel_rfl) (ST_at _ 10 rfl _ x).symm
  · exact fun x => Eq.trans (b := SH (load c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13) 9 x) (by sl_kernel_rfl) (ST_at _ 9 rfl _ x).symm
  · exact fun x => Eq.trans (b := SH (load c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13) 8 x) (by sl_kernel_rfl) (ST_at _ 8 rfl _ x).symm
  · exact fun x => Eq.trans (b := SH (load c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13) 7 x) (by sl_kernel_rfl) (ST_at _ 7 rfl _ x).symm
  · exact fun x => Eq.trans (b := SH (load c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13) 6 x) (by sl_kernel_rfl) (ST_at _ 6 rfl _ x).symm
  · exact fun x => Eq.trans (b := SH (load c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13) 5 x) (by sl_kernel_rfl) (ST_at _ 5 rfl _ x).symm
  · exact fun x => Eq.trans (b := SH (load c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13) 4 x) (by sl_kernel_rfl) (ST_at _ 4 rfl _ x).symm
  · exact fun x => Eq.trans (b := SH (load c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13) 3 x) (by sl_kernel_rfl) (ST_at _ 3 rfl _ x).symm
  · exact fun x => Eq.trans (b := SH (load c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13) 2 x) (by sl_kernel_rfl) (ST_at _ 2 rfl _ x).symm
  · exact fun x => Eq.trans (b := SH (load c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13) 1 x) (by sl_kernel_rfl) (ST_at _ 1 rfl _ x).symm
  · exact fun x => Eq.trans (b := SH (load c arg2 harg2 arg3 harg3 arg4 harg4 arg5 harg5 arg6 harg6 arg7 harg7 arg8 harg8 arg9 harg9 arg10 harg10 arg11 harg11 arg12 harg12 arg14 harg14 arg15 harg15 arg21 arg22 x0 x1 x2 x3 x4 x5 x6 x7 x8 x9 x10 x12 x13) 0 x) (by sl_kernel_rfl) (ST_at _ 0 rfl _ x).symm

end Cert.Rwkv
end
end
-- ==== Proof.RwkvReal.lean ====
/-
The delta rule over the reals: the rows one after the other, and the whole block at once by the powers of a strictly
lower triangular matrix, reach one state.
-/
module
public import proofs.«01_k».proof.Proof.Recur
public import Mathlib.Data.Matrix.Mul
public import Mathlib.Analysis.SpecialFunctions.Exp
public import Mathlib.Tactic.NoncommRing

@[expose] public section
noncomputable section
namespace Cert.Rwkv.R
variable {n : Nat} (ld kk b km : Nat → Fin n → ℝ) (v : Nat → ℝ) (s0 : Fin n → ℝ)

/-- One row of the state after `t` tokens: decay, the delta rule's correction, the new value along the key. -/
def st : Nat → Fin n → ℝ
  | 0 => s0
  | t + 1 => fun j => st t j * Real.exp (ld t j) - (∑ q, st t q * kk t q) * b t j + v t * km t j
/-- The log-decays before row `t`, added up. -/
def cs (t : Nat) (j : Fin n) : ℝ := ∑ s ∈ Finset.range t, ld s j
/-- What the delta rule subtracts, negated. -/
def uu (t : Nat) : ℝ := -∑ q, st ld kk b km v s0 t q * kk t q
/-- The decayed products of row `t`'s removal key with row `s`'s `k`. -/
def gr (k : Nat → Fin n → ℝ) (t s : Nat) : ℝ := ∑ q, kk t q * Real.exp (cs ld t q) * (k s q * Real.exp (0 - cs ld (s + 1) q))

/-- The state in closed form. -/
theorem st_eq (t : Nat) (j : Fin n) : st ld kk b km v s0 t j = Real.exp (cs ld t j) * (s0 j
    + ∑ s ∈ Finset.range t, Real.exp (0 - cs ld (s + 1) j) * (v s * km s j + uu ld kk b km v s0 s * b s j)) := by
  induction t with
  | zero => simp [st, cs]
  | succ t ih =>
    have hc : cs ld (t + 1) j = cs ld t j + ld t j := Finset.sum_range_succ _ _
    have he : Real.exp (cs ld (t + 1) j) * Real.exp (0 - cs ld (t + 1) j) = 1 := by
      rw [← Real.exp_add]; simp
    rw [Finset.sum_range_succ, ← add_assoc, mul_add, ← mul_assoc (Real.exp (cs ld (t + 1) j)) (Real.exp _) _, he, one_mul]
    have e : st ld kk b km v s0 (t + 1) j = st ld kk b km v s0 t j * Real.exp (ld t j) + uu ld kk b km v s0 t * b t j + v t * km t j := by
      unfold uu; simp only [st]; ring
    rw [e, ih, hc, Real.exp_add]
    ring

/-- What the delta rule subtracts, from the rows before. -/
theorem uu_eq (t : Nat) : -uu ld kk b km v s0 t = ∑ q, kk t q * Real.exp (cs ld t q) * s0 q
    + ∑ s ∈ Finset.range t, gr ld kk km t s * v s + ∑ s ∈ Finset.range t, gr ld kk b t s * uu ld kk b km v s0 s := by
  have e : -uu ld kk b km v s0 t = ∑ q, st ld kk b km v s0 t q * kk t q := by unfold uu; ring
  rw [e]
  simp only [st_eq ld kk b km v s0 t, gr, Finset.sum_mul]
  rw [Finset.sum_comm, Finset.sum_comm (s := Finset.range t), ← Finset.sum_add_distrib, ← Finset.sum_add_distrib]
  refine Finset.sum_congr rfl fun q _ => ?_
  rw [add_assoc, ← Finset.sum_add_distrib]
  rw [show Real.exp (cs ld t q) * (s0 q + ∑ s ∈ Finset.range t, Real.exp (0 - cs ld (s + 1) q) * (v s * km s q + uu ld kk b km v s0 s * b s q)) * kk t q
    = kk t q * Real.exp (cs ld t q) * s0 q + kk t q * Real.exp (cs ld t q) * ∑ s ∈ Finset.range t, Real.exp (0 - cs ld (s + 1) q) * (v s * km s q + uu ld kk b km v s0 s * b s q) by ring]
  rw [Finset.mul_sum]
  congr 1
  refine Finset.sum_congr rfl fun s _ => ?_
  ring

open Matrix in
/-- Powers of a strictly lower triangular matrix vanish ever lower. -/
theorem pow_zero_of {N : Nat} (L : Matrix (Fin N) (Fin N) ℝ) (hL : ∀ t s, t.val ≤ s.val → L t s = 0) (k : Nat) :
    ∀ t s : Fin N, t.val < s.val + k → (L ^ k) t s = 0 := by
  induction k with
  | zero => intro t s h; simp only [pow_zero, Matrix.one_apply]; rw [if_neg]; intro e; subst e; omega
  | succ k ih =>
    intro t s h
    rw [pow_succ, Matrix.mul_apply]
    refine Finset.sum_eq_zero fun r _ => ?_
    by_cases hr : t.val < r.val + k
    · rw [ih t r hr, zero_mul]
    · rw [hL r s (by omega), mul_zero]

/-- Three products solve the system of the identity plus a strictly lower triangular matrix of eight rows. -/
theorem solve (L : Fin 8 → Fin 8 → ℝ) (hL : ∀ t s, t.val ≤ s.val → L t s = 0) (x w z1 z2 z3 : Fin 8 → ℝ) (p1 p2 : Fin 8 → Fin 8 → ℝ)
    (hw : ∀ t, w t = x t - ∑ s, L t s * w s) (h1 : ∀ t, z1 t = x t - ∑ s, L t s * x s)
    (hp1 : ∀ t s, p1 t s = ∑ r, L t r * L r s) (h2 : ∀ t, z2 t = z1 t + ∑ s, p1 t s * z1 s)
    (hp2 : ∀ t s, p2 t s = ∑ r, p1 t r * p1 r s) (h3 : ∀ t, z3 t = z2 t + ∑ s, p2 t s * z2 s) : z3 = w := by
  let M : Matrix (Fin 8) (Fin 8) ℝ := Matrix.of L
  have hM : M ^ 8 = 0 := by
    ext t s
    exact pow_zero_of M hL 8 t s (by omega)
  have q1 : Matrix.of p1 = M ^ 2 := by ext t s; rw [pow_two, Matrix.mul_apply]; exact hp1 t s
  have q2 : Matrix.of p2 = M ^ 4 := by
    rw [show M ^ 4 = M ^ 2 * M ^ 2 by rw [← pow_add], ← q1]; ext t s; rw [Matrix.mul_apply]; exact hp2 t s
  have e0 : x = (1 + M).mulVec w := by
    funext t; rw [Matrix.add_mulVec, Matrix.one_mulVec]
    show x t = w t + ∑ s, L t s * w s
    rw [hw t]; ring
  have e1 : z1 = (1 - M).mulVec x := by
    funext t; rw [Matrix.sub_mulVec, Matrix.one_mulVec]; exact h1 t
  have e2 : z2 = (1 + M ^ 2).mulVec z1 := by
    funext t; rw [Matrix.add_mulVec, Matrix.one_mulVec, ← q1]; exact h2 t
  have e3 : z3 = (1 + M ^ 4).mulVec z2 := by
    funext t; rw [Matrix.add_mulVec, Matrix.one_mulVec, ← q2]; exact h3 t
  rw [e3, e2, e1, e0, Matrix.mulVec_mulVec, Matrix.mulVec_mulVec, Matrix.mulVec_mulVec]
  rw [show (1 + M ^ 4) * (1 + M ^ 2) * (1 - M) * (1 + M) = 1 - M ^ 8 by noncomm_ring, hM, sub_zero, Matrix.one_mulVec]

/-- A sum over the rows before one. -/
theorem sum_lt8 (f g : Nat → ℝ) (t : Nat) (ht : t ≤ 8) :
    (∑ s : Fin 8, (if s.val < t then f s.val else 0) * g s.val) = ∑ s ∈ Finset.range t, f s * g s := by
  rw [Fin.sum_univ_eq_sum_range (fun s => (if s < t then f s else 0) * g s) 8]
  simp only [ite_mul, zero_mul]
  rw [← Finset.sum_filter]
  congr 1
  ext s; simp only [Finset.mem_filter, Finset.mem_range]; omega

/-- The block's own order of computing the state after eight rows. -/
theorem block (x z1 z2 z3 u : Fin 8 → ℝ) (p1 p2 : Fin 8 → Fin 8 → ℝ)
    (hx : ∀ t : Fin 8, x t = (∑ q, kk t.val q * Real.exp (cs ld t.val q) * s0 q) + ∑ s : Fin 8, (if s.val < t.val then gr ld kk km t.val s.val else 0) * v s.val)
    (h1 : ∀ t : Fin 8, z1 t = x t - ∑ s : Fin 8, (if s.val < t.val then gr ld kk b t.val s.val else 0) * x s)
    (hp1 : ∀ t s : Fin 8, p1 t s = ∑ r : Fin 8, (if r.val < t.val then gr ld kk b t.val r.val else 0) * (if s.val < r.val then gr ld kk b r.val s.val else 0))
    (h2 : ∀ t, z2 t = z1 t + ∑ s, p1 t s * z1 s)
    (hp2 : ∀ t s, p2 t s = ∑ r, p1 t r * p1 r s) (h3 : ∀ t, z3 t = z2 t + ∑ s, p2 t s * z2 s)
    (hu : ∀ t, u t = 0 - z3 t) (j : Fin n) :
    s0 j * Real.exp (cs ld 8 j) + (∑ s : Fin 8, v s.val * (km s.val j * Real.exp (cs ld 8 j - cs ld (s.val + 1) j)))
      + (∑ s : Fin 8, u s * (b s.val j * Real.exp (cs ld 8 j - cs ld (s.val + 1) j))) = st ld kk b km v s0 8 j := by
  have hz : z3 = fun t : Fin 8 => -uu ld kk b km v s0 t.val := by
    refine solve (fun t s => if s.val < t.val then gr ld kk b t.val s.val else 0) (fun t s h => if_neg (by omega)) x _ z1 z2 z3 p1 p2
      (fun t => ?_) h1 hp1 h2 hp2 h3
    have ht := t.isLt
    rw [uu_eq, hx, sum_lt8 _ _ _ (by omega)]
    have e := sum_lt8 (fun s => gr ld kk b t.val s) (fun s => uu ld kk b km v s0 s) t.val (by omega)
    rw [← e]
    simp only [mul_neg, Finset.sum_neg_distrib]
    ring
  have hu' : ∀ t : Fin 8, u t = uu ld kk b km v s0 t.val := fun t => by rw [hu, hz]; simp
  rw [st_eq, mul_add, Finset.mul_sum, ← Fin.sum_univ_eq_sum_range (fun s => Real.exp (cs ld 8 j) * (Real.exp (0 - cs ld (s + 1) j) * (v s * km s j + uu ld kk b km v s0 s * b s j))) 8,
    add_assoc, ← Finset.sum_add_distrib]
  congr 1
  · ring
  · refine Finset.sum_congr rfl fun s _ => ?_
    rw [hu', show cs ld 8 j - cs ld (s.val + 1) j = cs ld 8 j + (0 - cs ld (s.val + 1) j) by ring, Real.exp_add]
    ring

/-- Rows with no decay, no removal and no value leave the state. -/
theorem st_pad (h0 : ∀ t j, 4 ≤ t → ld t j = 0) (h1 : ∀ t j, 4 ≤ t → kk t j = 0) (h2 : ∀ t, 4 ≤ t → v t = 0) :
    st ld kk b km v s0 8 = st ld kk b km v s0 4 := by
  have e : ∀ t, 4 ≤ t → st ld kk b km v s0 (t + 1) = st ld kk b km v s0 t := by
    intro t ht
    funext j
    simp [st, h0 t j ht, h1 t _ ht, h2 t ht]
  rw [e 7 (by omega), e 6 (by omega), e 5 (by omega), e 4 (by omega)]

end Cert.Rwkv.R
end
end
-- ==== Proof.RwkvVal.lean ====
/-
The recurrence with the delta rule on the sample batch: what the body's loads are, and each stage of a head's state at an
index, over the launch's arrays.
-/
module
public import proofs.«01_k».proof.Proof.RwkvBody
public import proofs.«01_k».proof.Proof.RwkvReal
public import proofs.«01_k».proof.Proof.Samp

@[expose] public section
set_option maxRecDepth 16384
set_option maxHeartbeats 2000000
noncomputable section
namespace Cert.Rwkv
open Cert.Kernel8Ideal Cert.Kernel8Ideal.Gen Idealize.ShloMosaic Idealize.ShloMosaic.TcCoe Idealize.SL.Sem
open Cert.Arr (N1 N2 N1_at N2_at sp sge_iff sgt_iff sel_bit sel_eq bit01)
open Cert.Samp (N3 N3_at N4 N4_at slt4 sum_le8)

/-- What the call is given: the projected rows, each sequence's row and state before, the mixing weights, the two loras'
    biases and second factors, the two key weights. -/
structure In where
  (p : Nat → Nat → EReal) (sh : Nat → Nat → EReal) (s : Nat → Nat → Nat → Nat → EReal)
  (mu w0 : Nat → EReal) (w2 : Nat → Nat → EReal) (a0 : Nat → EReal) (a2 : Nat → Nat → EReal) (kk ka : Nat → EReal)

section
variable (I : In) (b r : Nat)
/-- Column `c` of row `r` of sequence `b`, mixed with the row before it by the weight at `m`. -/
def mx (c m : Nat) : EReal := I.p (8192 + 8 * b + r) c
  + ((if r = 0 then I.sh b m else I.p (8192 + 8 * b + (r - 1)) c) - I.p (8192 + 8 * b + r) c) * I.mu m
/-- The keys. -/
def kx (j : Nat) : EReal := mx I b r (6144 + j) (1024 + j)
/-- The values. -/
def vx (j : Nat) : EReal := mx I b r (7168 + j) (2048 + j)
/-- The rows of the loras. -/
def xx (l : Nat) : EReal := mx I b r (14336 + l) (3072 + l)
/-- The decays' lora. -/
def wx (j : Nat) : EReal := I.w0 j + ∑ l : Fin 64, Ideal.tanh (xx I b r l.val) * I.w2 l.val j
/-- The decays' logarithms. -/
def lx (j : Nat) : EReal := 0 - Ideal.exp (0 - sp (0 - wx I b r j) - Ideal.ofBits .f32 1056964608#32)
/-- The learning rates. -/
def ax (j : Nat) : EReal := Ideal.logistic (I.a0 j + ∑ l : Fin 64, xx I b r (64 + l.val) * I.a2 l.val j)
/-- The keys to be removed, of any length. -/
def gx (j : Nat) : EReal := kx I b r j * I.kk j
/-- The keys to be written. -/
def hx (j : Nat) : EReal := kx I b r j * (1 + (ax I b r j - 1) * I.ka j)
/-- The keys to be removed, of length one within a head. -/
def nx (h j : Nat) : EReal := Ideal.div (gx I b r (64 * h + j))
  (max (Ideal.sqrt (∑ q : Fin 64, gx I b r (64 * h + q.val) * gx I b r (64 * h + q.val))) (Ideal.ofBits .f32 730643660#32))
end

variable (m : (ℓ : Loc nD τ sig) → Buf (Elt Ideal) ℓ) (c : Dev nD)
/-- The launch's arrays, read at natural numbers. -/
def inp : In where
  p := N2 (a := 9216) (b := 15488) (m ((c : Thread nD τ).loc main_arg0))
  sh := N2 (a := 128) (b := 3360) (m ((c : Thread nD τ).loc main_arg1))
  s := N4 (a := 128) (b := 16) (d := 64) (e := 64) (m ((c : Thread nD τ).loc main_arg2))
  mu := N1 (a := 3360) (m ((c : Thread nD τ).loc main_arg3))
  w0 := N1 (a := 1024) (m ((c : Thread nD τ).loc main_arg4))
  w2 := N2 (a := 64) (b := 1024) (m ((c : Thread nD τ).loc main_arg5))
  a0 := N1 (a := 1024) (m ((c : Thread nD τ).loc main_arg6))
  a2 := N2 (a := 64) (b := 1024) (m ((c : Thread nD τ).loc main_arg7))
  kk := N1 (a := 1024) (m ((c : Thread nD τ).loc main_arg9))
  ka := N1 (a := 1024) (m ((c : Thread nD τ).loc main_arg10))
variable (t : Fin cfg0.N)
/-- The key rows of point `t`. -/
theorem X1_at (x : S8x1024.Idx) : X0_1 m c t x = (inp m c).p (8192 + 8 * t.val + (x 0).val) (6144 + (x 1).val) := by
  have hi : win0_1.index t 0 = 1024 + t.val ∧ win0_1.index t 1 = 6 := by revert t; decide +kernel
  unfold X0_1 Pipeline.Window.fill
  rw [dif_pos (moved0_1 t x)]
  unfold iblk
  rw [View.read_apply]
  show V m c main_arg0 _ = _
  rw [V_main_arg0]
  refine N2_at (a := 9216) (b := 15488) _ _ _ _ ?_ ?_
  · show win0_1.index t 0 * 8 + 1 * (x 0).val = _; rw [hi.1]; omega
  · show win0_1.index t 1 * 1024 + 1 * (x 1).val = _; rw [hi.2]; omega
/-- The value rows. -/
theorem X2_at (x : S8x1024.Idx) : X0_2 m c t x = (inp m c).p (8192 + 8 * t.val + (x 0).val) (7168 + (x 1).val) := by
  have hi : win0_2.index t 0 = 1024 + t.val ∧ win0_2.index t 1 = 7 := by revert t; decide +kernel
  unfold X0_2 Pipeline.Window.fill
  rw [dif_pos (moved0_2 t x)]
  unfold iblk
  rw [View.read_apply]
  show V m c main_arg0 _ = _
  rw [V_main_arg0]
  refine N2_at (a := 9216) (b := 15488) _ _ _ _ ?_ ?_
  · show win0_2.index t 0 * 8 + 1 * (x 0).val = _; rw [hi.1]; omega
  · show win0_2.index t 1 * 1024 + 1 * (x 1).val = _; rw [hi.2]; omega
/-- The loras' rows. -/
theorem X3_at (x : S8x512.Idx) : X0_3 m c t x = (inp m c).p (8192 + 8 * t.val + (x 0).val) (14336 + (x 1).val) := by
  have hi : win0_3.index t 0 = 1024 + t.val ∧ win0_3.index t 1 = 28 := by revert t; decide +kernel
  unfold X0_3 Pipeline.Window.fill
  rw [dif_pos (moved0_3 t x)]
  unfold iblk
  rw [View.read_apply]
  show V m c main_arg0 _ = _
  rw [V_main_arg0]
  refine N2_at (a := 9216) (b := 15488) _ _ _ _ ?_ ?_
  · show win0_3.index t 0 * 8 + 1 * (x 0).val = _; rw [hi.1]; omega
  · show win0_3.index t 1 * 512 + 1 * (x 1).val = _; rw [hi.2]; omega
/-- The row before, at the columns used. -/
theorem X4_at (x : S1x1x3584.Idx) (hx : (x 2).val < 3360) : iblk m c 4 t x = (inp m c).sh t.val (x 2).val := by
  have hi : win0_4.index t 0 = t.val ∧ win0_4.index t 1 = 0 ∧ win0_4.index t 2 = 0 := by revert t; decide +kernel
  have h0 : (x 0).val = 0 := by have := (x 0).isLt; simp at this; omega
  have h1 : (x 1).val = 0 := by have := (x 1).isLt; simp at this; omega
  have h : ∀ (u : Fin 128) (v : Fin 1) (w : Fin 3584), w.val < 3360 → V m c main_v14 (ix3 u v w) = (inp m c).sh u.val w.val := by
    intro u v w hw
    after_reads_at
    simp only [hw, dite_true, if_true]
    exact N2_at (a := 128) (b := 3360) _ _ _ _ (by simp) (by simp)
  unfold iblk
  rw [View.read_apply]
  have e : ((cfg0.win 4).blk t).view.emb x = ix3 (⟨t.val, lt_of_lt_of_eq t.isLt N_0⟩ : Fin 128) (0 : Fin 1) (⟨(x 2).val, lt_trans hx (by decide)⟩ : Fin 3584) := by
    funext a
    match a with
    | ⟨0, _⟩ => exact Fin.ext (by show win0_4.index t 0 * 1 + 1 * (x 0).val = t.val; rw [hi.1]; omega)
    | ⟨1, _⟩ => exact Fin.ext (by show win0_4.index t 1 * 1 + 1 * (x 1).val = 0; rw [hi.2.1]; omega)
    | ⟨2, _⟩ => exact Fin.ext (by show win0_4.index t 2 * 3584 + 1 * (x 2).val = (x 2).val; rw [hi.2.2]; omega)
  refine (congrArg (V m c main_v14) e).trans (h _ _ _ hx)
/-- The state before. -/
theorem X5_at (x : S1x16x64x64.Idx) : iblk m c 5 t x = (inp m c).s t.val (x 1).val (x 2).val (x 3).val := by
  have hi : win0_5.index t 0 = t.val ∧ win0_5.index t 1 = 0 ∧ win0_5.index t 2 = 0 ∧ win0_5.index t 3 = 0 := by revert t; decide +kernel
  have h0 : (x 0).val = 0 := by have := (x 0).isLt; simp at this; omega
  unfold iblk
  rw [View.read_apply]
  show V m c main_arg2 _ = _
  rw [V_main_arg2]
  refine N4_at (a := 128) (b := 16) (d := 64) (e := 64) _ _ _ _ _ _ ?_ ?_ ?_ ?_
  · show win0_5.index t 0 * 1 + 1 * (x 0).val = _; rw [hi.1]; omega
  · show win0_5.index t 1 * 16 + 1 * (x 1).val = _; rw [hi.2.1]; omega
  · show win0_5.index t 2 * 64 + 1 * (x 2).val = _; rw [hi.2.2.1]; omega
  · show win0_5.index t 3 * 64 + 1 * (x 3).val = _; rw [hi.2.2.2]; omega
/-- The mixing weights, at the columns used. -/
theorem X6_at (x : S1x3584.Idx) (hx : (x 1).val < 3360) : iblk m c 6 t x = (inp m c).mu (x 1).val := by
  have hi : win0_6.index t 0 = 0 ∧ win0_6.index t 1 = 0 := by revert t; decide +kernel
  have h0 : (x 0).val = 0 := by have := (x 0).isLt; simp at this; omega
  have h : ∀ (v : Fin 1) (w : Fin 3584), w.val < 3360 → V m c main_v4 (ix2 v w) = (inp m c).mu w.val := by
    intro v w hw
    after_reads_at
    simp only [hw, dite_true, if_true]
    exact N1_at (a := 3360) _ _ _ (by simp)
  unfold iblk
  rw [View.read_apply]
  have e : ((cfg0.win 6).blk t).view.emb x = ix2 (0 : Fin 1) (⟨(x 1).val, lt_trans hx (by decide)⟩ : Fin 3584) := by
    funext a
    match a with
    | ⟨0, _⟩ => exact Fin.ext (by show win0_6.index t 0 * 1 + 1 * (x 0).val = 0; rw [hi.1]; omega)
    | ⟨1, _⟩ => exact Fin.ext (by show win0_6.index t 1 * 3584 + 1 * (x 1).val = (x 1).val; rw [hi.2]; omega)
  refine (congrArg (V m c main_v4) e).trans (h _ _ hx)
/-- The decays' bias. -/
theorem X7_at (x : S1x1024.Idx) : iblk m c 7 t x = (inp m c).w0 (x 1).val := by
  have hi : win0_7.index t 0 = 0 ∧ win0_7.index t 1 = 0 := by revert t; decide +kernel
  have h : ∀ y : S1x1024.Idx, V m c main_v5 y = (inp m c).w0 (y 1).val := by
    intro y
    after_reads_at
    exact N1_at (a := 1024) _ _ _ (by simp)
  unfold iblk
  rw [View.read_apply]
  refine (h _).trans (congrArg (inp m c).w0 ?_)
  show win0_7.index t 1 * 1024 + 1 * (x 1).val = (x 1).val; rw [hi.2]; omega
/-- The decays' second factor. -/
theorem X8_at (x : S64x1024.Idx) : iblk m c 8 t x = (inp m c).w2 (x 0).val (x 1).val := by
  have hi : win0_8.index t 0 = 0 ∧ win0_8.index t 1 = 0 := by revert t; decide +kernel
  unfold iblk
  rw [View.read_apply]
  show V m c main_arg5 _ = _
  rw [V_main_arg5]
  refine N2_at (a := 64) (b := 1024) _ _ _ _ ?_ ?_
  · show win0_8.index t 0 * 64 + 1 * (x 0).val = _; rw [hi.1]; omega
  · show win0_8.index t 1 * 1024 + 1 * (x 1).val = _; rw [hi.2]; omega
/-- The learning rates' bias. -/
theorem X9_at (x : S1x1024.Idx) : iblk m c 9 t x = (inp m c).a0 (x 1).val := by
  have hi : win0_9.index t 0 = 0 ∧ win0_9.index t 1 = 0 := by revert t; decide +kernel
  have h : ∀ y : S1x1024.Idx, V m c main_v6 y = (inp m c).a0 (y 1).val := by
    intro y
    after_reads_at
    exact N1_at (a := 1024) _ _ _ (by simp)
  unfold iblk
  rw [View.read_apply]
  refine (h _).trans (congrArg (inp m c).a0 ?_)
  show win0_9.index t 1 * 1024 + 1 * (x 1).val = (x 1).val; rw [hi.2]; omega
/-- The learning rates' second factor. -/
theorem X10_at (x : S64x1024.Idx) : iblk m c 10 t x = (inp m c).a2 (x 0).val (x 1).val := by
  have hi : win0_10.index t 0 = 0 ∧ win0_10.index t 1 = 0 := by revert t; decide +kernel
  unfold iblk
  rw [View.read_apply]
  show V m c main_arg7 _ = _
  rw [V_main_arg7]
  refine N2_at (a := 64) (b := 1024) _ _ _ _ ?_ ?_
  · show win0_10.index t 0 * 64 + 1 * (x 0).val = _; rw [hi.1]; omega
  · show win0_10.index t 1 * 1024 + 1 * (x 1).val = _; rw [hi.2]; omega
/-- The removed keys' weights. -/
theorem X12_at (x : S1x1024.Idx) : iblk m c 12 t x = (inp m c).kk (x 1).val := by
  have hi : win0_12.index t 0 = 0 ∧ win0_12.index t 1 = 0 := by revert t; decide +kernel
  have h : ∀ y : S1x1024.Idx, V m c main_v7 y = (inp m c).kk (y 1).val := by
    intro y
    after_reads_at
    exact N1_at (a := 1024) _ _ _ (by simp)
  unfold iblk
  rw [View.read_apply]
  refine (h _).trans (congrArg (inp m c).kk ?_)
  show win0_12.index t 1 * 1024 + 1 * (x 1).val = (x 1).val; rw [hi.2]; omega
/-- The written keys' weights. -/
theorem X13_at (x : S1x1024.Idx) : iblk m c 13 t x = (inp m c).ka (x 1).val := by
  have hi : win0_13.index t 0 = 0 ∧ win0_13.index t 1 = 0 := by revert t; decide +kernel
  have h : ∀ y : S1x1024.Idx, V m c main_v8 y = (inp m c).ka (y 1).val := by
    intro y
    after_reads_at
    exact N1_at (a := 1024) _ _ _ (by simp)
  unfold iblk
  rw [View.read_apply]
  refine (h _).trans (congrArg (inp m c).ka ?_)
  show win0_13.index t 1 * 1024 + 1 * (x 1).val = (x 1).val; rw [hi.2]; omega

/-- What point `t` loads. -/
def ldAt : Loads Ideal := blk (X0_0 m c t) (X0_1 m c t) (X0_2 m c t) (X0_3 m c t) (iblk m c 4 t) (iblk m c 5 t) (iblk m c 6 t) (iblk m c 7 t)
  (iblk m c 8 t) (iblk m c 9 t) (iblk m c 10 t) (iblk m c 12 t) (iblk m c 13 t)
/-- The row before, from column 1024 on; -/
theorem p1_at (x : S1x1024.Idx) : (ldAt m c t).p1 x = (inp m c).sh t.val (1024 + (x 1).val) := by
  have h1 : (x 1).val < 1024 := (x 1).isLt
  have e : (ldAt m c t).p1 x = k0_pay4 (iblk m c 4 t) (ix2 (0 : Fin 1) (⟨1024 + (x 1).val, by omega⟩ : Fin 3584)) := by
    show k0_pay4 (iblk m c 4 t) _ = _
    congr 1
    funext d
    have h0 : (x 0).val = 0 := by have := (x 0).isLt; simp at this; omega
    match d with
    | ⟨0, _⟩ => exact Fin.ext (by show 0 + 1 * (x 0).val = 0; omega)
    | ⟨1, _⟩ => exact Fin.ext (by show 1024 + 1 * (x 1).val = 1024 + (x 1).val; omega)
  rw [e]
  pointwise [k0_pay4]
  exact X4_at m c t _ (by show 1024 + (x 1).val < 3360; omega)
/-- the mixing weights from there on. -/
theorem m1_at (x : S1x1024.Idx) : (ldAt m c t).m1 x = (inp m c).mu (1024 + (x 1).val) := by
  have h1 : (x 1).val < 1024 := (x 1).isLt
  refine (X6_at m c t _ (by show 1024 + 1 * (x 1).val < 3360; omega)).trans ?_
  show (inp m c).mu (1024 + 1 * (x 1).val) = _
  congr 1; omega
/-- The row before, from column 2048 on; -/
theorem p2_at (x : S1x1024.Idx) : (ldAt m c t).p2 x = (inp m c).sh t.val (2048 + (x 1).val) := by
  have h1 : (x 1).val < 1024 := (x 1).isLt
  have e : (ldAt m c t).p2 x = k0_pay4 (iblk m c 4 t) (ix2 (0 : Fin 1) (⟨2048 + (x 1).val, by omega⟩ : Fin 3584)) := by
    show k0_pay4 (iblk m c 4 t) _ = _
    congr 1
    funext d
    have h0 : (x 0).val = 0 := by have := (x 0).isLt; simp at this; omega
    match d with
    | ⟨0, _⟩ => exact Fin.ext (by show 0 + 1 * (x 0).val = 0; omega)
    | ⟨1, _⟩ => exact Fin.ext (by show 2048 + 1 * (x 1).val = 2048 + (x 1).val; omega)
  rw [e]
  pointwise [k0_pay4]
  exact X4_at m c t _ (by show 2048 + (x 1).val < 3360; omega)
/-- the mixing weights from there on. -/
theorem m2_at (x : S1x1024.Idx) : (ldAt m c t).m2 x = (inp m c).mu (2048 + (x 1).val) := by
  have h1 : (x 1).val < 1024 := (x 1).isLt
  refine (X6_at m c t _ (by show 2048 + 1 * (x 1).val < 3360; omega)).trans ?_
  show (inp m c).mu (2048 + 1 * (x 1).val) = _
  congr 1; omega
/-- The row before, from column 3072 on; -/
theorem p3_at (x : S1x512.Idx) (h1 : (x 1).val < 288) : (ldAt m c t).p3 x = (inp m c).sh t.val (3072 + (x 1).val) := by
  have e : (ldAt m c t).p3 x = k0_pay4 (iblk m c 4 t) (ix2 (0 : Fin 1) (⟨3072 + (x 1).val, by omega⟩ : Fin 3584)) := by
    show k0_pay4 (iblk m c 4 t) _ = _
    congr 1
    funext d
    have h0 : (x 0).val = 0 := by have := (x 0).isLt; simp at this; omega
    match d with
    | ⟨0, _⟩ => exact Fin.ext (by show 0 + 1 * (x 0).val = 0; omega)
    | ⟨1, _⟩ => exact Fin.ext (by show 3072 + 1 * (x 1).val = 3072 + (x 1).val; omega)
  rw [e]
  pointwise [k0_pay4]
  exact X4_at m c t _ (by show 3072 + (x 1).val < 3360; omega)
/-- the mixing weights from there on. -/
theorem m3_at (x : S1x512.Idx) (h1 : (x 1).val < 288) : (ldAt m c t).m3 x = (inp m c).mu (3072 + (x 1).val) := by
  refine (X6_at m c t _ (by show 3072 + 1 * (x 1).val < 3360; omega)).trans ?_
  show (inp m c).mu (3072 + 1 * (x 1).val) = _
  congr 1; omega
/-- The state before. -/
theorem st_at (h : Fin 16) (x : S1x64x64.Idx) : (ldAt m c t).st h x = (inp m c).s t.val h.val (x 1).val (x 2).val := by
  have e : (ldAt m c t).st h x = k0_pay5 (iblk m c 5 t) (ix3 h (x 1) (x 2)) := by
    show k0_pay5 (iblk m c 5 t) _ = _
    congr 1
    funext d
    have h0 : (x 0).val = 0 := by have := (x 0).isLt; simp at this; omega
    match d with
    | ⟨0, _⟩ => exact Fin.ext (by show h.val + 1 * (x 0).val = h.val; omega)
    | ⟨1, _⟩ => exact Fin.ext (by show 0 + 1 * (x 1).val = (x 1).val; omega)
    | ⟨2, _⟩ => exact Fin.ext (by show 0 + 1 * (x 2).val = (x 2).val; omega)
  rw [e]
  pointwise [k0_pay5]
  exact X5_at m c t _

/-- A row rolled by one, the first replaced, is the row before. -/
theorem roll (f : Nat → EReal) (a : EReal) (r : Nat) (hr : r < 8) : (if r = 0 then a else f ((r + 8 - 1) % 8)) = if r = 0 then a else f (r - 1) := by
  split_ifs
  · rfl
  · congr 1; omega
/-- The key rows. -/
theorem KR_at (r : Fin 8) (k : Fin 1024) : KR (ldAt m c t) (ix2 r k) = kx (inp m c) t.val r.val k.val := by
  have hr := r.isLt
  unfold KR kx mx
  pointwise [k0_pay11, k0_pay8, sel_eq _ _ (lt_trans hr (by decide)) (show 0 < 2 ^ 31 by decide)]
  simp only [show (ldAt m c t).kr = X0_1 m c t from rfl, X1_at, p1_at, m1_at, ix2_0, ix2_1]
  rw [← roll (fun x => (inp m c).p (8192 + 8 * t.val + x) (6144 + k.val)) _ _ hr]
/-- The value rows. -/
theorem VR_at (r : Fin 8) (k : Fin 1024) : VR (ldAt m c t) (ix2 r k) = vx (inp m c) t.val r.val k.val := by
  have hr := r.isLt
  unfold VR vx mx
  pointwise [k0_pay13, iotaR, sel_eq _ _ (lt_trans hr (by decide)) (show 0 < 2 ^ 31 by decide)]
  simp only [show (ldAt m c t).vr = X0_2 m c t from rfl, X2_at, p2_at, m2_at, ix2_0, ix2_1]
  rw [← roll (fun x => (inp m c).p (8192 + 8 * t.val + x) (7168 + k.val)) _ _ hr]
/-- The loras' rows. -/
theorem XL_at (r : Fin 8) (k : Fin 512) (hk : k.val < 288) :
    k0_pay17 (ldAt m c t).lr (PL (ldAt m c t)) (ldAt m c t).m3 (ix2 r k) = xx (inp m c) t.val r.val k.val := by
  have hr := r.isLt
  unfold PL xx mx
  pointwise [k0_pay17, k0_pay14, iotaR, sel_eq _ _ (lt_trans hr (by decide)) (show 0 < 2 ^ 31 by decide)]
  rw [p3_at m c t _ (by exact hk), m3_at m c t _ (by exact hk)]
  simp only [show (ldAt m c t).lr = X0_3 m c t from rfl, X3_at, ix2_0, ix2_1]
  rw [← roll (fun x => (inp m c).p (8192 + 8 * t.val + x) (14336 + k.val)) _ _ hr]
/-- The decays' logarithms, before the padding is cut. -/
theorem LR_at (r : Fin 8) (k : Fin 1024) : LR (ldAt m c t) (ix2 r k) = lx (inp m c) t.val r.val k.val := by
  unfold LR lx wx sp
  pointwise [k0_pay20]
  rw [if_neg (not_not.mpr rfl)]
  have e : ∀ x : Fin 64, k0_pay17 (ldAt m c t).lr (PL (ldAt m c t)) (ldAt m c t).m3 (ix2 r (⟨x.val, by omega⟩ : Fin 512)) = xx (inp m c) t.val r.val x.val :=
    fun x => XL_at m c t r _ (by show x.val < 288; omega)
  have e0 : (ldAt m c t).w0 (ix2 0 k) = (inp m c).w0 k.val := X7_at m c t _
  have e2 : ∀ x : Fin 64, (ldAt m c t).w2 (ix2 x k) = (inp m c).w2 x.val k.val := fun x => X8_at m c t _
  simp only [e, e0, e2, Ideal.absf_def]
/-- The rows of the learning rates' lora. -/
theorem XA_at (r : Fin 8) (l : Fin 64) : XA (ldAt m c t) (ix2 r l) = xx (inp m c) t.val r.val (64 + l.val) := by
  unfold XA
  pointwise [k0_pay18]
  exact XL_at m c t r _ (by show 64 + l.val < 288; omega)
/-- The learning rates. -/
theorem AA_at (r : Fin 8) (k : Fin 1024) : AA (ldAt m c t) (ix2 r k) = ax (inp m c) t.val r.val k.val := by
  unfold AA ax
  pointwise [k0_pay21]
  have e0 : (ldAt m c t).a0 (ix2 0 k) = (inp m c).a0 k.val := X9_at m c t _
  have e2 : ∀ x : Fin 64, (ldAt m c t).a2 (ix2 x k) = (inp m c).a2 x.val k.val := fun x => X10_at m c t _
  simp only [XA_at, e0, e2]
/-- The decays' logarithms. -/
theorem LD_at (r : Fin 8) (k : Fin 1024) : LD (ldAt m c t) (ix2 r k) = if r.val < 4 then lx (inp m c) t.val r.val k.val else 0 := by
  unfold LD
  pointwise [k0_pay24, k0_pay23, iotaR]
  rw [slt4, sel_bit, LR_at]
/-- The keys to be removed, of any length. -/
theorem KK_at (r : Fin 8) (k : Fin 1024) : KK (ldAt m c t) (ix2 r k) = if r.val < 4 then gx (inp m c) t.val r.val k.val else 0 := by
  have e0 : (ldAt m c t).kk (ix2 0 k) = (inp m c).kk k.val := X12_at m c t _
  unfold KK gx
  pointwise [k0_pay25, k0_pay23, iotaR]
  rw [slt4, sel_bit, KR_at, e0]
/-- The keys to be written. -/
theorem KM_at (r : Fin 8) (k : Fin 1024) : KM (ldAt m c t) (ix2 r k) = if r.val < 4 then hx (inp m c) t.val r.val k.val else 0 := by
  have e0 : (ldAt m c t).ka (ix2 0 k) = (inp m c).ka k.val := X13_at m c t _
  unfold KM hx
  rw [← AA_at m c t]
  unfold AA
  pointwise [k0_pay26, k0_pay23, iotaR]
  rw [slt4, sel_bit, KR_at, e0]
/-- The values. -/
theorem VM_at (r : Fin 8) (k : Fin 1024) : VM (ldAt m c t) (ix2 r k) = if r.val < 4 then vx (inp m c) t.val r.val k.val else 0 := by
  unfold VM
  pointwise [k0_pay27, k0_pay23, iotaR]
  rw [slt4, sel_bit, VR_at]
/-- A head's column among the 1024. -/
def col (h : Fin 16) (q : Fin 64) : Fin 1024 := ⟨64 * h.val + q.val, by omega⟩
/-- A head's columns, read at an index. -/
theorem hsl_at (h : Fin 16) (x : FVec Ideal S8x1024 .f32) (r : Fin 8) (q : Fin 64) : hsl h x (ix2 r q) = x (ix2 r (col h q)) := by
  unfold hsl col
  pointwise []
/-- The keys to be removed, of length one. -/
theorem KN_at (h : Fin 16) (r : Fin 8) (q : Fin 64) : KN (ldAt m c t) h (ix2 r q)
    = if r.val < 4 then nx (inp m c) t.val r.val h.val q.val else Ideal.div 0 (max (Ideal.sqrt (∑ q : Fin 64, 0 * 0)) (Ideal.ofBits .f32 730643660#32)) := by
  unfold KN nx
  pointwise []
  simp only [hsl_at, KK_at, col]
  split_ifs <;> rfl
end Cert.Rwkv
end
end
-- ==== Proof.RwkvFin.lean ====
/-
The recurrence with the delta rule on the sample batch: under finite inputs every value it is made from is a real.
-/
module
public import proofs.«01_k».proof.Proof.RwkvVal
public import proofs.«01_k».proof.Proof.Recur

@[expose] public section
set_option maxHeartbeats 2000000
noncomputable section
namespace Cert.Rwkv
open Idealize.ShloMosaic
open Cert.Arr (sp)

/-- A real among the extended reals. -/
def Re (x : EReal) : Prop := ∃ r : ℝ, x = (r : EReal)
/-- It is below infinity. -/
theorem Re.lt {x : EReal} (h : Re x) : x < ⊤ := by obtain ⟨r, rfl⟩ := h; exact EReal.coe_lt_top r
/-- It is its real part. -/
theorem Re.eq {x : EReal} (h : Re x) : x = ((x.toReal : ℝ) : EReal) := by obtain ⟨r, rfl⟩ := h; rfl
/-- Sums of reals are reals; -/
theorem Re.add {x y : EReal} (h : Re x) (g : Re y) : Re (x + y) := by
  obtain ⟨r, rfl⟩ := h; obtain ⟨s, rfl⟩ := g; exact ⟨r + s, (EReal.coe_add r s).symm⟩
/-- differences; -/
theorem Re.sub {x y : EReal} (h : Re x) (g : Re y) : Re (x - y) := by
  obtain ⟨r, rfl⟩ := h; obtain ⟨s, rfl⟩ := g; exact ⟨r - s, (EReal.coe_sub r s).symm⟩
/-- products; -/
theorem Re.mul {x y : EReal} (h : Re x) (g : Re y) : Re (x * y) := by
  obtain ⟨r, rfl⟩ := h; obtain ⟨s, rfl⟩ := g; exact ⟨r * s, (EReal.coe_mul r s).symm⟩
/-- zero; -/
theorem Re.zero : Re 0 := ⟨0, rfl⟩
/-- one; -/
theorem Re.one : Re 1 := ⟨1, rfl⟩
/-- finite sums; -/
theorem Re.sum {ι : Type} (s : Finset ι) (f : ι → EReal) (h : ∀ i ∈ s, Re (f i)) : Re (∑ i ∈ s, f i) :=
  Finset.sum_induction f Re (fun _ _ => Re.add) Re.zero h
/-- exponentials; -/
theorem Re.exp {x : EReal} (h : Re x) : Re (Ideal.exp x) := by
  obtain ⟨r, rfl⟩ := h; exact ⟨_, Ideal.exp_coe r⟩
/-- A quotient by a real other than zero. -/
theorem Re.div {x : EReal} (h : Re x) (s : ℝ) (hs : s ≠ 0) : Re (Ideal.div x (s : EReal)) := by
  obtain ⟨r, rfl⟩ := h
  unfold Ideal.div
  rw [if_neg (by exact_mod_cast hs), ← EReal.coe_inv, ← EReal.coe_mul]
  exact ⟨_, rfl⟩
/-- The sigmoid of any extended real is a real: zero at minus infinity and one at plus infinity. -/
theorem Re.logistic (x : EReal) : Re (Ideal.logistic x) := by
  unfold Ideal.logistic
  induction x with
  | bot =>
    rw [EReal.neg_bot]
    show Re (Ideal.div 1 (1 + ⊤))
    rw [← EReal.coe_one, EReal.coe_add_top]
    unfold Ideal.div
    rw [if_neg (by simp), EReal.inv_top, mul_zero]
    exact Re.zero
  | top =>
    rw [EReal.neg_top]
    show Re (Ideal.div 1 (1 + 0))
    rw [add_zero]
    have := Re.div Re.one 1 one_ne_zero
    rwa [EReal.coe_one] at this
  | coe r =>
    rw [← EReal.coe_neg, Ideal.exp_coe, ← EReal.coe_one, ← EReal.coe_add]
    exact Re.div Re.one _ (by have := Real.exp_pos (-r); linarith)
/-- The smallest length divided by is a positive real. -/
theorem eps_real : ∃ e : ℝ, 0 < e ∧ Ideal.ofBits .f32 730643660#32 = (e : EReal) := by
  refine ⟨_, ?_, by simp [Ideal.ofBits, Ideal.ieee]; rfl⟩
  norm_num
/-- A half is a real. -/
theorem half_real : Re (Ideal.ofBits .f32 1056964608#32) := by
  refine ⟨_, by simp [Ideal.ofBits, Ideal.ieee]; rfl⟩
/-- The softplus of plus infinity is plus infinity. -/
theorem sp_top : sp ⊤ = ⊤ := by
  have e : Ideal.log1p 0 = 0 := by
    unfold Ideal.log1p
    rw [add_zero, ← EReal.coe_one]
    show (if (1 : ℝ) ≤ 0 then _ else _) = _
    rw [if_neg (by norm_num), Real.log_one, EReal.coe_zero]
  unfold sp
  simp [e]
/-- The exponential of a softplus negated and less a half is a real, at any extended real. -/
theorem decay_real (x : EReal) : Re (Ideal.exp (0 - sp x - Ideal.ofBits .f32 1056964608#32)) := by
  by_cases h : x = ⊤
  · rw [h, sp_top]
    have : (0 : EReal) - ⊤ - Ideal.ofBits .f32 1056964608#32 = ⊥ := by simp [sub_eq_add_neg]
    rw [this]
    exact Re.zero
  · obtain ⟨r, _, e⟩ := Cert.Recur.sp_real x (lt_top_iff_ne_top.mpr h)
    exact Re.exp ((Re.zero.sub ⟨r, e⟩).sub half_real)
/-- A root of a sum of squares, kept above the smallest length, is a positive real. -/
theorem len_real {x : EReal} (h : Re x) (h0 : 0 ≤ x) : ∃ e : ℝ, 0 < e ∧ max (Ideal.sqrt x) (Ideal.ofBits .f32 730643660#32) = (e : EReal) := by
  obtain ⟨e, he, ee⟩ := eps_real
  obtain ⟨r, rfl⟩ := h
  have hr : ¬ r < 0 := not_lt.mpr (by exact_mod_cast h0)
  have q : Ideal.sqrt (r : EReal) = ((Real.sqrt r : ℝ) : EReal) := by
    show (if r < 0 then ⊥ else _) = _
    rw [if_neg hr]
  rw [q, ee]
  exact ⟨max (Real.sqrt r) e, lt_max_of_lt_right he, (EReal.coe_strictMono.monotone.map_max).symm⟩
/-- A sum of squares of reals is at least zero. -/
theorem sq_nonneg' (f : Fin 64 → EReal) (h : ∀ i, Re (f i)) : 0 ≤ ∑ i, f i * f i := by
  refine Finset.sum_nonneg fun i _ => ?_
  obtain ⟨r, e⟩ := h i
  rw [e, ← EReal.coe_mul]
  exact_mod_cast mul_self_nonneg r

/-- A square is at least zero. -/
theorem sq_nonneg1 (x : EReal) : 0 ≤ x * x := by
  induction x with
  | bot => simp
  | top => simp
  | coe r => rw [← EReal.coe_mul]; exact_mod_cast mul_self_nonneg r
/-- A sum of squares one of which is of an infinity is infinite. -/
theorem top_sum (f : Fin 64 → EReal) (q : Fin 64) (h : ¬ Re (f q)) : ∑ i, f i * f i = ⊤ := by
  have e : f q * f q = ⊤ := by
    revert h
    induction f q with
    | bot => intro _; simp
    | top => intro _; simp
    | coe r => intro h; exact absurd ⟨r, rfl⟩ h
  have l : f q * f q ≤ ∑ i, f i * f i :=
    Finset.single_le_sum (f := fun i => f i * f i) (fun i _ => sq_nonneg1 (f i)) (Finset.mem_univ q)
  rw [e] at l
  exact top_le_iff.mp l

/-- The keys, values, states and weights that have to be reals are reals. -/
structure Real' (I : In) : Prop where
  hp : ∀ b r j, b < 128 → r < 4 → j < 2048 → Re (I.p (8192 + 8 * b + r) (6144 + j))
  hs : ∀ b j, b < 128 → j < 2048 → Re (I.sh b (1024 + j))
  hst : ∀ b h i j, b < 128 → h < 16 → i < 64 → j < 64 → Re (I.s b h i j)
  hm : ∀ j, j < 2048 → Re (I.mu (1024 + j))
  hka : ∀ j, j < 1024 → Re (I.ka j)

section
variable {I : In} (H : Real' I) {b r : Nat} (hb : b < 128) (hr : r < 4)
include H hb hr
/-- A mixed column is a real where its parts are. -/
theorem mx_real (c m : Nat) (h : ∀ r, r < 4 → Re (I.p (8192 + 8 * b + r) c)) (h2 : Re (I.sh b m)) (h3 : Re (I.mu m)) : Re (mx I b r c m) := by
  unfold mx
  refine (h r hr).add (Re.mul (Re.sub ?_ (h r hr)) h3)
  split_ifs
  · exact h2
  · exact h _ (by omega)
/-- The keys are reals; -/
theorem kx_real (j : Nat) (hj : j < 1024) : Re (kx I b r j) :=
  mx_real H hb hr _ _ (fun r hr => H.hp b r j hb hr (by omega)) (H.hs b j hb (by omega)) (H.hm j (by omega))
/-- the values; -/
theorem vx_real (j : Nat) (hj : j < 1024) : Re (vx I b r j) :=
  mx_real H hb hr _ _ (fun r hr => by have := H.hp b r (1024 + j) hb hr (by omega); rwa [← Nat.add_assoc] at this)
    (by have := H.hs b (1024 + j) hb (by omega); rwa [← Nat.add_assoc] at this) (by have := H.hm (1024 + j) (by omega); rwa [← Nat.add_assoc] at this)
omit H hb hr in
/-- the decays' logarithms, whatever their inputs; -/
theorem lx_real (j : Nat) : Re (lx I b r j) := by
  unfold lx
  exact Re.zero.sub (decay_real _)
omit H hb hr in
/-- the learning rates, whatever their inputs; -/
theorem ax_real (j : Nat) : Re (ax I b r j) := by
  unfold ax
  exact Re.logistic _
/-- the keys to be written; -/
theorem hx_real (j : Nat) (hj : j < 1024) : Re (hx I b r j) :=
  (kx_real H hb hr j hj).mul (Re.one.add (((ax_real j).sub Re.one).mul (H.hka j hj)))
omit H hb hr in
/-- the removed keys of length one, whatever their inputs: where one is infinite the length is infinite and all are zero. -/
theorem nx_real (h j : Nat) (hj : j < 64) : Re (nx I b r h j) := by
  unfold nx
  by_cases g : ∀ q : Fin 64, Re (gx I b r (64 * h + q.val))
  · obtain ⟨e, he, ee⟩ := len_real (Re.sum Finset.univ _ fun q _ => (g q).mul (g q)) (sq_nonneg' _ g)
    rw [ee]
    exact Re.div (g ⟨j, hj⟩) _ (ne_of_gt he)
  · obtain ⟨q, hq⟩ := not_forall.mp g
    rw [top_sum (fun q : Fin 64 => gx I b r (64 * h + q.val)) q hq]
    have : max (Ideal.sqrt ⊤) (Ideal.ofBits .f32 730643660#32) = ⊤ := top_sup_eq _
    rw [this]
    unfold Ideal.div
    rw [if_neg (by simp), EReal.inv_top, mul_zero]
    exact Re.zero
end
/-- Zero over a length is zero. -/
theorem div_len : Ideal.div 0 (max (Ideal.sqrt (∑ q : Fin 64, 0 * 0)) (Ideal.ofBits .f32 730643660#32)) = 0 := by
  obtain ⟨e, he, ee⟩ := len_real (Re.sum (Finset.univ : Finset (Fin 64)) (fun _ => (0 : EReal) * 0) fun q _ => Re.zero.mul Re.zero) (sq_nonneg' (fun _ => 0) fun _ => Re.zero)
  rw [ee]
  exact Ideal.zero_div (by exact_mod_cast ne_of_gt he)

section
variable (I : In) (b h : Nat)
/-- The decays' logarithms as reals, zero past the fourth row; -/
def ldR (t : Nat) (q : Fin 64) : ℝ := if t < 4 then (lx I b t (64 * h + q.val)).toReal else 0
/-- the keys to be removed; -/
def nR (t : Nat) (q : Fin 64) : ℝ := if t < 4 then (nx I b t h q.val).toReal else 0
/-- they times the learning rates; -/
def bR (t : Nat) (q : Fin 64) : ℝ := nR I b h t q * (ax I b t (64 * h + q.val)).toReal
/-- the keys to be written; -/
def kR (t : Nat) (q : Fin 64) : ℝ := if t < 4 then (hx I b t (64 * h + q.val)).toReal else 0
/-- the values; -/
def vR (i : Fin 64) (t : Nat) : ℝ := if t < 4 then (vx I b t (64 * h + i.val)).toReal else 0
/-- the state before. -/
def sR (i : Fin 64) (q : Fin 64) : ℝ := (I.s b h i.val q.val).toReal
/-- The state after the rows. -/
def outR (i q : Fin 64) : ℝ := R.st (ldR I b h) (nR I b h) (bR I b h) (kR I b h) (vR I b h i) (sR I b h i) 4 q
end
end Cert.Rwkv
end
end
-- ==== Proof.RwkvHead.lean ====
/-
The recurrence with the delta rule on the sample batch: the body's state of a head, at finite inputs, is that of the four
steps one after another.
-/
module
public import proofs.«01_k».proof.Proof.RwkvFin

@[expose] public section
set_option maxRecDepth 16384
set_option maxHeartbeats 2000000
noncomputable section
namespace Cert.Rwkv
open Cert.Kernel8Ideal Cert.Kernel8Ideal.Gen Idealize.ShloMosaic Idealize.ShloMosaic.TcCoe Idealize.SL.Sem
open Cert.Arr (sge_iff sgt_iff sel_bit bit01)
open Cert.Samp (sum_le8)
open Cert.Recur (coe_sum)

variable (m : (ℓ : Loc nD τ sig) → Buf (Elt Ideal) ℓ) (c : Dev nD) (t : Fin cfg0.N) (H : Real' (inp m c)) (h : Fin 16)
/-- A point is a sequence. -/
theorem t_lt : t.val < 128 := lt_of_lt_of_eq t.isLt N_0

include H
/-- The decays' logarithms; -/
theorem LD_r (r : Fin 8) (q : Fin 64) : LD (ldAt m c t) (ix2 r (col h q)) = ((ldR (inp m c) t.val h.val r.val q : ℝ) : EReal) := by
  rw [LD_at]; unfold ldR
  split_ifs with hr
  · exact (lx_real _).eq
  · rfl
/-- the keys to be removed; -/
theorem KN_r (r : Fin 8) (q : Fin 64) : KN (ldAt m c t) h (ix2 r q) = ((nR (inp m c) t.val h.val r.val q : ℝ) : EReal) := by
  rw [KN_at, div_len]; unfold nR
  split_ifs with hr
  · exact (nx_real _ _ q.isLt).eq
  · rfl
/-- they times the learning rates; -/
theorem BH_r (r : Fin 8) (q : Fin 64) : BH (ldAt m c t) h (ix2 r q) = ((bR (inp m c) t.val h.val r.val q : ℝ) : EReal) := by
  have e : BH (ldAt m c t) h (ix2 r q) = KN (ldAt m c t) h (ix2 r q) * AA (ldAt m c t) (ix2 r (col h q)) := by
    rw [← hsl_at h (AA (ldAt m c t)) r q]; rfl
  rw [e, KN_r m c t H, AA_at]
  unfold bR
  by_cases hr : r.val < 4
  · rw [EReal.coe_mul]; congr 1
    exact (ax_real _).eq
  · unfold nR; rw [if_neg hr, zero_mul, EReal.coe_zero, zero_mul]
/-- the keys to be written; -/
theorem KM_r (r : Fin 8) (q : Fin 64) : KM (ldAt m c t) (ix2 r (col h q)) = ((kR (inp m c) t.val h.val r.val q : ℝ) : EReal) := by
  rw [KM_at]; unfold kR
  split_ifs with hr
  · exact (hx_real H (t_lt t) hr _ (col h q).isLt).eq
  · rfl
/-- the values; -/
theorem VM_r (r : Fin 8) (q : Fin 64) : VM (ldAt m c t) (ix2 r (col h q)) = ((vR (inp m c) t.val h.val q r.val : ℝ) : EReal) := by
  rw [VM_at]; unfold vR
  split_ifs with hr
  · exact (vx_real H (t_lt t) hr _ (col h q).isLt).eq
  · rfl
/-- the state before. -/
theorem st_r (i q : Fin 64) : (ldAt m c t).st h (ix3 0 i q) = ((sR (inp m c) t.val h.val i q : ℝ) : EReal) := by
  rw [st_at]
  exact (H.hst _ _ _ _ (t_lt t) h.isLt i.isLt q.isLt).eq
/-- The decays' logarithms added up. -/
theorem CU_r (r : Fin 8) (q : Fin 64) : k0_pay30 (LD (ldAt m c t)) i0 i1 (ix2 r (col h q))
    = ((R.cs (ldR (inp m c) t.val h.val) (r.val + 1) q : ℝ) : EReal) := by
  have hr := r.isLt
  have e : k0_pay30 (LD (ldAt m c t)) i0 i1 (ix2 r (col h q)) = ∑ x : Fin 8, FloatOps.sitofp (F := Ideal) .f32 (BitVec.setWidth 32
      (IntOp.cmpi .sge (BitVec.ofNat 32 r.val) (BitVec.ofNat 32 x.val))) * LD (ldAt m c t) (ix2 x (col h q)) := by
    pointwise [k0_pay30, k0_pay28, i0, i1]
  rw [e]
  unfold R.cs
  rw [← coe_sum, ← sum_le8 (fun s => ((ldR (inp m c) t.val h.val s q : ℝ) : EReal)) r.val hr]
  refine Finset.sum_congr rfl fun x _ => ?_
  rw [sge_iff _ _ (lt_trans hr (by decide)) (lt_trans x.isLt (by decide)), bit01, LD_r m c t H]
  split_ifs <;> simp
/-- Their exponentials up to a row; -/
theorem EG_r (r : Fin 8) (q : Fin 64) : k0_pay31 (LD (ldAt m c t)) i0 i1 (ix2 r (col h q))
    = ((Real.exp (R.cs (ldR (inp m c) t.val h.val) (r.val + 1) q) : ℝ) : EReal) := by
  have e : k0_pay31 (LD (ldAt m c t)) i0 i1 (ix2 r (col h q)) = Ideal.exp (k0_pay30 (LD (ldAt m c t)) i0 i1 (ix2 r (col h q))) := rfl
  rw [e, CU_r m c t H, Ideal.exp_coe]
/-- before it; -/
theorem EM_r (r : Fin 8) (q : Fin 64) : k0_pay32 (LD (ldAt m c t)) i0 i1 (ix2 r (col h q))
    = ((Real.exp (R.cs (ldR (inp m c) t.val h.val) r.val q) : ℝ) : EReal) := by
  have e : k0_pay32 (LD (ldAt m c t)) i0 i1 (ix2 r (col h q)) = Ideal.exp (k0_pay30 (LD (ldAt m c t)) i0 i1 (ix2 r (col h q)) - LD (ldAt m c t) (ix2 r (col h q))) := rfl
  have e2 : R.cs (ldR (inp m c) t.val h.val) (r.val + 1) q - ldR (inp m c) t.val h.val r.val q = R.cs (ldR (inp m c) t.val h.val) r.val q := by
    unfold R.cs; rw [Finset.sum_range_succ]; ring
  rw [e, CU_r m c t H, LD_r m c t H, ← EReal.coe_sub, e2, Ideal.exp_coe]
/-- of their negatives; -/
theorem EI_r (r : Fin 8) (q : Fin 64) : k0_pay33 (LD (ldAt m c t)) i0 i1 (ix2 r (col h q))
    = ((Real.exp (0 - R.cs (ldR (inp m c) t.val h.val) (r.val + 1) q) : ℝ) : EReal) := by
  have e : k0_pay33 (LD (ldAt m c t)) i0 i1 (ix2 r (col h q)) = Ideal.exp (0 - k0_pay30 (LD (ldAt m c t)) i0 i1 (ix2 r (col h q))) := by
    pointwise [k0_pay33]
  rw [e, CU_r m c t H, ← EReal.coe_zero, ← EReal.coe_sub, Ideal.exp_coe]
/-- and after it. -/
theorem EL_r (r : Fin 8) (q : Fin 64) : k0_pay34 (LD (ldAt m c t)) i0 i1 (ix2 r (col h q))
    = ((Real.exp (R.cs (ldR (inp m c) t.val h.val) 8 q - R.cs (ldR (inp m c) t.val h.val) (r.val + 1) q) : ℝ) : EReal) := by
  have e : k0_pay34 (LD (ldAt m c t)) i0 i1 (ix2 r (col h q)) = Ideal.exp (k0_pay30 (LD (ldAt m c t)) i0 i1 (ix2 (7 : Fin 8) (col h q))
      - k0_pay30 (LD (ldAt m c t)) i0 i1 (ix2 r (col h q))) := by
    pointwise [k0_pay34]
  rw [e, CU_r m c t H, CU_r m c t H, ← EReal.coe_sub, Ideal.exp_coe]; rfl
/-- The removed keys times the decays before their rows. -/
theorem Q2_r (r : Fin 8) (q : Fin 64) : Q2 (ldAt m c t) h (ix2 (⟨r.val, by omega⟩ : Fin 16) q)
    = ((nR (inp m c) t.val h.val r.val q * Real.exp (R.cs (ldR (inp m c) t.val h.val) r.val q) : ℝ) : EReal) := by
  rw [EReal.coe_mul, ← KN_r m c t H, ← EM_r m c t H, ← hsl_at h (k0_pay32 (LD (ldAt m c t)) i0 i1) r q]
  unfold Q2
  pointwise []
/-- The written keys over the decays up to their rows; -/
theorem K2_r (r : Fin 8) (q : Fin 64) : K2 (ldAt m c t) h (ix2 (⟨r.val, by omega⟩ : Fin 16) q)
    = ((kR (inp m c) t.val h.val r.val q * Real.exp (0 - R.cs (ldR (inp m c) t.val h.val) (r.val + 1) q) : ℝ) : EReal) := by
  rw [EReal.coe_mul, ← KM_r m c t H, ← EI_r m c t H, ← hsl_at h (KM (ldAt m c t)) r q, ← hsl_at h (k0_pay33 (LD (ldAt m c t)) i0 i1) r q]
  unfold K2
  pointwise []
/-- the removed keys' rates over them. -/
theorem K2_r' (r : Fin 8) (q : Fin 64) : K2 (ldAt m c t) h (ix2 (⟨8 + r.val, by omega⟩ : Fin 16) q)
    = ((bR (inp m c) t.val h.val r.val q * Real.exp (0 - R.cs (ldR (inp m c) t.val h.val) (r.val + 1) q) : ℝ) : EReal) := by
  rw [EReal.coe_mul, ← BH_r m c t H, ← EI_r m c t H, ← hsl_at h (k0_pay33 (LD (ldAt m c t)) i0 i1) r q]
  unfold K2
  pointwise []
/-- Products of removed and written keys; -/
theorem GM_r (r s : Fin 8) : GM (ldAt m c t) h (ix2 (⟨r.val, by omega⟩ : Fin 16) (⟨s.val, by omega⟩ : Fin 16))
    = ((R.gr (ldR (inp m c) t.val h.val) (nR (inp m c) t.val h.val) (kR (inp m c) t.val h.val) r.val s.val : ℝ) : EReal) := by
  unfold GM R.gr
  pointwise []
  rw [← coe_sum]
  refine Finset.sum_congr rfl fun q _ => ?_
  rw [Q2_r m c t H, K2_r m c t H, ← EReal.coe_mul]
/-- of removed keys and rates. -/
theorem GM_r' (r s : Fin 8) : GM (ldAt m c t) h (ix2 (⟨r.val, by omega⟩ : Fin 16) (⟨8 + s.val, by omega⟩ : Fin 16))
    = ((R.gr (ldR (inp m c) t.val h.val) (nR (inp m c) t.val h.val) (bR (inp m c) t.val h.val) r.val s.val : ℝ) : EReal) := by
  unfold GM R.gr
  pointwise []
  rw [← coe_sum]
  refine Finset.sum_congr rfl fun q _ => ?_
  rw [Q2_r m c t H, K2_r' m c t H, ← EReal.coe_mul]
omit H
/-- The order of small numbers as words. -/
theorem gt_iff' (r c : Nat) (hr : r < 2 ^ 31) (hc : c < 2 ^ 31) :
    IntOp.cmpi .sgt (BitVec.ofNat 32 r) (BitVec.ofNat 32 c) = if c < r then 1#1 else 0#1 := by
  by_cases h : c < r <;> simp only [IntOp.cmpi, BitVec.slt, Cert.Arr.toInt_small r hr, Cert.Arr.toInt_small c hc, Nat.cast_lt, h, if_true, if_false, decide_true, decide_false] <;> rfl
/-- The products of the written keys below the diagonal; -/
def lkA (h : Fin 16) (L : Loads Ideal) : FVec Ideal S8x8 .f32 :=
  select (k0_pay29 i0 i1) (extractStridedSlice S8x8 ![0, 0] (GM L h) slices_S16x16_o0_0_S8x8) (broadcast S8x8 (FloatOps.ofBits .f32 0x00000000#32))
/-- of the rates; -/
def lbA (h : Fin 16) (L : Loads Ideal) : FVec Ideal S8x8 .f32 :=
  select (k0_pay29 i0 i1) (extractStridedSlice S8x8 ![0, 8] (GM L h) slices_S16x16_o0_8_S8x8) (broadcast S8x8 (FloatOps.ofBits .f32 0x00000000#32))
/-- what the removed keys read of the state before and of the values; -/
def xA (h : Fin 16) (L : Loads Ideal) : FVec Ideal S8x64 .f32 :=
  addf (extractStridedSlice S8x64 ![0, 0] (k0_pay46 (Q2 L h) (L.st h)) slices_S16x64_o0_0_S8x64)
    (matmul dot_S8x8_S8x64_S8x64_1_0_0_1_n_n (some .fp32) (lkA h L) (hsl h (VM L)) (constant S8x64 .f32 0x00000000#32))
/-- the steps of the solution. -/
def z1A (h : Fin 16) (L : Loads Ideal) : FVec Ideal S8x64 .f32 :=
  subf (xA h L) (matmul dot_S8x8_S8x64_S8x64_1_0_0_1_n_n (some .fp32) (lbA h L) (xA h L) (constant S8x64 .f32 0x00000000#32))
/-- The square; -/
def p1A (h : Fin 16) (L : Loads Ideal) : FVec Ideal S8x8 .f32 :=
  matmul dot_S8x8_S8x8_S8x8_1_0_0_1_n_n (some .fp32) (lbA h L) (lbA h L) (constant S8x8 .f32 0x00000000#32)
/-- the second step; -/
def z2A (h : Fin 16) (L : Loads Ideal) : FVec Ideal S8x64 .f32 :=
  addf (z1A h L) (matmul dot_S8x8_S8x64_S8x64_1_0_0_1_n_n (some .fp32) (p1A h L) (z1A h L) (constant S8x64 .f32 0x00000000#32))
/-- the fourth power; -/
def p2A (h : Fin 16) (L : Loads Ideal) : FVec Ideal S8x8 .f32 :=
  matmul dot_S8x8_S8x8_S8x8_1_0_0_1_n_n (some .fp32) (p1A h L) (p1A h L) (constant S8x8 .f32 0x00000000#32)
/-- the third step. -/
def z3A (h : Fin 16) (L : Loads Ideal) : FVec Ideal S8x64 .f32 :=
  addf (z2A h L) (matmul dot_S8x8_S8x64_S8x64_1_0_0_1_n_n (some .fp32) (p2A h L) (z2A h L) (constant S8x64 .f32 0x00000000#32))
/-- The body's values to be written are the third step's negatives. -/
theorem UU_eq (L : Loads Ideal) : UU L h = subf (broadcast S8x64 (FloatOps.ofBits .f32 0x00000000#32)) (z3A h L) := rfl
/-- A product of an array of eight columns, at an element. -/
theorem mm_at (a : FVec Ideal S8x8 .f32) (b : FVec Ideal S8x64 .f32) (r : Fin 8) (q : Fin 64) :
    matmul dot_S8x8_S8x64_S8x64_1_0_0_1_n_n (some .fp32) a b (constant S8x64 .f32 0x00000000#32) (ix2 r q) = ∑ s : Fin 8, a (ix2 r s) * b (ix2 s q) := by
  pointwise []
/-- A product of two squares. -/
theorem ms_at (a b : FVec Ideal S8x8 .f32) (r q : Fin 8) :
    matmul dot_S8x8_S8x8_S8x8_1_0_0_1_n_n (some .fp32) a b (constant S8x8 .f32 0x00000000#32) (ix2 r q) = ∑ s : Fin 8, a (ix2 r s) * b (ix2 s q) := by
  pointwise []
include H
/-- The written keys' products are reals; -/
theorem lkA_r (r s : Fin 8) : lkA h (ldAt m c t) (ix2 r s) = (((if s.val < r.val then
    R.gr (ldR (inp m c) t.val h.val) (nR (inp m c) t.val h.val) (kR (inp m c) t.val h.val) r.val s.val else 0 : ℝ)) : EReal) := by
  have e : lkA h (ldAt m c t) (ix2 r s) = Scalar.select (IntOp.cmpi .sgt (BitVec.ofNat 32 r.val) (BitVec.ofNat 32 s.val))
      (GM (ldAt m c t) h (ix2 (⟨r.val, by omega⟩ : Fin 16) (⟨s.val, by omega⟩ : Fin 16))) (0 : Ideal .f32) := by
    unfold lkA
    pointwise [k0_pay29, i0, i1]
  rw [e, GM_r m c t H, gt_iff' _ _ (lt_trans r.isLt (by decide)) (lt_trans s.isLt (by decide)), sel_bit]
  by_cases hs : s.val < r.val <;> simp [hs]
/-- so are the rates'. -/
theorem lbA_r (r s : Fin 8) : lbA h (ldAt m c t) (ix2 r s) = (((if s.val < r.val then
    R.gr (ldR (inp m c) t.val h.val) (nR (inp m c) t.val h.val) (bR (inp m c) t.val h.val) r.val s.val else 0 : ℝ)) : EReal) := by
  have e : lbA h (ldAt m c t) (ix2 r s) = Scalar.select (IntOp.cmpi .sgt (BitVec.ofNat 32 r.val) (BitVec.ofNat 32 s.val))
      (GM (ldAt m c t) h (ix2 (⟨r.val, by omega⟩ : Fin 16) (⟨8 + s.val, by omega⟩ : Fin 16))) (0 : Ideal .f32) := by
    unfold lbA
    pointwise [k0_pay29, i0, i1]
  rw [e, GM_r' m c t H, gt_iff' _ _ (lt_trans r.isLt (by decide)) (lt_trans s.isLt (by decide)), sel_bit]
  by_cases hs : s.val < r.val <;> simp [hs]
/-- The reals that are read. -/
def xq (I : In) (b h : Nat) (i : Fin 64) (r : Fin 8) : ℝ := (∑ q, nR I b h r.val q * Real.exp (R.cs (ldR I b h) r.val q) * sR I b h i q)
  + ∑ s : Fin 8, (if s.val < r.val then R.gr (ldR I b h) (nR I b h) (kR I b h) r.val s.val else 0) * vR I b h i s.val
/-- They are the body's. -/
theorem xA_r (r : Fin 8) (i : Fin 64) : xA h (ldAt m c t) (ix2 r i) = ((xq (inp m c) t.val h.val i r : ℝ) : EReal) := by
  have e : xA h (ldAt m c t) (ix2 r i) = (∑ q : Fin 64, Q2 (ldAt m c t) h (ix2 (⟨r.val, by omega⟩ : Fin 16) q) * (ldAt m c t).st h (ix3 0 i q))
      + ∑ s : Fin 8, lkA h (ldAt m c t) (ix2 r s) * VM (ldAt m c t) (ix2 s (col h i)) := by
    rw [← show matmul dot_S8x8_S8x64_S8x64_1_0_0_1_n_n (some .fp32) (lkA h (ldAt m c t)) (hsl h (VM (ldAt m c t))) (constant S8x64 .f32 0x00000000#32) (ix2 r i) = _
      from (mm_at _ _ r i).trans (Finset.sum_congr rfl fun s _ => by rw [hsl_at])]
    unfold xA
    generalize matmul dot_S8x8_S8x64_S8x64_1_0_0_1_n_n (some .fp32) (lkA h (ldAt m c t)) (hsl h (VM (ldAt m c t))) (constant S8x64 .f32 0x00000000#32) = y
    pointwise [k0_pay46, k0_pay45]
  rw [e]
  unfold xq
  rw [EReal.coe_add, ← coe_sum, ← coe_sum]
  congr 1
  · refine Finset.sum_congr rfl fun q _ => ?_
    rw [Q2_r m c t H, st_r m c t H, ← EReal.coe_mul]
  · refine Finset.sum_congr rfl fun s _ => ?_
    rw [lkA_r m c t H, VM_r m c t H, ← EReal.coe_mul]
/-- The reals of the solution's steps; -/
def lq (I : In) (b h : Nat) (r s : Fin 8) : ℝ := if s.val < r.val then R.gr (ldR I b h) (nR I b h) (bR I b h) r.val s.val else 0
/-- the first; -/
def z1q (I : In) (b h : Nat) (i : Fin 64) (r : Fin 8) : ℝ := xq I b h i r - ∑ s : Fin 8, lq I b h r s * xq I b h i s
/-- the square; -/
def p1q (I : In) (b h : Nat) (r s : Fin 8) : ℝ := ∑ u : Fin 8, lq I b h r u * lq I b h u s
/-- the second; -/
def z2q (I : In) (b h : Nat) (i : Fin 64) (r : Fin 8) : ℝ := z1q I b h i r + ∑ s : Fin 8, p1q I b h r s * z1q I b h i s
/-- the fourth power; -/
def p2q (I : In) (b h : Nat) (r s : Fin 8) : ℝ := ∑ u : Fin 8, p1q I b h r u * p1q I b h u s
/-- the third. -/
def z3q (I : In) (b h : Nat) (i : Fin 64) (r : Fin 8) : ℝ := z2q I b h i r + ∑ s : Fin 8, p2q I b h r s * z2q I b h i s
/-- They are the body's: the first; -/
theorem z1A_r (r : Fin 8) (i : Fin 64) : z1A h (ldAt m c t) (ix2 r i) = ((z1q (inp m c) t.val h.val i r : ℝ) : EReal) := by
  have e : z1A h (ldAt m c t) (ix2 r i) = xA h (ldAt m c t) (ix2 r i) - ∑ s : Fin 8, lbA h (ldAt m c t) (ix2 r s) * xA h (ldAt m c t) (ix2 s i) := by
    rw [← mm_at]; rfl
  rw [e, xA_r m c t H, z1q, EReal.coe_sub, ← coe_sum]
  congr 1
  refine Finset.sum_congr rfl fun s _ => ?_
  rw [lbA_r m c t H, xA_r m c t H, EReal.coe_mul]; rfl
/-- the square; -/
theorem p1A_r (r s : Fin 8) : p1A h (ldAt m c t) (ix2 r s) = ((p1q (inp m c) t.val h.val r s : ℝ) : EReal) := by
  unfold p1A
  rw [ms_at, p1q, ← coe_sum]
  refine Finset.sum_congr rfl fun u _ => ?_
  rw [lbA_r m c t H, lbA_r m c t H, EReal.coe_mul]; rfl
/-- the second; -/
theorem z2A_r (r : Fin 8) (i : Fin 64) : z2A h (ldAt m c t) (ix2 r i) = ((z2q (inp m c) t.val h.val i r : ℝ) : EReal) := by
  have e : z2A h (ldAt m c t) (ix2 r i) = z1A h (ldAt m c t) (ix2 r i) + ∑ s : Fin 8, p1A h (ldAt m c t) (ix2 r s) * z1A h (ldAt m c t) (ix2 s i) := by
    rw [← mm_at]; rfl
  rw [e, z1A_r m c t H, z2q, EReal.coe_add, ← coe_sum]
  congr 1
  refine Finset.sum_congr rfl fun s _ => ?_
  rw [p1A_r m c t H, z1A_r m c t H, EReal.coe_mul]
/-- the fourth power; -/
theorem p2A_r (r s : Fin 8) : p2A h (ldAt m c t) (ix2 r s) = ((p2q (inp m c) t.val h.val r s : ℝ) : EReal) := by
  unfold p2A
  rw [ms_at, p2q, ← coe_sum]
  refine Finset.sum_congr rfl fun u _ => ?_
  rw [p1A_r m c t H, p1A_r m c t H, EReal.coe_mul]
/-- the third. -/
theorem z3A_r (r : Fin 8) (i : Fin 64) : z3A h (ldAt m c t) (ix2 r i) = ((z3q (inp m c) t.val h.val i r : ℝ) : EReal) := by
  have e : z3A h (ldAt m c t) (ix2 r i) = z2A h (ldAt m c t) (ix2 r i) + ∑ s : Fin 8, p2A h (ldAt m c t) (ix2 r s) * z2A h (ldAt m c t) (ix2 s i) := by
    rw [← mm_at]; rfl
  rw [e, z2A_r m c t H, z3q, EReal.coe_add, ← coe_sum]
  congr 1
  refine Finset.sum_congr rfl fun s _ => ?_
  rw [p2A_r m c t H, z2A_r m c t H, EReal.coe_mul]
/-- The values to be written. -/
theorem UU_r (r : Fin 8) (i : Fin 64) : UU (ldAt m c t) h (ix2 r i) = ((0 - z3q (inp m c) t.val h.val i r : ℝ) : EReal) := by
  have e : UU (ldAt m c t) h (ix2 r i) = 0 - z3A h (ldAt m c t) (ix2 r i) := by
    rw [UU_eq]
    generalize z3A h (ldAt m c t) = y
    pointwise []
  rw [e, z3A_r m c t H, ← EReal.coe_zero, ← EReal.coe_sub]
/-- The body's state of a head is that of the four steps one after another. -/
theorem SH_r (i j : Fin 64) : SH (ldAt m c t) h (ix3 0 i j) = ((outR (inp m c) t.val h.val i j : ℝ) : EReal) := by
  have e : SH (ldAt m c t) h (ix3 0 i j) = (ldAt m c t).st h (ix3 0 i j) * k0_pay31 (LD (ldAt m c t)) i0 i1 (ix2 (7 : Fin 8) (col h j))
      + (∑ s : Fin 8, VM (ldAt m c t) (ix2 s (col h i)) * (KM (ldAt m c t) (ix2 s (col h j)) * k0_pay34 (LD (ldAt m c t)) i0 i1 (ix2 s (col h j))))
      + ∑ s : Fin 8, UU (ldAt m c t) h (ix2 s i) * (BH (ldAt m c t) h (ix2 s j) * k0_pay34 (LD (ldAt m c t)) i0 i1 (ix2 s (col h j))) := by
    simp only [← hsl_at h (VM (ldAt m c t)), ← hsl_at h (KM (ldAt m c t)), ← hsl_at h (k0_pay34 (LD (ldAt m c t)) i0 i1)]
    unfold SH
    pointwise []
    rfl
  rw [e, st_r m c t H, EG_r m c t H]
  have b := R.block (ldR (inp m c) t.val h.val) (nR (inp m c) t.val h.val) (bR (inp m c) t.val h.val) (kR (inp m c) t.val h.val)
    (vR (inp m c) t.val h.val i) (sR (inp m c) t.val h.val i) (xq (inp m c) t.val h.val i) (z1q (inp m c) t.val h.val i) (z2q (inp m c) t.val h.val i)
    (z3q (inp m c) t.val h.val i) (fun r => 0 - z3q (inp m c) t.val h.val i r) (p1q (inp m c) t.val h.val) (p2q (inp m c) t.val h.val)
    (fun _ => rfl) (fun _ => rfl) (fun _ _ => rfl) (fun _ => rfl) (fun _ _ => rfl) (fun _ => rfl) (fun _ => rfl) j
  have p := R.st_pad (ldR (inp m c) t.val h.val) (nR (inp m c) t.val h.val) (bR (inp m c) t.val h.val) (kR (inp m c) t.val h.val)
    (vR (inp m c) t.val h.val i) (sR (inp m c) t.val h.val i)
    (fun r q hr => by unfold ldR; rw [if_neg (by omega)]) (fun r q hr => by unfold nR; rw [if_neg (by omega)]) (fun r hr => by unfold vR; rw [if_neg (by omega)])
  rw [p] at b
  unfold outR
  rw [← b, EReal.coe_add, EReal.coe_add, EReal.coe_mul, ← coe_sum, ← coe_sum]
  congr 1
  · congr 1
    refine Finset.sum_congr rfl fun s _ => ?_
    rw [VM_r m c t H, KM_r m c t H, EL_r m c t H, EReal.coe_mul, EReal.coe_mul]
  · refine Finset.sum_congr rfl fun s _ => ?_
    rw [UU_r m c t H, BH_r m c t H, EL_r m c t H, EReal.coe_mul, EReal.coe_mul]
end Cert.Rwkv
end
end
-- ==== Proof.RwkvOut.lean ====
/-
The recurrence with the delta rule on the sample batch: the array the call leaves.
-/
module
public import proofs.«01_k».proof.Proof.RwkvHead

@[expose] public section
set_option maxRecDepth 16384
set_option maxHeartbeats 2000000
noncomputable section
namespace Cert.Rwkv
open Cert.Kernel8Ideal Cert.Kernel8Ideal.Gen Idealize.ShloMosaic Idealize.ShloMosaic.TcCoe Idealize.SL.Sem

variable (m : (ℓ : Loc nD τ sig) → Buf (Elt Ideal) ℓ) (c : Dev nD) (H : Real' (inp m c))
/-- The state of a sequence, a head, a value's and a key's column. -/
def out (I : In) (b h i j : Nat) : Ideal .f32 := if hh : i < 64 ∧ j < 64 then ((outR I b h ⟨i, hh.1⟩ ⟨j, hh.2⟩ : ℝ) : EReal) else 0
/-- The output array. -/
def G : Buf (Elt Ideal) ((c : Thread nD τ).loc main_v15_1) := fun i => out (inp m c) (i 0).val (i 1).val (i 2).val (i 3).val

include H
/-- What a point writes back is its block of the output array. -/
theorem flushed_eq (t : Fin cfg0.N) : (dats m 0 c).flushed 18 t = ((cfg0.win 18).blk t).view.read (Elt Ideal) (G m c) := by
  have hi : win0_18.index t 0 = t.val ∧ win0_18.index t 1 = 0 ∧ win0_18.index t 2 = 0 ∧ win0_18.index t 3 = 0 := by
    revert t; decide +kernel
  rw [Value.flushed18_A, out18_A]
  funext y
  have hy0 : (y 0).val < 1 := (y 0).isLt
  have hy1 : (y 1).val < 16 := (y 1).isLt
  have hy2 : (y 2).val < 64 := (y 2).isLt
  have hy3 : (y 3).val < 64 := (y 3).isLt
  have hx : (cfg0.win 18).xinj (grid0.coords t) y = ix4 (⟨(y 0).val, hy0⟩ : Fin 1) (⟨(y 1).val, hy1⟩ : Fin 16) (⟨(y 2).val, hy2⟩ : Fin 64) (⟨(y 3).val, hy3⟩ : Fin 64) := by
    funext a
    match a with
    | ⟨0, _⟩ => rfl
    | ⟨1, _⟩ => rfl
    | ⟨2, _⟩ => rfl
    | ⟨3, _⟩ => rfl
  show k0_pay3 (ST (ldAt m c t)) ((cfg0.win 18).xinj (grid0.coords t) y) = G m c (((cfg0.win 18).blk t).view.emb y)
  rw [hx]
  have e : ∀ (a : Fin 1) (h : Fin 16) (k : Fin 64) (j : Fin 64), k0_pay3 (ST (ldAt m c t)) (ix4 a h k j) = SH (ldAt m c t) h (ix3 0 k j) := by
    intro a h k j
    pointwise [k0_pay3]
    rfl
  rw [e, SH_r m c t H]
  have q0 : t.val = win0_18.index t 0 * 1 + 1 * (y 0).val := by rw [hi.1]; omega
  have q1 : (y 1).val = win0_18.index t 1 * 16 + 1 * (y 1).val := by rw [hi.2.1]; omega
  have q2 : (y 2).val = win0_18.index t 2 * 64 + 1 * (y 2).val := by rw [hi.2.2.1]; omega
  have q3 : (y 3).val = win0_18.index t 3 * 64 + 1 * (y 3).val := by rw [hi.2.2.2]; omega
  have o : ((outR (inp m c) t.val (y 1).val ⟨(y 2).val, hy2⟩ ⟨(y 3).val, hy3⟩ : ℝ) : EReal) = out (inp m c) t.val (y 1).val (y 2).val (y 3).val := by
    unfold out; rw [dif_pos ⟨hy2, hy3⟩]
  exact o.trans (congr (congr (congrArg₂ (out (inp m c)) q0 q1) q2) q3)
omit H
/-- The points' blocks cover the output array. -/
theorem covered (i : S128x16x64x64.Idx) : ∃ t : Fin cfg0.N, (cfg0.win 18).flush t = true ∧ i ∈ ((cfg0.win 18).blk t).view.set := by
  have h0 : (i 0).val < 128 := (i 0).isLt
  have h1 : (i 1).val < 16 := (i 1).isLt
  have h2 : (i 2).val < 64 := (i 2).isLt
  have h3 : (i 3).val < 64 := (i 3).isLt
  have hN : cfg0.N = 128 := N_0
  have ht : (i 0).val < cfg0.N := by omega
  have hi : ∀ t : Fin cfg0.N, win0_18.index t 0 = t.val ∧ win0_18.index t 1 = 0 ∧ win0_18.index t 2 = 0 ∧ win0_18.index t 3 = 0 := by
    decide +kernel
  have hq := hi ⟨_, ht⟩
  dsimp only at hq
  refine ⟨⟨_, ht⟩, flush0_18 _, ?_⟩
  show i ∈ ((View.whole main_v15_1).slice (win0_18.rect ⟨_, ht⟩)).set
  rw [View.set_slice_whole, Rect.mem_set_unit]
  intro a
  match a with
  | ⟨0, _⟩ => show win0_18.index ⟨_, ht⟩ 0 * 1 ≤ (i 0).val ∧ (i 0).val < win0_18.index ⟨_, ht⟩ 0 * 1 + 1; rw [hq.1]; omega
  | ⟨1, _⟩ => show win0_18.index ⟨_, ht⟩ 1 * 16 ≤ (i 1).val ∧ (i 1).val < win0_18.index ⟨_, ht⟩ 1 * 16 + 16; rw [hq.2.1]; omega
  | ⟨2, _⟩ => show win0_18.index ⟨_, ht⟩ 2 * 64 ≤ (i 2).val ∧ (i 2).val < win0_18.index ⟨_, ht⟩ 2 * 64 + 64; rw [hq.2.2.1]; omega
  | ⟨3, _⟩ => show win0_18.index ⟨_, ht⟩ 3 * 64 ≤ (i 3).val ∧ (i 3).val < win0_18.index ⟨_, ht⟩ 3 * 64 + 64; rw [hq.2.2.2]; omega
include H
/-- The array after the run. -/
theorem final : (dats m 0 c).arrAt 18 cfg0.N = G m c :=
  (dats m 0 c).arrAt_eq_of_cover 18 _ (fun t _ => flushed_eq m c H t) covered

end Cert.Rwkv
end
end
-- ==== Proof.RwkvRef.lean ====
/-
The plain reading of the recurrence with the delta rule on the sample batch, stage by stage, at an index.
-/
module
public import proofs.«01_k».proof.Proof.Gen.Reference8Ideal.Read
public import proofs.«01_k».proof.Proof.RwkvOut

@[expose] public section
set_option maxRecDepth 16384
set_option maxHeartbeats 2000000
noncomputable section
namespace Cert.Rwkv.Ref
open Cert.Reference8Ideal Cert.Reference8Ideal.Gen Cert.Reference8Ideal.Read Idealize.ShloMosaic Idealize.ShloMosaic.TcCoe
open Cert.Arr (N1 N2 N1_at N2_at sp)
open Cert.Samp (N4 N4_at)

variable (x0 : (⟨S9216x15488, .f32⟩ : BufTy).Contents (Elt Ideal)) (x1 : (⟨S128x3360, .f32⟩ : BufTy).Contents (Elt Ideal)) (x2 : (⟨S128x16x64x64, .f32⟩ : BufTy).Contents (Elt Ideal)) (x3 : (⟨S3360, .f32⟩ : BufTy).Contents (Elt Ideal)) (x4 : (⟨S1024, .f32⟩ : BufTy).Contents (Elt Ideal)) (x5 : (⟨S64x1024, .f32⟩ : BufTy).Contents (Elt Ideal)) (x6 : (⟨S1024, .f32⟩ : BufTy).Contents (Elt Ideal)) (x7 : (⟨S64x1024, .f32⟩ : BufTy).Contents (Elt Ideal)) (x9 x10 : (⟨S1024, .f32⟩ : BufTy).Contents (Elt Ideal))

/-- The arguments, read at natural numbers. -/
def rin : In := ⟨N2 x0, N2 x1, N4 x2, N1 x3, N1 x4, N2 x5, N1 x6, N2 x7, N1 x9, N1 x10⟩

/-- The rows' columns that the recurrence takes. -/
theorem v5_at (b : Fin 128) (r : Fin 4) (j : Fin 3360) : val_main_v5 x0 (ix3 b r j)
    = N2 x0 (8192 + 8 * b.val + r.val) (if j.val < 3072 then 5120 + j.val else 14336 + (j.val - 3072)) := by
  pointwise [val_main_v5, val_main_v4, val_main_v3, val_main_v2, val_main_v1, val_main_v0]
  split_ifs with hj
  all_goals exact N2_at x0 _ _ _ (by simp; omega) rfl
/-- The rows mixed with those before them. -/
theorem v13_at (b : Fin 128) (r : Fin 4) (j : Fin 3360) : val_main_v13 x0 x1 x3 (ix3 b r j)
    = mx (rin x0 x1 x2 x3 x4 x5 x6 x7 x9 x10) b.val r.val (if j.val < 3072 then 5120 + j.val else 14336 + (j.val - 3072)) j.val := by
  pointwise [val_main_v13, val_main_v12, val_main_v11, val_main_v10, val_main_v9, val_main_v8, val_main_v7, val_main_v6]
  simp only [v5_at]
  rw [N1_at x3 _ j.val rfl]
  unfold mx
  simp only [rin]
  congr 3
  by_cases hr : r.val = 0
  · simp only [hr, Nat.lt_one_iff, dite_true, if_true]
    exact N2_at x1 _ _ _ rfl rfl
  · simp only [hr, Nat.lt_one_iff, dite_false, if_false]
/-- The decays. -/
theorem v45_at (b : Fin 128) (r : Fin 4) (h : Fin 16) (q : Fin 64) : val_main_v45 x0 x1 x3 x4 x5 (ix4 b r h q)
    = Ideal.exp (lx (rin x0 x1 x2 x3 x4 x5 x6 x7 x9 x10) b.val r.val (64 * h.val + q.val)) := by
  pointwise [val_main_v45, val_main_v32, val_main_v31, val_main_v30, val_main_v29, val_main_v28, val_main_v27, val_main_v26, val_main_v25, val_main_v24, val_main_v23, val_main_v22, val_main_v21, val_main_v20, val_main_v17, val_main_cst, val_main_call0_cst, val_main_call0_v0, val_main_call0_v1, val_main_call0_v2, val_main_call0_v3, val_main_call0_v4, val_main_call0_v5, val_main_call0_v6, val_main_call0_v7, val_main_call0_v8, val_main_call0_v9, val_main_call0_v10, val_main_call0_v11]
  simp only [v13_at x0 x1 x2 x3 x4 x5 x6 x7 x9 x10]
  rw [if_neg (not_not.mpr rfl), N1_at x4 _ (64 * h.val + q.val) (by simp; omega)]
  unfold lx wx xx sp
  have e : ∀ x : Fin 64, (if 3072 + x.val < 3072 then 5120 + (3072 + x.val) else 14336 + (3072 + x.val - 3072)) = 14336 + x.val := fun x => by
    rw [if_neg (by omega)]; omega
  have e5 : ∀ (x : Fin 64) (hh : h.val * 64 + q.val < 1024), x5 (ix2 x ⟨h.val * 64 + q.val, hh⟩) = N2 x5 x.val (64 * h.val + q.val) := fun x hh => N2_at x5 _ _ _ rfl (by simp; omega)
  simp only [e, e5, zero_sub]
  rfl
/-- The rates. -/
theorem v46_at (b : Fin 128) (r : Fin 4) (h : Fin 16) (q : Fin 64) : val_main_v46 x0 x1 x3 x6 x7 (ix4 b r h q)
    = ax (rin x0 x1 x2 x3 x4 x5 x6 x7 x9 x10) b.val r.val (64 * h.val + q.val) := by
  pointwise [val_main_v46, val_main_v42, val_main_v41, val_main_v40, val_main_v39, val_main_v38, val_main_v37, val_main_v36, val_main_v35, val_main_v34, val_main_v33, val_main_v18, val_main_cst_0, val_main_cst_1]
  simp only [v13_at x0 x1 x2 x3 x4 x5 x6 x7 x9 x10]
  rw [N1_at x6 _ (64 * h.val + q.val) (by simp; omega)]
  unfold ax xx
  have e : ∀ x : Fin 64, (if 3136 + x.val < 3072 then 5120 + (3136 + x.val) else 14336 + (3136 + x.val - 3072)) = 14336 + (64 + x.val) := fun x => by
    rw [if_neg (by omega)]; omega
  have e2 : ∀ x : Fin 64, 3136 + x.val = 3072 + (64 + x.val) := fun x => by omega
  have e7 : ∀ (x : Fin 64) (hh : h.val * 64 + q.val < 1024), x7 (ix2 x ⟨h.val * 64 + q.val, hh⟩) = N2 x7 x.val (64 * h.val + q.val) := fun x hh => N2_at x7 _ _ _ rfl (by simp; omega)
  simp only [e, e7]
  simp only [e2]
  rfl
/-- The keys. -/
theorem v43_at (b : Fin 128) (r : Fin 4) (h : Fin 16) (q : Fin 64) : val_main_v43 x0 x1 x3 (ix4 b r h q)
    = kx (rin x0 x1 x2 x3 x4 x5 x6 x7 x9 x10) b.val r.val (64 * h.val + q.val) := by
  pointwise [val_main_v43, val_main_v15]
  simp only [v13_at x0 x1 x2 x3 x4 x5 x6 x7 x9 x10]
  unfold kx
  rw [if_pos (by omega)]
  congr 1 <;> omega
/-- The values. -/
theorem v44_at (b : Fin 128) (r : Fin 4) (h : Fin 16) (q : Fin 64) : val_main_v44 x0 x1 x3 (ix4 b r h q)
    = vx (rin x0 x1 x2 x3 x4 x5 x6 x7 x9 x10) b.val r.val (64 * h.val + q.val) := by
  pointwise [val_main_v44, val_main_v16]
  simp only [v13_at x0 x1 x2 x3 x4 x5 x6 x7 x9 x10]
  unfold vx
  rw [if_pos (by omega)]
  congr 1 <;> omega
/-- The keys to be removed, of any length; -/
theorem v50_at (b : Fin 128) (r : Fin 4) (h : Fin 16) (q : Fin 64) : val_main_v50 x0 x1 x3 x9 (ix4 b r h q)
    = gx (rin x0 x1 x2 x3 x4 x5 x6 x7 x9 x10) b.val r.val (64 * h.val + q.val) := by
  pointwise [val_main_v50, val_main_v49, val_main_v48, val_main_v47]
  simp only [v43_at x0 x1 x2 x3 x4 x5 x6 x7 x9 x10]
  rw [N1_at x9 _ (64 * h.val + q.val) (by simp; omega)]
  rfl
/-- of length one. -/
theorem v58_at (b : Fin 128) (r : Fin 4) (h : Fin 16) (q : Fin 64) : val_main_v58 x0 x1 x3 x9 (ix4 b r h q)
    = nx (rin x0 x1 x2 x3 x4 x5 x6 x7 x9 x10) b.val r.val h.val q.val := by
  pointwise [val_main_v58, val_main_v57, val_main_v56, val_main_v55, val_main_v54, val_main_v53, val_main_v52, val_main_v51, val_main_cst_2, val_main_cst_3]
  simp only [v50_at x0 x1 x2 x3 x4 x5 x6 x7 x9 x10]
  rfl
/-- The keys to be written. -/
theorem v67_at (b : Fin 128) (r : Fin 4) (h : Fin 16) (q : Fin 64) : val_main_v67 x0 x1 x3 x6 x7 x10 (ix4 b r h q)
    = hx (rin x0 x1 x2 x3 x4 x5 x6 x7 x9 x10) b.val r.val (64 * h.val + q.val) := by
  pointwise [val_main_v67, val_main_v66, val_main_v65, val_main_v64, val_main_v63, val_main_v62, val_main_v61, val_main_v60, val_main_v59, val_main_cst_4, val_main_cst_5]
  simp only [v43_at x0 x1 x2 x3 x4 x5 x6 x7 x9 x10, v46_at x0 x1 x2 x3 x4 x5 x6 x7 x9 x10]
  rw [N1_at x10 _ (64 * h.val + q.val) (by simp; omega)]
  rfl
/-- A step, in a row of a head's state. -/
def stp (I : In) (b h : Nat) (i : Fin 64) (t : Nat) (S : Fin 64 → EReal) (j : Fin 64) : EReal :=
  S j * Ideal.exp (lx I b t (64 * h + j.val)) - (∑ q : Fin 64, S q * nx I b t h q.val) * (nx I b t h j.val * ax I b t (64 * h + j.val))
    + vx I b t (64 * h + i.val) * hx I b t (64 * h + j.val)
/-- At finite inputs a step is one of reals. -/
theorem stp_real {I : In} (H : Real' I) (b : Fin 128) (h : Fin 16) (i : Fin 64) (t : Nat) (ht : t < 4) (S : Fin 64 → EReal)
    (hS : ∀ q, S q = ((R.st (ldR I b h) (nR I b h) (bR I b h) (kR I b h) (vR I b h i) (sR I b h i) t q : ℝ) : EReal)) (j : Fin 64) :
    stp I b h i t S j = ((R.st (ldR I b h) (nR I b h) (bR I b h) (kR I b h) (vR I b h i) (sR I b h i) (t + 1) j : ℝ) : EReal) := by
  have hl : ∀ q : Fin 64, lx I b t (64 * h.val + q.val) = ((ldR I b h t q : ℝ) : EReal) := fun q => by
    unfold ldR; rw [if_pos ht]; exact (lx_real _).eq
  have hn : ∀ q : Fin 64, nx I b t h q.val = ((nR I b h t q : ℝ) : EReal) := fun q => by
    unfold nR; rw [if_pos ht]; exact (nx_real _ _ q.isLt).eq
  have ha := (ax_real (I := I) (b := b.val) (r := t) (64 * h.val + j.val)).eq
  have hv : vx I b t (64 * h.val + i.val) = ((vR I b h i t : ℝ) : EReal) := by
    unfold vR; rw [if_pos ht]; exact (vx_real H b.isLt ht _ (by omega)).eq
  have hk : hx I b t (64 * h.val + j.val) = ((kR I b h t j : ℝ) : EReal) := by
    unfold kR; rw [if_pos ht]; exact (hx_real H b.isLt ht _ (by omega)).eq
  have hb : nx I b t h j.val * ax I b t (64 * h.val + j.val) = ((bR I b h t j : ℝ) : EReal) := by
    unfold bR; rw [hn, ha, EReal.coe_mul]; rfl
  unfold stp
  rw [hb, hl, hv, hk]
  simp only [hS, hn, Ideal.exp_coe, ← EReal.coe_mul, Cert.Recur.coe_sum]
  rw [← EReal.coe_sub, ← EReal.coe_add]
  rfl
/-- The first step. -/
theorem v94_at (b : Fin 128) (h : Fin 16) (i j : Fin 64) : val_main_v94 x0 x1 x2 x3 x4 x5 x6 x7 x9 x10 (ix4 b h i j)
    = stp (rin x0 x1 x2 x3 x4 x5 x6 x7 x9 x10) b.val h.val i 0 (fun q => x2 (ix4 b h i q)) j := by
  pointwise [val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68]
  simp only [v45_at x0 x1 x2 x3 x4 x5 x6 x7 x9 x10, v46_at x0 x1 x2 x3 x4 x5 x6 x7 x9 x10, v44_at x0 x1 x2 x3 x4 x5 x6 x7 x9 x10, v58_at x0 x1 x2 x3 x4 x5 x6 x7 x9 x10, v67_at x0 x1 x2 x3 x4 x5 x6 x7 x9 x10]
  rfl
/-- The second step. -/
theorem v121_at (b : Fin 128) (h : Fin 16) (i j : Fin 64) : val_main_v121 x0 x1 x2 x3 x4 x5 x6 x7 x9 x10 (ix4 b h i j)
    = stp (rin x0 x1 x2 x3 x4 x5 x6 x7 x9 x10) b.val h.val i 1 (fun q => val_main_v94 x0 x1 x2 x3 x4 x5 x6 x7 x9 x10 (ix4 b h i q)) j := by
  pointwise [val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95]
  simp only [v45_at x0 x1 x2 x3 x4 x5 x6 x7 x9 x10, v46_at x0 x1 x2 x3 x4 x5 x6 x7 x9 x10, v44_at x0 x1 x2 x3 x4 x5 x6 x7 x9 x10, v58_at x0 x1 x2 x3 x4 x5 x6 x7 x9 x10, v67_at x0 x1 x2 x3 x4 x5 x6 x7 x9 x10]
  rfl
/-- The third step. -/
theorem v148_at (b : Fin 128) (h : Fin 16) (i j : Fin 64) : val_main_v148 x0 x1 x2 x3 x4 x5 x6 x7 x9 x10 (ix4 b h i j)
    = stp (rin x0 x1 x2 x3 x4 x5 x6 x7 x9 x10) b.val h.val i 2 (fun q => val_main_v121 x0 x1 x2 x3 x4 x5 x6 x7 x9 x10 (ix4 b h i q)) j := by
  pointwise [val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122]
  simp only [v45_at x0 x1 x2 x3 x4 x5 x6 x7 x9 x10, v46_at x0 x1 x2 x3 x4 x5 x6 x7 x9 x10, v44_at x0 x1 x2 x3 x4 x5 x6 x7 x9 x10, v58_at x0 x1 x2 x3 x4 x5 x6 x7 x9 x10, v67_at x0 x1 x2 x3 x4 x5 x6 x7 x9 x10]
  rfl
/-- The fourth step. -/
theorem v175_at (b : Fin 128) (h : Fin 16) (i j : Fin 64) : val_main_v175 x0 x1 x2 x3 x4 x5 x6 x7 x9 x10 (ix4 b h i j)
    = stp (rin x0 x1 x2 x3 x4 x5 x6 x7 x9 x10) b.val h.val i 3 (fun q => val_main_v148 x0 x1 x2 x3 x4 x5 x6 x7 x9 x10 (ix4 b h i q)) j := by
  pointwise [val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149]
  simp only [v45_at x0 x1 x2 x3 x4 x5 x6 x7 x9 x10, v46_at x0 x1 x2 x3 x4 x5 x6 x7 x9 x10, v44_at x0 x1 x2 x3 x4 x5 x6 x7 x9 x10, v58_at x0 x1 x2 x3 x4 x5 x6 x7 x9 x10, v67_at x0 x1 x2 x3 x4 x5 x6 x7 x9 x10]
  rfl
/-- The result, at finite inputs. -/
theorem result (H : Real' (rin x0 x1 x2 x3 x4 x5 x6 x7 x9 x10)) (b : Fin 128) (h : Fin 16) (i j : Fin 64) : val_main_v175 x0 x1 x2 x3 x4 x5 x6 x7 x9 x10 (ix4 b h i j)
    = out (rin x0 x1 x2 x3 x4 x5 x6 x7 x9 x10) b.val h.val i.val j.val := by
  unfold out
  rw [dif_pos ⟨i.isLt, j.isLt⟩, v175_at]
  refine stp_real H b h i 3 (by decide) _ (fun q => ?_) j
  rw [v148_at]
  refine stp_real H b h i 2 (by decide) _ (fun q => ?_) q
  rw [v121_at]
  refine stp_real H b h i 1 (by decide) _ (fun q => ?_) q
  rw [v94_at]
  refine stp_real H b h i 0 (by decide) _ (fun q => ?_) q
  refine Eq.trans ?_ (H.hst b.val h.val i.val q.val b.isLt h.isLt i.isLt q.isLt).eq
  exact N4_at x2 _ _ _ _ _ rfl rfl rfl rfl
end Cert.Rwkv.Ref
end
end
-- ==== Proof.RwkvClaim.lean ====
/-
The claims on the recurrence with the delta rule on the sample batch.
-/
module
public import proofs.«01_k».proof.Proof.RwkvRef
public import proofs.«01_k».proof.Proof.Gen.Kernel8.Frame
public import proofs.«01_k».proof.Proof.Gen.Reference8Ideal.Run
public import proofs.«01_k».proof.Defs
public import Idealize.ShloMosaic.Adequacy
public import Idealize.ShloMosaic.Init
public import Idealize.ShloMosaic.Lib.ReduceAll

@[expose] public section
set_option maxRecDepth 16384
set_option maxHeartbeats 2000000
noncomputable section
namespace Cert.Rwkv
open Idealize.ShloMosaic Idealize.SL.Sem Idealize.ShloMosaic.StableHlo Cert.Arr
open Cert.Samp (N4 N4_at)

/-- The facts the precondition's operations state. -/
instance factsPre : Cert.Pre_finite_inputs.Facts := by constructor <;> decide

/-- The printed call leaves its arguments and its semaphores as they were. -/
theorem frame_p : Cert.quiescent_Kernel8 := fun m ρ _ => Cert.Kernel8.Gen.frame m ρ
/-- So does its idealisation; -/
theorem frame_pi : Cert.quiescent_Kernel8Ideal := fun m ρ _ => Cert.Kernel8Ideal.Gen.frame m ρ
/-- under the precondition too; -/
theorem frame_pi_pre : Cert.quiescent_Kernel8Ideal_pre_finite_inputs := fun m ρ _ => Cert.Kernel8Ideal.Gen.frame m ρ
/-- and the reference, -/
theorem frame_ri : Cert.quiescent_Reference8Ideal := fun m ρ _ =>
  (θ_run Cert.Reference8Ideal.defs _ _).mono (fun r h => ⟨fun c => (h c).2,
    Idealize.ShloMosaic.sem_eq_zero_of_no_sems (by decide) r.2⟩) (Cert.Reference8Ideal.Value.run m ρ)
/-- under the precondition too. -/
theorem frame_ri_pre : Cert.quiescent_Reference8Ideal_pre_finite_inputs := fun m ρ _ => frame_ri m ρ trivial

/-- Both of two bits. -/
theorem both {s : Shape} (a b : IVec s 1) (j : s.Idx) (h : andi a b j = 1#1) : a j = 1#1 ∧ b j = 1#1 := by
  have q : ∀ a b : BitVec 1, IntOp.andi a b = 1#1 → a = 1#1 ∧ b = 1#1 := by decide
  exact q _ _ h
/-- An array every element of which is below infinity either way is one of reals. -/
theorem fin_all {s : Shape} {d : List (Fin s.rank)} (x : FVec Ideal s .f32) (hb : Cert.Pre_finite_inputs.S_.BroadcastsInDim s (![] : Fin 0 → Fin s.rank))
    (init : IVec Cert.Pre_finite_inputs.S_ 1) (hr : s.ReducesTo d Cert.Pre_finite_inputs.S_) (hu : 0 < Cert.Pre_finite_inputs.S_.numel) (j : Cert.Pre_finite_inputs.S_.Idx)
    (e : Host.reduce IntOp.andi (cmpf .olt (Host.absf x) (broadcastInDim s ![] hb (constant Cert.Pre_finite_inputs.S_ .f32 0x7F800000#32))) init hr hu j = 1#1) (i : s.Idx) :
    Re (x i) := by
  haveI : Subsingleton Cert.Pre_finite_inputs.S_.Idx := ⟨fun a b => funext fun k => k.elim0⟩
  have h : BitVec.ofBool (decide (max (x i) (-(x i)) < Ideal.ofBits .f32 2139095040#32)) = 1#1 := Host.reduce_andi_all _ _ _ _ _ e i
  have top : Ideal.ofBits .f32 2139095040#32 = ⊤ := by simp [Ideal.ofBits, Ideal.ieee]
  have one : ∀ b : Bool, BitVec.ofBool b = 1#1 → b = true := by decide
  have l := of_decide_eq_true (one _ h)
  rw [top, max_lt_iff] at l
  refine ⟨(x i).toReal, (EReal.coe_toReal (ne_of_lt l.1) ?_).symm⟩
  intro hbot
  rw [hbot] at l
  exact absurd l.2 (by simp)
/-- The precondition makes the inputs reals. -/
theorem real_inputs (x0 : FVec Ideal Cert.Pre_finite_inputs.S9216x15488 .f32) (x1 : FVec Ideal Cert.Pre_finite_inputs.S128x3360 .f32)
    (x2 : FVec Ideal Cert.Pre_finite_inputs.S128x16x64x64 .f32) (x3 : FVec Ideal Cert.Pre_finite_inputs.S3360 .f32) (x4 : FVec Ideal Cert.Pre_finite_inputs.S1024 .f32)
    (x5 : FVec Ideal Cert.Pre_finite_inputs.S64x1024 .f32) (x6 : FVec Ideal Cert.Pre_finite_inputs.S1024 .f32) (x7 : FVec Ideal Cert.Pre_finite_inputs.S64x1024 .f32)
    (x8 : FVec Ideal Cert.Pre_finite_inputs.S160x1024 .f32) (x9 x10 x11 x12 x13 : FVec Ideal Cert.Pre_finite_inputs.S1024 .f32)
    (h : Cert.Pre_finite_inputs.fn (F := Ideal) x0 x1 x2 x3 x4 x5 x6 x7 x8 x9 x10 x11 x12 x13 = fun _ => 1#1) : Real' (Ref.rin x0 x1 x2 x3 x4 x5 x6 x7 x9 x10) := by
  have e := congrFun h (fun k => k.elim0)
  unfold Cert.Pre_finite_inputs.fn Cert.Pre_finite_inputs.fn_part1 at e
  dsimp only at e
  obtain ⟨e, eka⟩ := both _ _ _ e
  obtain ⟨e, em⟩ := both _ _ _ e
  obtain ⟨e, est⟩ := both _ _ _ e
  obtain ⟨ep, es⟩ := both _ _ _ e
  refine ⟨?_, ?_, ?_, ?_, ?_⟩
  · intro b r j hb hr hj
    have q := fin_all _ _ _ _ _ _ ep (ix3 (⟨b, hb⟩ : Fin 128) (⟨r, hr⟩ : Fin 4) (⟨j, hj⟩ : Fin 2048))
    revert q
    pointwise []
    intro q
    rwa [N2_at x0 _ (8192 + 8 * b + r) (6144 + j) (by simp; omega) rfl] at q
  · intro b j hb hj
    have q := fin_all _ _ _ _ _ _ es (ix2 (⟨b, hb⟩ : Fin 128) (⟨j, hj⟩ : Fin 2048))
    revert q
    pointwise []
    intro q
    rwa [N2_at x1 _ b (1024 + j) rfl rfl] at q
  · intro b h i j hb hh hi hj
    have q := fin_all _ _ _ _ _ _ est (ix4 (⟨b, hb⟩ : Fin 128) (⟨h, hh⟩ : Fin 16) (⟨i, hi⟩ : Fin 64) (⟨j, hj⟩ : Fin 64))
    rwa [N4_at x2 _ b h i j rfl rfl rfl rfl] at q
  · intro j hj
    have q := fin_all _ _ _ _ _ _ em (ix1 (⟨j, hj⟩ : Fin 2048))
    revert q
    pointwise []
    intro q
    rwa [N1_at x3 _ (1024 + j) rfl] at q
  · intro j hj
    have q := fin_all _ _ _ _ _ _ eka (ix1 (⟨j, hj⟩ : Fin 1024))
    rwa [N1_at x10 _ j rfl] at q

/-- The kernel's run with its output array named. -/
theorem run (m : (ℓ : Loc Cert.Kernel8Ideal.nD Cert.Kernel8Ideal.τ Cert.Kernel8Ideal.sig) → Buf (Elt Ideal) ℓ) (ρ : Dev Cert.Kernel8Ideal.nD → PrngReg)
    (H : ∀ c, Real' (inp m c)) :
    θ_run Cert.Kernel8Ideal.defs (onTc (τ := Cert.Kernel8Ideal.τ) (Cert.Kernel8Ideal.main (F := Ideal))) ⟨m, fun _ => 0, ρ⟩ fun r => ∀ c : Dev Cert.Kernel8Ideal.nD,
      r.2.mem ((c.tc).loc Cert.Kernel8Ideal.main_v15_1) = G m c
      ∧ r.2.mem ((c.tc).loc Cert.Kernel8Ideal.main_arg0) = m ((c.tc).loc Cert.Kernel8Ideal.main_arg0)
      ∧ r.2.mem ((c.tc).loc Cert.Kernel8Ideal.main_arg1) = m ((c.tc).loc Cert.Kernel8Ideal.main_arg1)
      ∧ r.2.mem ((c.tc).loc Cert.Kernel8Ideal.main_arg2) = m ((c.tc).loc Cert.Kernel8Ideal.main_arg2)
      ∧ r.2.mem ((c.tc).loc Cert.Kernel8Ideal.main_arg3) = m ((c.tc).loc Cert.Kernel8Ideal.main_arg3)
      ∧ r.2.mem ((c.tc).loc Cert.Kernel8Ideal.main_arg4) = m ((c.tc).loc Cert.Kernel8Ideal.main_arg4)
      ∧ r.2.mem ((c.tc).loc Cert.Kernel8Ideal.main_arg5) = m ((c.tc).loc Cert.Kernel8Ideal.main_arg5)
      ∧ r.2.mem ((c.tc).loc Cert.Kernel8Ideal.main_arg6) = m ((c.tc).loc Cert.Kernel8Ideal.main_arg6)
      ∧ r.2.mem ((c.tc).loc Cert.Kernel8Ideal.main_arg7) = m ((c.tc).loc Cert.Kernel8Ideal.main_arg7)
      ∧ r.2.mem ((c.tc).loc Cert.Kernel8Ideal.main_arg8) = m ((c.tc).loc Cert.Kernel8Ideal.main_arg8)
      ∧ r.2.mem ((c.tc).loc Cert.Kernel8Ideal.main_arg9) = m ((c.tc).loc Cert.Kernel8Ideal.main_arg9)
      ∧ r.2.mem ((c.tc).loc Cert.Kernel8Ideal.main_arg10) = m ((c.tc).loc Cert.Kernel8Ideal.main_arg10)
      ∧ r.2.mem ((c.tc).loc Cert.Kernel8Ideal.main_arg11) = m ((c.tc).loc Cert.Kernel8Ideal.main_arg11)
      ∧ r.2.mem ((c.tc).loc Cert.Kernel8Ideal.main_arg12) = m ((c.tc).loc Cert.Kernel8Ideal.main_arg12)
      ∧ r.2.mem ((c.tc).loc Cert.Kernel8Ideal.main_arg13) = m ((c.tc).loc Cert.Kernel8Ideal.main_arg13) :=
  (θ_run _ _ _).mono (fun _ h c => ⟨(h c).2.1.trans (final m c (H c)), (h c).2.2⟩) (Cert.Kernel8Ideal.Value.run_blocks m ρ)

/-- The two programs' outputs are one array, entry by entry. -/
theorem rows_eq (m : (ℓ : Loc Cert.Kernel8Ideal.nD Cert.Kernel8Ideal.τ Cert.Kernel8Ideal.sig) → Buf (Elt Ideal) ℓ) (c : Dev Cert.Kernel8Ideal.nD)
    (H : Real' (inp m c)) :
    Cert.Reference8Ideal.Read.val_main_v175 (m ((c.tc).loc Cert.Kernel8Ideal.main_arg0)) (m ((c.tc).loc Cert.Kernel8Ideal.main_arg1)) (m ((c.tc).loc Cert.Kernel8Ideal.main_arg2)) (m ((c.tc).loc Cert.Kernel8Ideal.main_arg3)) (m ((c.tc).loc Cert.Kernel8Ideal.main_arg4)) (m ((c.tc).loc Cert.Kernel8Ideal.main_arg5)) (m ((c.tc).loc Cert.Kernel8Ideal.main_arg6)) (m ((c.tc).loc Cert.Kernel8Ideal.main_arg7)) (m ((c.tc).loc Cert.Kernel8Ideal.main_arg9)) (m ((c.tc).loc Cert.Kernel8Ideal.main_arg10)) = G m c := by
  refine funext fun (i : Cert.Kernel8Ideal.S128x16x64x64.Idx) => ?_
  rw [show i = ix4 (i 0) (i 1) (i 2) (i 3) from by funext a; fin_cases a <;> rfl]
  exact (Ref.result _ _ _ _ _ _ _ _ _ _ H (i 0) (i 1) (i 2) (i 3)).trans rfl

/-- At the reals, the call computes the reference, where its inputs are finite. -/
theorem algebraic : Cert.algebraic_Kernel8Ideal_Reference8Ideal_pre_finite_inputs := by
  intro m ρ m' ρ' hpre hagree
  have H : ∀ c, Real' (inp m c) := fun c => real_inputs _ _ _ _ _ _ _ _ _ _ _ _ _ _ (hpre c)
  refine ⟨fun c => G m c, run m ρ H, ?_⟩
  refine (θ_run Cert.Reference8Ideal.defs _ _).mono ?_ (Cert.Reference8Ideal.Value.run m' ρ')
  intro r h c
  obtain ⟨a0, a1, a2, a3, a4, a5, a6, a7, _, a9, a10, _, _, _⟩ := hagree c
  refine ⟨((h c).1.trans (Cert.Reference8Ideal.Read.val_main_v175_eq _)).trans ?_, (h c).2⟩
  refine Eq.trans ?_ (rows_eq m c (H c))
  rw [← a0, ← a1, ← a2, ← a3, ← a4, ← a5, ← a6, ← a7, ← a9, ← a10]
end Cert.Rwkv
end
end
-- ==== Proof.lean ====
/- The claims, put together from the modules that prove them. -/
module

public import proofs.«01_k».proof.Defs
public import proofs.«01_k».proof.Proof.Ssd
public import proofs.«01_k».proof.Proof.FfnClaim
public import proofs.«01_k».proof.Proof.InprojClaim
public import proofs.«01_k».proof.Proof.MergeClaim
public import proofs.«01_k».proof.Proof.FinalClaim
public import proofs.«01_k».proof.Proof.KidxClaim
public import proofs.«01_k».proof.Proof.SampClaim
public import proofs.«01_k».proof.Proof.RwkvClaim

@[expose] public section

noncomputable section

namespace Cert.Proof

/-- Every claim of this certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Ssd.factsPre, Cert.Rwkv.factsPre,
  Cert.Ssd.frame_p, Cert.Ssd.frame_pi, Cert.Ssd.frame_pi_pre, Cert.Ssd.frame_ri, Cert.Ssd.frame_ri_pre,
  Cert.Ffn.frame_p, Cert.Ffn.frame_pi, Cert.Ffn.frame_ri,
  Cert.Inproj.frame_p, Cert.Inproj.frame_pi, Cert.Inproj.frame_ri,
  Cert.Merge.frame_p, Cert.Merge.frame_pi, Cert.Merge.frame_ri,
  Cert.Final.frame_p, Cert.Final.frame_pi, Cert.Final.frame_ri,
  Cert.Kidx.frame_p, Cert.Kidx.frame_pi, Cert.Kidx.frame_ri,
  Cert.Samp.frame_p, Cert.Samp.frame_pi, Cert.Samp.frame_ri,
  Cert.Rwkv.frame_p, Cert.Rwkv.frame_pi, Cert.Rwkv.frame_pi_pre, Cert.Rwkv.frame_ri, Cert.Rwkv.frame_ri_pre,
  trivial, Cert.Ssd.algebraic, trivial, Cert.Ffn.algebraic, trivial, Cert.Inproj.algebraic, trivial, Cert.Merge.algebraic, trivial, Cert.Final.algebraic, trivial, Cert.Kidx.algebraic,
  trivial, Cert.Samp.algebraic, trivial, Cert.Rwkv.algebraic⟩

end Cert.Proof

end

end
